-- ==== Defs.lean ====
def Pre_Whole (m : (ℓ : Loc Cert.Whole.nD Cert.Whole.τ Cert.Whole.sig) → Buf (Elt Bits) ℓ) : Prop :=
  True

def Pre_WholeIdeal (m : (ℓ : Loc Cert.WholeIdeal.nD Cert.WholeIdeal.τ Cert.WholeIdeal.sig) → Buf (Elt Ideal) ℓ) : Prop :=
  True

def Pre_WholeRefIdeal (m : (ℓ : Loc Cert.WholeRefIdeal.nD Cert.WholeRefIdeal.τ Cert.WholeRefIdeal.sig) → Buf (Elt Ideal) ℓ) : Prop :=
  True

def Pre_Quant (m : (ℓ : Loc Cert.Quant.nD Cert.Quant.τ Cert.Quant.sig) → Buf (Elt Bits) ℓ) : Prop :=
  True

def Pre_QuantIdeal (m : (ℓ : Loc Cert.QuantIdeal.nD Cert.QuantIdeal.τ Cert.QuantIdeal.sig) → Buf (Elt Ideal) ℓ) : Prop :=
  True

def Pre_QuantRefIdeal (m : (ℓ : Loc Cert.QuantRefIdeal.nD Cert.QuantRefIdeal.τ Cert.QuantRefIdeal.sig) → Buf (Elt Ideal) ℓ) : Prop :=
  True

def Pre_Mm (m : (ℓ : Loc Cert.Mm.nD Cert.Mm.τ Cert.Mm.sig) → Buf (Elt Bits) ℓ) : Prop :=
  True

def Pre_MmIdeal (m : (ℓ : Loc Cert.MmIdeal.nD Cert.MmIdeal.τ Cert.MmIdeal.sig) → Buf (Elt Ideal) ℓ) : Prop :=
  True

def Pre_MmRefIdeal (m : (ℓ : Loc Cert.MmRefIdeal.nD Cert.MmRefIdeal.τ Cert.MmRefIdeal.sig) → Buf (Elt Ideal) ℓ) : Prop :=
  True

def quiescent_Whole [hWhole : Cert.Whole.Facts] : Prop :=
  ∀ (m : (ℓ : Loc Cert.Whole.nD Cert.Whole.τ Cert.Whole.sig) → Buf (Elt Bits) ℓ) (g : Dev Cert.Whole.nD → PrngReg), Pre_Whole m →
    θ_run (Cert.Whole.defs (F := Bits)) (onTc (τ := Cert.Whole.τ) (Cert.Whole.main (F := Bits))) ⟨m, fun _ => 0, g⟩ (fun r => (∀ c : Dev Cert.Whole.nD,
      r.2.mem ((c.tc : Thread Cert.Whole.nD Cert.Whole.τ).loc Cert.Whole.main_arg0) = m ((c.tc : Thread Cert.Whole.nD Cert.Whole.τ).loc Cert.Whole.main_arg0)
      ∧ r.2.mem ((c.tc : Thread Cert.Whole.nD Cert.Whole.τ).loc Cert.Whole.main_arg1) = m ((c.tc : Thread Cert.Whole.nD Cert.Whole.τ).loc Cert.Whole.main_arg1)
      ∧ r.2.mem ((c.tc : Thread Cert.Whole.nD Cert.Whole.τ).loc Cert.Whole.main_arg2) = m ((c.tc : Thread Cert.Whole.nD Cert.Whole.τ).loc Cert.Whole.main_arg2)
      ∧ r.2.mem ((c.tc : Thread Cert.Whole.nD Cert.Whole.τ).loc Cert.Whole.main_arg3) = m ((c.tc : Thread Cert.Whole.nD Cert.Whole.τ).loc Cert.Whole.main_arg3)
      ∧ r.2.mem ((c.tc : Thread Cert.Whole.nD Cert.Whole.τ).loc Cert.Whole.main_arg4) = m ((c.tc : Thread Cert.Whole.nD Cert.Whole.τ).loc Cert.Whole.main_arg4)
      ∧ r.2.mem ((c.tc : Thread Cert.Whole.nD Cert.Whole.τ).loc Cert.Whole.main_arg5) = m ((c.tc : Thread Cert.Whole.nD Cert.Whole.τ).loc Cert.Whole.main_arg5)
      ∧ r.2.mem ((c.tc : Thread Cert.Whole.nD Cert.Whole.τ).loc Cert.Whole.main_arg6) = m ((c.tc : Thread Cert.Whole.nD Cert.Whole.τ).loc Cert.Whole.main_arg6)
      ∧ r.2.mem ((c.tc : Thread Cert.Whole.nD Cert.Whole.τ).loc Cert.Whole.main_arg7) = m ((c.tc : Thread Cert.Whole.nD Cert.Whole.τ).loc Cert.Whole.main_arg7)
      ∧ r.2.mem ((c.tc : Thread Cert.Whole.nD Cert.Whole.τ).loc Cert.Whole.main_arg8) = m ((c.tc : Thread Cert.Whole.nD Cert.Whole.τ).loc Cert.Whole.main_arg8))
      ∧ r.2.sem = fun _ => 0)

def quiescent_WholeIdeal [hWholeIdeal : Cert.WholeIdeal.Facts] : Prop :=
  ∀ (m : (ℓ : Loc Cert.WholeIdeal.nD Cert.WholeIdeal.τ Cert.WholeIdeal.sig) → Buf (Elt Ideal) ℓ) (g : Dev Cert.WholeIdeal.nD → PrngReg), Pre_WholeIdeal m →
    θ_run (Cert.WholeIdeal.defs (F := Ideal)) (onTc (τ := Cert.WholeIdeal.τ) (Cert.WholeIdeal.main (F := Ideal))) ⟨m, fun _ => 0, g⟩ (fun r => (∀ c : Dev Cert.WholeIdeal.nD,
      r.2.mem ((c.tc : Thread Cert.WholeIdeal.nD Cert.WholeIdeal.τ).loc Cert.WholeIdeal.main_arg0) = m ((c.tc : Thread Cert.WholeIdeal.nD Cert.WholeIdeal.τ).loc Cert.WholeIdeal.main_arg0)
      ∧ r.2.mem ((c.tc : Thread Cert.WholeIdeal.nD Cert.WholeIdeal.τ).loc Cert.WholeIdeal.main_arg1) = m ((c.tc : Thread Cert.WholeIdeal.nD Cert.WholeIdeal.τ).loc Cert.WholeIdeal.main_arg1)
      ∧ r.2.mem ((c.tc : Thread Cert.WholeIdeal.nD Cert.WholeIdeal.τ).loc Cert.WholeIdeal.main_arg2) = m ((c.tc : Thread Cert.WholeIdeal.nD Cert.WholeIdeal.τ).loc Cert.WholeIdeal.main_arg2)
      ∧ r.2.mem ((c.tc : Thread Cert.WholeIdeal.nD Cert.WholeIdeal.τ).loc Cert.WholeIdeal.main_arg3) = m ((c.tc : Thread Cert.WholeIdeal.nD Cert.WholeIdeal.τ).loc Cert.WholeIdeal.main_arg3)
      ∧ r.2.mem ((c.tc : Thread Cert.WholeIdeal.nD Cert.WholeIdeal.τ).loc Cert.WholeIdeal.main_arg4) = m ((c.tc : Thread Cert.WholeIdeal.nD Cert.WholeIdeal.τ).loc Cert.WholeIdeal.main_arg4)
      ∧ r.2.mem ((c.tc : Thread Cert.WholeIdeal.nD Cert.WholeIdeal.τ).loc Cert.WholeIdeal.main_arg5) = m ((c.tc : Thread Cert.WholeIdeal.nD Cert.WholeIdeal.τ).loc Cert.WholeIdeal.main_arg5)
      ∧ r.2.mem ((c.tc : Thread Cert.WholeIdeal.nD Cert.WholeIdeal.τ).loc Cert.WholeIdeal.main_arg6) = m ((c.tc : Thread Cert.WholeIdeal.nD Cert.WholeIdeal.τ).loc Cert.WholeIdeal.main_arg6)
      ∧ r.2.mem ((c.tc : Thread Cert.WholeIdeal.nD Cert.WholeIdeal.τ).loc Cert.WholeIdeal.main_arg7) = m ((c.tc : Thread Cert.WholeIdeal.nD Cert.WholeIdeal.τ).loc Cert.WholeIdeal.main_arg7)
      ∧ r.2.mem ((c.tc : Thread Cert.WholeIdeal.nD Cert.WholeIdeal.τ).loc Cert.WholeIdeal.main_arg8) = m ((c.tc : Thread Cert.WholeIdeal.nD Cert.WholeIdeal.τ).loc Cert.WholeIdeal.main_arg8))
      ∧ r.2.sem = fun _ => 0)

def quiescent_WholeRefIdeal [hWholeRefIdeal : Cert.WholeRefIdeal.Facts] : Prop :=
  ∀ (m : (ℓ : Loc Cert.WholeRefIdeal.nD Cert.WholeRefIdeal.τ Cert.WholeRefIdeal.sig) → Buf (Elt Ideal) ℓ) (g : Dev Cert.WholeRefIdeal.nD → PrngReg), Pre_WholeRefIdeal m →
    θ_run (Cert.WholeRefIdeal.defs (F := Ideal)) (onTc (τ := Cert.WholeRefIdeal.τ) (Cert.WholeRefIdeal.main (F := Ideal))) ⟨m, fun _ => 0, g⟩ (fun r => (∀ c : Dev Cert.WholeRefIdeal.nD,
      r.2.mem ((c.tc : Thread Cert.WholeRefIdeal.nD Cert.WholeRefIdeal.τ).loc Cert.WholeRefIdeal.main_arg0) = m ((c.tc : Thread Cert.WholeRefIdeal.nD Cert.WholeRefIdeal.τ).loc Cert.WholeRefIdeal.main_arg0)
      ∧ r.2.mem ((c.tc : Thread Cert.WholeRefIdeal.nD Cert.WholeRefIdeal.τ).loc Cert.WholeRefIdeal.main_arg1) = m ((c.tc : Thread Cert.WholeRefIdeal.nD Cert.WholeRefIdeal.τ).loc Cert.WholeRefIdeal.main_arg1)
      ∧ r.2.mem ((c.tc : Thread Cert.WholeRefIdeal.nD Cert.WholeRefIdeal.τ).loc Cert.WholeRefIdeal.main_arg2) = m ((c.tc : Thread Cert.WholeRefIdeal.nD Cert.WholeRefIdeal.τ).loc Cert.WholeRefIdeal.main_arg2)
      ∧ r.2.mem ((c.tc : Thread Cert.WholeRefIdeal.nD Cert.WholeRefIdeal.τ).loc Cert.WholeRefIdeal.main_arg3) = m ((c.tc : Thread Cert.WholeRefIdeal.nD Cert.WholeRefIdeal.τ).loc Cert.WholeRefIdeal.main_arg3)
      ∧ r.2.mem ((c.tc : Thread Cert.WholeRefIdeal.nD Cert.WholeRefIdeal.τ).loc Cert.WholeRefIdeal.main_arg4) = m ((c.tc : Thread Cert.WholeRefIdeal.nD Cert.WholeRefIdeal.τ).loc Cert.WholeRefIdeal.main_arg4)
      ∧ r.2.mem ((c.tc : Thread Cert.WholeRefIdeal.nD Cert.WholeRefIdeal.τ).loc Cert.WholeRefIdeal.main_arg5) = m ((c.tc : Thread Cert.WholeRefIdeal.nD Cert.WholeRefIdeal.τ).loc Cert.WholeRefIdeal.main_arg5)
      ∧ r.2.mem ((c.tc : Thread Cert.WholeRefIdeal.nD Cert.WholeRefIdeal.τ).loc Cert.WholeRefIdeal.main_arg6) = m ((c.tc : Thread Cert.WholeRefIdeal.nD Cert.WholeRefIdeal.τ).loc Cert.WholeRefIdeal.main_arg6)
      ∧ r.2.mem ((c.tc : Thread Cert.WholeRefIdeal.nD Cert.WholeRefIdeal.τ).loc Cert.WholeRefIdeal.main_arg7) = m ((c.tc : Thread Cert.WholeRefIdeal.nD Cert.WholeRefIdeal.τ).loc Cert.WholeRefIdeal.main_arg7)
      ∧ r.2.mem ((c.tc : Thread Cert.WholeRefIdeal.nD Cert.WholeRefIdeal.τ).loc Cert.WholeRefIdeal.main_arg8) = m ((c.tc : Thread Cert.WholeRefIdeal.nD Cert.WholeRefIdeal.τ).loc Cert.WholeRefIdeal.main_arg8))
      ∧ r.2.sem = fun _ => 0)

def quiescent_Quant [hQuant : Cert.Quant.Facts] : Prop :=
  ∀ (m : (ℓ : Loc Cert.Quant.nD Cert.Quant.τ Cert.Quant.sig) → Buf (Elt Bits) ℓ) (g : Dev Cert.Quant.nD → PrngReg), Pre_Quant m →
    θ_run (Cert.Quant.defs (F := Bits)) (onTc (τ := Cert.Quant.τ) (Cert.Quant.main (F := Bits))) ⟨m, fun _ => 0, g⟩ (fun r => (∀ c : Dev Cert.Quant.nD,
      r.2.mem ((c.tc : Thread Cert.Quant.nD Cert.Quant.τ).loc Cert.Quant.main_arg0) = m ((c.tc : Thread Cert.Quant.nD Cert.Quant.τ).loc Cert.Quant.main_arg0)
      ∧ r.2.mem ((c.tc : Thread Cert.Quant.nD Cert.Quant.τ).loc Cert.Quant.main_arg1) = m ((c.tc : Thread Cert.Quant.nD Cert.Quant.τ).loc Cert.Quant.main_arg1)
      ∧ r.2.mem ((c.tc : Thread Cert.Quant.nD Cert.Quant.τ).loc Cert.Quant.main_arg2) = m ((c.tc : Thread Cert.Quant.nD Cert.Quant.τ).loc Cert.Quant.main_arg2)
      ∧ r.2.mem ((c.tc : Thread Cert.Quant.nD Cert.Quant.τ).loc Cert.Quant.main_arg3) = m ((c.tc : Thread Cert.Quant.nD Cert.Quant.τ).loc Cert.Quant.main_arg3))
      ∧ r.2.sem = fun _ => 0)

def quiescent_QuantIdeal [hQuantIdeal : Cert.QuantIdeal.Facts] : Prop :=
  ∀ (m : (ℓ : Loc Cert.QuantIdeal.nD Cert.QuantIdeal.τ Cert.QuantIdeal.sig) → Buf (Elt Ideal) ℓ) (g : Dev Cert.QuantIdeal.nD → PrngReg), Pre_QuantIdeal m →
    θ_run (Cert.QuantIdeal.defs (F := Ideal)) (onTc (τ := Cert.QuantIdeal.τ) (Cert.QuantIdeal.main (F := Ideal))) ⟨m, fun _ => 0, g⟩ (fun r => (∀ c : Dev Cert.QuantIdeal.nD,
      r.2.mem ((c.tc : Thread Cert.QuantIdeal.nD Cert.QuantIdeal.τ).loc Cert.QuantIdeal.main_arg0) = m ((c.tc : Thread Cert.QuantIdeal.nD Cert.QuantIdeal.τ).loc Cert.QuantIdeal.main_arg0)
      ∧ r.2.mem ((c.tc : Thread Cert.QuantIdeal.nD Cert.QuantIdeal.τ).loc Cert.QuantIdeal.main_arg1) = m ((c.tc : Thread Cert.QuantIdeal.nD Cert.QuantIdeal.τ).loc Cert.QuantIdeal.main_arg1)
      ∧ r.2.mem ((c.tc : Thread Cert.QuantIdeal.nD Cert.QuantIdeal.τ).loc Cert.QuantIdeal.main_arg2) = m ((c.tc : Thread Cert.QuantIdeal.nD Cert.QuantIdeal.τ).loc Cert.QuantIdeal.main_arg2)
      ∧ r.2.mem ((c.tc : Thread Cert.QuantIdeal.nD Cert.QuantIdeal.τ).loc Cert.QuantIdeal.main_arg3) = m ((c.tc : Thread Cert.QuantIdeal.nD Cert.QuantIdeal.τ).loc Cert.QuantIdeal.main_arg3))
      ∧ r.2.sem = fun _ => 0)

def quiescent_QuantRefIdeal [hQuantRefIdeal : Cert.QuantRefIdeal.Facts] : Prop :=
  ∀ (m : (ℓ : Loc Cert.QuantRefIdeal.nD Cert.QuantRefIdeal.τ Cert.QuantRefIdeal.sig) → Buf (Elt Ideal) ℓ) (g : Dev Cert.QuantRefIdeal.nD → PrngReg), Pre_QuantRefIdeal m →
    θ_run (Cert.QuantRefIdeal.defs (F := Ideal)) (onTc (τ := Cert.QuantRefIdeal.τ) (Cert.QuantRefIdeal.main (F := Ideal))) ⟨m, fun _ => 0, g⟩ (fun r => (∀ c : Dev Cert.QuantRefIdeal.nD,
      r.2.mem ((c.tc : Thread Cert.QuantRefIdeal.nD Cert.QuantRefIdeal.τ).loc Cert.QuantRefIdeal.main_arg0) = m ((c.tc : Thread Cert.QuantRefIdeal.nD Cert.QuantRefIdeal.τ).loc Cert.QuantRefIdeal.main_arg0)
      ∧ r.2.mem ((c.tc : Thread Cert.QuantRefIdeal.nD Cert.QuantRefIdeal.τ).loc Cert.QuantRefIdeal.main_arg1) = m ((c.tc : Thread Cert.QuantRefIdeal.nD Cert.QuantRefIdeal.τ).loc Cert.QuantRefIdeal.main_arg1)
      ∧ r.2.mem ((c.tc : Thread Cert.QuantRefIdeal.nD Cert.QuantRefIdeal.τ).loc Cert.QuantRefIdeal.main_arg2) = m ((c.tc : Thread Cert.QuantRefIdeal.nD Cert.QuantRefIdeal.τ).loc Cert.QuantRefIdeal.main_arg2)
      ∧ r.2.mem ((c.tc : Thread Cert.QuantRefIdeal.nD Cert.QuantRefIdeal.τ).loc Cert.QuantRefIdeal.main_arg3) = m ((c.tc : Thread Cert.QuantRefIdeal.nD Cert.QuantRefIdeal.τ).loc Cert.QuantRefIdeal.main_arg3))
      ∧ r.2.sem = fun _ => 0)

def quiescent_Mm [hMm : Cert.Mm.Facts] : Prop :=
  ∀ (m : (ℓ : Loc Cert.Mm.nD Cert.Mm.τ Cert.Mm.sig) → Buf (Elt Bits) ℓ) (g : Dev Cert.Mm.nD → PrngReg), Pre_Mm m →
    θ_run (Cert.Mm.defs (F := Bits)) (onTc (τ := Cert.Mm.τ) (Cert.Mm.main (F := Bits))) ⟨m, fun _ => 0, g⟩ (fun r => (∀ c : Dev Cert.Mm.nD,
      r.2.mem ((c.tc : Thread Cert.Mm.nD Cert.Mm.τ).loc Cert.Mm.main_arg0) = m ((c.tc : Thread Cert.Mm.nD Cert.Mm.τ).loc Cert.Mm.main_arg0)
      ∧ r.2.mem ((c.tc : Thread Cert.Mm.nD Cert.Mm.τ).loc Cert.Mm.main_arg1) = m ((c.tc : Thread Cert.Mm.nD Cert.Mm.τ).loc Cert.Mm.main_arg1)
      ∧ r.2.mem ((c.tc : Thread Cert.Mm.nD Cert.Mm.τ).loc Cert.Mm.main_arg2) = m ((c.tc : Thread Cert.Mm.nD Cert.Mm.τ).loc Cert.Mm.main_arg2)
      ∧ r.2.mem ((c.tc : Thread Cert.Mm.nD Cert.Mm.τ).loc Cert.Mm.main_arg3) = m ((c.tc : Thread Cert.Mm.nD Cert.Mm.τ).loc Cert.Mm.main_arg3)
      ∧ r.2.mem ((c.tc : Thread Cert.Mm.nD Cert.Mm.τ).loc Cert.Mm.main_arg4) = m ((c.tc : Thread Cert.Mm.nD Cert.Mm.τ).loc Cert.Mm.main_arg4)
      ∧ r.2.mem ((c.tc : Thread Cert.Mm.nD Cert.Mm.τ).loc Cert.Mm.main_arg5) = m ((c.tc : Thread Cert.Mm.nD Cert.Mm.τ).loc Cert.Mm.main_arg5)
      ∧ r.2.mem ((c.tc : Thread Cert.Mm.nD Cert.Mm.τ).loc Cert.Mm.main_arg6) = m ((c.tc : Thread Cert.Mm.nD Cert.Mm.τ).loc Cert.Mm.main_arg6)
      ∧ r.2.mem ((c.tc : Thread Cert.Mm.nD Cert.Mm.τ).loc Cert.Mm.main_arg7) = m ((c.tc : Thread Cert.Mm.nD Cert.Mm.τ).loc Cert.Mm.main_arg7))
      ∧ r.2.sem = fun _ => 0)

def quiescent_MmIdeal [hMmIdeal : Cert.MmIdeal.Facts] : Prop :=
  ∀ (m : (ℓ : Loc Cert.MmIdeal.nD Cert.MmIdeal.τ Cert.MmIdeal.sig) → Buf (Elt Ideal) ℓ) (g : Dev Cert.MmIdeal.nD → PrngReg), Pre_MmIdeal m →
    θ_run (Cert.MmIdeal.defs (F := Ideal)) (onTc (τ := Cert.MmIdeal.τ) (Cert.MmIdeal.main (F := Ideal))) ⟨m, fun _ => 0, g⟩ (fun r => (∀ c : Dev Cert.MmIdeal.nD,
      r.2.mem ((c.tc : Thread Cert.MmIdeal.nD Cert.MmIdeal.τ).loc Cert.MmIdeal.main_arg0) = m ((c.tc : Thread Cert.MmIdeal.nD Cert.MmIdeal.τ).loc Cert.MmIdeal.main_arg0)
      ∧ r.2.mem ((c.tc : Thread Cert.MmIdeal.nD Cert.MmIdeal.τ).loc Cert.MmIdeal.main_arg1) = m ((c.tc : Thread Cert.MmIdeal.nD Cert.MmIdeal.τ).loc Cert.MmIdeal.main_arg1)
      ∧ r.2.mem ((c.tc : Thread Cert.MmIdeal.nD Cert.MmIdeal.τ).loc Cert.MmIdeal.main_arg2) = m ((c.tc : Thread Cert.MmIdeal.nD Cert.MmIdeal.τ).loc Cert.MmIdeal.main_arg2)
      ∧ r.2.mem ((c.tc : Thread Cert.MmIdeal.nD Cert.MmIdeal.τ).loc Cert.MmIdeal.main_arg3) = m ((c.tc : Thread Cert.MmIdeal.nD Cert.MmIdeal.τ).loc Cert.MmIdeal.main_arg3)
      ∧ r.2.mem ((c.tc : Thread Cert.MmIdeal.nD Cert.MmIdeal.τ).loc Cert.MmIdeal.main_arg4) = m ((c.tc : Thread Cert.MmIdeal.nD Cert.MmIdeal.τ).loc Cert.MmIdeal.main_arg4)
      ∧ r.2.mem ((c.tc : Thread Cert.MmIdeal.nD Cert.MmIdeal.τ).loc Cert.MmIdeal.main_arg5) = m ((c.tc : Thread Cert.MmIdeal.nD Cert.MmIdeal.τ).loc Cert.MmIdeal.main_arg5)
      ∧ r.2.mem ((c.tc : Thread Cert.MmIdeal.nD Cert.MmIdeal.τ).loc Cert.MmIdeal.main_arg6) = m ((c.tc : Thread Cert.MmIdeal.nD Cert.MmIdeal.τ).loc Cert.MmIdeal.main_arg6)
      ∧ r.2.mem ((c.tc : Thread Cert.MmIdeal.nD Cert.MmIdeal.τ).loc Cert.MmIdeal.main_arg7) = m ((c.tc : Thread Cert.MmIdeal.nD Cert.MmIdeal.τ).loc Cert.MmIdeal.main_arg7))
      ∧ r.2.sem = fun _ => 0)

def quiescent_MmRefIdeal [hMmRefIdeal : Cert.MmRefIdeal.Facts] : Prop :=
  ∀ (m : (ℓ : Loc Cert.MmRefIdeal.nD Cert.MmRefIdeal.τ Cert.MmRefIdeal.sig) → Buf (Elt Ideal) ℓ) (g : Dev Cert.MmRefIdeal.nD → PrngReg), Pre_MmRefIdeal m →
    θ_run (Cert.MmRefIdeal.defs (F := Ideal)) (onTc (τ := Cert.MmRefIdeal.τ) (Cert.MmRefIdeal.main (F := Ideal))) ⟨m, fun _ => 0, g⟩ (fun r => (∀ c : Dev Cert.MmRefIdeal.nD,
      r.2.mem ((c.tc : Thread Cert.MmRefIdeal.nD Cert.MmRefIdeal.τ).loc Cert.MmRefIdeal.main_arg0) = m ((c.tc : Thread Cert.MmRefIdeal.nD Cert.MmRefIdeal.τ).loc Cert.MmRefIdeal.main_arg0)
      ∧ r.2.mem ((c.tc : Thread Cert.MmRefIdeal.nD Cert.MmRefIdeal.τ).loc Cert.MmRefIdeal.main_arg1) = m ((c.tc : Thread Cert.MmRefIdeal.nD Cert.MmRefIdeal.τ).loc Cert.MmRefIdeal.main_arg1)
      ∧ r.2.mem ((c.tc : Thread Cert.MmRefIdeal.nD Cert.MmRefIdeal.τ).loc Cert.MmRefIdeal.main_arg2) = m ((c.tc : Thread Cert.MmRefIdeal.nD Cert.MmRefIdeal.τ).loc Cert.MmRefIdeal.main_arg2)
      ∧ r.2.mem ((c.tc : Thread Cert.MmRefIdeal.nD Cert.MmRefIdeal.τ).loc Cert.MmRefIdeal.main_arg3) = m ((c.tc : Thread Cert.MmRefIdeal.nD Cert.MmRefIdeal.τ).loc Cert.MmRefIdeal.main_arg3)
      ∧ r.2.mem ((c.tc : Thread Cert.MmRefIdeal.nD Cert.MmRefIdeal.τ).loc Cert.MmRefIdeal.main_arg4) = m ((c.tc : Thread Cert.MmRefIdeal.nD Cert.MmRefIdeal.τ).loc Cert.MmRefIdeal.main_arg4)
      ∧ r.2.mem ((c.tc : Thread Cert.MmRefIdeal.nD Cert.MmRefIdeal.τ).loc Cert.MmRefIdeal.main_arg5) = m ((c.tc : Thread Cert.MmRefIdeal.nD Cert.MmRefIdeal.τ).loc Cert.MmRefIdeal.main_arg5)
      ∧ r.2.mem ((c.tc : Thread Cert.MmRefIdeal.nD Cert.MmRefIdeal.τ).loc Cert.MmRefIdeal.main_arg6) = m ((c.tc : Thread Cert.MmRefIdeal.nD Cert.MmRefIdeal.τ).loc Cert.MmRefIdeal.main_arg6)
      ∧ r.2.mem ((c.tc : Thread Cert.MmRefIdeal.nD Cert.MmRefIdeal.τ).loc Cert.MmRefIdeal.main_arg7) = m ((c.tc : Thread Cert.MmRefIdeal.nD Cert.MmRefIdeal.τ).loc Cert.MmRefIdeal.main_arg7))
      ∧ r.2.sem = fun _ => 0)

def preserves_Whole_WholeIdeal : Prop :=
  IdealRules.bf16_pair.BufferStatement Cert.WholeIdeal.S192x2x1024 Cert.WholeIdeal.S192x1x1024
  ∧ IdealRules.bf16_pair.PackStatement Cert.WholeIdeal.S192x1024
  ∧ IdealRules.bf16_pair.Statement Cert.WholeIdeal.S192x2x1024 Cert.WholeIdeal.S192x1x1024
  ∧ IdealRules.bf16_pair.Statement Cert.WholeIdeal.S1x2x1024 Cert.WholeIdeal.S1x1x1024
  ∧ IdealRules.bf16_pair.Statement Cert.WholeIdeal.S16x1024 Cert.WholeIdeal.S8x1024

def algebraic_WholeIdeal_WholeRefIdeal [hWholeIdeal : Cert.WholeIdeal.Facts] [hWholeRefIdeal : Cert.WholeRefIdeal.Facts] : Prop :=
  ∀ (m : (ℓ : Loc Cert.WholeIdeal.nD Cert.WholeIdeal.τ Cert.WholeIdeal.sig) → Buf (Elt Ideal) ℓ) (g : Dev Cert.WholeIdeal.nD → PrngReg)
    (m' : (ℓ : Loc Cert.WholeRefIdeal.nD Cert.WholeRefIdeal.τ Cert.WholeRefIdeal.sig) → Buf (Elt Ideal) ℓ) (g' : Dev Cert.WholeRefIdeal.nD → PrngReg), Pre_WholeIdeal m →
    (∀ c : Dev Cert.WholeIdeal.nD,
      m' ((c.tc : Thread Cert.WholeRefIdeal.nD Cert.WholeRefIdeal.τ).loc Cert.WholeRefIdeal.main_arg0) = m ((c.tc : Thread Cert.WholeIdeal.nD Cert.WholeIdeal.τ).loc Cert.WholeIdeal.main_arg0)
      ∧ m' ((c.tc : Thread Cert.WholeRefIdeal.nD Cert.WholeRefIdeal.τ).loc Cert.WholeRefIdeal.main_arg1) = m ((c.tc : Thread Cert.WholeIdeal.nD Cert.WholeIdeal.τ).loc Cert.WholeIdeal.main_arg1)
      ∧ m' ((c.tc : Thread Cert.WholeRefIdeal.nD Cert.WholeRefIdeal.τ).loc Cert.WholeRefIdeal.main_arg2) = m ((c.tc : Thread Cert.WholeIdeal.nD Cert.WholeIdeal.τ).loc Cert.WholeIdeal.main_arg2)
      ∧ m' ((c.tc : Thread Cert.WholeRefIdeal.nD Cert.WholeRefIdeal.τ).loc Cert.WholeRefIdeal.main_arg3) = m ((c.tc : Thread Cert.WholeIdeal.nD Cert.WholeIdeal.τ).loc Cert.WholeIdeal.main_arg3)
      ∧ m' ((c.tc : Thread Cert.WholeRefIdeal.nD Cert.WholeRefIdeal.τ).loc Cert.WholeRefIdeal.main_arg4) = m ((c.tc : Thread Cert.WholeIdeal.nD Cert.WholeIdeal.τ).loc Cert.WholeIdeal.main_arg4)
      ∧ m' ((c.tc : Thread Cert.WholeRefIdeal.nD Cert.WholeRefIdeal.τ).loc Cert.WholeRefIdeal.main_arg5) = m ((c.tc : Thread Cert.WholeIdeal.nD Cert.WholeIdeal.τ).loc Cert.WholeIdeal.main_arg5)
      ∧ m' ((c.tc : Thread Cert.WholeRefIdeal.nD Cert.WholeRefIdeal.τ).loc Cert.WholeRefIdeal.main_arg6) = m ((c.tc : Thread Cert.WholeIdeal.nD Cert.WholeIdeal.τ).loc Cert.WholeIdeal.main_arg6)
      ∧ m' ((c.tc : Thread Cert.WholeRefIdeal.nD Cert.WholeRefIdeal.τ).loc Cert.WholeRefIdeal.main_arg7) = m ((c.tc : Thread Cert.WholeIdeal.nD Cert.WholeIdeal.τ).loc Cert.WholeIdeal.main_arg7)
      ∧ m' ((c.tc : Thread Cert.WholeRefIdeal.nD Cert.WholeRefIdeal.τ).loc Cert.WholeRefIdeal.main_arg8) = m ((c.tc : Thread Cert.WholeIdeal.nD Cert.WholeIdeal.τ).loc Cert.WholeIdeal.main_arg8)) →
    ∃ (v0 : (c : Dev Cert.WholeIdeal.nD) → Buf (Elt Ideal) ((c.tc : Thread Cert.WholeIdeal.nD Cert.WholeIdeal.τ).loc Cert.WholeIdeal.main_v7)) (v1 : (c : Dev Cert.WholeIdeal.nD) → Buf (Elt Ideal) ((c.tc : Thread Cert.WholeIdeal.nD Cert.WholeIdeal.τ).loc Cert.WholeIdeal.main_v3_2)) (v2 : (c : Dev Cert.WholeIdeal.nD) → Buf (Elt Ideal) ((c.tc : Thread Cert.WholeIdeal.nD Cert.WholeIdeal.τ).loc Cert.WholeIdeal.main_v3_3)),
      θ_run (Cert.WholeIdeal.defs (F := Ideal)) (onTc (τ := Cert.WholeIdeal.τ) (Cert.WholeIdeal.main (F := Ideal))) ⟨m, fun _ => 0, g⟩ (fun r => ∀ c : Dev Cert.WholeIdeal.nD,
          r.2.mem ((c.tc : Thread Cert.WholeIdeal.nD Cert.WholeIdeal.τ).loc Cert.WholeIdeal.main_v7) = v0 c
          ∧ r.2.mem ((c.tc : Thread Cert.WholeIdeal.nD Cert.WholeIdeal.τ).loc Cert.WholeIdeal.main_v3_2) = v1 c
          ∧ r.2.mem ((c.tc : Thread Cert.WholeIdeal.nD Cert.WholeIdeal.τ).loc Cert.WholeIdeal.main_v3_3) = v2 c
          ∧ r.2.mem ((c.tc : Thread Cert.WholeIdeal.nD Cert.WholeIdeal.τ).loc Cert.WholeIdeal.main_arg0) = m ((c.tc : Thread Cert.WholeIdeal.nD Cert.WholeIdeal.τ).loc Cert.WholeIdeal.main_arg0)
          ∧ r.2.mem ((c.tc : Thread Cert.WholeIdeal.nD Cert.WholeIdeal.τ).loc Cert.WholeIdeal.main_arg1) = m ((c.tc : Thread Cert.WholeIdeal.nD Cert.WholeIdeal.τ).loc Cert.WholeIdeal.main_arg1)
          ∧ r.2.mem ((c.tc : Thread Cert.WholeIdeal.nD Cert.WholeIdeal.τ).loc Cert.WholeIdeal.main_arg2) = m ((c.tc : Thread Cert.WholeIdeal.nD Cert.WholeIdeal.τ).loc Cert.WholeIdeal.main_arg2)
          ∧ r.2.mem ((c.tc : Thread Cert.WholeIdeal.nD Cert.WholeIdeal.τ).loc Cert.WholeIdeal.main_arg3) = m ((c.tc : Thread Cert.WholeIdeal.nD Cert.WholeIdeal.τ).loc Cert.WholeIdeal.main_arg3)
          ∧ r.2.mem ((c.tc : Thread Cert.WholeIdeal.nD Cert.WholeIdeal.τ).loc Cert.WholeIdeal.main_arg4) = m ((c.tc : Thread Cert.WholeIdeal.nD Cert.WholeIdeal.τ).loc Cert.WholeIdeal.main_arg4)
          ∧ r.2.mem ((c.tc : Thread Cert.WholeIdeal.nD Cert.WholeIdeal.τ).loc Cert.WholeIdeal.main_arg5) = m ((c.tc : Thread Cert.WholeIdeal.nD Cert.WholeIdeal.τ).loc Cert.WholeIdeal.main_arg5)
          ∧ r.2.mem ((c.tc : Thread Cert.WholeIdeal.nD Cert.WholeIdeal.τ).loc Cert.WholeIdeal.main_arg6) = m ((c.tc : Thread Cert.WholeIdeal.nD Cert.WholeIdeal.τ).loc Cert.WholeIdeal.main_arg6)
          ∧ r.2.mem ((c.tc : Thread Cert.WholeIdeal.nD Cert.WholeIdeal.τ).loc Cert.WholeIdeal.main_arg7) = m ((c.tc : Thread Cert.WholeIdeal.nD Cert.WholeIdeal.τ).loc Cert.WholeIdeal.main_arg7)
          ∧ r.2.mem ((c.tc : Thread Cert.WholeIdeal.nD Cert.WholeIdeal.τ).loc Cert.WholeIdeal.main_arg8) = m ((c.tc : Thread Cert.WholeIdeal.nD Cert.WholeIdeal.τ).loc Cert.WholeIdeal.main_arg8))
      ∧ θ_run (Cert.WholeRefIdeal.defs (F := Ideal)) (onTc (τ := Cert.WholeRefIdeal.τ) (Cert.WholeRefIdeal.main (F := Ideal))) ⟨m', fun _ => 0, g'⟩ (fun r => ∀ c : Dev Cert.WholeRefIdeal.nD,
          r.2.mem ((c.tc : Thread Cert.WholeRefIdeal.nD Cert.WholeRefIdeal.τ).loc Cert.WholeRefIdeal.main_v5_0) = v0 c
          ∧ r.2.mem ((c.tc : Thread Cert.WholeRefIdeal.nD Cert.WholeRefIdeal.τ).loc Cert.WholeRefIdeal.main_v5_1) = v1 c
          ∧ r.2.mem ((c.tc : Thread Cert.WholeRefIdeal.nD Cert.WholeRefIdeal.τ).loc Cert.WholeRefIdeal.main_v5_2) = v2 c
          ∧ r.2.mem ((c.tc : Thread Cert.WholeRefIdeal.nD Cert.WholeRefIdeal.τ).loc Cert.WholeRefIdeal.main_arg0) = m' ((c.tc : Thread Cert.WholeRefIdeal.nD Cert.WholeRefIdeal.τ).loc Cert.WholeRefIdeal.main_arg0)
          ∧ r.2.mem ((c.tc : Thread Cert.WholeRefIdeal.nD Cert.WholeRefIdeal.τ).loc Cert.WholeRefIdeal.main_arg1) = m' ((c.tc : Thread Cert.WholeRefIdeal.nD Cert.WholeRefIdeal.τ).loc Cert.WholeRefIdeal.main_arg1)
          ∧ r.2.mem ((c.tc : Thread Cert.WholeRefIdeal.nD Cert.WholeRefIdeal.τ).loc Cert.WholeRefIdeal.main_arg2) = m' ((c.tc : Thread Cert.WholeRefIdeal.nD Cert.WholeRefIdeal.τ).loc Cert.WholeRefIdeal.main_arg2)
          ∧ r.2.mem ((c.tc : Thread Cert.WholeRefIdeal.nD Cert.WholeRefIdeal.τ).loc Cert.WholeRefIdeal.main_arg3) = m' ((c.tc : Thread Cert.WholeRefIdeal.nD Cert.WholeRefIdeal.τ).loc Cert.WholeRefIdeal.main_arg3)
          ∧ r.2.mem ((c.tc : Thread Cert.WholeRefIdeal.nD Cert.WholeRefIdeal.τ).loc Cert.WholeRefIdeal.main_arg4) = m' ((c.tc : Thread Cert.WholeRefIdeal.nD Cert.WholeRefIdeal.τ).loc Cert.WholeRefIdeal.main_arg4)
          ∧ r.2.mem ((c.tc : Thread Cert.WholeRefIdeal.nD Cert.WholeRefIdeal.τ).loc Cert.WholeRefIdeal.main_arg5) = m' ((c.tc : Thread Cert.WholeRefIdeal.nD Cert.WholeRefIdeal.τ).loc Cert.WholeRefIdeal.main_arg5)
          ∧ r.2.mem ((c.tc : Thread Cert.WholeRefIdeal.nD Cert.WholeRefIdeal.τ).loc Cert.WholeRefIdeal.main_arg6) = m' ((c.tc : Thread Cert.WholeRefIdeal.nD Cert.WholeRefIdeal.τ).loc Cert.WholeRefIdeal.main_arg6)
          ∧ r.2.mem ((c.tc : Thread Cert.WholeRefIdeal.nD Cert.WholeRefIdeal.τ).loc Cert.WholeRefIdeal.main_arg7) = m' ((c.tc : Thread Cert.WholeRefIdeal.nD Cert.WholeRefIdeal.τ).loc Cert.WholeRefIdeal.main_arg7)
          ∧ r.2.mem ((c.tc : Thread Cert.WholeRefIdeal.nD Cert.WholeRefIdeal.τ).loc Cert.WholeRefIdeal.main_arg8) = m' ((c.tc : Thread Cert.WholeRefIdeal.nD Cert.WholeRefIdeal.τ).loc Cert.WholeRefIdeal.main_arg8))

def preserves_Quant_QuantIdeal : Prop :=
  True

def algebraic_QuantIdeal_QuantRefIdeal [hQuantIdeal : Cert.QuantIdeal.Facts] [hQuantRefIdeal : Cert.QuantRefIdeal.Facts] : Prop :=
  ∀ (m : (ℓ : Loc Cert.QuantIdeal.nD Cert.QuantIdeal.τ Cert.QuantIdeal.sig) → Buf (Elt Ideal) ℓ) (g : Dev Cert.QuantIdeal.nD → PrngReg)
    (m' : (ℓ : Loc Cert.QuantRefIdeal.nD Cert.QuantRefIdeal.τ Cert.QuantRefIdeal.sig) → Buf (Elt Ideal) ℓ) (g' : Dev Cert.QuantRefIdeal.nD → PrngReg), Pre_QuantIdeal m →
    (∀ c : Dev Cert.QuantIdeal.nD,
      m' ((c.tc : Thread Cert.QuantRefIdeal.nD Cert.QuantRefIdeal.τ).loc Cert.QuantRefIdeal.main_arg0) = m ((c.tc : Thread Cert.QuantIdeal.nD Cert.QuantIdeal.τ).loc Cert.QuantIdeal.main_arg0)
      ∧ m' ((c.tc : Thread Cert.QuantRefIdeal.nD Cert.QuantRefIdeal.τ).loc Cert.QuantRefIdeal.main_arg1) = m ((c.tc : Thread Cert.QuantIdeal.nD Cert.QuantIdeal.τ).loc Cert.QuantIdeal.main_arg1)
      ∧ m' ((c.tc : Thread Cert.QuantRefIdeal.nD Cert.QuantRefIdeal.τ).loc Cert.QuantRefIdeal.main_arg2) = m ((c.tc : Thread Cert.QuantIdeal.nD Cert.QuantIdeal.τ).loc Cert.QuantIdeal.main_arg2)
      ∧ m' ((c.tc : Thread Cert.QuantRefIdeal.nD Cert.QuantRefIdeal.τ).loc Cert.QuantRefIdeal.main_arg3) = m ((c.tc : Thread Cert.QuantIdeal.nD Cert.QuantIdeal.τ).loc Cert.QuantIdeal.main_arg3)) →
    ∃ (v0 : (c : Dev Cert.QuantIdeal.nD) → Buf (Elt Ideal) ((c.tc : Thread Cert.QuantIdeal.nD Cert.QuantIdeal.τ).loc Cert.QuantIdeal.main_v3_0)) (v1 : (c : Dev Cert.QuantIdeal.nD) → Buf (Elt Ideal) ((c.tc : Thread Cert.QuantIdeal.nD Cert.QuantIdeal.τ).loc Cert.QuantIdeal.main_v3_1)) (v2 : (c : Dev Cert.QuantIdeal.nD) → Buf (Elt Ideal) ((c.tc : Thread Cert.QuantIdeal.nD Cert.QuantIdeal.τ).loc Cert.QuantIdeal.main_v3_2)) (v3 : (c : Dev Cert.QuantIdeal.nD) → Buf (Elt Ideal) ((c.tc : Thread Cert.QuantIdeal.nD Cert.QuantIdeal.τ).loc Cert.QuantIdeal.main_v3_3)),
      θ_run (Cert.QuantIdeal.defs (F := Ideal)) (onTc (τ := Cert.QuantIdeal.τ) (Cert.QuantIdeal.main (F := Ideal))) ⟨m, fun _ => 0, g⟩ (fun r => ∀ c : Dev Cert.QuantIdeal.nD,
          r.2.mem ((c.tc : Thread Cert.QuantIdeal.nD Cert.QuantIdeal.τ).loc Cert.QuantIdeal.main_v3_0) = v0 c
          ∧ r.2.mem ((c.tc : Thread Cert.QuantIdeal.nD Cert.QuantIdeal.τ).loc Cert.QuantIdeal.main_v3_1) = v1 c
          ∧ r.2.mem ((c.tc : Thread Cert.QuantIdeal.nD Cert.QuantIdeal.τ).loc Cert.QuantIdeal.main_v3_2) = v2 c
          ∧ r.2.mem ((c.tc : Thread Cert.QuantIdeal.nD Cert.QuantIdeal.τ).loc Cert.QuantIdeal.main_v3_3) = v3 c
          ∧ r.2.mem ((c.tc : Thread Cert.QuantIdeal.nD Cert.QuantIdeal.τ).loc Cert.QuantIdeal.main_arg0) = m ((c.tc : Thread Cert.QuantIdeal.nD Cert.QuantIdeal.τ).loc Cert.QuantIdeal.main_arg0)
          ∧ r.2.mem ((c.tc : Thread Cert.QuantIdeal.nD Cert.QuantIdeal.τ).loc Cert.QuantIdeal.main_arg1) = m ((c.tc : Thread Cert.QuantIdeal.nD Cert.QuantIdeal.τ).loc Cert.QuantIdeal.main_arg1)
          ∧ r.2.mem ((c.tc : Thread Cert.QuantIdeal.nD Cert.QuantIdeal.τ).loc Cert.QuantIdeal.main_arg2) = m ((c.tc : Thread Cert.QuantIdeal.nD Cert.QuantIdeal.τ).loc Cert.QuantIdeal.main_arg2)
          ∧ r.2.mem ((c.tc : Thread Cert.QuantIdeal.nD Cert.QuantIdeal.τ).loc Cert.QuantIdeal.main_arg3) = m ((c.tc : Thread Cert.QuantIdeal.nD Cert.QuantIdeal.τ).loc Cert.QuantIdeal.main_arg3))
      ∧ θ_run (Cert.QuantRefIdeal.defs (F := Ideal)) (onTc (τ := Cert.QuantRefIdeal.τ) (Cert.QuantRefIdeal.main (F := Ideal))) ⟨m', fun _ => 0, g'⟩ (fun r => ∀ c : Dev Cert.QuantRefIdeal.nD,
          r.2.mem ((c.tc : Thread Cert.QuantRefIdeal.nD Cert.QuantRefIdeal.τ).loc Cert.QuantRefIdeal.main_v3_0) = v0 c
          ∧ r.2.mem ((c.tc : Thread Cert.QuantRefIdeal.nD Cert.QuantRefIdeal.τ).loc Cert.QuantRefIdeal.main_v3_1) = v1 c
          ∧ r.2.mem ((c.tc : Thread Cert.QuantRefIdeal.nD Cert.QuantRefIdeal.τ).loc Cert.QuantRefIdeal.main_v3_2) = v2 c
          ∧ r.2.mem ((c.tc : Thread Cert.QuantRefIdeal.nD Cert.QuantRefIdeal.τ).loc Cert.QuantRefIdeal.main_v3_3) = v3 c
          ∧ r.2.mem ((c.tc : Thread Cert.QuantRefIdeal.nD Cert.QuantRefIdeal.τ).loc Cert.QuantRefIdeal.main_arg0) = m' ((c.tc : Thread Cert.QuantRefIdeal.nD Cert.QuantRefIdeal.τ).loc Cert.QuantRefIdeal.main_arg0)
          ∧ r.2.mem ((c.tc : Thread Cert.QuantRefIdeal.nD Cert.QuantRefIdeal.τ).loc Cert.QuantRefIdeal.main_arg1) = m' ((c.tc : Thread Cert.QuantRefIdeal.nD Cert.QuantRefIdeal.τ).loc Cert.QuantRefIdeal.main_arg1)
          ∧ r.2.mem ((c.tc : Thread Cert.QuantRefIdeal.nD Cert.QuantRefIdeal.τ).loc Cert.QuantRefIdeal.main_arg2) = m' ((c.tc : Thread Cert.QuantRefIdeal.nD Cert.QuantRefIdeal.τ).loc Cert.QuantRefIdeal.main_arg2)
          ∧ r.2.mem ((c.tc : Thread Cert.QuantRefIdeal.nD Cert.QuantRefIdeal.τ).loc Cert.QuantRefIdeal.main_arg3) = m' ((c.tc : Thread Cert.QuantRefIdeal.nD Cert.QuantRefIdeal.τ).loc Cert.QuantRefIdeal.main_arg3))

def preserves_Mm_MmIdeal : Prop :=
  IdealRules.bf16_pair.BufferStatement Cert.MmIdeal.S192x2x1024 Cert.MmIdeal.S192x1x1024
  ∧ IdealRules.bf16_pair.PackStatement Cert.MmIdeal.S192x1024
  ∧ IdealRules.bf16_pair.Statement Cert.MmIdeal.S192x2x1024 Cert.MmIdeal.S192x1x1024
  ∧ IdealRules.bf16_pair.Statement Cert.MmIdeal.S1x2x1024 Cert.MmIdeal.S1x1x1024
  ∧ IdealRules.bf16_pair.Statement Cert.MmIdeal.S16x1024 Cert.MmIdeal.S8x1024

def algebraic_MmIdeal_MmRefIdeal [hMmIdeal : Cert.MmIdeal.Facts] [hMmRefIdeal : Cert.MmRefIdeal.Facts] : Prop :=
  ∀ (m : (ℓ : Loc Cert.MmIdeal.nD Cert.MmIdeal.τ Cert.MmIdeal.sig) → Buf (Elt Ideal) ℓ) (g : Dev Cert.MmIdeal.nD → PrngReg)
    (m' : (ℓ : Loc Cert.MmRefIdeal.nD Cert.MmRefIdeal.τ Cert.MmRefIdeal.sig) → Buf (Elt Ideal) ℓ) (g' : Dev Cert.MmRefIdeal.nD → PrngReg), Pre_MmIdeal m →
    (∀ c : Dev Cert.MmIdeal.nD,
      m' ((c.tc : Thread Cert.MmRefIdeal.nD Cert.MmRefIdeal.τ).loc Cert.MmRefIdeal.main_arg0) = m ((c.tc : Thread Cert.MmIdeal.nD Cert.MmIdeal.τ).loc Cert.MmIdeal.main_arg0)
      ∧ m' ((c.tc : Thread Cert.MmRefIdeal.nD Cert.MmRefIdeal.τ).loc Cert.MmRefIdeal.main_arg1) = m ((c.tc : Thread Cert.MmIdeal.nD Cert.MmIdeal.τ).loc Cert.MmIdeal.main_arg1)
      ∧ m' ((c.tc : Thread Cert.MmRefIdeal.nD Cert.MmRefIdeal.τ).loc Cert.MmRefIdeal.main_arg2) = m ((c.tc : Thread Cert.MmIdeal.nD Cert.MmIdeal.τ).loc Cert.MmIdeal.main_arg2)
      ∧ m' ((c.tc : Thread Cert.MmRefIdeal.nD Cert.MmRefIdeal.τ).loc Cert.MmRefIdeal.main_arg3) = m ((c.tc : Thread Cert.MmIdeal.nD Cert.MmIdeal.τ).loc Cert.MmIdeal.main_arg3)
      ∧ m' ((c.tc : Thread Cert.MmRefIdeal.nD Cert.MmRefIdeal.τ).loc Cert.MmRefIdeal.main_arg4) = m ((c.tc : Thread Cert.MmIdeal.nD Cert.MmIdeal.τ).loc Cert.MmIdeal.main_arg4)
      ∧ m' ((c.tc : Thread Cert.MmRefIdeal.nD Cert.MmRefIdeal.τ).loc Cert.MmRefIdeal.main_arg5) = m ((c.tc : Thread Cert.MmIdeal.nD Cert.MmIdeal.τ).loc Cert.MmIdeal.main_arg5)
      ∧ m' ((c.tc : Thread Cert.MmRefIdeal.nD Cert.MmRefIdeal.τ).loc Cert.MmRefIdeal.main_arg6) = m ((c.tc : Thread Cert.MmIdeal.nD Cert.MmIdeal.τ).loc Cert.MmIdeal.main_arg6)
      ∧ m' ((c.tc : Thread Cert.MmRefIdeal.nD Cert.MmRefIdeal.τ).loc Cert.MmRefIdeal.main_arg7) = m ((c.tc : Thread Cert.MmIdeal.nD Cert.MmIdeal.τ).loc Cert.MmIdeal.main_arg7)) →
    ∃ (v0 : (c : Dev Cert.MmIdeal.nD) → Buf (Elt Ideal) ((c.tc : Thread Cert.MmIdeal.nD Cert.MmIdeal.τ).loc Cert.MmIdeal.main_v3)),
      θ_run (Cert.MmIdeal.defs (F := Ideal)) (onTc (τ := Cert.MmIdeal.τ) (Cert.MmIdeal.main (F := Ideal))) ⟨m, fun _ => 0, g⟩ (fun r => ∀ c : Dev Cert.MmIdeal.nD,
          r.2.mem ((c.tc : Thread Cert.MmIdeal.nD Cert.MmIdeal.τ).loc Cert.MmIdeal.main_v3) = v0 c
          ∧ r.2.mem ((c.tc : Thread Cert.MmIdeal.nD Cert.MmIdeal.τ).loc Cert.MmIdeal.main_arg0) = m ((c.tc : Thread Cert.MmIdeal.nD Cert.MmIdeal.τ).loc Cert.MmIdeal.main_arg0)
          ∧ r.2.mem ((c.tc : Thread Cert.MmIdeal.nD Cert.MmIdeal.τ).loc Cert.MmIdeal.main_arg1) = m ((c.tc : Thread Cert.MmIdeal.nD Cert.MmIdeal.τ).loc Cert.MmIdeal.main_arg1)
          ∧ r.2.mem ((c.tc : Thread Cert.MmIdeal.nD Cert.MmIdeal.τ).loc Cert.MmIdeal.main_arg2) = m ((c.tc : Thread Cert.MmIdeal.nD Cert.MmIdeal.τ).loc Cert.MmIdeal.main_arg2)
          ∧ r.2.mem ((c.tc : Thread Cert.MmIdeal.nD Cert.MmIdeal.τ).loc Cert.MmIdeal.main_arg3) = m ((c.tc : Thread Cert.MmIdeal.nD Cert.MmIdeal.τ).loc Cert.MmIdeal.main_arg3)
          ∧ r.2.mem ((c.tc : Thread Cert.MmIdeal.nD Cert.MmIdeal.τ).loc Cert.MmIdeal.main_arg4) = m ((c.tc : Thread Cert.MmIdeal.nD Cert.MmIdeal.τ).loc Cert.MmIdeal.main_arg4)
          ∧ r.2.mem ((c.tc : Thread Cert.MmIdeal.nD Cert.MmIdeal.τ).loc Cert.MmIdeal.main_arg5) = m ((c.tc : Thread Cert.MmIdeal.nD Cert.MmIdeal.τ).loc Cert.MmIdeal.main_arg5)
          ∧ r.2.mem ((c.tc : Thread Cert.MmIdeal.nD Cert.MmIdeal.τ).loc Cert.MmIdeal.main_arg6) = m ((c.tc : Thread Cert.MmIdeal.nD Cert.MmIdeal.τ).loc Cert.MmIdeal.main_arg6)
          ∧ r.2.mem ((c.tc : Thread Cert.MmIdeal.nD Cert.MmIdeal.τ).loc Cert.MmIdeal.main_arg7) = m ((c.tc : Thread Cert.MmIdeal.nD Cert.MmIdeal.τ).loc Cert.MmIdeal.main_arg7))
      ∧ θ_run (Cert.MmRefIdeal.defs (F := Ideal)) (onTc (τ := Cert.MmRefIdeal.τ) (Cert.MmRefIdeal.main (F := Ideal))) ⟨m', fun _ => 0, g'⟩ (fun r => ∀ c : Dev Cert.MmRefIdeal.nD,
          r.2.mem ((c.tc : Thread Cert.MmRefIdeal.nD Cert.MmRefIdeal.τ).loc Cert.MmRefIdeal.main_v3) = v0 c
          ∧ r.2.mem ((c.tc : Thread Cert.MmRefIdeal.nD Cert.MmRefIdeal.τ).loc Cert.MmRefIdeal.main_arg0) = m' ((c.tc : Thread Cert.MmRefIdeal.nD Cert.MmRefIdeal.τ).loc Cert.MmRefIdeal.main_arg0)
          ∧ r.2.mem ((c.tc : Thread Cert.MmRefIdeal.nD Cert.MmRefIdeal.τ).loc Cert.MmRefIdeal.main_arg1) = m' ((c.tc : Thread Cert.MmRefIdeal.nD Cert.MmRefIdeal.τ).loc Cert.MmRefIdeal.main_arg1)
          ∧ r.2.mem ((c.tc : Thread Cert.MmRefIdeal.nD Cert.MmRefIdeal.τ).loc Cert.MmRefIdeal.main_arg2) = m' ((c.tc : Thread Cert.MmRefIdeal.nD Cert.MmRefIdeal.τ).loc Cert.MmRefIdeal.main_arg2)
          ∧ r.2.mem ((c.tc : Thread Cert.MmRefIdeal.nD Cert.MmRefIdeal.τ).loc Cert.MmRefIdeal.main_arg3) = m' ((c.tc : Thread Cert.MmRefIdeal.nD Cert.MmRefIdeal.τ).loc Cert.MmRefIdeal.main_arg3)
          ∧ r.2.mem ((c.tc : Thread Cert.MmRefIdeal.nD Cert.MmRefIdeal.τ).loc Cert.MmRefIdeal.main_arg4) = m' ((c.tc : Thread Cert.MmRefIdeal.nD Cert.MmRefIdeal.τ).loc Cert.MmRefIdeal.main_arg4)
          ∧ r.2.mem ((c.tc : Thread Cert.MmRefIdeal.nD Cert.MmRefIdeal.τ).loc Cert.MmRefIdeal.main_arg5) = m' ((c.tc : Thread Cert.MmRefIdeal.nD Cert.MmRefIdeal.τ).loc Cert.MmRefIdeal.main_arg5)
          ∧ r.2.mem ((c.tc : Thread Cert.MmRefIdeal.nD Cert.MmRefIdeal.τ).loc Cert.MmRefIdeal.main_arg6) = m' ((c.tc : Thread Cert.MmRefIdeal.nD Cert.MmRefIdeal.τ).loc Cert.MmRefIdeal.main_arg6)
          ∧ r.2.mem ((c.tc : Thread Cert.MmRefIdeal.nD Cert.MmRefIdeal.τ).loc Cert.MmRefIdeal.main_arg7) = m' ((c.tc : Thread Cert.MmRefIdeal.nD Cert.MmRefIdeal.τ).loc Cert.MmRefIdeal.main_arg7))

def Claim : Prop :=
  ∃ (hWhole : Cert.Whole.Facts) (hWholeIdeal : Cert.WholeIdeal.Facts) (hWholeRefIdeal : Cert.WholeRefIdeal.Facts) (hQuant : Cert.Quant.Facts) (hQuantIdeal : Cert.QuantIdeal.Facts) (hQuantRefIdeal : Cert.QuantRefIdeal.Facts) (hMm : Cert.Mm.Facts) (hMmIdeal : Cert.MmIdeal.Facts) (hMmRefIdeal : Cert.MmRefIdeal.Facts),
    quiescent_Whole (hWhole := hWhole)
    ∧ quiescent_WholeIdeal (hWholeIdeal := hWholeIdeal)
    ∧ quiescent_WholeRefIdeal (hWholeRefIdeal := hWholeRefIdeal)
    ∧ quiescent_Quant (hQuant := hQuant)
    ∧ quiescent_QuantIdeal (hQuantIdeal := hQuantIdeal)
    ∧ quiescent_QuantRefIdeal (hQuantRefIdeal := hQuantRefIdeal)
    ∧ quiescent_Mm (hMm := hMm)
    ∧ quiescent_MmIdeal (hMmIdeal := hMmIdeal)
    ∧ quiescent_MmRefIdeal (hMmRefIdeal := hMmRefIdeal)
    ∧ preserves_Whole_WholeIdeal
    ∧ algebraic_WholeIdeal_WholeRefIdeal (hWholeIdeal := hWholeIdeal) (hWholeRefIdeal := hWholeRefIdeal)
    ∧ preserves_Quant_QuantIdeal
    ∧ algebraic_QuantIdeal_QuantRefIdeal (hQuantIdeal := hQuantIdeal) (hQuantRefIdeal := hQuantRefIdeal)
    ∧ preserves_Mm_MmIdeal
    ∧ algebraic_MmIdeal_MmRefIdeal (hMmIdeal := hMmIdeal) (hMmRefIdeal := hMmRefIdeal)
-- ==== Whole.lean ====
abbrev S2x4096x3072 : Shape := ⟨3, ![2, 4096, 3072]⟩
abbrev S3072 : Shape := ⟨1, ![3072]⟩
abbrev S_ : Shape := ⟨0, ![]⟩
abbrev S1536x21504 : Shape := ⟨2, ![1536, 21504]⟩
abbrev S192x21504 : Shape := ⟨2, ![192, 21504]⟩
abbrev S3072x64 : Shape := ⟨2, ![3072, 64]⟩
abbrev S64x21504 : Shape := ⟨2, ![64, 21504]⟩
abbrev S21504 : Shape := ⟨1, ![21504]⟩
abbrev S8192x3072 : Shape := ⟨2, ![8192, 3072]⟩
abbrev S1 : Shape := ⟨1, ![1]⟩
abbrev S1x3072 : Shape := ⟨2, ![1, 3072]⟩
abbrev S8192x64 : Shape := ⟨2, ![8192, 64]⟩
abbrev S8192x1536 : Shape := ⟨2, ![8192, 1536]⟩
abbrev S8192x192 : Shape := ⟨2, ![8192, 192]⟩
abbrev S128x3072 : Shape := ⟨2, ![128, 3072]⟩
abbrev S128x64 : Shape := ⟨2, ![128, 64]⟩
abbrev S128x1536 : Shape := ⟨2, ![128, 1536]⟩
abbrev S128x192 : Shape := ⟨2, ![128, 192]⟩
abbrev S3072x128 : Shape := ⟨2, ![3072, 128]⟩
abbrev S192x128 : Shape := ⟨2, ![192, 128]⟩
abbrev S128x128 : Shape := ⟨2, ![128, 128]⟩
abbrev S1x128 : Shape := ⟨2, ![1, 128]⟩
abbrev S8x16x128 : Shape := ⟨3, ![8, 16, 128]⟩
abbrev S8x128 : Shape := ⟨2, ![8, 128]⟩
abbrev S8x1x128 : Shape := ⟨3, ![8, 1, 128]⟩
abbrev S32x128 : Shape := ⟨2, ![32, 128]⟩
abbrev S1x21504 : Shape := ⟨2, ![1, 21504]⟩
abbrev S8192x21504 : Shape := ⟨2, ![8192, 21504]⟩
abbrev S1024x3072 : Shape := ⟨2, ![1024, 3072]⟩
abbrev S1024x64 : Shape := ⟨2, ![1024, 64]⟩
abbrev S1536x1024 : Shape := ⟨2, ![1536, 1024]⟩
abbrev S192x1024 : Shape := ⟨2, ![192, 1024]⟩
abbrev S64x1024 : Shape := ⟨2, ![64, 1024]⟩
abbrev S1x1024 : Shape := ⟨2, ![1, 1024]⟩
abbrev S1024x1024 : Shape := ⟨2, ![1024, 1024]⟩
abbrev S3072x1024 : Shape := ⟨2, ![3072, 1024]⟩
abbrev S32x1024 : Shape := ⟨2, ![32, 1024]⟩
abbrev S8x1024 : Shape := ⟨2, ![8, 1024]⟩
abbrev S16x1024 : Shape := ⟨2, ![16, 1024]⟩
abbrev S512x3072 : Shape := ⟨2, ![512, 3072]⟩
abbrev S3072x512 : Shape := ⟨2, ![3072, 512]⟩
abbrev S512x512 : Shape := ⟨2, ![512, 512]⟩
abbrev S512x64 : Shape := ⟨2, ![512, 64]⟩
abbrev S64x512 : Shape := ⟨2, ![64, 512]⟩
abbrev S1x512 : Shape := ⟨2, ![1, 512]⟩

abbrev nBuf : Space → Nat
  | .hbm => 20
  | .vmem => 30
  | .smem => 2
  | _ => 0

abbrev bufTy : (tb : Table) → Fin (tcTables nBuf tb) → BufTy
  | .hbm, ⟨0, _⟩ => ⟨S2x4096x3072, .bf16⟩
  | .hbm, ⟨1, _⟩ => ⟨S3072, .f32⟩
  | .hbm, ⟨2, _⟩ => ⟨S_, .f32⟩
  | .hbm, ⟨3, _⟩ => ⟨S1536x21504, .i8⟩
  | .hbm, ⟨4, _⟩ => ⟨S192x21504, .fp8e4m3⟩
  | .hbm, ⟨5, _⟩ => ⟨S_, .f32⟩
  | .hbm, ⟨6, _⟩ => ⟨S3072x64, .bf16⟩
  | .hbm, ⟨7, _⟩ => ⟨S64x21504, .bf16⟩
  | .hbm, ⟨8, _⟩ => ⟨S21504, .f32⟩
  | .hbm, ⟨9, _⟩ => ⟨S8192x3072, .bf16⟩
  | .hbm, ⟨10, _⟩ => ⟨S1, .f32⟩
  | .hbm, ⟨11, _⟩ => ⟨S1x3072, .f32⟩
  | .hbm, ⟨12, _⟩ => ⟨S8192x3072, .bf16⟩
  | .hbm, ⟨13, _⟩ => ⟨S8192x64, .bf16⟩
  | .hbm, ⟨14, _⟩ => ⟨S8192x1536, .i8⟩
  | .hbm, ⟨15, _⟩ => ⟨S8192x192, .fp8e4m3⟩
  | .hbm, ⟨16, _⟩ => ⟨S_, .f32⟩
  | .hbm, ⟨17, _⟩ => ⟨S1, .f32⟩
  | .hbm, ⟨18, _⟩ => ⟨S1x21504, .f32⟩
  | .hbm, ⟨19, _⟩ => ⟨S8192x21504, .bf16⟩
  | .local _ .vmem, ⟨0, _⟩ => ⟨S128x3072, .bf16⟩
  | .local _ .vmem, ⟨1, _⟩ => ⟨S128x3072, .bf16⟩
  | .local _ .vmem, ⟨2, _⟩ => ⟨S1x3072, .f32⟩
  | .local _ .vmem, ⟨3, _⟩ => ⟨S3072x64, .bf16⟩
  | .local _ .vmem, ⟨4, _⟩ => ⟨S128x3072, .bf16⟩
  | .local _ .vmem, ⟨5, _⟩ => ⟨S128x3072, .bf16⟩
  | .local _ .vmem, ⟨6, _⟩ => ⟨S128x64, .bf16⟩
  | .local _ .vmem, ⟨7, _⟩ => ⟨S128x64, .bf16⟩
  | .local _ .vmem, ⟨8, _⟩ => ⟨S128x1536, .i8⟩
  | .local _ .vmem, ⟨9, _⟩ => ⟨S128x1536, .i8⟩
  | .local _ .vmem, ⟨10, _⟩ => ⟨S128x192, .fp8e4m3⟩
  | .local _ .vmem, ⟨11, _⟩ => ⟨S128x192, .fp8e4m3⟩
  | .local _ .vmem, ⟨12, _⟩ => ⟨S3072x128, .bf16⟩
  | .local _ .vmem, ⟨13, _⟩ => ⟨S192x128, .f32⟩
  | .local _ .vmem, ⟨14, _⟩ => ⟨S1024x3072, .bf16⟩
  | .local _ .vmem, ⟨15, _⟩ => ⟨S1024x3072, .bf16⟩
  | .local _ .vmem, ⟨16, _⟩ => ⟨S1024x64, .bf16⟩
  | .local _ .vmem, ⟨17, _⟩ => ⟨S1024x64, .bf16⟩
  | .local _ .vmem, ⟨18, _⟩ => ⟨S1536x1024, .i8⟩
  | .local _ .vmem, ⟨19, _⟩ => ⟨S1536x1024, .i8⟩
  | .local _ .vmem, ⟨20, _⟩ => ⟨S192x1024, .fp8e4m3⟩
  | .local _ .vmem, ⟨21, _⟩ => ⟨S192x1024, .fp8e4m3⟩
  | .local _ .vmem, ⟨22, _⟩ => ⟨S64x1024, .bf16⟩
  | .local _ .vmem, ⟨23, _⟩ => ⟨S64x1024, .bf16⟩
  | .local _ .vmem, ⟨24, _⟩ => ⟨S1x1024, .f32⟩
  | .local _ .vmem, ⟨25, _⟩ => ⟨S1x1024, .f32⟩
  | .local _ .vmem, ⟨26, _⟩ => ⟨S1024x1024, .bf16⟩
  | .local _ .vmem, ⟨27, _⟩ => ⟨S1024x1024, .bf16⟩
  | .local _ .vmem, ⟨28, _⟩ => ⟨S3072x1024, .bf16⟩
  | .local _ .vmem, ⟨29, _⟩ => ⟨S192x1024, .i32⟩
  | .local _ .smem, ⟨0, _⟩ => ⟨S1, .f32⟩
  | .local _ .smem, ⟨1, _⟩ => ⟨S1, .f32⟩
  | _, _ => ⟨S2x4096x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3_0 : Ref sig .tc := ⟨.hbm, 12, rfl⟩
abbrev main_v3_1 : Ref sig .tc := ⟨.hbm, 13, rfl⟩
abbrev main_v3_2 : Ref sig .tc := ⟨.hbm, 14, rfl⟩
abbrev main_v3_3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_scratch0 : Ref sig .tc := ⟨.vmem, 12, rfl⟩
abbrev cc0_scratch1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg3_1 : Ref sig .tc := ⟨.vmem, 19, rfl⟩
abbrev cc1_stg4_0 : Ref sig .tc := ⟨.vmem, 20, rfl⟩
abbrev cc1_stg4_1 : Ref sig .tc := ⟨.vmem, 21, rfl⟩
abbrev cc1_stg5_0 : Ref sig .tc := ⟨.vmem, 22, rfl⟩
abbrev cc1_stg5_1 : Ref sig .tc := ⟨.vmem, 23, rfl⟩
abbrev cc1_stg6_0 : Ref sig .tc := ⟨.vmem, 24, rfl⟩
abbrev cc1_stg6_1 : Ref sig .tc := ⟨.vmem, 25, rfl⟩
abbrev cc1_stg7_0 : Ref sig .tc := ⟨.vmem, 26, rfl⟩
abbrev cc1_stg7_1 : Ref sig .tc := ⟨.vmem, 27, rfl⟩
abbrev cc1_scratch0 : Ref sig .tc := ⟨.vmem, 28, rfl⟩
abbrev cc1_scratch1 : Ref sig .tc := ⟨.vmem, 29, rfl⟩
abbrev cc0_stg0_0 : Ref sig .tc := ⟨.smem, 0, rfl⟩
abbrev cc1_stg0_0 : Ref sig .tc := ⟨.smem, 1, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc1_sem0_0 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem3_1 : DmaSem sig := 19
abbrev cc1_sem4_0 : DmaSem sig := 20
abbrev cc1_sem4_1 : DmaSem sig := 21
abbrev cc1_sem5_0 : DmaSem sig := 22
abbrev cc1_sem5_1 : DmaSem sig := 23
abbrev cc1_sem6_0 : DmaSem sig := 24
abbrev cc1_sem6_1 : DmaSem sig := 25
abbrev cc1_sem7_0 : DmaSem sig := 26
abbrev cc1_sem7_1 : DmaSem sig := 27

abbrev nD : Nat := 1
abbrev τ : Topo := Topo.v7x

variable {F : FTy → Type} [BitOps F]

abbrev grid0 : Pipeline.Grid := ⟨1, ![64], ![false]⟩

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S128x3072 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x3072 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S3072x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S128x3072 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x64 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1536 .i8 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x192 .fp8e4m3 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨2, ![21, 8], ![false, false]⟩

def cc1_transform_0 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage1_0 : Fin 1 → Memref sig .tc .smem S1 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false, false]

abbrev stage1_1 : Fin 2 → Memref sig .tc .vmem S1024x3072 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x64 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S1536x1024 .i8 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S192x1024 .fp8e4m3 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev stage1_5 : Fin 2 → Memref sig .tc .vmem S64x1024 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

abbrev stage1_6 : Fin 2 → Memref sig .tc .vmem S1x1024 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, false]

abbrev stage1_7 : Fin 2 → Memref sig .tc .vmem S1024x1024 .bf16 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true]
-- ==== WholeIdeal.lean ====
abbrev S192x2x1024 : Shape := ⟨3, ![192, 2, 1024]⟩
abbrev S192x1x1024 : Shape := ⟨3, ![192, 1, 1024]⟩
abbrev S1x2x1024 : Shape := ⟨3, ![1, 2, 1024]⟩
abbrev S1x1x1024 : Shape := ⟨3, ![1, 1, 1024]⟩
  | .local _ .vmem, ⟨29, _⟩ => ⟨S192x2x1024, .bf16⟩
variable {F : FTy → Type} [FloatOps F]
-- ==== WholeRefIdeal.lean ====
abbrev S2x4096x3072 : Shape := ⟨3, ![2, 4096, 3072]⟩
abbrev S3072 : Shape := ⟨1, ![3072]⟩
abbrev S_ : Shape := ⟨0, ![]⟩
abbrev S1536x21504 : Shape := ⟨2, ![1536, 21504]⟩
abbrev S192x21504 : Shape := ⟨2, ![192, 21504]⟩
abbrev S3072x64 : Shape := ⟨2, ![3072, 64]⟩
abbrev S64x21504 : Shape := ⟨2, ![64, 21504]⟩
abbrev S21504 : Shape := ⟨1, ![21504]⟩
abbrev S8192x3072 : Shape := ⟨2, ![8192, 3072]⟩
abbrev S1x3072 : Shape := ⟨2, ![1, 3072]⟩
abbrev S1 : Shape := ⟨1, ![1]⟩
abbrev S1x21504 : Shape := ⟨2, ![1, 21504]⟩
abbrev S8192x21504 : Shape := ⟨2, ![8192, 21504]⟩
abbrev S8192x1536 : Shape := ⟨2, ![8192, 1536]⟩
abbrev S8192x192 : Shape := ⟨2, ![8192, 192]⟩
abbrev S8192x192x16 : Shape := ⟨3, ![8192, 192, 16]⟩
abbrev S8192x192x1 : Shape := ⟨3, ![8192, 192, 1]⟩
abbrev S8192x96 : Shape := ⟨2, ![8192, 96]⟩
abbrev S8192x96x16 : Shape := ⟨3, ![8192, 96, 16]⟩
abbrev S8192x96x1 : Shape := ⟨3, ![8192, 96, 1]⟩
abbrev S96x21504 : Shape := ⟨2, ![96, 21504]⟩
abbrev S96x16x21504 : Shape := ⟨3, ![96, 16, 21504]⟩
abbrev S96x1x21504 : Shape := ⟨3, ![96, 1, 21504]⟩
abbrev S3072x21504 : Shape := ⟨2, ![3072, 21504]⟩
abbrev S8192x64 : Shape := ⟨2, ![8192, 64]⟩

abbrev nBuf : Space → Nat
  | .hbm => 17
  | .vmem => 10
  | .smem => 2
  | _ => 0

abbrev bufTy : (tb : Table) → Fin (tcTables nBuf tb) → BufTy
  | .hbm, ⟨0, _⟩ => ⟨S2x4096x3072, .bf16⟩
  | .hbm, ⟨1, _⟩ => ⟨S3072, .f32⟩
  | .hbm, ⟨2, _⟩ => ⟨S_, .f32⟩
  | .hbm, ⟨3, _⟩ => ⟨S1536x21504, .i8⟩
  | .hbm, ⟨4, _⟩ => ⟨S192x21504, .fp8e4m3⟩
  | .hbm, ⟨5, _⟩ => ⟨S_, .f32⟩
  | .hbm, ⟨6, _⟩ => ⟨S3072x64, .bf16⟩
  | .hbm, ⟨7, _⟩ => ⟨S64x21504, .bf16⟩
  | .hbm, ⟨8, _⟩ => ⟨S21504, .f32⟩
  | .hbm, ⟨9, _⟩ => ⟨S8192x3072, .bf16⟩
  | .hbm, ⟨10, _⟩ => ⟨S1x3072, .f32⟩
  | .hbm, ⟨11, _⟩ => ⟨S1, .f32⟩
  | .hbm, ⟨12, _⟩ => ⟨S1, .f32⟩
  | .hbm, ⟨13, _⟩ => ⟨S1x21504, .f32⟩
  | .hbm, ⟨14, _⟩ => ⟨S8192x21504, .bf16⟩
  | .hbm, ⟨15, _⟩ => ⟨S8192x1536, .i8⟩
  | .hbm, ⟨16, _⟩ => ⟨S8192x192, .fp8e4m3⟩
  | .local _ .vmem, ⟨0, _⟩ => ⟨S8192x3072, .bf16⟩
  | .local _ .vmem, ⟨1, _⟩ => ⟨S1x3072, .f32⟩
  | .local _ .vmem, ⟨2, _⟩ => ⟨S1536x21504, .i8⟩
  | .local _ .vmem, ⟨3, _⟩ => ⟨S192x21504, .fp8e4m3⟩
  | .local _ .vmem, ⟨4, _⟩ => ⟨S3072x64, .bf16⟩
  | .local _ .vmem, ⟨5, _⟩ => ⟨S64x21504, .bf16⟩
  | .local _ .vmem, ⟨6, _⟩ => ⟨S1x21504, .f32⟩
  | .local _ .vmem, ⟨7, _⟩ => ⟨S8192x21504, .bf16⟩
  | .local _ .vmem, ⟨8, _⟩ => ⟨S8192x1536, .i8⟩
  | .local _ .vmem, ⟨9, _⟩ => ⟨S8192x192, .fp8e4m3⟩
  | .local _ .smem, ⟨0, _⟩ => ⟨S1, .f32⟩
  | .local _ .smem, ⟨1, _⟩ => ⟨S1, .f32⟩
  | _, _ => ⟨S2x4096x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5_0 : Ref sig .tc := ⟨.hbm, 14, rfl⟩
abbrev main_v5_1 : Ref sig .tc := ⟨.hbm, 15, rfl⟩
abbrev main_v5_2 : Ref sig .tc := ⟨.hbm, 16, rfl⟩
abbrev cc0_stg0_0 : Ref sig .tc := ⟨.vmem, 0, rfl⟩
abbrev cc0_stg1_0 : Ref sig .tc := ⟨.vmem, 1, rfl⟩
abbrev cc0_stg3_0 : Ref sig .tc := ⟨.vmem, 2, rfl⟩
abbrev cc0_stg4_0 : Ref sig .tc := ⟨.vmem, 3, rfl⟩
abbrev cc0_stg6_0 : Ref sig .tc := ⟨.vmem, 4, rfl⟩
abbrev cc0_stg7_0 : Ref sig .tc := ⟨.vmem, 5, rfl⟩
abbrev cc0_stg8_0 : Ref sig .tc := ⟨.vmem, 6, rfl⟩
abbrev cc0_stg9_0 : Ref sig .tc := ⟨.vmem, 7, rfl⟩
abbrev cc0_stg10_0 : Ref sig .tc := ⟨.vmem, 8, rfl⟩
abbrev cc0_stg11_0 : Ref sig .tc := ⟨.vmem, 9, rfl⟩
abbrev cc0_stg2_0 : Ref sig .tc := ⟨.smem, 0, rfl⟩
abbrev cc0_stg5_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11

abbrev nD : Nat := 1
abbrev τ : Topo := Topo.v7x

variable {F : FTy → Type} [FloatOps F]

abbrev grid0 : Pipeline.Grid := .none

abbrev stage0_0 : Fin 1 → Memref sig .tc .vmem S8192x3072 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x3072 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1536x21504 .i8 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S192x21504 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .smem S1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S3072x64 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S64x21504 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x21504 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S8192x21504 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S8192x1536 .i8 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S8192x192 .fp8e4m3 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
-- ==== Quant.lean ====
abbrev S2x4096x3072 : Shape := ⟨3, ![2, 4096, 3072]⟩
abbrev S3072 : Shape := ⟨1, ![3072]⟩
abbrev S_ : Shape := ⟨0, ![]⟩
abbrev S3072x64 : Shape := ⟨2, ![3072, 64]⟩
abbrev S8192x3072 : Shape := ⟨2, ![8192, 3072]⟩
abbrev S1 : Shape := ⟨1, ![1]⟩
abbrev S1x3072 : Shape := ⟨2, ![1, 3072]⟩
abbrev S8192x64 : Shape := ⟨2, ![8192, 64]⟩
abbrev S8192x1536 : Shape := ⟨2, ![8192, 1536]⟩
abbrev S8192x192 : Shape := ⟨2, ![8192, 192]⟩
abbrev S128x3072 : Shape := ⟨2, ![128, 3072]⟩
abbrev S128x64 : Shape := ⟨2, ![128, 64]⟩
abbrev S128x1536 : Shape := ⟨2, ![128, 1536]⟩
abbrev S128x192 : Shape := ⟨2, ![128, 192]⟩
abbrev S3072x128 : Shape := ⟨2, ![3072, 128]⟩
abbrev S192x128 : Shape := ⟨2, ![192, 128]⟩
abbrev S128x128 : Shape := ⟨2, ![128, 128]⟩
abbrev S1x128 : Shape := ⟨2, ![1, 128]⟩
abbrev S8x16x128 : Shape := ⟨3, ![8, 16, 128]⟩
abbrev S8x128 : Shape := ⟨2, ![8, 128]⟩
abbrev S8x1x128 : Shape := ⟨3, ![8, 1, 128]⟩
abbrev S32x128 : Shape := ⟨2, ![32, 128]⟩

abbrev nBuf : Space → Nat
  | .hbm => 11
  | .vmem => 14
  | .smem => 1
  | _ => 0

abbrev bufTy : (tb : Table) → Fin (tcTables nBuf tb) → BufTy
  | .hbm, ⟨0, _⟩ => ⟨S2x4096x3072, .bf16⟩
  | .hbm, ⟨1, _⟩ => ⟨S3072, .f32⟩
  | .hbm, ⟨2, _⟩ => ⟨S_, .f32⟩
  | .hbm, ⟨3, _⟩ => ⟨S3072x64, .bf16⟩
  | .hbm, ⟨4, _⟩ => ⟨S8192x3072, .bf16⟩
  | .hbm, ⟨5, _⟩ => ⟨S1, .f32⟩
  | .hbm, ⟨6, _⟩ => ⟨S1x3072, .f32⟩
  | .hbm, ⟨7, _⟩ => ⟨S8192x3072, .bf16⟩
  | .hbm, ⟨8, _⟩ => ⟨S8192x64, .bf16⟩
  | .hbm, ⟨9, _⟩ => ⟨S8192x1536, .i8⟩
  | .hbm, ⟨10, _⟩ => ⟨S8192x192, .fp8e4m3⟩
  | .local _ .vmem, ⟨0, _⟩ => ⟨S128x3072, .bf16⟩
  | .local _ .vmem, ⟨1, _⟩ => ⟨S128x3072, .bf16⟩
  | .local _ .vmem, ⟨2, _⟩ => ⟨S1x3072, .f32⟩
  | .local _ .vmem, ⟨3, _⟩ => ⟨S3072x64, .bf16⟩
  | .local _ .vmem, ⟨4, _⟩ => ⟨S128x3072, .bf16⟩
  | .local _ .vmem, ⟨5, _⟩ => ⟨S128x3072, .bf16⟩
  | .local _ .vmem, ⟨6, _⟩ => ⟨S128x64, .bf16⟩
  | .local _ .vmem, ⟨7, _⟩ => ⟨S128x64, .bf16⟩
  | .local _ .vmem, ⟨8, _⟩ => ⟨S128x1536, .i8⟩
  | .local _ .vmem, ⟨9, _⟩ => ⟨S128x1536, .i8⟩
  | .local _ .vmem, ⟨10, _⟩ => ⟨S128x192, .fp8e4m3⟩
  | .local _ .vmem, ⟨11, _⟩ => ⟨S128x192, .fp8e4m3⟩
  | .local _ .vmem, ⟨12, _⟩ => ⟨S3072x128, .bf16⟩
  | .local _ .vmem, ⟨13, _⟩ => ⟨S192x128, .f32⟩
  | .local _ .smem, ⟨0, _⟩ => ⟨S1, .f32⟩
  | _, _ => ⟨S2x4096x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .smem, ⟨0, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev main_v3_3 : Ref sig .tc := ⟨.hbm, 10, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_scratch0 : Ref sig .tc := ⟨.vmem, 12, rfl⟩
abbrev cc0_scratch1 : Ref sig .tc := ⟨.vmem, 13, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![64], ![false]⟩

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S128x3072 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x3072 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S3072x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S128x3072 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x64 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1536 .i8 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x192 .fp8e4m3 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== QuantRefIdeal.lean ====
abbrev S2x4096x3072 : Shape := ⟨3, ![2, 4096, 3072]⟩
abbrev S3072 : Shape := ⟨1, ![3072]⟩
abbrev S_ : Shape := ⟨0, ![]⟩
abbrev S3072x64 : Shape := ⟨2, ![3072, 64]⟩
abbrev S8192x3072 : Shape := ⟨2, ![8192, 3072]⟩
abbrev S1x3072 : Shape := ⟨2, ![1, 3072]⟩
abbrev S1 : Shape := ⟨1, ![1]⟩
abbrev S8192x64 : Shape := ⟨2, ![8192, 64]⟩
abbrev S8192x1536 : Shape := ⟨2, ![8192, 1536]⟩
abbrev S8192x192 : Shape := ⟨2, ![8192, 192]⟩
abbrev S8192x192x16 : Shape := ⟨3, ![8192, 192, 16]⟩
abbrev S8192x192x1 : Shape := ⟨3, ![8192, 192, 1]⟩
abbrev S8192x96 : Shape := ⟨2, ![8192, 96]⟩
abbrev S8192x96x16 : Shape := ⟨3, ![8192, 96, 16]⟩
abbrev S8192x96x1 : Shape := ⟨3, ![8192, 96, 1]⟩

abbrev nBuf : Space → Nat
  | .hbm => 11
  | .vmem => 7
  | .smem => 1
  | _ => 0

abbrev bufTy : (tb : Table) → Fin (tcTables nBuf tb) → BufTy
  | .hbm, ⟨0, _⟩ => ⟨S2x4096x3072, .bf16⟩
  | .hbm, ⟨1, _⟩ => ⟨S3072, .f32⟩
  | .hbm, ⟨2, _⟩ => ⟨S_, .f32⟩
  | .hbm, ⟨3, _⟩ => ⟨S3072x64, .bf16⟩
  | .hbm, ⟨4, _⟩ => ⟨S8192x3072, .bf16⟩
  | .hbm, ⟨5, _⟩ => ⟨S1x3072, .f32⟩
  | .hbm, ⟨6, _⟩ => ⟨S1, .f32⟩
  | .hbm, ⟨7, _⟩ => ⟨S8192x3072, .bf16⟩
  | .hbm, ⟨8, _⟩ => ⟨S8192x64, .bf16⟩
  | .hbm, ⟨9, _⟩ => ⟨S8192x1536, .i8⟩
  | .hbm, ⟨10, _⟩ => ⟨S8192x192, .fp8e4m3⟩
  | .local _ .vmem, ⟨0, _⟩ => ⟨S8192x3072, .bf16⟩
  | .local _ .vmem, ⟨1, _⟩ => ⟨S1x3072, .f32⟩
  | .local _ .vmem, ⟨2, _⟩ => ⟨S3072x64, .bf16⟩
  | .local _ .vmem, ⟨3, _⟩ => ⟨S8192x3072, .bf16⟩
  | .local _ .vmem, ⟨4, _⟩ => ⟨S8192x64, .bf16⟩
  | .local _ .vmem, ⟨5, _⟩ => ⟨S8192x1536, .i8⟩
  | .local _ .vmem, ⟨6, _⟩ => ⟨S8192x192, .fp8e4m3⟩
  | .local _ .smem, ⟨0, _⟩ => ⟨S1, .f32⟩
  | _, _ => ⟨S2x4096x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .smem, ⟨0, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev main_v3_3 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg3_0 : Ref sig .tc := ⟨.vmem, 2, rfl⟩
abbrev cc0_stg4_0 : Ref sig .tc := ⟨.vmem, 3, rfl⟩
abbrev cc0_stg5_0 : Ref sig .tc := ⟨.vmem, 4, rfl⟩
abbrev cc0_stg6_0 : Ref sig .tc := ⟨.vmem, 5, rfl⟩
abbrev cc0_stg7_0 : Ref sig .tc := ⟨.vmem, 6, rfl⟩
abbrev cc0_stg2_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S8192x3072 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x3072 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S3072x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8192x3072 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S8192x64 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S8192x1536 .i8 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S8192x192 .fp8e4m3 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Mm.lean ====
abbrev S_ : Shape := ⟨0, ![]⟩
abbrev S8192x3072 : Shape := ⟨2, ![8192, 3072]⟩
abbrev S8192x64 : Shape := ⟨2, ![8192, 64]⟩
abbrev S1536x21504 : Shape := ⟨2, ![1536, 21504]⟩
abbrev S192x21504 : Shape := ⟨2, ![192, 21504]⟩
abbrev S64x21504 : Shape := ⟨2, ![64, 21504]⟩
abbrev S21504 : Shape := ⟨1, ![21504]⟩
abbrev S1 : Shape := ⟨1, ![1]⟩
abbrev S1x21504 : Shape := ⟨2, ![1, 21504]⟩
abbrev S8192x21504 : Shape := ⟨2, ![8192, 21504]⟩
abbrev S1024x3072 : Shape := ⟨2, ![1024, 3072]⟩
abbrev S1024x64 : Shape := ⟨2, ![1024, 64]⟩
abbrev S1536x1024 : Shape := ⟨2, ![1536, 1024]⟩
abbrev S192x1024 : Shape := ⟨2, ![192, 1024]⟩
abbrev S64x1024 : Shape := ⟨2, ![64, 1024]⟩
abbrev S1x1024 : Shape := ⟨2, ![1, 1024]⟩
abbrev S1024x1024 : Shape := ⟨2, ![1024, 1024]⟩
abbrev S3072x1024 : Shape := ⟨2, ![3072, 1024]⟩
abbrev S32x1024 : Shape := ⟨2, ![32, 1024]⟩
abbrev S8x1024 : Shape := ⟨2, ![8, 1024]⟩
abbrev S16x1024 : Shape := ⟨2, ![16, 1024]⟩
abbrev S512x3072 : Shape := ⟨2, ![512, 3072]⟩
abbrev S3072x512 : Shape := ⟨2, ![3072, 512]⟩
abbrev S512x512 : Shape := ⟨2, ![512, 512]⟩
abbrev S512x64 : Shape := ⟨2, ![512, 64]⟩
abbrev S64x512 : Shape := ⟨2, ![64, 512]⟩
abbrev S1x512 : Shape := ⟨2, ![1, 512]⟩

abbrev nBuf : Space → Nat
  | .hbm => 12
  | .vmem => 16
  | .smem => 1
  | _ => 0

abbrev bufTy : (tb : Table) → Fin (tcTables nBuf tb) → BufTy
  | .hbm, ⟨0, _⟩ => ⟨S_, .f32⟩
  | .hbm, ⟨1, _⟩ => ⟨S8192x3072, .bf16⟩
  | .hbm, ⟨2, _⟩ => ⟨S8192x64, .bf16⟩
  | .hbm, ⟨3, _⟩ => ⟨S1536x21504, .i8⟩
  | .hbm, ⟨4, _⟩ => ⟨S192x21504, .fp8e4m3⟩
  | .hbm, ⟨5, _⟩ => ⟨S_, .f32⟩
  | .hbm, ⟨6, _⟩ => ⟨S64x21504, .bf16⟩
  | .hbm, ⟨7, _⟩ => ⟨S21504, .f32⟩
  | .hbm, ⟨8, _⟩ => ⟨S_, .f32⟩
  | .hbm, ⟨9, _⟩ => ⟨S1, .f32⟩
  | .hbm, ⟨10, _⟩ => ⟨S1x21504, .f32⟩
  | .hbm, ⟨11, _⟩ => ⟨S8192x21504, .bf16⟩
  | .local _ .vmem, ⟨0, _⟩ => ⟨S1024x3072, .bf16⟩
  | .local _ .vmem, ⟨1, _⟩ => ⟨S1024x3072, .bf16⟩
  | .local _ .vmem, ⟨2, _⟩ => ⟨S1024x64, .bf16⟩
  | .local _ .vmem, ⟨3, _⟩ => ⟨S1024x64, .bf16⟩
  | .local _ .vmem, ⟨4, _⟩ => ⟨S1536x1024, .i8⟩
  | .local _ .vmem, ⟨5, _⟩ => ⟨S1536x1024, .i8⟩
  | .local _ .vmem, ⟨6, _⟩ => ⟨S192x1024, .fp8e4m3⟩
  | .local _ .vmem, ⟨7, _⟩ => ⟨S192x1024, .fp8e4m3⟩
  | .local _ .vmem, ⟨8, _⟩ => ⟨S64x1024, .bf16⟩
  | .local _ .vmem, ⟨9, _⟩ => ⟨S64x1024, .bf16⟩
  | .local _ .vmem, ⟨10, _⟩ => ⟨S1x1024, .f32⟩
  | .local _ .vmem, ⟨11, _⟩ => ⟨S1x1024, .f32⟩
  | .local _ .vmem, ⟨12, _⟩ => ⟨S1024x1024, .bf16⟩
  | .local _ .vmem, ⟨13, _⟩ => ⟨S1024x1024, .bf16⟩
  | .local _ .vmem, ⟨14, _⟩ => ⟨S3072x1024, .bf16⟩
  | .local _ .vmem, ⟨15, _⟩ => ⟨S192x1024, .i32⟩
  | .local _ .smem, ⟨0, _⟩ => ⟨S1, .f32⟩
  | _, _ => ⟨S_, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .smem, ⟨0, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_scratch1 : Ref sig .tc := ⟨.vmem, 15, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [BitOps F]

abbrev grid0 : Pipeline.Grid := ⟨2, ![21, 8], ![false, false]⟩

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1024x3072 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1536x1024 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S192x1024 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S64x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1024x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== MmIdeal.lean ====
abbrev S192x2x1024 : Shape := ⟨3, ![192, 2, 1024]⟩
abbrev S192x1x1024 : Shape := ⟨3, ![192, 1, 1024]⟩
abbrev S1x2x1024 : Shape := ⟨3, ![1, 2, 1024]⟩
abbrev S1x1x1024 : Shape := ⟨3, ![1, 1, 1024]⟩
  | .local _ .vmem, ⟨15, _⟩ => ⟨S192x2x1024, .bf16⟩
variable {F : FTy → Type} [FloatOps F]
-- ==== MmRefIdeal.lean ====
abbrev S_ : Shape := ⟨0, ![]⟩
abbrev S8192x3072 : Shape := ⟨2, ![8192, 3072]⟩
abbrev S8192x64 : Shape := ⟨2, ![8192, 64]⟩
abbrev S1536x21504 : Shape := ⟨2, ![1536, 21504]⟩
abbrev S192x21504 : Shape := ⟨2, ![192, 21504]⟩
abbrev S64x21504 : Shape := ⟨2, ![64, 21504]⟩
abbrev S21504 : Shape := ⟨1, ![21504]⟩
abbrev S1 : Shape := ⟨1, ![1]⟩
abbrev S1x21504 : Shape := ⟨2, ![1, 21504]⟩
abbrev S8192x21504 : Shape := ⟨2, ![8192, 21504]⟩
abbrev S96x21504 : Shape := ⟨2, ![96, 21504]⟩
abbrev S96x16x21504 : Shape := ⟨3, ![96, 16, 21504]⟩
abbrev S96x1x21504 : Shape := ⟨3, ![96, 1, 21504]⟩
abbrev S3072x21504 : Shape := ⟨2, ![3072, 21504]⟩

abbrev nBuf : Space → Nat
  | .hbm => 12
  | .vmem => 7
  | .smem => 2
  | _ => 0

abbrev bufTy : (tb : Table) → Fin (tcTables nBuf tb) → BufTy
  | .hbm, ⟨0, _⟩ => ⟨S_, .f32⟩
  | .hbm, ⟨1, _⟩ => ⟨S8192x3072, .bf16⟩
  | .hbm, ⟨2, _⟩ => ⟨S8192x64, .bf16⟩
  | .hbm, ⟨3, _⟩ => ⟨S1536x21504, .i8⟩
  | .hbm, ⟨4, _⟩ => ⟨S192x21504, .fp8e4m3⟩
  | .hbm, ⟨5, _⟩ => ⟨S_, .f32⟩
  | .hbm, ⟨6, _⟩ => ⟨S64x21504, .bf16⟩
  | .hbm, ⟨7, _⟩ => ⟨S21504, .f32⟩
  | .hbm, ⟨8, _⟩ => ⟨S1, .f32⟩
  | .hbm, ⟨9, _⟩ => ⟨S1, .f32⟩
  | .hbm, ⟨10, _⟩ => ⟨S1x21504, .f32⟩
  | .hbm, ⟨11, _⟩ => ⟨S8192x21504, .bf16⟩
  | .local _ .vmem, ⟨0, _⟩ => ⟨S8192x3072, .bf16⟩
  | .local _ .vmem, ⟨1, _⟩ => ⟨S8192x64, .bf16⟩
  | .local _ .vmem, ⟨2, _⟩ => ⟨S1536x21504, .i8⟩
  | .local _ .vmem, ⟨3, _⟩ => ⟨S192x21504, .fp8e4m3⟩
  | .local _ .vmem, ⟨4, _⟩ => ⟨S64x21504, .bf16⟩
  | .local _ .vmem, ⟨5, _⟩ => ⟨S1x21504, .f32⟩
  | .local _ .vmem, ⟨6, _⟩ => ⟨S8192x21504, .bf16⟩
  | .local _ .smem, ⟨0, _⟩ => ⟨S1, .f32⟩
  | .local _ .smem, ⟨1, _⟩ => ⟨S1, .f32⟩
  | _, _ => ⟨S_, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev cc0_stg1_0 : Ref sig .tc := ⟨.vmem, 0, rfl⟩
abbrev cc0_stg2_0 : Ref sig .tc := ⟨.vmem, 1, rfl⟩
abbrev cc0_stg3_0 : Ref sig .tc := ⟨.vmem, 2, rfl⟩
abbrev cc0_stg4_0 : Ref sig .tc := ⟨.vmem, 3, rfl⟩
abbrev cc0_stg6_0 : Ref sig .tc := ⟨.vmem, 4, rfl⟩
abbrev cc0_stg7_0 : Ref sig .tc := ⟨.vmem, 5, rfl⟩
abbrev cc0_stg8_0 : Ref sig .tc := ⟨.vmem, 6, rfl⟩
abbrev cc0_stg0_0 : Ref sig .tc := ⟨.smem, 0, rfl⟩
abbrev cc0_stg5_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8192x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8192x64 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1536x21504 .i8 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S192x21504 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .smem S1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S64x21504 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x21504 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S8192x21504 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== Proof.WholeFirst.lean ====
/- The quantising call of the program Whole, at any contents of the buffers it is entered with: what its body
   stores, what its buffers hold after each point, and that its body meets the pipeline's obligation. -/
module

public import proofs.«01_k».proof.Proof.Gen.Whole.Launch
public import proofs.«01_k».proof.Proof.Gen.Whole.Skeleton
public import proofs.«01_k».proof.Proof.Gen.Whole.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.Whole.Work

open Cert.Whole Cert.Whole.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

-- the buffers' contents when the call is entered
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## The kernel body on any staging memrefs: a subtype the run finds -/

/-- One staging buffer of output window 4, through which its contents are stated (`View.read_writes_of_cover`: the
    choice does not matter). -/
abbrev VO0_4 : View sig .tc .vmem S128x3072 .bf16 := (Memref.whole cc0_stg4_0 : Memref sig .tc .vmem S128x3072 .bf16).view
/-- One staging buffer of output window 5, through which its contents are stated (`View.read_writes_of_cover`: the
    choice does not matter). -/
abbrev VO0_5 : View sig .tc .vmem S128x64 .bf16 := (Memref.whole cc0_stg5_0 : Memref sig .tc .vmem S128x64 .bf16).view
/-- One staging buffer of output window 6, through which its contents are stated (`View.read_writes_of_cover`: the
    choice does not matter). -/
abbrev VO0_6 : View sig .tc .vmem S128x1536 .i8 := (Memref.whole cc0_stg6_0 : Memref sig .tc .vmem S128x1536 .i8).view
/-- One staging buffer of output window 7, through which its contents are stated (`View.read_writes_of_cover`: the
    choice does not matter). -/
abbrev VO0_7 : View sig .tc .vmem S128x192 .fp8e4m3 := (Memref.whole cc0_stg7_0 : Memref sig .tc .vmem S128x192 .fp8e4m3).view
/-- Each window's current staging memref at point `t`, spelled as the pipeline passes it (`bodyAt0`), and its wholeness. -/
abbrev ms0_0 (t : Fin cfg0.N) : Memref sig .tc .smem S1 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S128x3072 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x3072 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S3072x64 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S128x3072 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S128x64 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S128x1536 .i8 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S128x192 .fp8e4m3 := win0_7.stage (cfg0.slots t 7)
abbrev hs0_7 (t : Fin cfg0.N) : (ms0_7 t).IsWhole := hstage0_7 ((cfg0.slots t 7).cast nbuf0_7)
/-- The scratch operands: whole scoped buffers of the kernel's own, passed beside the windows. -/
abbrev scM0_0 : Memref sig .tc .vmem S3072x128 .bf16 := Memref.whole cc0_scratch0
abbrev scM0_1 : Memref sig .tc .vmem S192x128 .f32 := Memref.whole cc0_scratch1

/-- The frame invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg5_1), ((c : Thread nD τ).loc cc1_stg5_1) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg6_1), ((c : Thread nD τ).loc cc1_stg6_1) ↦{fullShare} f) ∗ (∃ f : Buf (Elt F) ((c : Thread nD τ).loc cc1_stg7_0), ((c : Thread nD τ).loc cc1_stg7_0) ↦{fullShare} f) ∗ (∃ f : Buf (Elt F) ((c : Thread nD τ).loc cc1_stg7_1), ((c : Thread nD τ).loc cc1_stg7_1) ↦{fullShare} f) ∗ (∃ f : Buf (Elt F) ((c : Thread nD τ).loc cc1_scratch0), ((c : Thread nD τ).loc cc1_scratch0) ↦{fullShare} f) ∗ (∃ f : Buf (Elt F) ((c : Thread nD τ).loc cc1_scratch1), ((c : Thread nD τ).loc cc1_scratch1) ↦{fullShare} f) ∗ (∃ f : Buf (Elt F) ((c : Thread nD τ).loc cc1_stg0_0), ((c : Thread nD τ).loc cc1_stg0_0) ↦{fullShare} f)) ∗ (∃ r, prngReg c r)) := by
  unfold Pipeline.ΦA; rw [scopedRest0_eq]; simp only [scM0_0, scM0_1, owns_whole]; try rfl

-- (the run's proof term is large: the definition's epilogue — `abstractNestedProofs` — walks it past the default budget)
set_option maxHeartbeats 1732000 in
/-- What the body's stores leave in each output's staging memref, as pieces (last first), WITH the
    proof that on whole staging memrefs — the inputs' at their contents, the other outputs' at
    anything, the scratch buffers at anything, the body runs to the continuation holding the inputs' as they were,
    a scratch it stored into and does not carry with its pieces (`LT·`) written over some contents, each output's buffer with its pieces written: the printed functions are their skeletons
    (`Gen.*_eq_skeleton`), which `sl_exec` runs (Lib/Exec.lean); the pieces are
    the witness that run finds (assigned when `iexact` hands the buffer to the continuation). -/
noncomputable def kernelRun0_A (c : Dev nD) (i : grid0.Coords) (arg1 : Memref sig .tc .smem S1 .f32) (harg1 : arg1.IsWhole) (arg2 : Memref sig .tc .vmem S128x3072 .bf16) (harg2 : arg2.IsWhole) (arg3 : Memref sig .tc .vmem S1x3072 .f32) (harg3 : arg3.IsWhole) (arg4 : Memref sig .tc .vmem S3072x64 .bf16) (harg4 : arg4.IsWhole) (arg5 : Memref sig .tc .vmem S128x3072 .bf16) (harg5 : arg5.IsWhole) (arg6 : Memref sig .tc .vmem S128x64 .bf16) (harg6 : arg6.IsWhole) (arg7 : Memref sig .tc .vmem S128x1536 .i8) (harg7 : arg7.IsWhole) (arg8 : Memref sig .tc .vmem S128x192 .fp8e4m3) (harg8 : arg8.IsWhole) (arg9 : Memref sig .tc .vmem S3072x128 .bf16) (harg9 : arg9.IsWhole) (arg10 : Memref sig .tc .vmem S192x128 .f32) (harg10 : arg10.IsWhole)
    (x0 : Vec F S1 .f32) (x1 : Vec F S128x3072 .bf16) (x2 : Vec F S1x3072 .f32) (x3 : Vec F S3072x64 .bf16) :
    Σ' (L4 : List (View.Piece (Elt F) S128x3072 .bf16)), Σ' (L5 : List (View.Piece (Elt F) S128x64 .bf16)), Σ' (L6 : List (View.Piece (Elt F) S128x1536 .i8)), Σ' (L7 : List (View.Piece (Elt F) S128x192 .fp8e4m3)), Σ' (LT0 : List (View.Piece (Elt F) S3072x128 .bf16)), { LT1 : List (View.Piece (Elt F) S192x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f LT0) ∗ (∃ f, arg10.view.loc (c : Thread nD τ) ↦[arg10.view.set]{fullShare} arg10.view.writes (Elt F) f LT1)) -∗ K ⟨⟩))
          ⊢ wp frame (wpE (defs₀ (F := F)) Variants.none c none) E (cc0_quantize i arg1 harg1 arg2 harg2 arg3 harg3 arg4 harg4 arg5 harg5 arg6 harg6 arg7 harg7 arg8 harg8 arg9 harg9 arg10 harg10) K } := by
  refine ⟨?_, ?_, ?_, ?_, ?_, ?_, fun E K => ?run⟩
  case run =>
    simp only [cc0_quantize_eq_skeleton]; unfold cc0_quantize_skel
    simp only [k0_part61_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%d7, %f7, -, H7⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]; · iexists _; iexact H5
    isplitl [H6]; · iexists _; iexact H6
    isplitl [H7]; · iexists _; iexact H7
    isplitl [HS0]; · iexists _; iexact HS0
    iexists _; iexact HS1

/-- The run's pieces for output 4 tile its block (24 stores of `S128x128`, checked by the kernel's evaluation: Lib/Ring.lean `Piece.tiledL`, linear in the pieces, through a loop's `@[irreducible]` trip theorem too), so they cover it. -/
theorem cover0_A_4 (c : Dev nD) (i : grid0.Coords) (arg1 : Memref sig .tc .smem S1 .f32) (harg1 : arg1.IsWhole) (arg2 : Memref sig .tc .vmem S128x3072 .bf16) (harg2 : arg2.IsWhole) (arg3 : Memref sig .tc .vmem S1x3072 .f32) (harg3 : arg3.IsWhole) (arg4 : Memref sig .tc .vmem S3072x64 .bf16) (harg4 : arg4.IsWhole) (arg5 : Memref sig .tc .vmem S128x3072 .bf16) (harg5 : arg5.IsWhole) (arg6 : Memref sig .tc .vmem S128x64 .bf16) (harg6 : arg6.IsWhole) (arg7 : Memref sig .tc .vmem S128x1536 .i8) (harg7 : arg7.IsWhole) (arg8 : Memref sig .tc .vmem S128x192 .fp8e4m3) (harg8 : arg8.IsWhole) (arg9 : Memref sig .tc .vmem S3072x128 .bf16) (harg9 : arg9.IsWhole) (arg10 : Memref sig .tc .vmem S192x128 .f32) (harg10 : arg10.IsWhole)
    (x0 : Vec F S1 .f32) (x1 : Vec F S128x3072 .bf16) (x2 : Vec F S1x3072 .f32) (x3 : Vec F S3072x64 .bf16) (y : S128x3072.Idx) :
    ∃ pc ∈ (kernelRun0_A c i arg1 harg1 arg2 harg2 arg3 harg3 arg4 harg4 arg5 harg5 arg6 harg6 arg7 harg7 arg8 harg8 arg9 harg9 arg10 harg10 x0 x1 x2 x3).1, y ∈ pc.1.set :=
  View.cover_of_tiledL (kernelRun0_A c i arg1 harg1 arg2 harg2 arg3 harg3 arg4 harg4 arg5 harg5 arg6 harg6 arg7 harg7 arg8 harg8 arg9 harg9 arg10 harg10 x0 x1 x2 x3).1 S128x128.size (by sl_kernel_rfl) y

/-- What the run leaves in output 4's staging buffer: its pieces read back over junk. -/
def out0_A_4 (c : Dev nD) (i : grid0.Coords) (arg1 : Memref sig .tc .smem S1 .f32) (harg1 : arg1.IsWhole) (arg2 : Memref sig .tc .vmem S128x3072 .bf16) (harg2 : arg2.IsWhole) (arg3 : Memref sig .tc .vmem S1x3072 .f32) (harg3 : arg3.IsWhole) (arg4 : Memref sig .tc .vmem S3072x64 .bf16) (harg4 : arg4.IsWhole) (arg5 : Memref sig .tc .vmem S128x3072 .bf16) (harg5 : arg5.IsWhole) (arg6 : Memref sig .tc .vmem S128x64 .bf16) (harg6 : arg6.IsWhole) (arg7 : Memref sig .tc .vmem S128x1536 .i8) (harg7 : arg7.IsWhole) (arg8 : Memref sig .tc .vmem S128x192 .fp8e4m3) (harg8 : arg8.IsWhole) (arg9 : Memref sig .tc .vmem S3072x128 .bf16) (harg9 : arg9.IsWhole) (arg10 : Memref sig .tc .vmem S192x128 .f32) (harg10 : arg10.IsWhole)
    (x0 : Vec F S1 .f32) (x1 : Vec F S128x3072 .bf16) (x2 : Vec F S1x3072 .f32) (x3 : Vec F S3072x64 .bf16) : Vec F S128x3072 .bf16 :=
  VO0_4.read (Elt F) (VO0_4.writes (Elt F) VO0_4.junk (kernelRun0_A c i arg1 harg1 arg2 harg2 arg3 harg3 arg4 harg4 arg5 harg5 arg6 harg6 arg7 harg7 arg8 harg8 arg9 harg9 arg10 harg10 x0 x1 x2 x3).1)

/-- The run's pieces for output 5 tile its block (1 store of `S128x64`, checked by the kernel's evaluation: Lib/Ring.lean `Piece.tiledL`, linear in the pieces, through a loop's `@[irreducible]` trip theorem too), so they cover it. -/
theorem cover0_A_5 (c : Dev nD) (i : grid0.Coords) (arg1 : Memref sig .tc .smem S1 .f32) (harg1 : arg1.IsWhole) (arg2 : Memref sig .tc .vmem S128x3072 .bf16) (harg2 : arg2.IsWhole) (arg3 : Memref sig .tc .vmem S1x3072 .f32) (harg3 : arg3.IsWhole) (arg4 : Memref sig .tc .vmem S3072x64 .bf16) (harg4 : arg4.IsWhole) (arg5 : Memref sig .tc .vmem S128x3072 .bf16) (harg5 : arg5.IsWhole) (arg6 : Memref sig .tc .vmem S128x64 .bf16) (harg6 : arg6.IsWhole) (arg7 : Memref sig .tc .vmem S128x1536 .i8) (harg7 : arg7.IsWhole) (arg8 : Memref sig .tc .vmem S128x192 .fp8e4m3) (harg8 : arg8.IsWhole) (arg9 : Memref sig .tc .vmem S3072x128 .bf16) (harg9 : arg9.IsWhole) (arg10 : Memref sig .tc .vmem S192x128 .f32) (harg10 : arg10.IsWhole)
    (x0 : Vec F S1 .f32) (x1 : Vec F S128x3072 .bf16) (x2 : Vec F S1x3072 .f32) (x3 : Vec F S3072x64 .bf16) (y : S128x64.Idx) :
    ∃ pc ∈ (kernelRun0_A c i arg1 harg1 arg2 harg2 arg3 harg3 arg4 harg4 arg5 harg5 arg6 harg6 arg7 harg7 arg8 harg8 arg9 harg9 arg10 harg10 x0 x1 x2 x3).2.1, y ∈ pc.1.set :=
  View.cover_of_tiledL (kernelRun0_A c i arg1 harg1 arg2 harg2 arg3 harg3 arg4 harg4 arg5 harg5 arg6 harg6 arg7 harg7 arg8 harg8 arg9 harg9 arg10 harg10 x0 x1 x2 x3).2.1 S128x64.size (by sl_kernel_rfl) y

/-- What the run leaves in output 5's staging buffer: its pieces read back over junk. -/
def out0_A_5 (c : Dev nD) (i : grid0.Coords) (arg1 : Memref sig .tc .smem S1 .f32) (harg1 : arg1.IsWhole) (arg2 : Memref sig .tc .vmem S128x3072 .bf16) (harg2 : arg2.IsWhole) (arg3 : Memref sig .tc .vmem S1x3072 .f32) (harg3 : arg3.IsWhole) (arg4 : Memref sig .tc .vmem S3072x64 .bf16) (harg4 : arg4.IsWhole) (arg5 : Memref sig .tc .vmem S128x3072 .bf16) (harg5 : arg5.IsWhole) (arg6 : Memref sig .tc .vmem S128x64 .bf16) (harg6 : arg6.IsWhole) (arg7 : Memref sig .tc .vmem S128x1536 .i8) (harg7 : arg7.IsWhole) (arg8 : Memref sig .tc .vmem S128x192 .fp8e4m3) (harg8 : arg8.IsWhole) (arg9 : Memref sig .tc .vmem S3072x128 .bf16) (harg9 : arg9.IsWhole) (arg10 : Memref sig .tc .vmem S192x128 .f32) (harg10 : arg10.IsWhole)
    (x0 : Vec F S1 .f32) (x1 : Vec F S128x3072 .bf16) (x2 : Vec F S1x3072 .f32) (x3 : Vec F S3072x64 .bf16) : Vec F S128x64 .bf16 :=
  VO0_5.read (Elt F) (VO0_5.writes (Elt F) VO0_5.junk (kernelRun0_A c i arg1 harg1 arg2 harg2 arg3 harg3 arg4 harg4 arg5 harg5 arg6 harg6 arg7 harg7 arg8 harg8 arg9 harg9 arg10 harg10 x0 x1 x2 x3).2.1)

/-- The run's pieces for output 6 tile its block (12 stores of `S128x128`, checked by the kernel's evaluation: Lib/Ring.lean `Piece.tiledL`, linear in the pieces, through a loop's `@[irreducible]` trip theorem too), so they cover it. -/
theorem cover0_A_6 (c : Dev nD) (i : grid0.Coords) (arg1 : Memref sig .tc .smem S1 .f32) (harg1 : arg1.IsWhole) (arg2 : Memref sig .tc .vmem S128x3072 .bf16) (harg2 : arg2.IsWhole) (arg3 : Memref sig .tc .vmem S1x3072 .f32) (harg3 : arg3.IsWhole) (arg4 : Memref sig .tc .vmem S3072x64 .bf16) (harg4 : arg4.IsWhole) (arg5 : Memref sig .tc .vmem S128x3072 .bf16) (harg5 : arg5.IsWhole) (arg6 : Memref sig .tc .vmem S128x64 .bf16) (harg6 : arg6.IsWhole) (arg7 : Memref sig .tc .vmem S128x1536 .i8) (harg7 : arg7.IsWhole) (arg8 : Memref sig .tc .vmem S128x192 .fp8e4m3) (harg8 : arg8.IsWhole) (arg9 : Memref sig .tc .vmem S3072x128 .bf16) (harg9 : arg9.IsWhole) (arg10 : Memref sig .tc .vmem S192x128 .f32) (harg10 : arg10.IsWhole)
    (x0 : Vec F S1 .f32) (x1 : Vec F S128x3072 .bf16) (x2 : Vec F S1x3072 .f32) (x3 : Vec F S3072x64 .bf16) (y : S128x1536.Idx) :
    ∃ pc ∈ (kernelRun0_A c i arg1 harg1 arg2 harg2 arg3 harg3 arg4 harg4 arg5 harg5 arg6 harg6 arg7 harg7 arg8 harg8 arg9 harg9 arg10 harg10 x0 x1 x2 x3).2.2.1, y ∈ pc.1.set :=
  View.cover_of_tiledL (kernelRun0_A c i arg1 harg1 arg2 harg2 arg3 harg3 arg4 harg4 arg5 harg5 arg6 harg6 arg7 harg7 arg8 harg8 arg9 harg9 arg10 harg10 x0 x1 x2 x3).2.2.1 S128x128.size (by sl_kernel_rfl) y

/-- What the run leaves in output 6's staging buffer: its pieces read back over junk. -/
def out0_A_6 (c : Dev nD) (i : grid0.Coords) (arg1 : Memref sig .tc .smem S1 .f32) (harg1 : arg1.IsWhole) (arg2 : Memref sig .tc .vmem S128x3072 .bf16) (harg2 : arg2.IsWhole) (arg3 : Memref sig .tc .vmem S1x3072 .f32) (harg3 : arg3.IsWhole) (arg4 : Memref sig .tc .vmem S3072x64 .bf16) (harg4 : arg4.IsWhole) (arg5 : Memref sig .tc .vmem S128x3072 .bf16) (harg5 : arg5.IsWhole) (arg6 : Memref sig .tc .vmem S128x64 .bf16) (harg6 : arg6.IsWhole) (arg7 : Memref sig .tc .vmem S128x1536 .i8) (harg7 : arg7.IsWhole) (arg8 : Memref sig .tc .vmem S128x192 .fp8e4m3) (harg8 : arg8.IsWhole) (arg9 : Memref sig .tc .vmem S3072x128 .bf16) (harg9 : arg9.IsWhole) (arg10 : Memref sig .tc .vmem S192x128 .f32) (harg10 : arg10.IsWhole)
    (x0 : Vec F S1 .f32) (x1 : Vec F S128x3072 .bf16) (x2 : Vec F S1x3072 .f32) (x3 : Vec F S3072x64 .bf16) : Vec F S128x1536 .i8 :=
  VO0_6.read (Elt F) (VO0_6.writes (Elt F) VO0_6.junk (kernelRun0_A c i arg1 harg1 arg2 harg2 arg3 harg3 arg4 harg4 arg5 harg5 arg6 harg6 arg7 harg7 arg8 harg8 arg9 harg9 arg10 harg10 x0 x1 x2 x3).2.2.1)

/-- The run's pieces for output 7 tile its block (1 store of `S128x192`, checked by the kernel's evaluation: Lib/Ring.lean `Piece.tiledL`, linear in the pieces, through a loop's `@[irreducible]` trip theorem too), so they cover it. -/
theorem cover0_A_7 (c : Dev nD) (i : grid0.Coords) (arg1 : Memref sig .tc .smem S1 .f32) (harg1 : arg1.IsWhole) (arg2 : Memref sig .tc .vmem S128x3072 .bf16) (harg2 : arg2.IsWhole) (arg3 : Memref sig .tc .vmem S1x3072 .f32) (harg3 : arg3.IsWhole) (arg4 : Memref sig .tc .vmem S3072x64 .bf16) (harg4 : arg4.IsWhole) (arg5 : Memref sig .tc .vmem S128x3072 .bf16) (harg5 : arg5.IsWhole) (arg6 : Memref sig .tc .vmem S128x64 .bf16) (harg6 : arg6.IsWhole) (arg7 : Memref sig .tc .vmem S128x1536 .i8) (harg7 : arg7.IsWhole) (arg8 : Memref sig .tc .vmem S128x192 .fp8e4m3) (harg8 : arg8.IsWhole) (arg9 : Memref sig .tc .vmem S3072x128 .bf16) (harg9 : arg9.IsWhole) (arg10 : Memref sig .tc .vmem S192x128 .f32) (harg10 : arg10.IsWhole)
    (x0 : Vec F S1 .f32) (x1 : Vec F S128x3072 .bf16) (x2 : Vec F S1x3072 .f32) (x3 : Vec F S3072x64 .bf16) (y : S128x192.Idx) :
    ∃ pc ∈ (kernelRun0_A c i arg1 harg1 arg2 harg2 arg3 harg3 arg4 harg4 arg5 harg5 arg6 harg6 arg7 harg7 arg8 harg8 arg9 harg9 arg10 harg10 x0 x1 x2 x3).2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 x0 x1 x2 x3).2.2.2.1 S128x192.size (by sl_kernel_rfl) y

/-- What the run leaves in output 7's staging buffer: its pieces read back over junk. -/
def out0_A_7 (c : Dev nD) (i : grid0.Coords) (arg1 : Memref sig .tc .smem S1 .f32) (harg1 : arg1.IsWhole) (arg2 : Memref sig .tc .vmem S128x3072 .bf16) (harg2 : arg2.IsWhole) (arg3 : Memref sig .tc .vmem S1x3072 .f32) (harg3 : arg3.IsWhole) (arg4 : Memref sig .tc .vmem S3072x64 .bf16) (harg4 : arg4.IsWhole) (arg5 : Memref sig .tc .vmem S128x3072 .bf16) (harg5 : arg5.IsWhole) (arg6 : Memref sig .tc .vmem S128x64 .bf16) (harg6 : arg6.IsWhole) (arg7 : Memref sig .tc .vmem S128x1536 .i8) (harg7 : arg7.IsWhole) (arg8 : Memref sig .tc .vmem S128x192 .fp8e4m3) (harg8 : arg8.IsWhole) (arg9 : Memref sig .tc .vmem S3072x128 .bf16) (harg9 : arg9.IsWhole) (arg10 : Memref sig .tc .vmem S192x128 .f32) (harg10 : arg10.IsWhole)
    (x0 : Vec F S1 .f32) (x1 : Vec F S128x3072 .bf16) (x2 : Vec F S1x3072 .f32) (x3 : Vec F S3072x64 .bf16) : Vec F S128x192 .fp8e4m3 :=
  VO0_7.read (Elt F) (VO0_7.writes (Elt F) VO0_7.junk (kernelRun0_A c i arg1 harg1 arg2 harg2 arg3 harg3 arg4 harg4 arg5 harg5 arg6 harg6 arg7 harg7 arg8 harg8 arg9 harg9 arg10 harg10 x0 x1 x2 x3).2.2.2.1)

/-! ## What the outputs hold after each point -/

/-- What the outputs' staging buffers hold after the body at point `t` (as a tuple, in window order): the run's contents at
    the point's memrefs and input blocks. -/
def outsAt0 (c : Dev nD) (t : Fin cfg0.N) : Vec F S128x3072 .bf16 × Vec F S128x64 .bf16 × Vec F S128x1536 .i8 × Vec F S128x192 .fp8e4m3 :=
  (out0_A_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (iblk0 V c 0 t) (iblk0 V c 1 t) (iblk0 V c 2 t) (iblk0 V c 3 t), out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (iblk0 V c 0 t) (iblk0 V c 1 t) (iblk0 V c 2 t) (iblk0 V c 3 t), out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (iblk0 V c 0 t) (iblk0 V c 1 t) (iblk0 V c 2 t) (iblk0 V c 3 t), out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (iblk0 V c 0 t) (iblk0 V c 1 t) (iblk0 V c 2 t) (iblk0 V c 3 t))

/-! ## The pipeline's proof data -/

/-- The proof data of pipeline 0 on core `c`: the arrays as the region finds them (`V`); after the body at
    point `t` each input's buffer at its block and the outputs' at `outsAt0`; the invariant the class's
    (Lib/Pipeline/Frame.lean `ΦA`: the scoped rest and the generator register); nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => (outsAt0 V c t).1
    | ⟨5, _⟩ => (outsAt0 V c t).2.1
    | ⟨6, _⟩ => (outsAt0 V c t).2.2.1
    | ⟨7, _⟩ => (outsAt0 V c t).2.2.2
  Φ _ := Pipeline.ΦA spec0 c
  q _ := fullShare
  owed _ := 0

/-- The proof data's arrays are the region-entry contents, by projecting the definition (`dsimp`): a region record cites
    this for its arrays rather than have Lean unfold `V`, the fold through @main up to the region's entry. -/
theorem A_eq0 (c : Dev nD) (w : Fin cfg0.W) : (dat0 V c).A w = V c (Pipeline.arrRef spec0 w) := by
  dsimp only [dat0]

/-- What the body leaves, window by window (the proof data's `match` reduced by `dsimp`). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = (outsAt0 V c t).1 := by dsimp only [dat0]
theorem after0_5 (c : Dev nD) (t : Fin cfg0.N) : (dat0 V c).after 5 t = (outsAt0 V c t).2.1 := by dsimp only [dat0]
theorem after0_6 (c : Dev nD) (t : Fin cfg0.N) : (dat0 V c).after 6 t = (outsAt0 V c t).2.2.1 := by dsimp only [dat0]
theorem after0_7 (c : Dev nD) (t : Fin cfg0.N) : (dat0 V c).after 7 t = (outsAt0 V c t).2.2.2 := by dsimp only [dat0]

/-- Each input's current staging buffer holds its block at every point, fetched there or not (`beforeK_W_of`). -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body obligation, at a generic point -/

/-- What the body is called with at point `t` (Lib/Pipeline.lean `BodyObligation`'s precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d)))

/-- and what it returns. -/
def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t)
    ∗ owns (c : Thread nD τ) (ms0_3 t) fullShare ((dat0 V c).after 3 t)
    ∗ owns (c : Thread nD τ) (ms0_4 t) fullShare ((dat0 V c).after 4 t)
    ∗ owns (c : Thread nD τ) (ms0_5 t) fullShare ((dat0 V c).after 5 t)
    ∗ owns (c : Thread nD τ) (ms0_6 t) fullShare ((dat0 V c).after 6 t)
    ∗ owns (c : Thread nD τ) (ms0_7 t) fullShare ((dat0 V c).after 7 t))

set_option maxHeartbeats 800000 in
/-- The body at any point: the inputs' memrefs hold their blocks (`before0_W`); so the
    run applies; the invariant hands the body its scratch buffers at some contents (and the generator register) and takes them back at some contents (`PhiA_eq`); the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7]
  rw [show (dat0 V c).Φ t.castSucc = Pipeline.ΦA spec0 c from rfl, PhiA0_eq]
  unfold outsAt0
  unfold out0_A_4 out0_A_5 out0_A_6 out0_A_7; (try dsimp only)
  iintro ⟨⟨⟨HS0, HS1, HR2, HR3, HR4, HR5, HR6, HR7, HR8, HR9, HR10, HR11, HR12, HR13, HR14, HR15, HR16, HR17, HR18⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((kernelRun0_A c (grid0.coords t) _ _ _ _ _ _ _ _ _ _ _ _ _ _ _ _ _ _ _ _ (iblk0 V c 0 t) (iblk0 V c 1 t) (iblk0 V c 2 t) (iblk0 V c 3 t)).2.2.2.2.2.2 Set.univ _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  isplitl [H7]; · iexists _; iexact H7
  isplitl [HS0]; · iexact HS0
  isplitl [HS1]; · iexact HS1
  iintro ⟨H0, H1, H2, H3, ⟨%e4, H4⟩, ⟨%e5, H5⟩, ⟨%e6, H6⟩, ⟨%e7, H7⟩, ⟨%fT0, HS0⟩, ⟨%fT1, HS1⟩⟩
  isplitl [HS0 HS1 HR2 HR3 HR4 HR5 HR6 HR7 HR8 HR9 HR10 HR11 HR12 HR13 HR14 HR15 HR16 HR17 HR18 Hg]
  · isplitl [HS0 HS1 HR2 HR3 HR4 HR5 HR6 HR7 HR8 HR9 HR10 HR11 HR12 HR13 HR14 HR15 HR16 HR17 HR18]
    · isplitl [HS0]
      · iexists _; unfold owns; iexists _; isplitr
        swap; · iexact HS0
        ipureintro; rfl
      isplitl [HS1]
      · iexists _; unfold owns; iexists _; isplitr
        swap; · iexact HS1
        ipureintro; rfl
      isplitl [HR2]
      · iexact HR2
      isplitl [HR3]
      · iexact HR3
      isplitl [HR4]
      · iexact HR4
      isplitl [HR5]
      · iexact HR5
      isplitl [HR6]
      · iexact HR6
      isplitl [HR7]
      · iexact HR7
      isplitl [HR8]
      · iexact HR8
      isplitl [HR9]
      · iexact HR9
      isplitl [HR10]
      · iexact HR10
      isplitl [HR11]
      · iexact HR11
      isplitl [HR12]
      · iexact HR12
      isplitl [HR13]
      · iexact HR13
      isplitl [HR14]
      · iexact HR14
      isplitl [HR15]
      · iexact HR15
      isplitl [HR16]
      · iexact HR16
      isplitl [HR17]
      · iexact HR17
      iexact HR18
    iexact Hg
  isplitl [Ho]; · iexact Ho
  isplitl [H0]; · iexact H0
  isplitl [H1]; · iexact H1
  isplitl [H2]; · iexact H2
  isplitl [H3]; · iexact H3
  isplitl [H4]
  · unfold owns; iexists _; isplitr
    swap; · iexact H4
    ipureintro; exact View.read_writes_of_cover _ _ _ _ _ (cover0_A_4 c _ _ _ _ _ _ _ _ _ _ _ _ _ _ _ _ _ _ _ _ _ _ _ _ _)
  isplitl [H5]
  · unfold owns; iexists _; isplitr
    swap; · iexact H5
    ipureintro; exact View.read_writes_of_cover _ _ _ _ _ (cover0_A_5 c _ _ _ _ _ _ _ _ _ _ _ _ _ _ _ _ _ _ _ _ _ _ _ _ _)
  isplitl [H6]
  · unfold owns; iexists _; isplitr
    swap; · iexact H6
    ipureintro; exact View.read_writes_of_cover _ _ _ _ _ (cover0_A_6 c _ _ _ _ _ _ _ _ _ _ _ _ _ _ _ _ _ _ _ _ _ _ _ _ _)
  unfold owns; iexists _; isplitr
  swap; · iexact H7
  ipureintro; exact View.read_writes_of_cover _ _ _ _ _ (cover0_A_7 c _ _ _ _ _ _ _ _ _ _ _ _ _ _ _ _ _ _ _ _ _ _ _ _ _)

/-- The body table's row at point `t`'s slots is the body as `bodyAt0` spells it. -/
theorem defs₀_row0 (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

end Cert.Whole.Work

end
-- ==== Proof.WholeSecond.lean ====
/- The matrix-product call of the program Whole, at any contents of the buffers it is entered with: what its body
   stores in each of its two cases, what its output and the weight scratch it carries hold after each point, and that
   its body meets the pipeline's obligation. -/
module

public import proofs.«01_k».proof.Proof.WholeFirst

@[expose] public section

set_option maxRecDepth 16384

noncomputable section

namespace Cert.Whole.Work

open Cert.Whole Cert.Whole.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

-- the buffers' contents when the call is entered
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-! ## The kernel body on any staging memrefs: a subtype the run finds -/

/-- One staging buffer of output window 7, through which its contents are stated (`View.read_writes_of_cover`: the
    choice does not matter). -/
abbrev VO1_7 : View sig .tc .vmem S1024x1024 .bf16 := (Memref.whole cc1_stg7_0 : Memref sig .tc .vmem S1024x1024 .bf16).view
/-- Each window's current staging memref at point `t`, spelled as the pipeline passes it (`bodyAt1`), and its wholeness. -/
abbrev ms1_0 (t : Fin cfg1.N) : Memref sig .tc .smem S1 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x3072 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x64 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1536x1024 .i8 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S192x1024 .fp8e4m3 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S64x1024 .bf16 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S1x1024 .f32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S1024x1024 .bf16 := win1_7.stage (cfg1.slots t 7)
abbrev hs1_7 (t : Fin cfg1.N) : (ms1_7 t).IsWhole := hstage1_7 ((cfg1.slots t 7).cast nbuf1_7)
/-- The scratch operands: whole scoped buffers of the kernel's own, passed beside the windows. -/
abbrev scM1_0 : Memref sig .tc .vmem S3072x1024 .bf16 := Memref.whole cc1_scratch0
abbrev scM1_1 : Memref sig .tc .vmem S192x1024 .i32 := Memref.whole cc1_scratch1

/-- The frame invariant with the scratch operands as memrefs owned at some contents (`Gen.scopedRest1_eq`,
    Lib/Memref.lean `owns_whole`): what the body obligation hands the run and takes back. -/
theorem PhiA1_eq (c : Dev nD) :
    (Pipeline.ΦA spec1 c : sProp 𝕄)
      = iprop(iprop((∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg7_1), ((c : Thread nD τ).loc cc0_stg7_1) ↦{fullShare} f) ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ (∃ d, owns (c : Thread nD τ) scM1_0 fullShare d) ∗ (∃ d, owns (c : Thread nD τ) scM1_1 fullShare d) ∗ (∃ f : Buf (Elt F) ((c : Thread nD τ).loc cc0_stg0_0), ((c : Thread nD τ).loc cc0_stg0_0) ↦{fullShare} f)) ∗ (∃ r, prngReg c r)) := by
  unfold Pipeline.ΦA; rw [scopedRest1_eq]; simp only [scM1_0, scM1_1, owns_whole]; try rfl

/-- The weight scratch, which the kernel carries between points, as a view: what it holds is stated through it. -/
abbrev VS1_0 : View sig .tc .vmem S3072x1024 .bf16 := scM1_0.view

/-- The scoped buffers that are neither this call's windows nor its scratches, at anything: all but the last. -/
abbrev restA (c : Dev nD) : sProp 𝕄 := iprop((∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg7_1), ((c : Thread nD τ).loc cc0_stg7_1) ↦{fullShare} f) ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f))
/-- The last of them. -/
abbrev restB (c : Dev nD) : sProp 𝕄 := iprop((∃ f : Buf (Elt F) ((c : Thread nD τ).loc cc0_stg0_0), ((c : Thread nD τ).loc cc0_stg0_0) ↦{fullShare} f))

/-- The invariant before the first point, its scratches apart. -/
theorem PhiA1_split (c : Dev nD) :
    (Pipeline.ΦA spec1 c : sProp 𝕄)
      ⊢ iprop(iprop(restA c ∗ (∃ d, owns (c : Thread nD τ) scM1_0 fullShare d) ∗ (∃ d, owns (c : Thread nD τ) scM1_1 fullShare d) ∗ restB c) ∗ (∃ r, prngReg c r)) := by
  rw [PhiA1_eq]
  iintro ⟨⟨HR0, HR1, HR2, HR3, HR4, HR5, HR6, HR7, HR8, HR9, HR10, HR11, HR12, HR13, HS0, HS1, HR16⟩, Hg⟩
  isplitr [Hg]
  · isplitr [HS0 HS1 HR16]
    · unfold restA; iframe
    isplitl [HS0]; · iexact HS0
    isplitl [HS1]; · iexact HS1
    iexact HR16
  iexact Hg

/-- And put together again. -/
theorem PhiA1_join (c : Dev nD) :
    iprop(iprop(restA c ∗ (∃ d, owns (c : Thread nD τ) scM1_0 fullShare d) ∗ (∃ d, owns (c : Thread nD τ) scM1_1 fullShare d) ∗ restB c) ∗ (∃ r, prngReg c r))
      ⊢ (Pipeline.ΦA spec1 c : sProp 𝕄) := by
  rw [PhiA1_eq]
  iintro ⟨⟨⟨HR0, HR1, HR2, HR3, HR4, HR5, HR6, HR7, HR8, HR9, HR10, HR11, HR12, HR13⟩, HS0, HS1, HR16⟩, Hg⟩
  isplitr [Hg]
  · iframe
  iexact Hg

/-! ## The body's branch conditions -/

/-- The condition of the body's `scf.if` 0 (`k1_h1`), from the grid coordinates (the skeleton's scalar
    chain substituted). -/
abbrev cond1_0 (i : grid1.Coords) : Prop := (Scalar.cmpi .ne (Scalar.extui (Scalar.cmpi .eq (BitVec.ofNat 32 (i 1).val) 0#32)) 0#32) = 1#1
/-- It holds at the points ≡ 0 (mod 8) — by arithmetic of the point. -/
theorem hcond1_0 : ∀ t : Fin cfg1.N, cond1_0 (grid1.coords t) ↔ t.val % 8 = 0 :=
  (fun t => by
    have ht : t.val < 168 := Nat.lt_of_lt_of_eq t.isLt N_1
    have e0 : (grid1.coords t 0).val = t.val / 8 % 21 := Pipeline.Grid.coords_val t 0 (by decide) rfl
    have e1 : (grid1.coords t 1).val = t.val / 1 % 8 := Pipeline.Grid.coords_val t 1 (by decide) rfl
    simp only [cond1_0, e0, e1]
    word_cmp
   : ∀ t : Fin grid1.N, cond1_0 (grid1.coords t) ↔ t.val % 8 = 0)

-- (the run's proof term is large: the definition's epilogue — `abstractNestedProofs` — walks it past the default budget)
set_option maxHeartbeats 3980000 in
/-- What the body's stores leave in each output's staging memref, as pieces (last first) IN CASE A (`scf.if` 0 taken: points 0, 8, … 160: 21 of 168), WITH the
    proof that on whole staging memrefs — the inputs' at their contents, the other outputs' at
    anything, a carried scratch at the contents the point before left (`xs·`) or at anything, the other scratch at anything, the body runs to the continuation holding the inputs' as they were,
    a carried scratch it stored into with its pieces written (`LS·`), a scratch it stored into and does not carry with its pieces (`LT·`) written over some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun1_A (c : Dev nD) (i : grid1.Coords) (arg2 : Memref sig .tc .smem S1 .f32) (harg2 : arg2.IsWhole) (arg3 : Memref sig .tc .vmem S1024x3072 .bf16) (harg3 : arg3.IsWhole) (arg4 : Memref sig .tc .vmem S1024x64 .bf16) (harg4 : arg4.IsWhole) (arg5 : Memref sig .tc .vmem S1536x1024 .i8) (harg5 : arg5.IsWhole) (arg6 : Memref sig .tc .vmem S192x1024 .fp8e4m3) (harg6 : arg6.IsWhole) (arg7 : Memref sig .tc .vmem S64x1024 .bf16) (harg7 : arg7.IsWhole) (arg8 : Memref sig .tc .vmem S1x1024 .f32) (harg8 : arg8.IsWhole) (arg9 : Memref sig .tc .vmem S1024x1024 .bf16) (harg9 : arg9.IsWhole) (arg10 : Memref sig .tc .vmem S3072x1024 .bf16) (harg10 : arg10.IsWhole) (arg11 : Memref sig .tc .vmem S192x1024 .i32) (harg11 : arg11.IsWhole) (hc0 : cond1_0 i)
    (x0 : Vec F S1 .f32) (x1 : Vec F S1024x3072 .bf16) (x2 : Vec F S1024x64 .bf16) (x3 : Vec F S1536x1024 .i8) (x4 : Vec F S192x1024 .fp8e4m3) (x5 : Vec F S64x1024 .bf16) (x6 : Vec F S1x1024 .f32) :
    Σ' (L7 : List (View.Piece (Elt F) S1024x1024 .bf16)), Σ' (LS0 : List (View.Piece (Elt F) S3072x1024 .bf16)), { LT1 : List (View.Piece (Elt F) S192x1024 .i32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LT1)) -∗ K ⟨⟩))
          ⊢ wp frame (wpE (defs₀ (F := F)) Variants.none c none) E (cc1_matmul i arg2 harg2 arg3 harg3 arg4 harg4 arg5 harg5 arg6 harg6 arg7 harg7 arg8 harg8 arg9 harg9 arg10 harg10 arg11 harg11) K } := by
  refine ⟨?_, ?_, ?_, fun E K => ?run⟩
  case run =>
    simp only [cc1_matmul_eq_skeleton]; unfold cc1_matmul_skel
    simp only [k1_part68_eq_skeleton, k1_part67_eq_skeleton, k1_part1_eq_skeleton, k1_part2_eq_skeleton, k1_part3_eq_skeleton, k1_part4_eq_skeleton, k1_part5_eq_skeleton, k1_part6_eq_skeleton, k1_part7_eq_skeleton, k1_part8_eq_skeleton, k1_part9_eq_skeleton, k1_part10_eq_skeleton, k1_part11_eq_skeleton, k1_part12_eq_skeleton, k1_part13_eq_skeleton, k1_part14_eq_skeleton, k1_part15_eq_skeleton, k1_part16_eq_skeleton, k1_part17_eq_skeleton, k1_part18_eq_skeleton, k1_part19_eq_skeleton, k1_part20_eq_skeleton, k1_part21_eq_skeleton, k1_part22_eq_skeleton, k1_part23_eq_skeleton, k1_part24_eq_skeleton, k1_part25_eq_skeleton, k1_part26_eq_skeleton, k1_part27_eq_skeleton, k1_part28_eq_skeleton, k1_part29_eq_skeleton, k1_part30_eq_skeleton, k1_part31_eq_skeleton, k1_part32_eq_skeleton, k1_part33_eq_skeleton, k1_part34_eq_skeleton, k1_part35_eq_skeleton, k1_part36_eq_skeleton, k1_part37_eq_skeleton, k1_part38_eq_skeleton, k1_part39_eq_skeleton, k1_part40_eq_skeleton, k1_part41_eq_skeleton, k1_part42_eq_skeleton, k1_part43_eq_skeleton, k1_part44_eq_skeleton, k1_part45_eq_skeleton, k1_part46_eq_skeleton, k1_part47_eq_skeleton, k1_part48_eq_skeleton, k1_part49_eq_skeleton, k1_part50_eq_skeleton, k1_part51_eq_skeleton, k1_part52_eq_skeleton, k1_part53_eq_skeleton, k1_part54_eq_skeleton, k1_part55_eq_skeleton, k1_part56_eq_skeleton, k1_part57_eq_skeleton, k1_part58_eq_skeleton, k1_part59_eq_skeleton, k1_part60_eq_skeleton, k1_part61_eq_skeleton, k1_part62_eq_skeleton, k1_part63_eq_skeleton, k1_part64_eq_skeleton, k1_part65_eq_skeleton, k1_part66_eq_skeleton, k1_part69_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]; · iexists _; iexact H7
    isplitl [HS0]; · iexists _; iexact HS0
    iexists _; iexact HS1

-- (the run's proof term is large: the definition's epilogue — `abstractNestedProofs` — walks it past the default budget)
set_option maxHeartbeats 1000000 in
/-- What the body's stores leave in each output's staging memref, as pieces (last first) IN CASE B (`scf.if` 0 not taken: points 1, 2, … 167: 147 of 168), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun1_B (c : Dev nD) (i : grid1.Coords) (arg2 : Memref sig .tc .smem S1 .f32) (harg2 : arg2.IsWhole) (arg3 : Memref sig .tc .vmem S1024x3072 .bf16) (harg3 : arg3.IsWhole) (arg4 : Memref sig .tc .vmem S1024x64 .bf16) (harg4 : arg4.IsWhole) (arg5 : Memref sig .tc .vmem S1536x1024 .i8) (harg5 : arg5.IsWhole) (arg6 : Memref sig .tc .vmem S192x1024 .fp8e4m3) (harg6 : arg6.IsWhole) (arg7 : Memref sig .tc .vmem S64x1024 .bf16) (harg7 : arg7.IsWhole) (arg8 : Memref sig .tc .vmem S1x1024 .f32) (harg8 : arg8.IsWhole) (arg9 : Memref sig .tc .vmem S1024x1024 .bf16) (harg9 : arg9.IsWhole) (arg10 : Memref sig .tc .vmem S3072x1024 .bf16) (harg10 : arg10.IsWhole) (arg11 : Memref sig .tc .vmem S192x1024 .i32) (harg11 : arg11.IsWhole) (hc0 : ¬cond1_0 i)
    (x0 : Vec F S1 .f32) (x1 : Vec F S1024x3072 .bf16) (x2 : Vec F S1024x64 .bf16) (x3 : Vec F S1536x1024 .i8) (x4 : Vec F S192x1024 .fp8e4m3) (x5 : Vec F S64x1024 .bf16) (x6 : Vec F S1x1024 .f32) (xs0 : Vec F S3072x1024 .bf16) :
    Σ' (L7 : List (View.Piece (Elt F) S1024x1024 .bf16)), Σ' (LS0 : List (View.Piece (Elt F) S3072x1024 .bf16)), { LT1 : List (View.Piece (Elt F) S192x1024 .i32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ owns (c : Thread nD τ) arg10 fullShare xs0 ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ f, arg9.view.loc (c : Thread nD τ) ↦[arg9.view.set]{fullShare} arg9.view.writes (Elt F) f L7) ∗ owns (c : Thread nD τ) arg10 fullShare xs0 ∗ (∃ d, owns (c : Thread nD τ) arg11 fullShare d)) -∗ K ⟨⟩))
          ⊢ wp frame (wpE (defs₀ (F := F)) Variants.none c none) E (cc1_matmul i arg2 harg2 arg3 harg3 arg4 harg4 arg5 harg5 arg6 harg6 arg7 harg7 arg8 harg8 arg9 harg9 arg10 harg10 arg11 harg11) K } := by
  refine ⟨?_, [], [], fun E K => ?run⟩
  case run =>
    simp only [cc1_matmul_eq_skeleton]; unfold cc1_matmul_skel
    simp only [k1_part68_eq_skeleton, k1_part69_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%fs0, %hfs0, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg10.eq_unread hfs0
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]; · iexists _; iexact H7
    isplitl [HS0]
    · iexists _; isplitr; · ipureintro; exact harg10.read_unread _
      iexact HS0
    iexists _, _; isplitr; swap; · iexact HS1
    ipureintro; rfl

/-- Case A's pieces for output 7 tile its block (4 stores of `S512x512`, checked by the kernel's evaluation: Lib/Ring.lean `Piece.tiledL`, linear in the pieces, through a loop's `@[irreducible]` trip theorem too), so they cover it. -/
theorem cover1_A_7 (c : Dev nD) (i : grid1.Coords) (arg2 : Memref sig .tc .smem S1 .f32) (harg2 : arg2.IsWhole) (arg3 : Memref sig .tc .vmem S1024x3072 .bf16) (harg3 : arg3.IsWhole) (arg4 : Memref sig .tc .vmem S1024x64 .bf16) (harg4 : arg4.IsWhole) (arg5 : Memref sig .tc .vmem S1536x1024 .i8) (harg5 : arg5.IsWhole) (arg6 : Memref sig .tc .vmem S192x1024 .fp8e4m3) (harg6 : arg6.IsWhole) (arg7 : Memref sig .tc .vmem S64x1024 .bf16) (harg7 : arg7.IsWhole) (arg8 : Memref sig .tc .vmem S1x1024 .f32) (harg8 : arg8.IsWhole) (arg9 : Memref sig .tc .vmem S1024x1024 .bf16) (harg9 : arg9.IsWhole) (arg10 : Memref sig .tc .vmem S3072x1024 .bf16) (harg10 : arg10.IsWhole) (arg11 : Memref sig .tc .vmem S192x1024 .i32) (harg11 : arg11.IsWhole) (hc0 : cond1_0 i)
    (x0 : Vec F S1 .f32) (x1 : Vec F S1024x3072 .bf16) (x2 : Vec F S1024x64 .bf16) (x3 : Vec F S1536x1024 .i8) (x4 : Vec F S192x1024 .fp8e4m3) (x5 : Vec F S64x1024 .bf16) (x6 : Vec F S1x1024 .f32) (y : S1024x1024.Idx) :
    ∃ pc ∈ (kernelRun1_A c i arg2 harg2 arg3 harg3 arg4 harg4 arg5 harg5 arg6 harg6 arg7 harg7 arg8 harg8 arg9 harg9 arg10 harg10 arg11 harg11 hc0 x0 x1 x2 x3 x4 x5 x6).1, y ∈ pc.1.set :=
  View.cover_of_tiledL (kernelRun1_A c i arg2 harg2 arg3 harg3 arg4 harg4 arg5 harg5 arg6 harg6 arg7 harg7 arg8 harg8 arg9 harg9 arg10 harg10 arg11 harg11 hc0 x0 x1 x2 x3 x4 x5 x6).1 S512x512.size (by sl_kernel_rfl) y

/-- What case A leaves in output 7's staging buffer: its pieces read back over junk. -/
def out1_A_7 (c : Dev nD) (i : grid1.Coords) (arg2 : Memref sig .tc .smem S1 .f32) (harg2 : arg2.IsWhole) (arg3 : Memref sig .tc .vmem S1024x3072 .bf16) (harg3 : arg3.IsWhole) (arg4 : Memref sig .tc .vmem S1024x64 .bf16) (harg4 : arg4.IsWhole) (arg5 : Memref sig .tc .vmem S1536x1024 .i8) (harg5 : arg5.IsWhole) (arg6 : Memref sig .tc .vmem S192x1024 .fp8e4m3) (harg6 : arg6.IsWhole) (arg7 : Memref sig .tc .vmem S64x1024 .bf16) (harg7 : arg7.IsWhole) (arg8 : Memref sig .tc .vmem S1x1024 .f32) (harg8 : arg8.IsWhole) (arg9 : Memref sig .tc .vmem S1024x1024 .bf16) (harg9 : arg9.IsWhole) (arg10 : Memref sig .tc .vmem S3072x1024 .bf16) (harg10 : arg10.IsWhole) (arg11 : Memref sig .tc .vmem S192x1024 .i32) (harg11 : arg11.IsWhole) (hc0 : cond1_0 i)
    (x0 : Vec F S1 .f32) (x1 : Vec F S1024x3072 .bf16) (x2 : Vec F S1024x64 .bf16) (x3 : Vec F S1536x1024 .i8) (x4 : Vec F S192x1024 .fp8e4m3) (x5 : Vec F S64x1024 .bf16) (x6 : Vec F S1x1024 .f32) : Vec F S1024x1024 .bf16 :=
  VO1_7.read (Elt F) (VO1_7.writes (Elt F) VO1_7.junk (kernelRun1_A c i arg2 harg2 arg3 harg3 arg4 harg4 arg5 harg5 arg6 harg6 arg7 harg7 arg8 harg8 arg9 harg9 arg10 harg10 arg11 harg11 hc0 x0 x1 x2 x3 x4 x5 x6).1)

/-- Case A's pieces for scratch `arg10`, which the kernel carries between points, cover it: 192 pieces of `S16x1024` tiling it (Lib/Ring.lean `Piece.tiledL`). -/
theorem scover1_A_0 (c : Dev nD) (i : grid1.Coords) (arg2 : Memref sig .tc .smem S1 .f32) (harg2 : arg2.IsWhole) (arg3 : Memref sig .tc .vmem S1024x3072 .bf16) (harg3 : arg3.IsWhole) (arg4 : Memref sig .tc .vmem S1024x64 .bf16) (harg4 : arg4.IsWhole) (arg5 : Memref sig .tc .vmem S1536x1024 .i8) (harg5 : arg5.IsWhole) (arg6 : Memref sig .tc .vmem S192x1024 .fp8e4m3) (harg6 : arg6.IsWhole) (arg7 : Memref sig .tc .vmem S64x1024 .bf16) (harg7 : arg7.IsWhole) (arg8 : Memref sig .tc .vmem S1x1024 .f32) (harg8 : arg8.IsWhole) (arg9 : Memref sig .tc .vmem S1024x1024 .bf16) (harg9 : arg9.IsWhole) (arg10 : Memref sig .tc .vmem S3072x1024 .bf16) (harg10 : arg10.IsWhole) (arg11 : Memref sig .tc .vmem S192x1024 .i32) (harg11 : arg11.IsWhole) (hc0 : cond1_0 i)
    (x0 : Vec F S1 .f32) (x1 : Vec F S1024x3072 .bf16) (x2 : Vec F S1024x64 .bf16) (x3 : Vec F S1536x1024 .i8) (x4 : Vec F S192x1024 .fp8e4m3) (x5 : Vec F S64x1024 .bf16) (x6 : Vec F S1x1024 .f32) (y : S3072x1024.Idx) :
    ∃ pc ∈ (kernelRun1_A c i arg2 harg2 arg3 harg3 arg4 harg4 arg5 harg5 arg6 harg6 arg7 harg7 arg8 harg8 arg9 harg9 arg10 harg10 arg11 harg11 hc0 x0 x1 x2 x3 x4 x5 x6).2.1, y ∈ pc.1.set :=
  View.cover_of_tiledL (kernelRun1_A c i arg2 harg2 arg3 harg3 arg4 harg4 arg5 harg5 arg6 harg6 arg7 harg7 arg8 harg8 arg9 harg9 arg10 harg10 arg11 harg11 hc0 x0 x1 x2 x3 x4 x5 x6).2.1 S16x1024.size (by sl_kernel_rfl) y

/-- What case A leaves in scratch `arg10`: its pieces read back over junk. -/
def sout1_A_0 (c : Dev nD) (i : grid1.Coords) (arg2 : Memref sig .tc .smem S1 .f32) (harg2 : arg2.IsWhole) (arg3 : Memref sig .tc .vmem S1024x3072 .bf16) (harg3 : arg3.IsWhole) (arg4 : Memref sig .tc .vmem S1024x64 .bf16) (harg4 : arg4.IsWhole) (arg5 : Memref sig .tc .vmem S1536x1024 .i8) (harg5 : arg5.IsWhole) (arg6 : Memref sig .tc .vmem S192x1024 .fp8e4m3) (harg6 : arg6.IsWhole) (arg7 : Memref sig .tc .vmem S64x1024 .bf16) (harg7 : arg7.IsWhole) (arg8 : Memref sig .tc .vmem S1x1024 .f32) (harg8 : arg8.IsWhole) (arg9 : Memref sig .tc .vmem S1024x1024 .bf16) (harg9 : arg9.IsWhole) (arg10 : Memref sig .tc .vmem S3072x1024 .bf16) (harg10 : arg10.IsWhole) (arg11 : Memref sig .tc .vmem S192x1024 .i32) (harg11 : arg11.IsWhole) (hc0 : cond1_0 i)
    (x0 : Vec F S1 .f32) (x1 : Vec F S1024x3072 .bf16) (x2 : Vec F S1024x64 .bf16) (x3 : Vec F S1536x1024 .i8) (x4 : Vec F S192x1024 .fp8e4m3) (x5 : Vec F S64x1024 .bf16) (x6 : Vec F S1x1024 .f32) : Vec F S3072x1024 .bf16 :=
  VS1_0.read (Elt F) (VS1_0.writes (Elt F) VS1_0.junk (kernelRun1_A c i arg2 harg2 arg3 harg3 arg4 harg4 arg5 harg5 arg6 harg6 arg7 harg7 arg8 harg8 arg9 harg9 arg10 harg10 arg11 harg11 hc0 x0 x1 x2 x3 x4 x5 x6).2.1)

/-- Case B's pieces for output 7 tile its block (4 stores of `S512x512`, checked by the kernel's evaluation: Lib/Ring.lean `Piece.tiledL`, linear in the pieces, through a loop's `@[irreducible]` trip theorem too), so they cover it. -/
theorem cover1_B_7 (c : Dev nD) (i : grid1.Coords) (arg2 : Memref sig .tc .smem S1 .f32) (harg2 : arg2.IsWhole) (arg3 : Memref sig .tc .vmem S1024x3072 .bf16) (harg3 : arg3.IsWhole) (arg4 : Memref sig .tc .vmem S1024x64 .bf16) (harg4 : arg4.IsWhole) (arg5 : Memref sig .tc .vmem S1536x1024 .i8) (harg5 : arg5.IsWhole) (arg6 : Memref sig .tc .vmem S192x1024 .fp8e4m3) (harg6 : arg6.IsWhole) (arg7 : Memref sig .tc .vmem S64x1024 .bf16) (harg7 : arg7.IsWhole) (arg8 : Memref sig .tc .vmem S1x1024 .f32) (harg8 : arg8.IsWhole) (arg9 : Memref sig .tc .vmem S1024x1024 .bf16) (harg9 : arg9.IsWhole) (arg10 : Memref sig .tc .vmem S3072x1024 .bf16) (harg10 : arg10.IsWhole) (arg11 : Memref sig .tc .vmem S192x1024 .i32) (harg11 : arg11.IsWhole) (hc0 : ¬cond1_0 i)
    (x0 : Vec F S1 .f32) (x1 : Vec F S1024x3072 .bf16) (x2 : Vec F S1024x64 .bf16) (x3 : Vec F S1536x1024 .i8) (x4 : Vec F S192x1024 .fp8e4m3) (x5 : Vec F S64x1024 .bf16) (x6 : Vec F S1x1024 .f32) (xs0 : Vec F S3072x1024 .bf16) (y : S1024x1024.Idx) :
    ∃ pc ∈ (kernelRun1_B c i arg2 harg2 arg3 harg3 arg4 harg4 arg5 harg5 arg6 harg6 arg7 harg7 arg8 harg8 arg9 harg9 arg10 harg10 arg11 harg11 hc0 x0 x1 x2 x3 x4 x5 x6 xs0).1, y ∈ pc.1.set :=
  View.cover_of_tiledL (kernelRun1_B c i arg2 harg2 arg3 harg3 arg4 harg4 arg5 harg5 arg6 harg6 arg7 harg7 arg8 harg8 arg9 harg9 arg10 harg10 arg11 harg11 hc0 x0 x1 x2 x3 x4 x5 x6 xs0).1 S512x512.size (by sl_kernel_rfl) y

/-- What case B leaves in output 7's staging buffer: its pieces read back over junk. -/
def out1_B_7 (c : Dev nD) (i : grid1.Coords) (arg2 : Memref sig .tc .smem S1 .f32) (harg2 : arg2.IsWhole) (arg3 : Memref sig .tc .vmem S1024x3072 .bf16) (harg3 : arg3.IsWhole) (arg4 : Memref sig .tc .vmem S1024x64 .bf16) (harg4 : arg4.IsWhole) (arg5 : Memref sig .tc .vmem S1536x1024 .i8) (harg5 : arg5.IsWhole) (arg6 : Memref sig .tc .vmem S192x1024 .fp8e4m3) (harg6 : arg6.IsWhole) (arg7 : Memref sig .tc .vmem S64x1024 .bf16) (harg7 : arg7.IsWhole) (arg8 : Memref sig .tc .vmem S1x1024 .f32) (harg8 : arg8.IsWhole) (arg9 : Memref sig .tc .vmem S1024x1024 .bf16) (harg9 : arg9.IsWhole) (arg10 : Memref sig .tc .vmem S3072x1024 .bf16) (harg10 : arg10.IsWhole) (arg11 : Memref sig .tc .vmem S192x1024 .i32) (harg11 : arg11.IsWhole) (hc0 : ¬cond1_0 i)
    (x0 : Vec F S1 .f32) (x1 : Vec F S1024x3072 .bf16) (x2 : Vec F S1024x64 .bf16) (x3 : Vec F S1536x1024 .i8) (x4 : Vec F S192x1024 .fp8e4m3) (x5 : Vec F S64x1024 .bf16) (x6 : Vec F S1x1024 .f32) (xs0 : Vec F S3072x1024 .bf16) : Vec F S1024x1024 .bf16 :=
  VO1_7.read (Elt F) (VO1_7.writes (Elt F) VO1_7.junk (kernelRun1_B c i arg2 harg2 arg3 harg3 arg4 harg4 arg5 harg5 arg6 harg6 arg7 harg7 arg8 harg8 arg9 harg9 arg10 harg10 arg11 harg11 hc0 x0 x1 x2 x3 x4 x5 x6 xs0).1)

/-- Case B stores nothing into scratch `arg10`: it holds what the point before left. -/
def sout1_B_0 (c : Dev nD) (i : grid1.Coords) (arg2 : Memref sig .tc .smem S1 .f32) (harg2 : arg2.IsWhole) (arg3 : Memref sig .tc .vmem S1024x3072 .bf16) (harg3 : arg3.IsWhole) (arg4 : Memref sig .tc .vmem S1024x64 .bf16) (harg4 : arg4.IsWhole) (arg5 : Memref sig .tc .vmem S1536x1024 .i8) (harg5 : arg5.IsWhole) (arg6 : Memref sig .tc .vmem S192x1024 .fp8e4m3) (harg6 : arg6.IsWhole) (arg7 : Memref sig .tc .vmem S64x1024 .bf16) (harg7 : arg7.IsWhole) (arg8 : Memref sig .tc .vmem S1x1024 .f32) (harg8 : arg8.IsWhole) (arg9 : Memref sig .tc .vmem S1024x1024 .bf16) (harg9 : arg9.IsWhole) (arg10 : Memref sig .tc .vmem S3072x1024 .bf16) (harg10 : arg10.IsWhole) (arg11 : Memref sig .tc .vmem S192x1024 .i32) (harg11 : arg11.IsWhole) (hc0 : ¬cond1_0 i)
    (x0 : Vec F S1 .f32) (x1 : Vec F S1024x3072 .bf16) (x2 : Vec F S1024x64 .bf16) (x3 : Vec F S1536x1024 .i8) (x4 : Vec F S192x1024 .fp8e4m3) (x5 : Vec F S64x1024 .bf16) (x6 : Vec F S1x1024 .f32) (xs0 : Vec F S3072x1024 .bf16) : Vec F S3072x1024 .bf16 := xs0

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before1_W_κ`). An assignment of the conditions no point meets is no case (`False.elim`). -/
def outsAt1 (c : Dev nD) : (n : ℕ) → n < cfg1.N → Vec F S1024x1024 .bf16 × Vec F S3072x1024 .bf16
  | 0, hn => (out1_A_7 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) scM1_0 (Memref.isWhole_whole _) scM1_1 (Memref.isWhole_whole _) ((hcond1_0 ⟨0, hn⟩).mpr (Nat.zero_mod _)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩) (iblk1 V c 6 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) scM1_0 (Memref.isWhole_whole _) scM1_1 (Memref.isWhole_whole _) ((hcond1_0 ⟨0, hn⟩).mpr (Nat.zero_mod _)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩) (iblk1 V c 6 ⟨0, hn⟩))
  | n + 1, hn =>
    if h0 : (n + 1) % 8 = 0 then
      (out1_A_7 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) scM1_0 (Memref.isWhole_whole _) scM1_1 (Memref.isWhole_whole _) ((hcond1_0 ⟨n + 1, hn⟩).mpr h0) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) scM1_0 (Memref.isWhole_whole _) scM1_1 (Memref.isWhole_whole _) ((hcond1_0 ⟨n + 1, hn⟩).mpr h0) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩))
    else
      (out1_B_7 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) scM1_0 (Memref.isWhole_whole _) scM1_1 (Memref.isWhole_whole _) (fun h => h0 ((hcond1_0 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (outsAt1 c n (Nat.lt_of_succ_lt hn)).2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) scM1_0 (Memref.isWhole_whole _) scM1_1 (Memref.isWhole_whole _) (fun h => h0 ((hcond1_0 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (outsAt1 c n (Nat.lt_of_succ_lt hn)).2)

/-- `outsAt1` at a point of case A: that case's contents. -/
theorem outsAt1_A (c : Dev nD) (t : Fin cfg1.N) (h0 : t.val % 8 = 0) :
    outsAt1 V c t.val t.isLt = (out1_A_7 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) ((hcond1_0 t).mpr h0) (iblk1 V c 0 t) (iblk1 V c 1 t) (iblk1 V c 2 t) (iblk1 V c 3 t) (iblk1 V c 4 t) (iblk1 V c 5 t) (iblk1 V c 6 t), sout1_A_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) ((hcond1_0 t).mpr h0) (iblk1 V c 0 t) (iblk1 V c 1 t) (iblk1 V c 2 t) (iblk1 V c 3 t) (iblk1 V c 4 t) (iblk1 V c 5 t) (iblk1 V c 6 t)) := by
  obtain ⟨n, hn⟩ := t
  cases n with
  | zero => exact rfl
  | succ n => exact (dif_pos h0).trans rfl

/-- `outsAt1` at a point of case B: that case's contents, over what the point before left. -/
theorem outsAt1_B (c : Dev nD) (t : Fin cfg1.N) (h0 : ¬t.val % 8 = 0) :
    outsAt1 V c t.val t.isLt = (out1_B_7 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) (fun h => h0 ((hcond1_0 t).mp h)) (iblk1 V c 0 t) (iblk1 V c 1 t) (iblk1 V c 2 t) (iblk1 V c 3 t) (iblk1 V c 4 t) (iblk1 V c 5 t) (iblk1 V c 6 t) (outsAt1 V c (t.val - 1) (Nat.lt_of_le_of_lt (Nat.sub_le _ _) t.isLt)).2, sout1_B_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) (fun h => h0 ((hcond1_0 t).mp h)) (iblk1 V c 0 t) (iblk1 V c 1 t) (iblk1 V c 2 t) (iblk1 V c 3 t) (iblk1 V c 4 t) (iblk1 V c 5 t) (iblk1 V c 6 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-- The region invariant before position `n` with a scratch the kernel CARRIES between points: before the first point the
    class's (Lib/Pipeline/Frame.lean `ΦA`: every scratch at anything); afterwards the scoped rest with each carried scratch
    at what the point before left in it (`outsAt1`'s scratch components), the others at anything, and the generator register
    at some state. -/
def PhiS (c : Dev nD) : (n : ℕ) → n ≤ cfg1.N → sProp 𝕄
  | 0, _ => Pipeline.ΦA spec1 c
  | n + 1, hn => iprop(iprop(restA c ∗ owns (c : Thread nD τ) scM1_0 fullShare ((outsAt1 V c n hn).2) ∗ (∃ d, owns (c : Thread nD τ) scM1_1 fullShare d) ∗ restB c) ∗ (∃ r, prngReg c r))

theorem PhiS_zero (c : Dev nD) (n : ℕ) (h : n ≤ cfg1.N) (hz : n = 0) : PhiS V c n h = Pipeline.ΦA spec1 c := by
  subst hz; rfl

/-- After point `n` (before point `n + 1`): the carried scratch at that point's contents. -/
theorem PhiS_succ (c : Dev nD) (n : ℕ) (hn : n < cfg1.N) :
    PhiS V c (n + 1) hn = iprop(iprop(restA c ∗ owns (c : Thread nD τ) scM1_0 fullShare ((outsAt1 V c n hn).2) ∗ (∃ d, owns (c : Thread nD τ) scM1_1 fullShare d) ∗ restB c) ∗ (∃ r, prngReg c r)) := rfl

/-- Before a point that is not the first: the carried scratch at what the point before left. -/
theorem PhiS_pos (c : Dev nD) (n : ℕ) (h : n ≤ cfg1.N) (hz : n ≠ 0) :
    PhiS V c n h = iprop(iprop(restA c ∗ owns (c : Thread nD τ) scM1_0 fullShare ((outsAt1 V c (n - 1) (by omega)).2) ∗ (∃ d, owns (c : Thread nD τ) scM1_1 fullShare d) ∗ restB c) ∗ (∃ r, prngReg c r)) := by
  cases n with
  | zero => exact absurd rfl hz
  | succ n => rfl

/-! ## The pipeline's proof data -/

/-- The proof data of the one pipeline on core `c`: the arrays as the region finds them (`V`); after the body at
    point `t` each input's buffer at its block and the outputs' at `outsAt1`; the invariant the class's
    (`PhiS`: the class's `ΦA` before the first point, then the scoped rest with the carried scratch at `outsAt1`'s component);
    nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => (outsAt1 V c t.val t.isLt).1
  Φ t := PhiS V c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq1 (c : Dev nD) (w : Fin cfg1.W) : (dat1 V c).A w = V c (Pipeline.arrRef spec1 w) := by
  dsimp only [dat1]

/-- The invariant at a point's start (the proof data at `t.castSucc`), restated at `t.val`. -/
theorem PhiS_castSucc (c : Dev nD) (t : Fin cfg1.N) :
    (dat1 V c).Φ t.castSucc = PhiS V c t.val (Nat.le_of_lt t.isLt) := by
  dsimp only [dat1]; exact Pipeline.Dat.Φ_castSucc (PhiS V c) t

/-- What the body leaves, window by window (the proof data's `match` reduced by `dsimp`). -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = (outsAt1 V c t.val t.isLt).1 := by dsimp only [dat1]

/-- Each input's current staging buffer holds its block at every point, fetched there or not (`beforeK_W_of`). -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d

/-! ## The body obligation, at a generic point -/

/-- What the body is called with at point `t` (Lib/Pipeline.lean `BodyObligation`'s precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d)))

/-- and what it returns. -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t)
    ∗ owns (c : Thread nD τ) (ms1_5 t) fullShare ((dat1 V c).after 5 t)
    ∗ owns (c : Thread nD τ) (ms1_6 t) fullShare ((dat1 V c).after 6 t)
    ∗ owns (c : Thread nD τ) (ms1_7 t) fullShare ((dat1 V c).after 7 t))

set_option maxHeartbeats 6400000 in
/-- The body at any point: the inputs' memrefs hold their blocks (`before1_W`); the closed forms say which case the point is in (`by_cases`), an output the case reads before covering holds what the point before left (`before1_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).owesAt () t.succ = (dat1 V c).owesAt () t.castSucc from rfl,
    after1_0, after1_1, after1_2, after1_3, after1_4, after1_5, after1_6, after1_7]
  rw [show (dat1 V c).Φ t.succ = PhiS V c (t.val + 1) t.isLt from rfl, PhiS_succ]
  have hN : t.val < 168 := lt_of_lt_of_eq t.isLt (show cfg1.N = 168 from N_1)
  by_cases h0 : t.val % 8 = 0
  · by_cases hz : t.val = 0
    · rw [PhiS_castSucc V c t, PhiS_zero V c _ _ hz]
      rw [outsAt1_A V c t h0]
      unfold out1_A_7 sout1_A_0; (try dsimp only)
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
      ihave HΦ2 := (PhiA1_split c) $$ HΦ
      icases HΦ2 with ⟨⟨HRA, HS0, HS1, HRB⟩, Hg⟩
      iapply ((kernelRun1_A c (grid1.coords t) _ _ _ _ _ _ _ _ _ _ _ _ _ _ _ _ _ _ _ _ ((hcond1_0 t).mpr h0) (iblk1 V c 0 t) (iblk1 V c 1 t) (iblk1 V c 2 t) (iblk1 V c 3 t) (iblk1 V c 4 t) (iblk1 V c 5 t) (iblk1 V c 6 t)).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [HS0]; · iexact HS0
      isplitl [HS1]; · iexact HS1
      iintro ⟨H0, H1, H2, H3, H4, H5, H6, ⟨%e7, H7⟩, ⟨%es0, HS0⟩, ⟨%fT1, HS1⟩⟩
      isplitl [HRA HRB HS0 HS1 Hg]
      · isplitl [HRA HRB HS0 HS1]
        · isplitl [HRA]; · iexact HRA
          isplitl [HS0]
          · unfold owns; iexists _; isplitr
            swap; · iexact HS0
            ipureintro; exact View.read_writes_of_cover _ _ _ _ _ (scover1_A_0 c _ _ _ _ _ _ _ _ _ _ _ _ _ _ _ _ _ _ _ _ _ _ _ _ _ _ _ _ _)
          isplitr [HRB]
          · iexists _; unfold owns; iexists _; isplitr
            swap; · iexact HS1
            ipureintro; rfl
          iexact HRB
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      unfold owns; iexists _; isplitr
      swap; · iexact H7
      ipureintro; exact View.read_writes_of_cover _ _ _ _ _ (cover1_A_7 c _ _ _ _ _ _ _ _ _ _ _ _ _ _ _ _ _ _ _ _ _ _ _ _ _ _ _ _ _)
    · rw [PhiS_castSucc V c t, PhiS_pos V c _ _ hz]
      rw [outsAt1_A V c t h0]
      unfold out1_A_7 sout1_A_0; (try dsimp only)
      iintro ⟨⟨⟨HRA, HS0, HS1, HRB⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun1_A c (grid1.coords t) _ _ _ _ _ _ _ _ _ _ _ _ _ _ _ _ _ _ _ _ ((hcond1_0 t).mpr h0) (iblk1 V c 0 t) (iblk1 V c 1 t) (iblk1 V c 2 t) (iblk1 V c 3 t) (iblk1 V c 4 t) (iblk1 V c 5 t) (iblk1 V c 6 t)).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [HS0]; · iexists _; iexact HS0
      isplitl [HS1]; · iexact HS1
      iintro ⟨H0, H1, H2, H3, H4, H5, H6, ⟨%e7, H7⟩, ⟨%es0, HS0⟩, ⟨%fT1, HS1⟩⟩
      isplitl [HRA HRB HS0 HS1 Hg]
      · isplitl [HRA HRB HS0 HS1]
        · isplitl [HRA]; · iexact HRA
          isplitl [HS0]
          · unfold owns; iexists _; isplitr
            swap; · iexact HS0
            ipureintro; exact View.read_writes_of_cover _ _ _ _ _ (scover1_A_0 c _ _ _ _ _ _ _ _ _ _ _ _ _ _ _ _ _ _ _ _ _ _ _ _ _ _ _ _ _)
          isplitr [HRB]
          · iexists _; unfold owns; iexists _; isplitr
            swap; · iexact HS1
            ipureintro; rfl
          iexact HRB
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      unfold owns; iexists _; isplitr
      swap; · iexact H7
      ipureintro; exact View.read_writes_of_cover _ _ _ _ _ (cover1_A_7 c _ _ _ _ _ _ _ _ _ _ _ _ _ _ _ _ _ _ _ _ _ _ _ _ _ _ _ _ _)
  · by_cases hz : t.val = 0
    · exfalso; have hN : t.val < 168 := lt_of_lt_of_eq t.isLt (show cfg1.N = 168 from N_1); omega
    · rw [PhiS_castSucc V c t, PhiS_pos V c _ _ hz]
      rw [outsAt1_B V c t h0]
      unfold out1_B_7 sout1_B_0; (try dsimp only)
      iintro ⟨⟨⟨HRA, HS0, HS1, HRB⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun1_B c (grid1.coords t) _ _ _ _ _ _ _ _ _ _ _ _ _ _ _ _ _ _ _ _ (fun h => h0 ((hcond1_0 t).mp h)) (iblk1 V c 0 t) (iblk1 V c 1 t) (iblk1 V c 2 t) (iblk1 V c 3 t) (iblk1 V c 4 t) (iblk1 V c 5 t) (iblk1 V c 6 t) _).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [HS0]; · iexact HS0
      isplitl [HS1]; · iexact HS1
      iintro ⟨H0, H1, H2, H3, H4, H5, H6, ⟨%e7, H7⟩, HS0, HS1⟩
      isplitl [HRA HRB HS0 HS1 Hg]
      · isplitl [HRA HRB HS0 HS1]
        · isplitl [HRA]; · iexact HRA
          isplitl [HS0]
          · iexact HS0
          isplitl [HS1]; · iexact HS1
          iexact HRB
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      unfold owns; iexists _; isplitr
      swap; · iexact H7
      ipureintro; exact View.read_writes_of_cover _ _ _ _ _ (cover1_B_7 c _ _ _ _ _ _ _ _ _ _ _ _ _ _ _ _ _ _ _ _ _ _ _ _ _ _ _ _ _ _)

/-- The body table's row at point `t`'s slots is the body as `bodyAt1` spells it. -/
theorem defs₀_row1 (t : Fin cfg1.N) :
    defs₀ (F := F) .tc cfg1.body (cfg1.bodyArgs t (cfg1.slots t)) = bodyAt1 t := by
  unfold defs₀; rw [Defs.onTc_tc]

/-- The library's body obligation, at every point: the body's triple restated (Lib/Pipeline/FrameBody.lean `triple_restated`). -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

/-- What the call is entered with is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After the last point the invariant gives back what the call was entered with: what the scratch holds is forgotten. -/
theorem hout1 (c : Dev nD) : (dat1 V c).Φ (Fin.last cfg1.N) ⊢ Pipeline.ΦA spec1 c := by
  rw [show (dat1 V c).Φ (Fin.last cfg1.N) = PhiS V c (Fin.last cfg1.N).val (Nat.le_of_lt_succ (Fin.last cfg1.N).isLt) from rfl,
    PhiS_pos V c _ _ (by rw [Fin.val_last]; have : cfg1.N = 168 := N_1; omega)]
  iintro ⟨⟨HRA, HS0, HS1, HRB⟩, Hg⟩
  iapply (PhiA1_join c)
  isplitr [Hg]
  · isplitl [HRA]; · iexact HRA
    isplitl [HS0]; · iexists _; iexact HS0
    isplitl [HS1]; · iexact HS1
    iexact HRB
  iexact Hg

end Cert.Whole.Work

end
-- ==== Proof.WholeRun.lean ====
/- The program Whole from its launch to its return: its stretches of host operations and its two calls in order, the
   contents of the buffers at each boundary, and the frame. -/
module

public import proofs.«01_k».proof.Proof.WholeSecond

@[expose] public section

set_option maxRecDepth 16384

noncomputable section

namespace Cert.Whole.Work

open Cert.Whole Cert.Whole.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)

/-! # THE RUN: @main's segments from the launch to the return (Lib/Pipeline/Regions.lean `θ_run_regions_kit`) -/

/-- @main's argument arrays, as TensorCore references: what the frame claim reads back. -/
abbrev argRefs : List (Ref sig .tc) := [main_arg0, main_arg1, main_arg2, main_arg3, main_arg4, main_arg5, main_arg6, main_arg7, main_arg8]

/-! ## The host stretches: none allocates a buffer, and each lists the references its operations write, in order,
    so that a reference absent from the list keeps its contents across the stretch (Lib/StableHlo/Run.lean
    `after_of_writes_sub`) -/

/-- No operation of `hostOps0` allocates a buffer. -/
theorem hostOps0_fresh : (hostOps0 : List (HloOp τ sig (Elt F))).Forall fun op => op.fresh = ∅ := by
  simp only [List.Forall]; repeat' constructor
/-- The reference each operation of `hostOps0` writes, in order. -/
abbrev hostOps0_W : List (Ref sig .tc) := [main_v0, main_v1, main_v2]
theorem hostOps0_writes : (hostOps0 : List (HloOp τ sig (Elt F))).Forall fun op => op.writes ⊆ (hostOps0_W.map (Proc.devRef (τ := τ) .tc)).toFinset :=
  StableHlo.forall_writes_sub_of_map rfl
/-- `hostOps0` writes none of the argument arrays (checked: each argument against each reference it writes). -/
theorem hostOps0_args : ∀ a ∈ argRefs, a ∉ hostOps0_W := ListAll.forall_mem_of_all_decide (by decide +kernel)

/-- No operation of `hostOps1` allocates a buffer. -/
theorem hostOps1_fresh : (hostOps1 : List (HloOp τ sig (Elt F))).Forall fun op => op.fresh = ∅ := by
  simp only [List.Forall]; repeat' constructor
/-- The reference each operation of `hostOps1` writes, in order. -/
abbrev hostOps1_W : List (Ref sig .tc) := [main_v4, main_v5, main_v6]
theorem hostOps1_writes : (hostOps1 : List (HloOp τ sig (Elt F))).Forall fun op => op.writes ⊆ (hostOps1_W.map (Proc.devRef (τ := τ) .tc)).toFinset :=
  StableHlo.forall_writes_sub_of_map rfl
/-- `hostOps1` writes none of the argument arrays (checked: each argument against each reference it writes). -/
theorem hostOps1_args : ∀ a ∈ argRefs, a ∉ hostOps1_W := ListAll.forall_mem_of_all_decide (by decide +kernel)

/-! ## The buffer contents at each segment boundary: a fold through @main, and what each item leaves unchanged -/

/-- Core `c`'s buffers at launch. -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- After `hostOps0` (region 0's entry). -/
abbrev W1 : Dev nD → Valuation τ sig (Elt F) := fun c => StableHlo.after hostOps0 (W0 m ρ c)
/-- A reference `hostOps0` does not write keeps its contents across it. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
/-- The same read at the TensorCore's references (what region 0's proof data take). -/
abbrev V1 : (c : Dev nD) → (b : Ref sig .tc) → Buf (Elt F) ((c : Thread nD τ).loc b) := fun c b => W1 m ρ c b
/-- At region 0's exit: its arrays at what the pipeline leaves (the inputs as entered, each output's write-backs
    folded: `Dat.arrAt … N`), every other buffer as entered (Lib/Pipeline/FrameSuffix.lean `withArrays`). -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- A reference that is none of region 0's OUTPUT arrays keeps its entry contents across it: an input window's
    array is never written back (`Dat.arrAt_in`, `A_eq0`); any other buffer is left as is. -/
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
/-- Every argument among region 0's arrays is an input window's (checked: each argument against each window). -/
theorem argsIn0 : ∀ a ∈ argRefs, ∀ w : Fin cfg0.W, Pipeline.arrRef spec0 w = a → (cfg0.win w).isOut = false :=
  ListAll.forall_mem_of_all_decide (by decide +kernel)
theorem W2_args (c : Dev nD) : ∀ a ∈ argRefs, W2 m ρ c (Proc.devRef .tc a) = m ((c : Thread nD τ).loc a) :=
  fun a ha => (W2_of m ρ c a (argsIn0 a ha)).trans (W1_args m ρ c a ha)
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves (`hF0`) and every other buffer what it
    held at entry (`hrest0`): the two hypotheses of Lib/Pipeline/RegionsLoop.lean `unscopedBufs_of_arrays`. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After `hostOps1` (region 1's entry). -/
abbrev W3 : Dev nD → Valuation τ sig (Elt F) := fun c => StableHlo.after hostOps1 (W2 m ρ c)
/-- A reference `hostOps1` does not write keeps its contents across it. -/
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h
theorem W3_args (c : Dev nD) : ∀ a ∈ argRefs, W3 m ρ c (Proc.devRef .tc a) = m ((c : Thread nD τ).loc a) :=
  fun a ha => (W3_of m ρ c a (hostOps1_args a ha)).trans (W2_args m ρ c a ha)
/-- The same read at the TensorCore's references (what region 1's proof data take). -/
abbrev V3 : (c : Dev nD) → (b : Ref sig .tc) → Buf (Elt F) ((c : Thread nD τ).loc b) := fun c b => W3 m ρ c b
/-- At region 1's exit: its arrays at what the pipeline leaves (the inputs as entered, each output's write-backs
    folded: `Dat.arrAt … N`), every other buffer as entered (Lib/Pipeline/FrameSuffix.lean `withArrays`). -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- A reference that is none of region 1's OUTPUT arrays keeps its entry contents across it: an input window's
    array is never written back (`Dat.arrAt_in`, `A_eq1`); any other buffer is left as is. -/
theorem W4_of (c : Dev nD) (r : Ref sig .tc) (h : ∀ w : Fin cfg1.W, Pipeline.arrRef spec1 w = r → (cfg1.win w).isOut = false) :
    W4 m ρ c (Proc.devRef .tc r) = W3 m ρ c (Proc.devRef .tc r) := by
  by_cases hw : ∃ w : Fin cfg1.W, Pipeline.arrRef spec1 w = r
  · obtain ⟨w, rfl⟩ := hw
    exact (W4_arr m ρ c w).trans (((dat1 (V3 m ρ) c).arrAt_in w (h w rfl) _).trans (A_eq1 (V3 m ρ) c w))
  · exact W4_of_ne m ρ c r fun w e => hw ⟨w, e⟩
/-- Every argument among region 1's arrays is an input window's (checked: each argument against each window). -/
theorem argsIn1 : ∀ a ∈ argRefs, ∀ w : Fin cfg1.W, Pipeline.arrRef spec1 w = a → (cfg1.win w).isOut = false :=
  ListAll.forall_mem_of_all_decide (by decide +kernel)
theorem W4_args (c : Dev nD) : ∀ a ∈ argRefs, W4 m ρ c (Proc.devRef .tc a) = m ((c : Thread nD τ).loc a) :=
  fun a ha => (W4_of m ρ c a (argsIn1 a ha)).trans (W3_args m ρ c a ha)
/-- The same read at the TensorCore's references (region 1's exit contents). -/
abbrev V4 : (c : Dev nD) → (b : Ref sig .tc) → Buf (Elt F) ((c : Thread nD τ).loc b) := fun c b => W4 m ρ c b
/-- At region 1's exit each of its arrays holds what the pipeline leaves (`hF1`) and every other buffer what it
    held at entry (`hrest1`): the two hypotheses of Lib/Pipeline/RegionsLoop.lean `unscopedBufs_of_arrays`. -/
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-! ### The arguments end as launched: no host stretch writes one and no region may change one (a region reads it
    through an input window or bypasses it) -/

theorem W4_main_arg0 (c : Dev nD) : W4 m ρ c (Proc.devRef .tc main_arg0) = m ((c : Thread nD τ).loc main_arg0) :=
  W4_args m ρ c main_arg0 (by decide)
theorem W4_main_arg1 (c : Dev nD) : W4 m ρ c (Proc.devRef .tc main_arg1) = m ((c : Thread nD τ).loc main_arg1) :=
  W4_args m ρ c main_arg1 (by decide)
theorem W4_main_arg2 (c : Dev nD) : W4 m ρ c (Proc.devRef .tc main_arg2) = m ((c : Thread nD τ).loc main_arg2) :=
  W4_args m ρ c main_arg2 (by decide)
theorem W4_main_arg3 (c : Dev nD) : W4 m ρ c (Proc.devRef .tc main_arg3) = m ((c : Thread nD τ).loc main_arg3) :=
  W4_args m ρ c main_arg3 (by decide)
theorem W4_main_arg4 (c : Dev nD) : W4 m ρ c (Proc.devRef .tc main_arg4) = m ((c : Thread nD τ).loc main_arg4) :=
  W4_args m ρ c main_arg4 (by decide)
theorem W4_main_arg5 (c : Dev nD) : W4 m ρ c (Proc.devRef .tc main_arg5) = m ((c : Thread nD τ).loc main_arg5) :=
  W4_args m ρ c main_arg5 (by decide)
theorem W4_main_arg6 (c : Dev nD) : W4 m ρ c (Proc.devRef .tc main_arg6) = m ((c : Thread nD τ).loc main_arg6) :=
  W4_args m ρ c main_arg6 (by decide)
theorem W4_main_arg7 (c : Dev nD) : W4 m ρ c (Proc.devRef .tc main_arg7) = m ((c : Thread nD τ).loc main_arg7) :=
  W4_args m ρ c main_arg7 (by decide)
theorem W4_main_arg8 (c : Dev nD) : W4 m ρ c (Proc.devRef .tc main_arg8) = m ((c : Thread nD τ).loc main_arg8) :=
  W4_args m ρ c main_arg8 (by decide)

/-! ## The proof data family and the thread state -/

/-- The prefetched tables' admissible contents: no pipeline has a table. -/
abbrev adm : (p : Fin 2) → (pcfgs (F := F) p).Adm := fun p => (cfgs p).toPCfg_adm
/-- Every pipeline's proof data, each at its region's entry contents — a literal `match`, so that
    `Pipeline.pin pcfgs adm p` at a numeral reduces to the printed configuration. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (the class-A
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the chain of segments ends at it BESIDE the core owing nothing): every unscoped
    buffer at the last boundary's contents `W4`, the generator register at some state. -/
abbrev Tₙ (c : Dev nD) : sProp 𝕄 := iprop(StableHlo.held (c : Thread nD τ) (Pipeline.ucRefs τ sig) (W4 m ρ c) ∗ ∃ r, prngReg c r)

/-! ## The regions as segments -/

-- `iapply` of a library lemma stated over `pin pcs a p` unifies with the pinned configuration only when unification may
-- unfold plain definitions in a metavariable's type
set_option backward.isDefEq.respectTransparency.types false in
/-- REGION 0 (the quantising call) over the thread state: entered from every unscoped buffer at `W1`, left at `W2`
    (what the next segment is entered from). Its arrays split out of the unscoped buffers
    (`arrays_of_unscopedBufs`) and put back at the exit contents (`unscopedBufs_of_arrays`); the generator register into the
    class invariant `ΦA` and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 1 (the matrix-product call) over the thread state: entered from every unscoped buffer at `W3`, left at `W4`
    (what the launch reads at the end). Its arrays split out of the unscoped buffers
    (`arrays_of_unscopedBufs`) and put back at the exit contents (`unscopedBufs_of_arrays`); the generator register into the
    class invariant `ΦA` and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) (A_eq1 (V3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (V3 m ρ) c); unfold Pipeline.ΦA
    iintro ⟨Hp, -, Hr⟩
    isplitl [Hr]; · iexact Hr
    iexact Hp
  hout c := by
    rw [Pipeline.ownSems0_none]; refine BIBase.Entails.trans (hout1 (V3 m ρ) c) ?_; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's 4 segments in order: a host segment per stretch from its boundary's contents, a region per pallas_call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]
/-- @main IS the run of the segments: `Gen.main_chain`, then the segments' run against that chain by the kernel's
    definitional check (`chain_rfl`). -/
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide

set_option backward.isDefEq.respectTransparency.types false in
/-- Every fair execution of the program ends, with every buffer that outlives the calls at the last boundary's contents
    and every semaphore counter at zero. -/
theorem run_all : θ_run defs (onTc (τ := τ) (main (F := F))) ⟨m, fun _ => 0, ρ⟩ (fun r => (∀ c : Dev nD, ∀ b ∈ Pipeline.ucRefs τ sig, r.2.mem (((c : Thread nD τ)).1, b) = W4 m ρ c b)
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz => ⟨h, funext fun g => hz g (.inr (no_unscoped g.2))⟩)

/-- The frame: every fair execution of the program ends, with the argument arrays as launched and every semaphore
    counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  (θ_run defs _ _).mono (fun _ hr => ⟨fun c =>
      ⟨(hr.1 c _ (mem_uc main_arg0 (by decide))).trans (W4_main_arg0 m ρ c),
       (hr.1 c _ (mem_uc main_arg1 (by decide))).trans (W4_main_arg1 m ρ c),
       (hr.1 c _ (mem_uc main_arg2 (by decide))).trans (W4_main_arg2 m ρ c),
       (hr.1 c _ (mem_uc main_arg3 (by decide))).trans (W4_main_arg3 m ρ c),
       (hr.1 c _ (mem_uc main_arg4 (by decide))).trans (W4_main_arg4 m ρ c),
       (hr.1 c _ (mem_uc main_arg5 (by decide))).trans (W4_main_arg5 m ρ c),
       (hr.1 c _ (mem_uc main_arg6 (by decide))).trans (W4_main_arg6 m ρ c),
       (hr.1 c _ (mem_uc main_arg7 (by decide))).trans (W4_main_arg7 m ρ c),
       (hr.1 c _ (mem_uc main_arg8 (by decide))).trans (W4_main_arg8 m ρ c)⟩, hr.2⟩) (run_all m ρ)

end Cert.Whole.Work

end
-- ==== Proof.WholeIdealFirst.lean ====
/- The quantising call of the program WholeIdeal, at any contents of the buffers it is entered with: what its body
   stores, what its buffers hold after each point, and that its body meets the pipeline's obligation. -/
module

public import proofs.«01_k».proof.Proof.Gen.WholeIdeal.Launch
public import proofs.«01_k».proof.Proof.Gen.WholeIdeal.Skeleton
public import proofs.«01_k».proof.Proof.Gen.WholeIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.WholeIdeal.Work

open Cert.WholeIdeal Cert.WholeIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the call is entered
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## The kernel body on any staging memrefs: a subtype the run finds -/

/-- One staging buffer of output window 4, through which its contents are stated (`View.read_writes_of_cover`: the
    choice does not matter). -/
abbrev VO0_4 : View sig .tc .vmem S128x3072 .bf16 := (Memref.whole cc0_stg4_0 : Memref sig .tc .vmem S128x3072 .bf16).view
/-- One staging buffer of output window 5, through which its contents are stated (`View.read_writes_of_cover`: the
    choice does not matter). -/
abbrev VO0_5 : View sig .tc .vmem S128x64 .bf16 := (Memref.whole cc0_stg5_0 : Memref sig .tc .vmem S128x64 .bf16).view
/-- One staging buffer of output window 6, through which its contents are stated (`View.read_writes_of_cover`: the
    choice does not matter). -/
abbrev VO0_6 : View sig .tc .vmem S128x1536 .i8 := (Memref.whole cc0_stg6_0 : Memref sig .tc .vmem S128x1536 .i8).view
/-- One staging buffer of output window 7, through which its contents are stated (`View.read_writes_of_cover`: the
    choice does not matter). -/
abbrev VO0_7 : View sig .tc .vmem S128x192 .fp8e4m3 := (Memref.whole cc0_stg7_0 : Memref sig .tc .vmem S128x192 .fp8e4m3).view
/-- Each window's current staging memref at point `t`, spelled as the pipeline passes it (`bodyAt0`), and its wholeness. -/
abbrev ms0_0 (t : Fin cfg0.N) : Memref sig .tc .smem S1 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S128x3072 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x3072 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S3072x64 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S128x3072 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S128x64 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S128x1536 .i8 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S128x192 .fp8e4m3 := win0_7.stage (cfg0.slots t 7)
abbrev hs0_7 (t : Fin cfg0.N) : (ms0_7 t).IsWhole := hstage0_7 ((cfg0.slots t 7).cast nbuf0_7)
/-- The scratch operands: whole scoped buffers of the kernel's own, passed beside the windows. -/
abbrev scM0_0 : Memref sig .tc .vmem S3072x128 .bf16 := Memref.whole cc0_scratch0
abbrev scM0_1 : Memref sig .tc .vmem S192x128 .f32 := Memref.whole cc0_scratch1

/-- The frame invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg5_1), ((c : Thread nD τ).loc cc1_stg5_1) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg6_1), ((c : Thread nD τ).loc cc1_stg6_1) ↦{fullShare} f) ∗ (∃ f : Buf (Elt F) ((c : Thread nD τ).loc cc1_stg7_0), ((c : Thread nD τ).loc cc1_stg7_0) ↦{fullShare} f) ∗ (∃ f : Buf (Elt F) ((c : Thread nD τ).loc cc1_stg7_1), ((c : Thread nD τ).loc cc1_stg7_1) ↦{fullShare} f) ∗ (∃ f : Buf (Elt F) ((c : Thread nD τ).loc cc1_scratch0), ((c : Thread nD τ).loc cc1_scratch0) ↦{fullShare} f) ∗ (∃ f : Buf (Elt F) ((c : Thread nD τ).loc cc1_scratch1), ((c : Thread nD τ).loc cc1_scratch1) ↦{fullShare} f) ∗ (∃ f : Buf (Elt F) ((c : Thread nD τ).loc cc1_stg0_0), ((c : Thread nD τ).loc cc1_stg0_0) ↦{fullShare} f)) ∗ (∃ r, prngReg c r)) := by
  unfold Pipeline.ΦA; rw [scopedRest0_eq]; simp only [scM0_0, scM0_1, owns_whole]; try rfl

-- (the run's proof term is large: the definition's epilogue — `abstractNestedProofs` — walks it past the default budget)
set_option maxHeartbeats 1732000 in
/-- What the body's stores leave in each output's staging memref, as pieces (last first), WITH the
    proof that on whole staging memrefs — the inputs' at their contents, the other outputs' at
    anything, the scratch buffers at anything, the body runs to the continuation holding the inputs' as they were,
    a scratch it stored into and does not carry with its pieces (`LT·`) written over some contents, each output's buffer with its pieces written: the printed functions are their skeletons
    (`Gen.*_eq_skeleton`), which `sl_exec` runs (Lib/Exec.lean); the pieces are
    the witness that run finds (assigned when `iexact` hands the buffer to the continuation). -/
noncomputable def kernelRun0_A (c : Dev nD) (i : grid0.Coords) (arg1 : Memref sig .tc .smem S1 .f32) (harg1 : arg1.IsWhole) (arg2 : Memref sig .tc .vmem S128x3072 .bf16) (harg2 : arg2.IsWhole) (arg3 : Memref sig .tc .vmem S1x3072 .f32) (harg3 : arg3.IsWhole) (arg4 : Memref sig .tc .vmem S3072x64 .bf16) (harg4 : arg4.IsWhole) (arg5 : Memref sig .tc .vmem S128x3072 .bf16) (harg5 : arg5.IsWhole) (arg6 : Memref sig .tc .vmem S128x64 .bf16) (harg6 : arg6.IsWhole) (arg7 : Memref sig .tc .vmem S128x1536 .i8) (harg7 : arg7.IsWhole) (arg8 : Memref sig .tc .vmem S128x192 .fp8e4m3) (harg8 : arg8.IsWhole) (arg9 : Memref sig .tc .vmem S3072x128 .bf16) (harg9 : arg9.IsWhole) (arg10 : Memref sig .tc .vmem S192x128 .f32) (harg10 : arg10.IsWhole)
    (x0 : Vec F S1 .f32) (x1 : Vec F S128x3072 .bf16) (x2 : Vec F S1x3072 .f32) (x3 : Vec F S3072x64 .bf16) :
    Σ' (L4 : List (View.Piece (Elt F) S128x3072 .bf16)), Σ' (L5 : List (View.Piece (Elt F) S128x64 .bf16)), Σ' (L6 : List (View.Piece (Elt F) S128x1536 .i8)), Σ' (L7 : List (View.Piece (Elt F) S128x192 .fp8e4m3)), Σ' (LT0 : List (View.Piece (Elt F) S3072x128 .bf16)), { LT1 : List (View.Piece (Elt F) S192x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f LT0) ∗ (∃ f, arg10.view.loc (c : Thread nD τ) ↦[arg10.view.set]{fullShare} arg10.view.writes (Elt F) f LT1)) -∗ K ⟨⟩))
          ⊢ wp frame (wpE (defs₀ (F := F)) Variants.none c none) E (cc0_quantize i arg1 harg1 arg2 harg2 arg3 harg3 arg4 harg4 arg5 harg5 arg6 harg6 arg7 harg7 arg8 harg8 arg9 harg9 arg10 harg10) K } := by
  refine ⟨?_, ?_, ?_, ?_, ?_, ?_, fun E K => ?run⟩
  case run =>
    simp only [cc0_quantize_eq_skeleton]; unfold cc0_quantize_skel
    simp only [k0_part61_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%d7, %f7, -, H7⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]; · iexists _; iexact H5
    isplitl [H6]; · iexists _; iexact H6
    isplitl [H7]; · iexists _; iexact H7
    isplitl [HS0]; · iexists _; iexact HS0
    iexists _; iexact HS1

/-- The run's pieces for output 4 tile its block (24 stores of `S128x128`, checked by the kernel's evaluation: Lib/Ring.lean `Piece.tiledL`, linear in the pieces, through a loop's `@[irreducible]` trip theorem too), so they cover it. -/
theorem cover0_A_4 (c : Dev nD) (i : grid0.Coords) (arg1 : Memref sig .tc .smem S1 .f32) (harg1 : arg1.IsWhole) (arg2 : Memref sig .tc .vmem S128x3072 .bf16) (harg2 : arg2.IsWhole) (arg3 : Memref sig .tc .vmem S1x3072 .f32) (harg3 : arg3.IsWhole) (arg4 : Memref sig .tc .vmem S3072x64 .bf16) (harg4 : arg4.IsWhole) (arg5 : Memref sig .tc .vmem S128x3072 .bf16) (harg5 : arg5.IsWhole) (arg6 : Memref sig .tc .vmem S128x64 .bf16) (harg6 : arg6.IsWhole) (arg7 : Memref sig .tc .vmem S128x1536 .i8) (harg7 : arg7.IsWhole) (arg8 : Memref sig .tc .vmem S128x192 .fp8e4m3) (harg8 : arg8.IsWhole) (arg9 : Memref sig .tc .vmem S3072x128 .bf16) (harg9 : arg9.IsWhole) (arg10 : Memref sig .tc .vmem S192x128 .f32) (harg10 : arg10.IsWhole)
    (x0 : Vec F S1 .f32) (x1 : Vec F S128x3072 .bf16) (x2 : Vec F S1x3072 .f32) (x3 : Vec F S3072x64 .bf16) (y : S128x3072.Idx) :
    ∃ pc ∈ (kernelRun0_A c i arg1 harg1 arg2 harg2 arg3 harg3 arg4 harg4 arg5 harg5 arg6 harg6 arg7 harg7 arg8 harg8 arg9 harg9 arg10 harg10 x0 x1 x2 x3).1, y ∈ pc.1.set :=
  View.cover_of_tiledL (kernelRun0_A c i arg1 harg1 arg2 harg2 arg3 harg3 arg4 harg4 arg5 harg5 arg6 harg6 arg7 harg7 arg8 harg8 arg9 harg9 arg10 harg10 x0 x1 x2 x3).1 S128x128.size (by sl_kernel_rfl) y

/-- What the run leaves in output 4's staging buffer: its pieces read back over junk. -/
def out0_A_4 (c : Dev nD) (i : grid0.Coords) (arg1 : Memref sig .tc .smem S1 .f32) (harg1 : arg1.IsWhole) (arg2 : Memref sig .tc .vmem S128x3072 .bf16) (harg2 : arg2.IsWhole) (arg3 : Memref sig .tc .vmem S1x3072 .f32) (harg3 : arg3.IsWhole) (arg4 : Memref sig .tc .vmem S3072x64 .bf16) (harg4 : arg4.IsWhole) (arg5 : Memref sig .tc .vmem S128x3072 .bf16) (harg5 : arg5.IsWhole) (arg6 : Memref sig .tc .vmem S128x64 .bf16) (harg6 : arg6.IsWhole) (arg7 : Memref sig .tc .vmem S128x1536 .i8) (harg7 : arg7.IsWhole) (arg8 : Memref sig .tc .vmem S128x192 .fp8e4m3) (harg8 : arg8.IsWhole) (arg9 : Memref sig .tc .vmem S3072x128 .bf16) (harg9 : arg9.IsWhole) (arg10 : Memref sig .tc .vmem S192x128 .f32) (harg10 : arg10.IsWhole)
    (x0 : Vec F S1 .f32) (x1 : Vec F S128x3072 .bf16) (x2 : Vec F S1x3072 .f32) (x3 : Vec F S3072x64 .bf16) : Vec F S128x3072 .bf16 :=
  VO0_4.read (Elt F) (VO0_4.writes (Elt F) VO0_4.junk (kernelRun0_A c i arg1 harg1 arg2 harg2 arg3 harg3 arg4 harg4 arg5 harg5 arg6 harg6 arg7 harg7 arg8 harg8 arg9 harg9 arg10 harg10 x0 x1 x2 x3).1)

/-- The run's pieces for output 5 tile its block (1 store of `S128x64`, checked by the kernel's evaluation: Lib/Ring.lean `Piece.tiledL`, linear in the pieces, through a loop's `@[irreducible]` trip theorem too), so they cover it. -/
theorem cover0_A_5 (c : Dev nD) (i : grid0.Coords) (arg1 : Memref sig .tc .smem S1 .f32) (harg1 : arg1.IsWhole) (arg2 : Memref sig .tc .vmem S128x3072 .bf16) (harg2 : arg2.IsWhole) (arg3 : Memref sig .tc .vmem S1x3072 .f32) (harg3 : arg3.IsWhole) (arg4 : Memref sig .tc .vmem S3072x64 .bf16) (harg4 : arg4.IsWhole) (arg5 : Memref sig .tc .vmem S128x3072 .bf16) (harg5 : arg5.IsWhole) (arg6 : Memref sig .tc .vmem S128x64 .bf16) (harg6 : arg6.IsWhole) (arg7 : Memref sig .tc .vmem S128x1536 .i8) (harg7 : arg7.IsWhole) (arg8 : Memref sig .tc .vmem S128x192 .fp8e4m3) (harg8 : arg8.IsWhole) (arg9 : Memref sig .tc .vmem S3072x128 .bf16) (harg9 : arg9.IsWhole) (arg10 : Memref sig .tc .vmem S192x128 .f32) (harg10 : arg10.IsWhole)
    (x0 : Vec F S1 .f32) (x1 : Vec F S128x3072 .bf16) (x2 : Vec F S1x3072 .f32) (x3 : Vec F S3072x64 .bf16) (y : S128x64.Idx) :
    ∃ pc ∈ (kernelRun0_A c i arg1 harg1 arg2 harg2 arg3 harg3 arg4 harg4 arg5 harg5 arg6 harg6 arg7 harg7 arg8 harg8 arg9 harg9 arg10 harg10 x0 x1 x2 x3).2.1, y ∈ pc.1.set :=
  View.cover_of_tiledL (kernelRun0_A c i arg1 harg1 arg2 harg2 arg3 harg3 arg4 harg4 arg5 harg5 arg6 harg6 arg7 harg7 arg8 harg8 arg9 harg9 arg10 harg10 x0 x1 x2 x3).2.1 S128x64.size (by sl_kernel_rfl) y

/-- What the run leaves in output 5's staging buffer: its pieces read back over junk. -/
def out0_A_5 (c : Dev nD) (i : grid0.Coords) (arg1 : Memref sig .tc .smem S1 .f32) (harg1 : arg1.IsWhole) (arg2 : Memref sig .tc .vmem S128x3072 .bf16) (harg2 : arg2.IsWhole) (arg3 : Memref sig .tc .vmem S1x3072 .f32) (harg3 : arg3.IsWhole) (arg4 : Memref sig .tc .vmem S3072x64 .bf16) (harg4 : arg4.IsWhole) (arg5 : Memref sig .tc .vmem S128x3072 .bf16) (harg5 : arg5.IsWhole) (arg6 : Memref sig .tc .vmem S128x64 .bf16) (harg6 : arg6.IsWhole) (arg7 : Memref sig .tc .vmem S128x1536 .i8) (harg7 : arg7.IsWhole) (arg8 : Memref sig .tc .vmem S128x192 .fp8e4m3) (harg8 : arg8.IsWhole) (arg9 : Memref sig .tc .vmem S3072x128 .bf16) (harg9 : arg9.IsWhole) (arg10 : Memref sig .tc .vmem S192x128 .f32) (harg10 : arg10.IsWhole)
    (x0 : Vec F S1 .f32) (x1 : Vec F S128x3072 .bf16) (x2 : Vec F S1x3072 .f32) (x3 : Vec F S3072x64 .bf16) : Vec F S128x64 .bf16 :=
  VO0_5.read (Elt F) (VO0_5.writes (Elt F) VO0_5.junk (kernelRun0_A c i arg1 harg1 arg2 harg2 arg3 harg3 arg4 harg4 arg5 harg5 arg6 harg6 arg7 harg7 arg8 harg8 arg9 harg9 arg10 harg10 x0 x1 x2 x3).2.1)

/-- The run's pieces for output 6 tile its block (12 stores of `S128x128`, checked by the kernel's evaluation: Lib/Ring.lean `Piece.tiledL`, linear in the pieces, through a loop's `@[irreducible]` trip theorem too), so they cover it. -/
theorem cover0_A_6 (c : Dev nD) (i : grid0.Coords) (arg1 : Memref sig .tc .smem S1 .f32) (harg1 : arg1.IsWhole) (arg2 : Memref sig .tc .vmem S128x3072 .bf16) (harg2 : arg2.IsWhole) (arg3 : Memref sig .tc .vmem S1x3072 .f32) (harg3 : arg3.IsWhole) (arg4 : Memref sig .tc .vmem S3072x64 .bf16) (harg4 : arg4.IsWhole) (arg5 : Memref sig .tc .vmem S128x3072 .bf16) (harg5 : arg5.IsWhole) (arg6 : Memref sig .tc .vmem S128x64 .bf16) (harg6 : arg6.IsWhole) (arg7 : Memref sig .tc .vmem S128x1536 .i8) (harg7 : arg7.IsWhole) (arg8 : Memref sig .tc .vmem S128x192 .fp8e4m3) (harg8 : arg8.IsWhole) (arg9 : Memref sig .tc .vmem S3072x128 .bf16) (harg9 : arg9.IsWhole) (arg10 : Memref sig .tc .vmem S192x128 .f32) (harg10 : arg10.IsWhole)
    (x0 : Vec F S1 .f32) (x1 : Vec F S128x3072 .bf16) (x2 : Vec F S1x3072 .f32) (x3 : Vec F S3072x64 .bf16) (y : S128x1536.Idx) :
    ∃ pc ∈ (kernelRun0_A c i arg1 harg1 arg2 harg2 arg3 harg3 arg4 harg4 arg5 harg5 arg6 harg6 arg7 harg7 arg8 harg8 arg9 harg9 arg10 harg10 x0 x1 x2 x3).2.2.1, y ∈ pc.1.set :=
  View.cover_of_tiledL (kernelRun0_A c i arg1 harg1 arg2 harg2 arg3 harg3 arg4 harg4 arg5 harg5 arg6 harg6 arg7 harg7 arg8 harg8 arg9 harg9 arg10 harg10 x0 x1 x2 x3).2.2.1 S128x128.size (by sl_kernel_rfl) y

/-- What the run leaves in output 6's staging buffer: its pieces read back over junk. -/
def out0_A_6 (c : Dev nD) (i : grid0.Coords) (arg1 : Memref sig .tc .smem S1 .f32) (harg1 : arg1.IsWhole) (arg2 : Memref sig .tc .vmem S128x3072 .bf16) (harg2 : arg2.IsWhole) (arg3 : Memref sig .tc .vmem S1x3072 .f32) (harg3 : arg3.IsWhole) (arg4 : Memref sig .tc .vmem S3072x64 .bf16) (harg4 : arg4.IsWhole) (arg5 : Memref sig .tc .vmem S128x3072 .bf16) (harg5 : arg5.IsWhole) (arg6 : Memref sig .tc .vmem S128x64 .bf16) (harg6 : arg6.IsWhole) (arg7 : Memref sig .tc .vmem S128x1536 .i8) (harg7 : arg7.IsWhole) (arg8 : Memref sig .tc .vmem S128x192 .fp8e4m3) (harg8 : arg8.IsWhole) (arg9 : Memref sig .tc .vmem S3072x128 .bf16) (harg9 : arg9.IsWhole) (arg10 : Memref sig .tc .vmem S192x128 .f32) (harg10 : arg10.IsWhole)
    (x0 : Vec F S1 .f32) (x1 : Vec F S128x3072 .bf16) (x2 : Vec F S1x3072 .f32) (x3 : Vec F S3072x64 .bf16) : Vec F S128x1536 .i8 :=
  VO0_6.read (Elt F) (VO0_6.writes (Elt F) VO0_6.junk (kernelRun0_A c i arg1 harg1 arg2 harg2 arg3 harg3 arg4 harg4 arg5 harg5 arg6 harg6 arg7 harg7 arg8 harg8 arg9 harg9 arg10 harg10 x0 x1 x2 x3).2.2.1)

/-- The run's pieces for output 7 tile its block (1 store of `S128x192`, checked by the kernel's evaluation: Lib/Ring.lean `Piece.tiledL`, linear in the pieces, through a loop's `@[irreducible]` trip theorem too), so they cover it. -/
theorem cover0_A_7 (c : Dev nD) (i : grid0.Coords) (arg1 : Memref sig .tc .smem S1 .f32) (harg1 : arg1.IsWhole) (arg2 : Memref sig .tc .vmem S128x3072 .bf16) (harg2 : arg2.IsWhole) (arg3 : Memref sig .tc .vmem S1x3072 .f32) (harg3 : arg3.IsWhole) (arg4 : Memref sig .tc .vmem S3072x64 .bf16) (harg4 : arg4.IsWhole) (arg5 : Memref sig .tc .vmem S128x3072 .bf16) (harg5 : arg5.IsWhole) (arg6 : Memref sig .tc .vmem S128x64 .bf16) (harg6 : arg6.IsWhole) (arg7 : Memref sig .tc .vmem S128x1536 .i8) (harg7 : arg7.IsWhole) (arg8 : Memref sig .tc .vmem S128x192 .fp8e4m3) (harg8 : arg8.IsWhole) (arg9 : Memref sig .tc .vmem S3072x128 .bf16) (harg9 : arg9.IsWhole) (arg10 : Memref sig .tc .vmem S192x128 .f32) (harg10 : arg10.IsWhole)
    (x0 : Vec F S1 .f32) (x1 : Vec F S128x3072 .bf16) (x2 : Vec F S1x3072 .f32) (x3 : Vec F S3072x64 .bf16) (y : S128x192.Idx) :
    ∃ pc ∈ (kernelRun0_A c i arg1 harg1 arg2 harg2 arg3 harg3 arg4 harg4 arg5 harg5 arg6 harg6 arg7 harg7 arg8 harg8 arg9 harg9 arg10 harg10 x0 x1 x2 x3).2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 x0 x1 x2 x3).2.2.2.1 S128x192.size (by sl_kernel_rfl) y

/-- What the run leaves in output 7's staging buffer: its pieces read back over junk. -/
def out0_A_7 (c : Dev nD) (i : grid0.Coords) (arg1 : Memref sig .tc .smem S1 .f32) (harg1 : arg1.IsWhole) (arg2 : Memref sig .tc .vmem S128x3072 .bf16) (harg2 : arg2.IsWhole) (arg3 : Memref sig .tc .vmem S1x3072 .f32) (harg3 : arg3.IsWhole) (arg4 : Memref sig .tc .vmem S3072x64 .bf16) (harg4 : arg4.IsWhole) (arg5 : Memref sig .tc .vmem S128x3072 .bf16) (harg5 : arg5.IsWhole) (arg6 : Memref sig .tc .vmem S128x64 .bf16) (harg6 : arg6.IsWhole) (arg7 : Memref sig .tc .vmem S128x1536 .i8) (harg7 : arg7.IsWhole) (arg8 : Memref sig .tc .vmem S128x192 .fp8e4m3) (harg8 : arg8.IsWhole) (arg9 : Memref sig .tc .vmem S3072x128 .bf16) (harg9 : arg9.IsWhole) (arg10 : Memref sig .tc .vmem S192x128 .f32) (harg10 : arg10.IsWhole)
    (x0 : Vec F S1 .f32) (x1 : Vec F S128x3072 .bf16) (x2 : Vec F S1x3072 .f32) (x3 : Vec F S3072x64 .bf16) : Vec F S128x192 .fp8e4m3 :=
  VO0_7.read (Elt F) (VO0_7.writes (Elt F) VO0_7.junk (kernelRun0_A c i arg1 harg1 arg2 harg2 arg3 harg3 arg4 harg4 arg5 harg5 arg6 harg6 arg7 harg7 arg8 harg8 arg9 harg9 arg10 harg10 x0 x1 x2 x3).2.2.2.1)

/-! ## What the outputs hold after each point -/

/-- What the outputs' staging buffers hold after the body at point `t` (as a tuple, in window order): the run's contents at
    the point's memrefs and input blocks. -/
def outsAt0 (c : Dev nD) (t : Fin cfg0.N) : Vec F S128x3072 .bf16 × Vec F S128x64 .bf16 × Vec F S128x1536 .i8 × Vec F S128x192 .fp8e4m3 :=
  (out0_A_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (iblk0 V c 0 t) (iblk0 V c 1 t) (iblk0 V c 2 t) (iblk0 V c 3 t), out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (iblk0 V c 0 t) (iblk0 V c 1 t) (iblk0 V c 2 t) (iblk0 V c 3 t), out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (iblk0 V c 0 t) (iblk0 V c 1 t) (iblk0 V c 2 t) (iblk0 V c 3 t), out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (iblk0 V c 0 t) (iblk0 V c 1 t) (iblk0 V c 2 t) (iblk0 V c 3 t))

/-! ## The pipeline's proof data -/

/-- The proof data of pipeline 0 on core `c`: the arrays as the region finds them (`V`); after the body at
    point `t` each input's buffer at its block and the outputs' at `outsAt0`; the invariant the class's
    (Lib/Pipeline/Frame.lean `ΦA`: the scoped rest and the generator register); nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => (outsAt0 V c t).1
    | ⟨5, _⟩ => (outsAt0 V c t).2.1
    | ⟨6, _⟩ => (outsAt0 V c t).2.2.1
    | ⟨7, _⟩ => (outsAt0 V c t).2.2.2
  Φ _ := Pipeline.ΦA spec0 c
  q _ := fullShare
  owed _ := 0

/-- The proof data's arrays are the region-entry contents, by projecting the definition (`dsimp`): a region record cites
    this for its arrays rather than have Lean unfold `V`, the fold through @main up to the region's entry. -/
theorem A_eq0 (c : Dev nD) (w : Fin cfg0.W) : (dat0 V c).A w = V c (Pipeline.arrRef spec0 w) := by
  dsimp only [dat0]

/-- What the body leaves, window by window (the proof data's `match` reduced by `dsimp`). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = (outsAt0 V c t).1 := by dsimp only [dat0]
theorem after0_5 (c : Dev nD) (t : Fin cfg0.N) : (dat0 V c).after 5 t = (outsAt0 V c t).2.1 := by dsimp only [dat0]
theorem after0_6 (c : Dev nD) (t : Fin cfg0.N) : (dat0 V c).after 6 t = (outsAt0 V c t).2.2.1 := by dsimp only [dat0]
theorem after0_7 (c : Dev nD) (t : Fin cfg0.N) : (dat0 V c).after 7 t = (outsAt0 V c t).2.2.2 := by dsimp only [dat0]

/-- Each input's current staging buffer holds its block at every point, fetched there or not (`beforeK_W_of`). -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body obligation, at a generic point -/

/-- What the body is called with at point `t` (Lib/Pipeline.lean `BodyObligation`'s precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d)))

/-- and what it returns. -/
def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t)
    ∗ owns (c : Thread nD τ) (ms0_3 t) fullShare ((dat0 V c).after 3 t)
    ∗ owns (c : Thread nD τ) (ms0_4 t) fullShare ((dat0 V c).after 4 t)
    ∗ owns (c : Thread nD τ) (ms0_5 t) fullShare ((dat0 V c).after 5 t)
    ∗ owns (c : Thread nD τ) (ms0_6 t) fullShare ((dat0 V c).after 6 t)
    ∗ owns (c : Thread nD τ) (ms0_7 t) fullShare ((dat0 V c).after 7 t))

set_option maxHeartbeats 800000 in
/-- The body at any point: the inputs' memrefs hold their blocks (`before0_W`); so the
    run applies; the invariant hands the body its scratch buffers at some contents (and the generator register) and takes them back at some contents (`PhiA_eq`); the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7]
  rw [show (dat0 V c).Φ t.castSucc = Pipeline.ΦA spec0 c from rfl, PhiA0_eq]
  unfold outsAt0
  unfold out0_A_4 out0_A_5 out0_A_6 out0_A_7; (try dsimp only)
  iintro ⟨⟨⟨HS0, HS1, HR2, HR3, HR4, HR5, HR6, HR7, HR8, HR9, HR10, HR11, HR12, HR13, HR14, HR15, HR16, HR17, HR18⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((kernelRun0_A c (grid0.coords t) _ _ _ _ _ _ _ _ _ _ _ _ _ _ _ _ _ _ _ _ (iblk0 V c 0 t) (iblk0 V c 1 t) (iblk0 V c 2 t) (iblk0 V c 3 t)).2.2.2.2.2.2 Set.univ _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  isplitl [H7]; · iexists _; iexact H7
  isplitl [HS0]; · iexact HS0
  isplitl [HS1]; · iexact HS1
  iintro ⟨H0, H1, H2, H3, ⟨%e4, H4⟩, ⟨%e5, H5⟩, ⟨%e6, H6⟩, ⟨%e7, H7⟩, ⟨%fT0, HS0⟩, ⟨%fT1, HS1⟩⟩
  isplitl [HS0 HS1 HR2 HR3 HR4 HR5 HR6 HR7 HR8 HR9 HR10 HR11 HR12 HR13 HR14 HR15 HR16 HR17 HR18 Hg]
  · isplitl [HS0 HS1 HR2 HR3 HR4 HR5 HR6 HR7 HR8 HR9 HR10 HR11 HR12 HR13 HR14 HR15 HR16 HR17 HR18]
    · isplitl [HS0]
      · iexists _; unfold owns; iexists _; isplitr
        swap; · iexact HS0
        ipureintro; rfl
      isplitl [HS1]
      · iexists _; unfold owns; iexists _; isplitr
        swap; · iexact HS1
        ipureintro; rfl
      isplitl [HR2]
      · iexact HR2
      isplitl [HR3]
      · iexact HR3
      isplitl [HR4]
      · iexact HR4
      isplitl [HR5]
      · iexact HR5
      isplitl [HR6]
      · iexact HR6
      isplitl [HR7]
      · iexact HR7
      isplitl [HR8]
      · iexact HR8
      isplitl [HR9]
      · iexact HR9
      isplitl [HR10]
      · iexact HR10
      isplitl [HR11]
      · iexact HR11
      isplitl [HR12]
      · iexact HR12
      isplitl [HR13]
      · iexact HR13
      isplitl [HR14]
      · iexact HR14
      isplitl [HR15]
      · iexact HR15
      isplitl [HR16]
      · iexact HR16
      isplitl [HR17]
      · iexact HR17
      iexact HR18
    iexact Hg
  isplitl [Ho]; · iexact Ho
  isplitl [H0]; · iexact H0
  isplitl [H1]; · iexact H1
  isplitl [H2]; · iexact H2
  isplitl [H3]; · iexact H3
  isplitl [H4]
  · unfold owns; iexists _; isplitr
    swap; · iexact H4
    ipureintro; exact View.read_writes_of_cover _ _ _ _ _ (cover0_A_4 c _ _ _ _ _ _ _ _ _ _ _ _ _ _ _ _ _ _ _ _ _ _ _ _ _)
  isplitl [H5]
  · unfold owns; iexists _; isplitr
    swap; · iexact H5
    ipureintro; exact View.read_writes_of_cover _ _ _ _ _ (cover0_A_5 c _ _ _ _ _ _ _ _ _ _ _ _ _ _ _ _ _ _ _ _ _ _ _ _ _)
  isplitl [H6]
  · unfold owns; iexists _; isplitr
    swap; · iexact H6
    ipureintro; exact View.read_writes_of_cover _ _ _ _ _ (cover0_A_6 c _ _ _ _ _ _ _ _ _ _ _ _ _ _ _ _ _ _ _ _ _ _ _ _ _)
  unfold owns; iexists _; isplitr
  swap; · iexact H7
  ipureintro; exact View.read_writes_of_cover _ _ _ _ _ (cover0_A_7 c _ _ _ _ _ _ _ _ _ _ _ _ _ _ _ _ _ _ _ _ _ _ _ _ _)

/-- The body table's row at point `t`'s slots is the body as `bodyAt0` spells it. -/
theorem defs₀_row0 (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

end Cert.WholeIdeal.Work

end
-- ==== Proof.WholeIdealSecond.lean ====
/- The matrix-product call of the program WholeIdeal, at any contents of the buffers it is entered with: what its body
   stores in each of its two cases, what its output and the weight scratch it carries hold after each point, and that
   its body meets the pipeline's obligation. -/
module

public import proofs.«01_k».proof.Proof.WholeIdealFirst

@[expose] public section

set_option maxRecDepth 16384

noncomputable section

namespace Cert.WholeIdeal.Work

open Cert.WholeIdeal Cert.WholeIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the call is entered
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-! ## The kernel body on any staging memrefs: a subtype the run finds -/

/-- One staging buffer of output window 7, through which its contents are stated (`View.read_writes_of_cover`: the
    choice does not matter). -/
abbrev VO1_7 : View sig .tc .vmem S1024x1024 .bf16 := (Memref.whole cc1_stg7_0 : Memref sig .tc .vmem S1024x1024 .bf16).view
/-- Each window's current staging memref at point `t`, spelled as the pipeline passes it (`bodyAt1`), and its wholeness. -/
abbrev ms1_0 (t : Fin cfg1.N) : Memref sig .tc .smem S1 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x3072 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x64 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1536x1024 .i8 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S192x1024 .fp8e4m3 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S64x1024 .bf16 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S1x1024 .f32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S1024x1024 .bf16 := win1_7.stage (cfg1.slots t 7)
abbrev hs1_7 (t : Fin cfg1.N) : (ms1_7 t).IsWhole := hstage1_7 ((cfg1.slots t 7).cast nbuf1_7)
/-- The scratch operands: whole scoped buffers of the kernel's own, passed beside the windows. -/
abbrev scM1_0 : Memref sig .tc .vmem S3072x1024 .bf16 := Memref.whole cc1_scratch0
abbrev scM1_1 : Memref sig .tc .vmem S192x2x1024 .bf16 := Memref.whole cc1_scratch1

/-- The frame invariant with the scratch operands as memrefs owned at some contents (`Gen.scopedRest1_eq`,
    Lib/Memref.lean `owns_whole`): what the body obligation hands the run and takes back. -/
theorem PhiA1_eq (c : Dev nD) :
    (Pipeline.ΦA spec1 c : sProp 𝕄)
      = iprop(iprop((∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg7_1), ((c : Thread nD τ).loc cc0_stg7_1) ↦{fullShare} f) ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ (∃ d, owns (c : Thread nD τ) scM1_0 fullShare d) ∗ (∃ d, owns (c : Thread nD τ) scM1_1 fullShare d) ∗ (∃ f : Buf (Elt F) ((c : Thread nD τ).loc cc0_stg0_0), ((c : Thread nD τ).loc cc0_stg0_0) ↦{fullShare} f)) ∗ (∃ r, prngReg c r)) := by
  unfold Pipeline.ΦA; rw [scopedRest1_eq]; simp only [scM1_0, scM1_1, owns_whole]; try rfl

/-- The weight scratch, which the kernel carries between points, as a view: what it holds is stated through it. -/
abbrev VS1_0 : View sig .tc .vmem S3072x1024 .bf16 := scM1_0.view

/-- The scoped buffers that are neither this call's windows nor its scratches, at anything: all but the last. -/
abbrev restA (c : Dev nD) : sProp 𝕄 := iprop((∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg7_1), ((c : Thread nD τ).loc cc0_stg7_1) ↦{fullShare} f) ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f))
/-- The last of them. -/
abbrev restB (c : Dev nD) : sProp 𝕄 := iprop((∃ f : Buf (Elt F) ((c : Thread nD τ).loc cc0_stg0_0), ((c : Thread nD τ).loc cc0_stg0_0) ↦{fullShare} f))

/-- The invariant before the first point, its scratches apart. -/
theorem PhiA1_split (c : Dev nD) :
    (Pipeline.ΦA spec1 c : sProp 𝕄)
      ⊢ iprop(iprop(restA c ∗ (∃ d, owns (c : Thread nD τ) scM1_0 fullShare d) ∗ (∃ d, owns (c : Thread nD τ) scM1_1 fullShare d) ∗ restB c) ∗ (∃ r, prngReg c r)) := by
  rw [PhiA1_eq]
  iintro ⟨⟨HR0, HR1, HR2, HR3, HR4, HR5, HR6, HR7, HR8, HR9, HR10, HR11, HR12, HR13, HS0, HS1, HR16⟩, Hg⟩
  isplitr [Hg]
  · isplitr [HS0 HS1 HR16]
    · unfold restA; iframe
    isplitl [HS0]; · iexact HS0
    isplitl [HS1]; · iexact HS1
    iexact HR16
  iexact Hg

/-- And put together again. -/
theorem PhiA1_join (c : Dev nD) :
    iprop(iprop(restA c ∗ (∃ d, owns (c : Thread nD τ) scM1_0 fullShare d) ∗ (∃ d, owns (c : Thread nD τ) scM1_1 fullShare d) ∗ restB c) ∗ (∃ r, prngReg c r))
      ⊢ (Pipeline.ΦA spec1 c : sProp 𝕄) := by
  rw [PhiA1_eq]
  iintro ⟨⟨⟨HR0, HR1, HR2, HR3, HR4, HR5, HR6, HR7, HR8, HR9, HR10, HR11, HR12, HR13⟩, HS0, HS1, HR16⟩, Hg⟩
  isplitr [Hg]
  · iframe
  iexact Hg

/-! ## The body's branch conditions -/

/-- The condition of the body's `scf.if` 0 (`k1_h1`), from the grid coordinates (the skeleton's scalar
    chain substituted). -/
abbrev cond1_0 (i : grid1.Coords) : Prop := (Scalar.cmpi .ne (Scalar.extui (Scalar.cmpi .eq (BitVec.ofNat 32 (i 1).val) 0#32)) 0#32) = 1#1
/-- It holds at the points ≡ 0 (mod 8) — by arithmetic of the point. -/
theorem hcond1_0 : ∀ t : Fin cfg1.N, cond1_0 (grid1.coords t) ↔ t.val % 8 = 0 :=
  (fun t => by
    have ht : t.val < 168 := Nat.lt_of_lt_of_eq t.isLt N_1
    have e0 : (grid1.coords t 0).val = t.val / 8 % 21 := Pipeline.Grid.coords_val t 0 (by decide) rfl
    have e1 : (grid1.coords t 1).val = t.val / 1 % 8 := Pipeline.Grid.coords_val t 1 (by decide) rfl
    simp only [cond1_0, e0, e1]
    word_cmp
   : ∀ t : Fin grid1.N, cond1_0 (grid1.coords t) ↔ t.val % 8 = 0)

-- (the run's proof term is large: the definition's epilogue — `abstractNestedProofs` — walks it past the default budget)
set_option maxHeartbeats 4072000 in
/-- What the body's stores leave in each output's staging memref, as pieces (last first) IN CASE A (`scf.if` 0 taken: points 0, 8, … 160: 21 of 168), WITH the
    proof that on whole staging memrefs — the inputs' at their contents, the other outputs' at
    anything, a carried scratch at the contents the point before left (`xs·`) or at anything, the other scratch at anything, the body runs to the continuation holding the inputs' as they were,
    a carried scratch it stored into with its pieces written (`LS·`), a scratch it stored into and does not carry with its pieces (`LT·`) written over some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun1_A (c : Dev nD) (i : grid1.Coords) (arg2 : Memref sig .tc .smem S1 .f32) (harg2 : arg2.IsWhole) (arg3 : Memref sig .tc .vmem S1024x3072 .bf16) (harg3 : arg3.IsWhole) (arg4 : Memref sig .tc .vmem S1024x64 .bf16) (harg4 : arg4.IsWhole) (arg5 : Memref sig .tc .vmem S1536x1024 .i8) (harg5 : arg5.IsWhole) (arg6 : Memref sig .tc .vmem S192x1024 .fp8e4m3) (harg6 : arg6.IsWhole) (arg7 : Memref sig .tc .vmem S64x1024 .bf16) (harg7 : arg7.IsWhole) (arg8 : Memref sig .tc .vmem S1x1024 .f32) (harg8 : arg8.IsWhole) (arg9 : Memref sig .tc .vmem S1024x1024 .bf16) (harg9 : arg9.IsWhole) (arg10 : Memref sig .tc .vmem S3072x1024 .bf16) (harg10 : arg10.IsWhole) (arg11 : Memref sig .tc .vmem S192x2x1024 .bf16) (harg11 : arg11.IsWhole) (hc0 : cond1_0 i)
    (x0 : Vec F S1 .f32) (x1 : Vec F S1024x3072 .bf16) (x2 : Vec F S1024x64 .bf16) (x3 : Vec F S1536x1024 .i8) (x4 : Vec F S192x1024 .fp8e4m3) (x5 : Vec F S64x1024 .bf16) (x6 : Vec F S1x1024 .f32) :
    Σ' (L7 : List (View.Piece (Elt F) S1024x1024 .bf16)), Σ' (LS0 : List (View.Piece (Elt F) S3072x1024 .bf16)), { LT1 : List (View.Piece (Elt F) S192x2x1024 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LT1)) -∗ K ⟨⟩))
          ⊢ wp frame (wpE (defs₀ (F := F)) Variants.none c none) E (cc1_matmul i arg2 harg2 arg3 harg3 arg4 harg4 arg5 harg5 arg6 harg6 arg7 harg7 arg8 harg8 arg9 harg9 arg10 harg10 arg11 harg11) K } := by
  refine ⟨?_, ?_, ?_, fun E K => ?run⟩
  case run =>
    simp only [cc1_matmul_eq_skeleton]; unfold cc1_matmul_skel
    simp only [k1_part78_eq_skeleton, k1_part77_eq_skeleton, k1_part1_eq_skeleton, k1_part2_eq_skeleton, k1_part3_eq_skeleton, k1_part4_eq_skeleton, k1_part5_eq_skeleton, k1_part6_eq_skeleton, k1_part7_eq_skeleton, k1_part8_eq_skeleton, k1_part9_eq_skeleton, k1_part10_eq_skeleton, k1_part11_eq_skeleton, k1_part12_eq_skeleton, k1_part13_eq_skeleton, k1_part14_eq_skeleton, k1_part15_eq_skeleton, k1_part16_eq_skeleton, k1_part17_eq_skeleton, k1_part18_eq_skeleton, k1_part19_eq_skeleton, k1_part20_eq_skeleton, k1_part21_eq_skeleton, k1_part22_eq_skeleton, k1_part23_eq_skeleton, k1_part24_eq_skeleton, k1_part25_eq_skeleton, k1_part26_eq_skeleton, k1_part27_eq_skeleton, k1_part28_eq_skeleton, k1_part29_eq_skeleton, k1_part30_eq_skeleton, k1_part31_eq_skeleton, k1_part32_eq_skeleton, k1_part33_eq_skeleton, k1_part34_eq_skeleton, k1_part35_eq_skeleton, k1_part36_eq_skeleton, k1_part37_eq_skeleton, k1_part38_eq_skeleton, k1_part39_eq_skeleton, k1_part40_eq_skeleton, k1_part41_eq_skeleton, k1_part42_eq_skeleton, k1_part43_eq_skeleton, k1_part44_eq_skeleton, k1_part45_eq_skeleton, k1_part46_eq_skeleton, k1_part47_eq_skeleton, k1_part48_eq_skeleton, k1_part49_eq_skeleton, k1_part50_eq_skeleton, k1_part51_eq_skeleton, k1_part52_eq_skeleton, k1_part53_eq_skeleton, k1_part54_eq_skeleton, k1_part55_eq_skeleton, k1_part56_eq_skeleton, k1_part57_eq_skeleton, k1_part58_eq_skeleton, k1_part59_eq_skeleton, k1_part60_eq_skeleton, k1_part61_eq_skeleton, k1_part62_eq_skeleton, k1_part63_eq_skeleton, k1_part64_eq_skeleton, k1_part65_eq_skeleton, k1_part66_eq_skeleton, k1_part67_eq_skeleton, k1_part68_eq_skeleton, k1_part69_eq_skeleton, k1_part70_eq_skeleton, k1_part71_eq_skeleton, k1_part72_eq_skeleton, k1_part73_eq_skeleton, k1_part74_eq_skeleton, k1_part75_eq_skeleton, k1_part76_eq_skeleton, k1_part79_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]; · iexists _; iexact H7
    isplitl [HS0]; · iexists _; iexact HS0
    iexists _; iexact HS1

-- (the run's proof term is large: the definition's epilogue — `abstractNestedProofs` — walks it past the default budget)
set_option maxHeartbeats 1000000 in
/-- What the body's stores leave in each output's staging memref, as pieces (last first) IN CASE B (`scf.if` 0 not taken: points 1, 2, … 167: 147 of 168), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun1_B (c : Dev nD) (i : grid1.Coords) (arg2 : Memref sig .tc .smem S1 .f32) (harg2 : arg2.IsWhole) (arg3 : Memref sig .tc .vmem S1024x3072 .bf16) (harg3 : arg3.IsWhole) (arg4 : Memref sig .tc .vmem S1024x64 .bf16) (harg4 : arg4.IsWhole) (arg5 : Memref sig .tc .vmem S1536x1024 .i8) (harg5 : arg5.IsWhole) (arg6 : Memref sig .tc .vmem S192x1024 .fp8e4m3) (harg6 : arg6.IsWhole) (arg7 : Memref sig .tc .vmem S64x1024 .bf16) (harg7 : arg7.IsWhole) (arg8 : Memref sig .tc .vmem S1x1024 .f32) (harg8 : arg8.IsWhole) (arg9 : Memref sig .tc .vmem S1024x1024 .bf16) (harg9 : arg9.IsWhole) (arg10 : Memref sig .tc .vmem S3072x1024 .bf16) (harg10 : arg10.IsWhole) (arg11 : Memref sig .tc .vmem S192x2x1024 .bf16) (harg11 : arg11.IsWhole) (hc0 : ¬cond1_0 i)
    (x0 : Vec F S1 .f32) (x1 : Vec F S1024x3072 .bf16) (x2 : Vec F S1024x64 .bf16) (x3 : Vec F S1536x1024 .i8) (x4 : Vec F S192x1024 .fp8e4m3) (x5 : Vec F S64x1024 .bf16) (x6 : Vec F S1x1024 .f32) (xs0 : Vec F S3072x1024 .bf16) :
    Σ' (L7 : List (View.Piece (Elt F) S1024x1024 .bf16)), Σ' (LS0 : List (View.Piece (Elt F) S3072x1024 .bf16)), { LT1 : List (View.Piece (Elt F) S192x2x1024 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ owns (c : Thread nD τ) arg10 fullShare xs0 ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ f, arg9.view.loc (c : Thread nD τ) ↦[arg9.view.set]{fullShare} arg9.view.writes (Elt F) f L7) ∗ owns (c : Thread nD τ) arg10 fullShare xs0 ∗ (∃ d, owns (c : Thread nD τ) arg11 fullShare d)) -∗ K ⟨⟩))
          ⊢ wp frame (wpE (defs₀ (F := F)) Variants.none c none) E (cc1_matmul i arg2 harg2 arg3 harg3 arg4 harg4 arg5 harg5 arg6 harg6 arg7 harg7 arg8 harg8 arg9 harg9 arg10 harg10 arg11 harg11) K } := by
  refine ⟨?_, [], [], fun E K => ?run⟩
  case run =>
    simp only [cc1_matmul_eq_skeleton]; unfold cc1_matmul_skel
    simp only [k1_part78_eq_skeleton, k1_part79_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%fs0, %hfs0, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg10.eq_unread hfs0
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]; · iexists _; iexact H7
    isplitl [HS0]
    · iexists _; isplitr; · ipureintro; exact harg10.read_unread _
      iexact HS0
    iexists _, _; isplitr; swap; · iexact HS1
    ipureintro; rfl

/-- Case A's pieces for output 7 tile its block (4 stores of `S512x512`, checked by the kernel's evaluation: Lib/Ring.lean `Piece.tiledL`, linear in the pieces, through a loop's `@[irreducible]` trip theorem too), so they cover it. -/
theorem cover1_A_7 (c : Dev nD) (i : grid1.Coords) (arg2 : Memref sig .tc .smem S1 .f32) (harg2 : arg2.IsWhole) (arg3 : Memref sig .tc .vmem S1024x3072 .bf16) (harg3 : arg3.IsWhole) (arg4 : Memref sig .tc .vmem S1024x64 .bf16) (harg4 : arg4.IsWhole) (arg5 : Memref sig .tc .vmem S1536x1024 .i8) (harg5 : arg5.IsWhole) (arg6 : Memref sig .tc .vmem S192x1024 .fp8e4m3) (harg6 : arg6.IsWhole) (arg7 : Memref sig .tc .vmem S64x1024 .bf16) (harg7 : arg7.IsWhole) (arg8 : Memref sig .tc .vmem S1x1024 .f32) (harg8 : arg8.IsWhole) (arg9 : Memref sig .tc .vmem S1024x1024 .bf16) (harg9 : arg9.IsWhole) (arg10 : Memref sig .tc .vmem S3072x1024 .bf16) (harg10 : arg10.IsWhole) (arg11 : Memref sig .tc .vmem S192x2x1024 .bf16) (harg11 : arg11.IsWhole) (hc0 : cond1_0 i)
    (x0 : Vec F S1 .f32) (x1 : Vec F S1024x3072 .bf16) (x2 : Vec F S1024x64 .bf16) (x3 : Vec F S1536x1024 .i8) (x4 : Vec F S192x1024 .fp8e4m3) (x5 : Vec F S64x1024 .bf16) (x6 : Vec F S1x1024 .f32) (y : S1024x1024.Idx) :
    ∃ pc ∈ (kernelRun1_A c i arg2 harg2 arg3 harg3 arg4 harg4 arg5 harg5 arg6 harg6 arg7 harg7 arg8 harg8 arg9 harg9 arg10 harg10 arg11 harg11 hc0 x0 x1 x2 x3 x4 x5 x6).1, y ∈ pc.1.set :=
  View.cover_of_tiledL (kernelRun1_A c i arg2 harg2 arg3 harg3 arg4 harg4 arg5 harg5 arg6 harg6 arg7 harg7 arg8 harg8 arg9 harg9 arg10 harg10 arg11 harg11 hc0 x0 x1 x2 x3 x4 x5 x6).1 S512x512.size (by sl_kernel_rfl) y

/-- What case A leaves in output 7's staging buffer: its pieces read back over junk. -/
def out1_A_7 (c : Dev nD) (i : grid1.Coords) (arg2 : Memref sig .tc .smem S1 .f32) (harg2 : arg2.IsWhole) (arg3 : Memref sig .tc .vmem S1024x3072 .bf16) (harg3 : arg3.IsWhole) (arg4 : Memref sig .tc .vmem S1024x64 .bf16) (harg4 : arg4.IsWhole) (arg5 : Memref sig .tc .vmem S1536x1024 .i8) (harg5 : arg5.IsWhole) (arg6 : Memref sig .tc .vmem S192x1024 .fp8e4m3) (harg6 : arg6.IsWhole) (arg7 : Memref sig .tc .vmem S64x1024 .bf16) (harg7 : arg7.IsWhole) (arg8 : Memref sig .tc .vmem S1x1024 .f32) (harg8 : arg8.IsWhole) (arg9 : Memref sig .tc .vmem S1024x1024 .bf16) (harg9 : arg9.IsWhole) (arg10 : Memref sig .tc .vmem S3072x1024 .bf16) (harg10 : arg10.IsWhole) (arg11 : Memref sig .tc .vmem S192x2x1024 .bf16) (harg11 : arg11.IsWhole) (hc0 : cond1_0 i)
    (x0 : Vec F S1 .f32) (x1 : Vec F S1024x3072 .bf16) (x2 : Vec F S1024x64 .bf16) (x3 : Vec F S1536x1024 .i8) (x4 : Vec F S192x1024 .fp8e4m3) (x5 : Vec F S64x1024 .bf16) (x6 : Vec F S1x1024 .f32) : Vec F S1024x1024 .bf16 :=
  VO1_7.read (Elt F) (VO1_7.writes (Elt F) VO1_7.junk (kernelRun1_A c i arg2 harg2 arg3 harg3 arg4 harg4 arg5 harg5 arg6 harg6 arg7 harg7 arg8 harg8 arg9 harg9 arg10 harg10 arg11 harg11 hc0 x0 x1 x2 x3 x4 x5 x6).1)

/-- Case A's pieces for scratch `arg10`, which the kernel carries between points, cover it: 192 pieces of `S16x1024` tiling it (Lib/Ring.lean `Piece.tiledL`). -/
theorem scover1_A_0 (c : Dev nD) (i : grid1.Coords) (arg2 : Memref sig .tc .smem S1 .f32) (harg2 : arg2.IsWhole) (arg3 : Memref sig .tc .vmem S1024x3072 .bf16) (harg3 : arg3.IsWhole) (arg4 : Memref sig .tc .vmem S1024x64 .bf16) (harg4 : arg4.IsWhole) (arg5 : Memref sig .tc .vmem S1536x1024 .i8) (harg5 : arg5.IsWhole) (arg6 : Memref sig .tc .vmem S192x1024 .fp8e4m3) (harg6 : arg6.IsWhole) (arg7 : Memref sig .tc .vmem S64x1024 .bf16) (harg7 : arg7.IsWhole) (arg8 : Memref sig .tc .vmem S1x1024 .f32) (harg8 : arg8.IsWhole) (arg9 : Memref sig .tc .vmem S1024x1024 .bf16) (harg9 : arg9.IsWhole) (arg10 : Memref sig .tc .vmem S3072x1024 .bf16) (harg10 : arg10.IsWhole) (arg11 : Memref sig .tc .vmem S192x2x1024 .bf16) (harg11 : arg11.IsWhole) (hc0 : cond1_0 i)
    (x0 : Vec F S1 .f32) (x1 : Vec F S1024x3072 .bf16) (x2 : Vec F S1024x64 .bf16) (x3 : Vec F S1536x1024 .i8) (x4 : Vec F S192x1024 .fp8e4m3) (x5 : Vec F S64x1024 .bf16) (x6 : Vec F S1x1024 .f32) (y : S3072x1024.Idx) :
    ∃ pc ∈ (kernelRun1_A c i arg2 harg2 arg3 harg3 arg4 harg4 arg5 harg5 arg6 harg6 arg7 harg7 arg8 harg8 arg9 harg9 arg10 harg10 arg11 harg11 hc0 x0 x1 x2 x3 x4 x5 x6).2.1, y ∈ pc.1.set :=
  View.cover_of_tiledL (kernelRun1_A c i arg2 harg2 arg3 harg3 arg4 harg4 arg5 harg5 arg6 harg6 arg7 harg7 arg8 harg8 arg9 harg9 arg10 harg10 arg11 harg11 hc0 x0 x1 x2 x3 x4 x5 x6).2.1 S16x1024.size (by sl_kernel_rfl) y

/-- What case A leaves in scratch `arg10`: its pieces read back over junk. -/
def sout1_A_0 (c : Dev nD) (i : grid1.Coords) (arg2 : Memref sig .tc .smem S1 .f32) (harg2 : arg2.IsWhole) (arg3 : Memref sig .tc .vmem S1024x3072 .bf16) (harg3 : arg3.IsWhole) (arg4 : Memref sig .tc .vmem S1024x64 .bf16) (harg4 : arg4.IsWhole) (arg5 : Memref sig .tc .vmem S1536x1024 .i8) (harg5 : arg5.IsWhole) (arg6 : Memref sig .tc .vmem S192x1024 .fp8e4m3) (harg6 : arg6.IsWhole) (arg7 : Memref sig .tc .vmem S64x1024 .bf16) (harg7 : arg7.IsWhole) (arg8 : Memref sig .tc .vmem S1x1024 .f32) (harg8 : arg8.IsWhole) (arg9 : Memref sig .tc .vmem S1024x1024 .bf16) (harg9 : arg9.IsWhole) (arg10 : Memref sig .tc .vmem S3072x1024 .bf16) (harg10 : arg10.IsWhole) (arg11 : Memref sig .tc .vmem S192x2x1024 .bf16) (harg11 : arg11.IsWhole) (hc0 : cond1_0 i)
    (x0 : Vec F S1 .f32) (x1 : Vec F S1024x3072 .bf16) (x2 : Vec F S1024x64 .bf16) (x3 : Vec F S1536x1024 .i8) (x4 : Vec F S192x1024 .fp8e4m3) (x5 : Vec F S64x1024 .bf16) (x6 : Vec F S1x1024 .f32) : Vec F S3072x1024 .bf16 :=
  VS1_0.read (Elt F) (VS1_0.writes (Elt F) VS1_0.junk (kernelRun1_A c i arg2 harg2 arg3 harg3 arg4 harg4 arg5 harg5 arg6 harg6 arg7 harg7 arg8 harg8 arg9 harg9 arg10 harg10 arg11 harg11 hc0 x0 x1 x2 x3 x4 x5 x6).2.1)

/-- Case B's pieces for output 7 tile its block (4 stores of `S512x512`, checked by the kernel's evaluation: Lib/Ring.lean `Piece.tiledL`, linear in the pieces, through a loop's `@[irreducible]` trip theorem too), so they cover it. -/
theorem cover1_B_7 (c : Dev nD) (i : grid1.Coords) (arg2 : Memref sig .tc .smem S1 .f32) (harg2 : arg2.IsWhole) (arg3 : Memref sig .tc .vmem S1024x3072 .bf16) (harg3 : arg3.IsWhole) (arg4 : Memref sig .tc .vmem S1024x64 .bf16) (harg4 : arg4.IsWhole) (arg5 : Memref sig .tc .vmem S1536x1024 .i8) (harg5 : arg5.IsWhole) (arg6 : Memref sig .tc .vmem S192x1024 .fp8e4m3) (harg6 : arg6.IsWhole) (arg7 : Memref sig .tc .vmem S64x1024 .bf16) (harg7 : arg7.IsWhole) (arg8 : Memref sig .tc .vmem S1x1024 .f32) (harg8 : arg8.IsWhole) (arg9 : Memref sig .tc .vmem S1024x1024 .bf16) (harg9 : arg9.IsWhole) (arg10 : Memref sig .tc .vmem S3072x1024 .bf16) (harg10 : arg10.IsWhole) (arg11 : Memref sig .tc .vmem S192x2x1024 .bf16) (harg11 : arg11.IsWhole) (hc0 : ¬cond1_0 i)
    (x0 : Vec F S1 .f32) (x1 : Vec F S1024x3072 .bf16) (x2 : Vec F S1024x64 .bf16) (x3 : Vec F S1536x1024 .i8) (x4 : Vec F S192x1024 .fp8e4m3) (x5 : Vec F S64x1024 .bf16) (x6 : Vec F S1x1024 .f32) (xs0 : Vec F S3072x1024 .bf16) (y : S1024x1024.Idx) :
    ∃ pc ∈ (kernelRun1_B c i arg2 harg2 arg3 harg3 arg4 harg4 arg5 harg5 arg6 harg6 arg7 harg7 arg8 harg8 arg9 harg9 arg10 harg10 arg11 harg11 hc0 x0 x1 x2 x3 x4 x5 x6 xs0).1, y ∈ pc.1.set :=
  View.cover_of_tiledL (kernelRun1_B c i arg2 harg2 arg3 harg3 arg4 harg4 arg5 harg5 arg6 harg6 arg7 harg7 arg8 harg8 arg9 harg9 arg10 harg10 arg11 harg11 hc0 x0 x1 x2 x3 x4 x5 x6 xs0).1 S512x512.size (by sl_kernel_rfl) y

/-- What case B leaves in output 7's staging buffer: its pieces read back over junk. -/
def out1_B_7 (c : Dev nD) (i : grid1.Coords) (arg2 : Memref sig .tc .smem S1 .f32) (harg2 : arg2.IsWhole) (arg3 : Memref sig .tc .vmem S1024x3072 .bf16) (harg3 : arg3.IsWhole) (arg4 : Memref sig .tc .vmem S1024x64 .bf16) (harg4 : arg4.IsWhole) (arg5 : Memref sig .tc .vmem S1536x1024 .i8) (harg5 : arg5.IsWhole) (arg6 : Memref sig .tc .vmem S192x1024 .fp8e4m3) (harg6 : arg6.IsWhole) (arg7 : Memref sig .tc .vmem S64x1024 .bf16) (harg7 : arg7.IsWhole) (arg8 : Memref sig .tc .vmem S1x1024 .f32) (harg8 : arg8.IsWhole) (arg9 : Memref sig .tc .vmem S1024x1024 .bf16) (harg9 : arg9.IsWhole) (arg10 : Memref sig .tc .vmem S3072x1024 .bf16) (harg10 : arg10.IsWhole) (arg11 : Memref sig .tc .vmem S192x2x1024 .bf16) (harg11 : arg11.IsWhole) (hc0 : ¬cond1_0 i)
    (x0 : Vec F S1 .f32) (x1 : Vec F S1024x3072 .bf16) (x2 : Vec F S1024x64 .bf16) (x3 : Vec F S1536x1024 .i8) (x4 : Vec F S192x1024 .fp8e4m3) (x5 : Vec F S64x1024 .bf16) (x6 : Vec F S1x1024 .f32) (xs0 : Vec F S3072x1024 .bf16) : Vec F S1024x1024 .bf16 :=
  VO1_7.read (Elt F) (VO1_7.writes (Elt F) VO1_7.junk (kernelRun1_B c i arg2 harg2 arg3 harg3 arg4 harg4 arg5 harg5 arg6 harg6 arg7 harg7 arg8 harg8 arg9 harg9 arg10 harg10 arg11 harg11 hc0 x0 x1 x2 x3 x4 x5 x6 xs0).1)

/-- Case B stores nothing into scratch `arg10`: it holds what the point before left. -/
def sout1_B_0 (c : Dev nD) (i : grid1.Coords) (arg2 : Memref sig .tc .smem S1 .f32) (harg2 : arg2.IsWhole) (arg3 : Memref sig .tc .vmem S1024x3072 .bf16) (harg3 : arg3.IsWhole) (arg4 : Memref sig .tc .vmem S1024x64 .bf16) (harg4 : arg4.IsWhole) (arg5 : Memref sig .tc .vmem S1536x1024 .i8) (harg5 : arg5.IsWhole) (arg6 : Memref sig .tc .vmem S192x1024 .fp8e4m3) (harg6 : arg6.IsWhole) (arg7 : Memref sig .tc .vmem S64x1024 .bf16) (harg7 : arg7.IsWhole) (arg8 : Memref sig .tc .vmem S1x1024 .f32) (harg8 : arg8.IsWhole) (arg9 : Memref sig .tc .vmem S1024x1024 .bf16) (harg9 : arg9.IsWhole) (arg10 : Memref sig .tc .vmem S3072x1024 .bf16) (harg10 : arg10.IsWhole) (arg11 : Memref sig .tc .vmem S192x2x1024 .bf16) (harg11 : arg11.IsWhole) (hc0 : ¬cond1_0 i)
    (x0 : Vec F S1 .f32) (x1 : Vec F S1024x3072 .bf16) (x2 : Vec F S1024x64 .bf16) (x3 : Vec F S1536x1024 .i8) (x4 : Vec F S192x1024 .fp8e4m3) (x5 : Vec F S64x1024 .bf16) (x6 : Vec F S1x1024 .f32) (xs0 : Vec F S3072x1024 .bf16) : Vec F S3072x1024 .bf16 := xs0

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before1_W_κ`). An assignment of the conditions no point meets is no case (`False.elim`). -/
def outsAt1 (c : Dev nD) : (n : ℕ) → n < cfg1.N → Vec F S1024x1024 .bf16 × Vec F S3072x1024 .bf16
  | 0, hn => (out1_A_7 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) scM1_0 (Memref.isWhole_whole _) scM1_1 (Memref.isWhole_whole _) ((hcond1_0 ⟨0, hn⟩).mpr (Nat.zero_mod _)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩) (iblk1 V c 6 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) scM1_0 (Memref.isWhole_whole _) scM1_1 (Memref.isWhole_whole _) ((hcond1_0 ⟨0, hn⟩).mpr (Nat.zero_mod _)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩) (iblk1 V c 6 ⟨0, hn⟩))
  | n + 1, hn =>
    if h0 : (n + 1) % 8 = 0 then
      (out1_A_7 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) scM1_0 (Memref.isWhole_whole _) scM1_1 (Memref.isWhole_whole _) ((hcond1_0 ⟨n + 1, hn⟩).mpr h0) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) scM1_0 (Memref.isWhole_whole _) scM1_1 (Memref.isWhole_whole _) ((hcond1_0 ⟨n + 1, hn⟩).mpr h0) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩))
    else
      (out1_B_7 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) scM1_0 (Memref.isWhole_whole _) scM1_1 (Memref.isWhole_whole _) (fun h => h0 ((hcond1_0 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (outsAt1 c n (Nat.lt_of_succ_lt hn)).2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) scM1_0 (Memref.isWhole_whole _) scM1_1 (Memref.isWhole_whole _) (fun h => h0 ((hcond1_0 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (outsAt1 c n (Nat.lt_of_succ_lt hn)).2)

/-- `outsAt1` at a point of case A: that case's contents. -/
theorem outsAt1_A (c : Dev nD) (t : Fin cfg1.N) (h0 : t.val % 8 = 0) :
    outsAt1 V c t.val t.isLt = (out1_A_7 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) ((hcond1_0 t).mpr h0) (iblk1 V c 0 t) (iblk1 V c 1 t) (iblk1 V c 2 t) (iblk1 V c 3 t) (iblk1 V c 4 t) (iblk1 V c 5 t) (iblk1 V c 6 t), sout1_A_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) ((hcond1_0 t).mpr h0) (iblk1 V c 0 t) (iblk1 V c 1 t) (iblk1 V c 2 t) (iblk1 V c 3 t) (iblk1 V c 4 t) (iblk1 V c 5 t) (iblk1 V c 6 t)) := by
  obtain ⟨n, hn⟩ := t
  cases n with
  | zero => exact rfl
  | succ n => exact (dif_pos h0).trans rfl

/-- `outsAt1` at a point of case B: that case's contents, over what the point before left. -/
theorem outsAt1_B (c : Dev nD) (t : Fin cfg1.N) (h0 : ¬t.val % 8 = 0) :
    outsAt1 V c t.val t.isLt = (out1_B_7 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) (fun h => h0 ((hcond1_0 t).mp h)) (iblk1 V c 0 t) (iblk1 V c 1 t) (iblk1 V c 2 t) (iblk1 V c 3 t) (iblk1 V c 4 t) (iblk1 V c 5 t) (iblk1 V c 6 t) (outsAt1 V c (t.val - 1) (Nat.lt_of_le_of_lt (Nat.sub_le _ _) t.isLt)).2, sout1_B_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) (fun h => h0 ((hcond1_0 t).mp h)) (iblk1 V c 0 t) (iblk1 V c 1 t) (iblk1 V c 2 t) (iblk1 V c 3 t) (iblk1 V c 4 t) (iblk1 V c 5 t) (iblk1 V c 6 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-- The region invariant before position `n` with a scratch the kernel CARRIES between points: before the first point the
    class's (Lib/Pipeline/Frame.lean `ΦA`: every scratch at anything); afterwards the scoped rest with each carried scratch
    at what the point before left in it (`outsAt1`'s scratch components), the others at anything, and the generator register
    at some state. -/
def PhiS (c : Dev nD) : (n : ℕ) → n ≤ cfg1.N → sProp 𝕄
  | 0, _ => Pipeline.ΦA spec1 c
  | n + 1, hn => iprop(iprop(restA c ∗ owns (c : Thread nD τ) scM1_0 fullShare ((outsAt1 V c n hn).2) ∗ (∃ d, owns (c : Thread nD τ) scM1_1 fullShare d) ∗ restB c) ∗ (∃ r, prngReg c r))

theorem PhiS_zero (c : Dev nD) (n : ℕ) (h : n ≤ cfg1.N) (hz : n = 0) : PhiS V c n h = Pipeline.ΦA spec1 c := by
  subst hz; rfl

/-- After point `n` (before point `n + 1`): the carried scratch at that point's contents. -/
theorem PhiS_succ (c : Dev nD) (n : ℕ) (hn : n < cfg1.N) :
    PhiS V c (n + 1) hn = iprop(iprop(restA c ∗ owns (c : Thread nD τ) scM1_0 fullShare ((outsAt1 V c n hn).2) ∗ (∃ d, owns (c : Thread nD τ) scM1_1 fullShare d) ∗ restB c) ∗ (∃ r, prngReg c r)) := rfl

/-- Before a point that is not the first: the carried scratch at what the point before left. -/
theorem PhiS_pos (c : Dev nD) (n : ℕ) (h : n ≤ cfg1.N) (hz : n ≠ 0) :
    PhiS V c n h = iprop(iprop(restA c ∗ owns (c : Thread nD τ) scM1_0 fullShare ((outsAt1 V c (n - 1) (by omega)).2) ∗ (∃ d, owns (c : Thread nD τ) scM1_1 fullShare d) ∗ restB c) ∗ (∃ r, prngReg c r)) := by
  cases n with
  | zero => exact absurd rfl hz
  | succ n => rfl

/-! ## The pipeline's proof data -/

/-- The proof data of the one pipeline on core `c`: the arrays as the region finds them (`V`); after the body at
    point `t` each input's buffer at its block and the outputs' at `outsAt1`; the invariant the class's
    (`PhiS`: the class's `ΦA` before the first point, then the scoped rest with the carried scratch at `outsAt1`'s component);
    nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => (outsAt1 V c t.val t.isLt).1
  Φ t := PhiS V c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq1 (c : Dev nD) (w : Fin cfg1.W) : (dat1 V c).A w = V c (Pipeline.arrRef spec1 w) := by
  dsimp only [dat1]

/-- The invariant at a point's start (the proof data at `t.castSucc`), restated at `t.val`. -/
theorem PhiS_castSucc (c : Dev nD) (t : Fin cfg1.N) :
    (dat1 V c).Φ t.castSucc = PhiS V c t.val (Nat.le_of_lt t.isLt) := by
  dsimp only [dat1]; exact Pipeline.Dat.Φ_castSucc (PhiS V c) t

/-- What the body leaves, window by window (the proof data's `match` reduced by `dsimp`). -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = (outsAt1 V c t.val t.isLt).1 := by dsimp only [dat1]

/-- Each input's current staging buffer holds its block at every point, fetched there or not (`beforeK_W_of`). -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d

/-! ## The body obligation, at a generic point -/

/-- What the body is called with at point `t` (Lib/Pipeline.lean `BodyObligation`'s precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d)))

/-- and what it returns. -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t)
    ∗ owns (c : Thread nD τ) (ms1_5 t) fullShare ((dat1 V c).after 5 t)
    ∗ owns (c : Thread nD τ) (ms1_6 t) fullShare ((dat1 V c).after 6 t)
    ∗ owns (c : Thread nD τ) (ms1_7 t) fullShare ((dat1 V c).after 7 t))

set_option maxHeartbeats 6400000 in
/-- The body at any point: the inputs' memrefs hold their blocks (`before1_W`); the closed forms say which case the point is in (`by_cases`), an output the case reads before covering holds what the point before left (`before1_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).owesAt () t.succ = (dat1 V c).owesAt () t.castSucc from rfl,
    after1_0, after1_1, after1_2, after1_3, after1_4, after1_5, after1_6, after1_7]
  rw [show (dat1 V c).Φ t.succ = PhiS V c (t.val + 1) t.isLt from rfl, PhiS_succ]
  have hN : t.val < 168 := lt_of_lt_of_eq t.isLt (show cfg1.N = 168 from N_1)
  by_cases h0 : t.val % 8 = 0
  · by_cases hz : t.val = 0
    · rw [PhiS_castSucc V c t, PhiS_zero V c _ _ hz]
      rw [outsAt1_A V c t h0]
      unfold out1_A_7 sout1_A_0; (try dsimp only)
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
      ihave HΦ2 := (PhiA1_split c) $$ HΦ
      icases HΦ2 with ⟨⟨HRA, HS0, HS1, HRB⟩, Hg⟩
      iapply ((kernelRun1_A c (grid1.coords t) _ _ _ _ _ _ _ _ _ _ _ _ _ _ _ _ _ _ _ _ ((hcond1_0 t).mpr h0) (iblk1 V c 0 t) (iblk1 V c 1 t) (iblk1 V c 2 t) (iblk1 V c 3 t) (iblk1 V c 4 t) (iblk1 V c 5 t) (iblk1 V c 6 t)).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [HS0]; · iexact HS0
      isplitl [HS1]; · iexact HS1
      iintro ⟨H0, H1, H2, H3, H4, H5, H6, ⟨%e7, H7⟩, ⟨%es0, HS0⟩, ⟨%fT1, HS1⟩⟩
      isplitl [HRA HRB HS0 HS1 Hg]
      · isplitl [HRA HRB HS0 HS1]
        · isplitl [HRA]; · iexact HRA
          isplitl [HS0]
          · unfold owns; iexists _; isplitr
            swap; · iexact HS0
            ipureintro; exact View.read_writes_of_cover _ _ _ _ _ (scover1_A_0 c _ _ _ _ _ _ _ _ _ _ _ _ _ _ _ _ _ _ _ _ _ _ _ _ _ _ _ _ _)
          isplitr [HRB]
          · iexists _; unfold owns; iexists _; isplitr
            swap; · iexact HS1
            ipureintro; rfl
          iexact HRB
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      unfold owns; iexists _; isplitr
      swap; · iexact H7
      ipureintro; exact View.read_writes_of_cover _ _ _ _ _ (cover1_A_7 c _ _ _ _ _ _ _ _ _ _ _ _ _ _ _ _ _ _ _ _ _ _ _ _ _ _ _ _ _)
    · rw [PhiS_castSucc V c t, PhiS_pos V c _ _ hz]
      rw [outsAt1_A V c t h0]
      unfold out1_A_7 sout1_A_0; (try dsimp only)
      iintro ⟨⟨⟨HRA, HS0, HS1, HRB⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun1_A c (grid1.coords t) _ _ _ _ _ _ _ _ _ _ _ _ _ _ _ _ _ _ _ _ ((hcond1_0 t).mpr h0) (iblk1 V c 0 t) (iblk1 V c 1 t) (iblk1 V c 2 t) (iblk1 V c 3 t) (iblk1 V c 4 t) (iblk1 V c 5 t) (iblk1 V c 6 t)).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [HS0]; · iexists _; iexact HS0
      isplitl [HS1]; · iexact HS1
      iintro ⟨H0, H1, H2, H3, H4, H5, H6, ⟨%e7, H7⟩, ⟨%es0, HS0⟩, ⟨%fT1, HS1⟩⟩
      isplitl [HRA HRB HS0 HS1 Hg]
      · isplitl [HRA HRB HS0 HS1]
        · isplitl [HRA]; · iexact HRA
          isplitl [HS0]
          · unfold owns; iexists _; isplitr
            swap; · iexact HS0
            ipureintro; exact View.read_writes_of_cover _ _ _ _ _ (scover1_A_0 c _ _ _ _ _ _ _ _ _ _ _ _ _ _ _ _ _ _ _ _ _ _ _ _ _ _ _ _ _)
          isplitr [HRB]
          · iexists _; unfold owns; iexists _; isplitr
            swap; · iexact HS1
            ipureintro; rfl
          iexact HRB
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      unfold owns; iexists _; isplitr
      swap; · iexact H7
      ipureintro; exact View.read_writes_of_cover _ _ _ _ _ (cover1_A_7 c _ _ _ _ _ _ _ _ _ _ _ _ _ _ _ _ _ _ _ _ _ _ _ _ _ _ _ _ _)
  · by_cases hz : t.val = 0
    · exfalso; have hN : t.val < 168 := lt_of_lt_of_eq t.isLt (show cfg1.N = 168 from N_1); omega
    · rw [PhiS_castSucc V c t, PhiS_pos V c _ _ hz]
      rw [outsAt1_B V c t h0]
      unfold out1_B_7 sout1_B_0; (try dsimp only)
      iintro ⟨⟨⟨HRA, HS0, HS1, HRB⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun1_B c (grid1.coords t) _ _ _ _ _ _ _ _ _ _ _ _ _ _ _ _ _ _ _ _ (fun h => h0 ((hcond1_0 t).mp h)) (iblk1 V c 0 t) (iblk1 V c 1 t) (iblk1 V c 2 t) (iblk1 V c 3 t) (iblk1 V c 4 t) (iblk1 V c 5 t) (iblk1 V c 6 t) _).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [HS0]; · iexact HS0
      isplitl [HS1]; · iexact HS1
      iintro ⟨H0, H1, H2, H3, H4, H5, H6, ⟨%e7, H7⟩, HS0, HS1⟩
      isplitl [HRA HRB HS0 HS1 Hg]
      · isplitl [HRA HRB HS0 HS1]
        · isplitl [HRA]; · iexact HRA
          isplitl [HS0]
          · iexact HS0
          isplitl [HS1]; · iexact HS1
          iexact HRB
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      unfold owns; iexists _; isplitr
      swap; · iexact H7
      ipureintro; exact View.read_writes_of_cover _ _ _ _ _ (cover1_B_7 c _ _ _ _ _ _ _ _ _ _ _ _ _ _ _ _ _ _ _ _ _ _ _ _ _ _ _ _ _ _)

/-- The body table's row at point `t`'s slots is the body as `bodyAt1` spells it. -/
theorem defs₀_row1 (t : Fin cfg1.N) :
    defs₀ (F := F) .tc cfg1.body (cfg1.bodyArgs t (cfg1.slots t)) = bodyAt1 t := by
  unfold defs₀; rw [Defs.onTc_tc]

/-- The library's body obligation, at every point: the body's triple restated (Lib/Pipeline/FrameBody.lean `triple_restated`). -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

/-- What the call is entered with is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After the last point the invariant gives back what the call was entered with: what the scratch holds is forgotten. -/
theorem hout1 (c : Dev nD) : (dat1 V c).Φ (Fin.last cfg1.N) ⊢ Pipeline.ΦA spec1 c := by
  rw [show (dat1 V c).Φ (Fin.last cfg1.N) = PhiS V c (Fin.last cfg1.N).val (Nat.le_of_lt_succ (Fin.last cfg1.N).isLt) from rfl,
    PhiS_pos V c _ _ (by rw [Fin.val_last]; have : cfg1.N = 168 := N_1; omega)]
  iintro ⟨⟨HRA, HS0, HS1, HRB⟩, Hg⟩
  iapply (PhiA1_join c)
  isplitr [Hg]
  · isplitl [HRA]; · iexact HRA
    isplitl [HS0]; · iexists _; iexact HS0
    isplitl [HS1]; · iexact HS1
    iexact HRB
  iexact Hg

end Cert.WholeIdeal.Work

end
-- ==== Proof.WholeIdealRun.lean ====
/- The program WholeIdeal from its launch to its return: its stretches of host operations and its two calls in order, the
   contents of the buffers at each boundary, and the frame. -/
module

public import proofs.«01_k».proof.Proof.WholeIdealSecond

@[expose] public section

set_option maxRecDepth 16384

noncomputable section

namespace Cert.WholeIdeal.Work

open Cert.WholeIdeal Cert.WholeIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # THE RUN: @main's segments from the launch to the return (Lib/Pipeline/Regions.lean `θ_run_regions_kit`) -/

/-- @main's argument arrays, as TensorCore references: what the frame claim reads back. -/
abbrev argRefs : List (Ref sig .tc) := [main_arg0, main_arg1, main_arg2, main_arg3, main_arg4, main_arg5, main_arg6, main_arg7, main_arg8]

/-! ## The host stretches: none allocates a buffer, and each lists the references its operations write, in order,
    so that a reference absent from the list keeps its contents across the stretch (Lib/StableHlo/Run.lean
    `after_of_writes_sub`) -/

/-- No operation of `hostOps0` allocates a buffer. -/
theorem hostOps0_fresh : (hostOps0 : List (HloOp τ sig (Elt F))).Forall fun op => op.fresh = ∅ := by
  simp only [List.Forall]; repeat' constructor
/-- The reference each operation of `hostOps0` writes, in order. -/
abbrev hostOps0_W : List (Ref sig .tc) := [main_v0, main_v1, main_v2]
theorem hostOps0_writes : (hostOps0 : List (HloOp τ sig (Elt F))).Forall fun op => op.writes ⊆ (hostOps0_W.map (Proc.devRef (τ := τ) .tc)).toFinset :=
  StableHlo.forall_writes_sub_of_map rfl
/-- `hostOps0` writes none of the argument arrays (checked: each argument against each reference it writes). -/
theorem hostOps0_args : ∀ a ∈ argRefs, a ∉ hostOps0_W := ListAll.forall_mem_of_all_decide (by decide +kernel)

/-- No operation of `hostOps1` allocates a buffer. -/
theorem hostOps1_fresh : (hostOps1 : List (HloOp τ sig (Elt F))).Forall fun op => op.fresh = ∅ := by
  simp only [List.Forall]; repeat' constructor
/-- The reference each operation of `hostOps1` writes, in order. -/
abbrev hostOps1_W : List (Ref sig .tc) := [main_v4, main_v5, main_v6]
theorem hostOps1_writes : (hostOps1 : List (HloOp τ sig (Elt F))).Forall fun op => op.writes ⊆ (hostOps1_W.map (Proc.devRef (τ := τ) .tc)).toFinset :=
  StableHlo.forall_writes_sub_of_map rfl
/-- `hostOps1` writes none of the argument arrays (checked: each argument against each reference it writes). -/
theorem hostOps1_args : ∀ a ∈ argRefs, a ∉ hostOps1_W := ListAll.forall_mem_of_all_decide (by decide +kernel)

/-! ## The buffer contents at each segment boundary: a fold through @main, and what each item leaves unchanged -/

/-- Core `c`'s buffers at launch. -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- After `hostOps0` (region 0's entry). -/
abbrev W1 : Dev nD → Valuation τ sig (Elt F) := fun c => StableHlo.after hostOps0 (W0 m ρ c)
/-- A reference `hostOps0` does not write keeps its contents across it. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
/-- The same read at the TensorCore's references (what region 0's proof data take). -/
abbrev V1 : (c : Dev nD) → (b : Ref sig .tc) → Buf (Elt F) ((c : Thread nD τ).loc b) := fun c b => W1 m ρ c b
/-- At region 0's exit: its arrays at what the pipeline leaves (the inputs as entered, each output's write-backs
    folded: `Dat.arrAt … N`), every other buffer as entered (Lib/Pipeline/FrameSuffix.lean `withArrays`). -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- A reference that is none of region 0's OUTPUT arrays keeps its entry contents across it: an input window's
    array is never written back (`Dat.arrAt_in`, `A_eq0`); any other buffer is left as is. -/
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
/-- Every argument among region 0's arrays is an input window's (checked: each argument against each window). -/
theorem argsIn0 : ∀ a ∈ argRefs, ∀ w : Fin cfg0.W, Pipeline.arrRef spec0 w = a → (cfg0.win w).isOut = false :=
  ListAll.forall_mem_of_all_decide (by decide +kernel)
theorem W2_args (c : Dev nD) : ∀ a ∈ argRefs, W2 m ρ c (Proc.devRef .tc a) = m ((c : Thread nD τ).loc a) :=
  fun a ha => (W2_of m ρ c a (argsIn0 a ha)).trans (W1_args m ρ c a ha)
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves (`hF0`) and every other buffer what it
    held at entry (`hrest0`): the two hypotheses of Lib/Pipeline/RegionsLoop.lean `unscopedBufs_of_arrays`. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After `hostOps1` (region 1's entry). -/
abbrev W3 : Dev nD → Valuation τ sig (Elt F) := fun c => StableHlo.after hostOps1 (W2 m ρ c)
/-- A reference `hostOps1` does not write keeps its contents across it. -/
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h
theorem W3_args (c : Dev nD) : ∀ a ∈ argRefs, W3 m ρ c (Proc.devRef .tc a) = m ((c : Thread nD τ).loc a) :=
  fun a ha => (W3_of m ρ c a (hostOps1_args a ha)).trans (W2_args m ρ c a ha)
/-- The same read at the TensorCore's references (what region 1's proof data take). -/
abbrev V3 : (c : Dev nD) → (b : Ref sig .tc) → Buf (Elt F) ((c : Thread nD τ).loc b) := fun c b => W3 m ρ c b
/-- At region 1's exit: its arrays at what the pipeline leaves (the inputs as entered, each output's write-backs
    folded: `Dat.arrAt … N`), every other buffer as entered (Lib/Pipeline/FrameSuffix.lean `withArrays`). -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- A reference that is none of region 1's OUTPUT arrays keeps its entry contents across it: an input window's
    array is never written back (`Dat.arrAt_in`, `A_eq1`); any other buffer is left as is. -/
theorem W4_of (c : Dev nD) (r : Ref sig .tc) (h : ∀ w : Fin cfg1.W, Pipeline.arrRef spec1 w = r → (cfg1.win w).isOut = false) :
    W4 m ρ c (Proc.devRef .tc r) = W3 m ρ c (Proc.devRef .tc r) := by
  by_cases hw : ∃ w : Fin cfg1.W, Pipeline.arrRef spec1 w = r
  · obtain ⟨w, rfl⟩ := hw
    exact (W4_arr m ρ c w).trans (((dat1 (V3 m ρ) c).arrAt_in w (h w rfl) _).trans (A_eq1 (V3 m ρ) c w))
  · exact W4_of_ne m ρ c r fun w e => hw ⟨w, e⟩
/-- Every argument among region 1's arrays is an input window's (checked: each argument against each window). -/
theorem argsIn1 : ∀ a ∈ argRefs, ∀ w : Fin cfg1.W, Pipeline.arrRef spec1 w = a → (cfg1.win w).isOut = false :=
  ListAll.forall_mem_of_all_decide (by decide +kernel)
theorem W4_args (c : Dev nD) : ∀ a ∈ argRefs, W4 m ρ c (Proc.devRef .tc a) = m ((c : Thread nD τ).loc a) :=
  fun a ha => (W4_of m ρ c a (argsIn1 a ha)).trans (W3_args m ρ c a ha)
/-- The same read at the TensorCore's references (region 1's exit contents). -/
abbrev V4 : (c : Dev nD) → (b : Ref sig .tc) → Buf (Elt F) ((c : Thread nD τ).loc b) := fun c b => W4 m ρ c b
/-- At region 1's exit each of its arrays holds what the pipeline leaves (`hF1`) and every other buffer what it
    held at entry (`hrest1`): the two hypotheses of Lib/Pipeline/RegionsLoop.lean `unscopedBufs_of_arrays`. -/
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-! ### The arguments end as launched: no host stretch writes one and no region may change one (a region reads it
    through an input window or bypasses it) -/

theorem W4_main_arg0 (c : Dev nD) : W4 m ρ c (Proc.devRef .tc main_arg0) = m ((c : Thread nD τ).loc main_arg0) :=
  W4_args m ρ c main_arg0 (by decide)
theorem W4_main_arg1 (c : Dev nD) : W4 m ρ c (Proc.devRef .tc main_arg1) = m ((c : Thread nD τ).loc main_arg1) :=
  W4_args m ρ c main_arg1 (by decide)
theorem W4_main_arg2 (c : Dev nD) : W4 m ρ c (Proc.devRef .tc main_arg2) = m ((c : Thread nD τ).loc main_arg2) :=
  W4_args m ρ c main_arg2 (by decide)
theorem W4_main_arg3 (c : Dev nD) : W4 m ρ c (Proc.devRef .tc main_arg3) = m ((c : Thread nD τ).loc main_arg3) :=
  W4_args m ρ c main_arg3 (by decide)
theorem W4_main_arg4 (c : Dev nD) : W4 m ρ c (Proc.devRef .tc main_arg4) = m ((c : Thread nD τ).loc main_arg4) :=
  W4_args m ρ c main_arg4 (by decide)
theorem W4_main_arg5 (c : Dev nD) : W4 m ρ c (Proc.devRef .tc main_arg5) = m ((c : Thread nD τ).loc main_arg5) :=
  W4_args m ρ c main_arg5 (by decide)
theorem W4_main_arg6 (c : Dev nD) : W4 m ρ c (Proc.devRef .tc main_arg6) = m ((c : Thread nD τ).loc main_arg6) :=
  W4_args m ρ c main_arg6 (by decide)
theorem W4_main_arg7 (c : Dev nD) : W4 m ρ c (Proc.devRef .tc main_arg7) = m ((c : Thread nD τ).loc main_arg7) :=
  W4_args m ρ c main_arg7 (by decide)
theorem W4_main_arg8 (c : Dev nD) : W4 m ρ c (Proc.devRef .tc main_arg8) = m ((c : Thread nD τ).loc main_arg8) :=
  W4_args m ρ c main_arg8 (by decide)

/-! ## The proof data family and the thread state -/

/-- The prefetched tables' admissible contents: no pipeline has a table. -/
abbrev adm : (p : Fin 2) → (pcfgs (F := F) p).Adm := fun p => (cfgs p).toPCfg_adm
/-- Every pipeline's proof data, each at its region's entry contents — a literal `match`, so that
    `Pipeline.pin pcfgs adm p` at a numeral reduces to the printed configuration. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (the class-A
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the chain of segments ends at it BESIDE the core owing nothing): every unscoped
    buffer at the last boundary's contents `W4`, the generator register at some state. -/
abbrev Tₙ (c : Dev nD) : sProp 𝕄 := iprop(StableHlo.held (c : Thread nD τ) (Pipeline.ucRefs τ sig) (W4 m ρ c) ∗ ∃ r, prngReg c r)

/-! ## The regions as segments -/

-- `iapply` of a library lemma stated over `pin pcs a p` unifies with the pinned configuration only when unification may
-- unfold plain definitions in a metavariable's type
set_option backward.isDefEq.respectTransparency.types false in
/-- REGION 0 (the quantising call) over the thread state: entered from every unscoped buffer at `W1`, left at `W2`
    (what the next segment is entered from). Its arrays split out of the unscoped buffers
    (`arrays_of_unscopedBufs`) and put back at the exit contents (`unscopedBufs_of_arrays`); the generator register into the
    class invariant `ΦA` and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 1 (the matrix-product call) over the thread state: entered from every unscoped buffer at `W3`, left at `W4`
    (what the launch reads at the end). Its arrays split out of the unscoped buffers
    (`arrays_of_unscopedBufs`) and put back at the exit contents (`unscopedBufs_of_arrays`); the generator register into the
    class invariant `ΦA` and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) (A_eq1 (V3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (V3 m ρ) c); unfold Pipeline.ΦA
    iintro ⟨Hp, -, Hr⟩
    isplitl [Hr]; · iexact Hr
    iexact Hp
  hout c := by
    rw [Pipeline.ownSems0_none]; refine BIBase.Entails.trans (hout1 (V3 m ρ) c) ?_; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's 4 segments in order: a host segment per stretch from its boundary's contents, a region per pallas_call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]
/-- @main IS the run of the segments: `Gen.main_chain`, then the segments' run against that chain by the kernel's
    definitional check (`chain_rfl`). -/
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide

set_option backward.isDefEq.respectTransparency.types false in
/-- Every fair execution of the program ends, with every buffer that outlives the calls at the last boundary's contents
    and every semaphore counter at zero. -/
theorem run_all : θ_run defs (onTc (τ := τ) (main (F := F))) ⟨m, fun _ => 0, ρ⟩ (fun r => (∀ c : Dev nD, ∀ b ∈ Pipeline.ucRefs τ sig, r.2.mem (((c : Thread nD τ)).1, b) = W4 m ρ c b)
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz => ⟨h, funext fun g => hz g (.inr (no_unscoped g.2))⟩)

/-- The frame: every fair execution of the program ends, with the argument arrays as launched and every semaphore
    counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  (θ_run defs _ _).mono (fun _ hr => ⟨fun c =>
      ⟨(hr.1 c _ (mem_uc main_arg0 (by decide))).trans (W4_main_arg0 m ρ c),
       (hr.1 c _ (mem_uc main_arg1 (by decide))).trans (W4_main_arg1 m ρ c),
       (hr.1 c _ (mem_uc main_arg2 (by decide))).trans (W4_main_arg2 m ρ c),
       (hr.1 c _ (mem_uc main_arg3 (by decide))).trans (W4_main_arg3 m ρ c),
       (hr.1 c _ (mem_uc main_arg4 (by decide))).trans (W4_main_arg4 m ρ c),
       (hr.1 c _ (mem_uc main_arg5 (by decide))).trans (W4_main_arg5 m ρ c),
       (hr.1 c _ (mem_uc main_arg6 (by decide))).trans (W4_main_arg6 m ρ c),
       (hr.1 c _ (mem_uc main_arg7 (by decide))).trans (W4_main_arg7 m ρ c),
       (hr.1 c _ (mem_uc main_arg8 (by decide))).trans (W4_main_arg8 m ρ c)⟩, hr.2⟩) (run_all m ρ)

end Cert.WholeIdeal.Work

end
-- ==== Proof.MmPieces.lean ====
/- The weight scratch of the matrix-product call after its dequantising pass: the 192 stores the body makes are the
   values of one recursion over the 48 groups of 32 packed rows. -/
module

public import proofs.«01_k».proof.Proof.WholeIdealSecond

@[expose] public section

set_option maxRecDepth 65536

noncomputable section

namespace Cert.WholeIdeal.Matmul

open Cert.WholeIdeal Cert.WholeIdeal.Gen Cert.WholeIdeal.Work Idealize.ShloMosaic Idealize.ShloMosaic.TcCoe Idealize.SL.Sem

variable {F : FTy → Type} [FloatOps F]

/-- The packed bytes of 32 rows as words. -/
def words (b : Vec F S32x1024 .i8) : IVec S8x1024 32 := bitcast S8x1024 32 b bitcasts_S32x1024_w8_S8x1024_w32

/-- The fp8 bytes of the low nibbles of packed bytes: sign to bit 7, magnitude to bits 2–4. -/
def bytesLo (b : Vec F S32x1024 .i8) : IVec S8x1024 32 :=
  ori (andi (shli (words b) (broadcast S8x1024 4#32)) (broadcast S8x1024 2155905152#32))
    (andi (shli (words b) (broadcast S8x1024 2#32)) (broadcast S8x1024 471604252#32))

/-- The fp8 bytes of the high nibbles of packed bytes. -/
def bytesHi (b : Vec F S32x1024 .i8) : IVec S8x1024 32 :=
  ori (andi (words b) (broadcast S8x1024 2155905152#32))
    (andi (shrui (words b) (broadcast S8x1024 2#32)) (broadcast S8x1024 471604252#32))

/-- The bytes read as fp8 and widened. -/
def decoded (w : IVec S8x1024 32) : FVec F S32x1024 .bf16 :=
  extf .bf16 (bitcastToFloat .fp8e4m3 (bitcast S32x1024 8 w bitcasts_S8x1024_w32_S32x1024_w8)) bitsLt_fp8e4m3_bf16

/-- Eight copies of one row. -/
def copies (x : FVec F S1x1024 .bf16) : FVec F S8x1024 .bf16 :=
  concatenate S8x1024 0 [⟨S1x1024, x⟩, ⟨S1x1024, x⟩, ⟨S1x1024, x⟩, ⟨S1x1024, x⟩, ⟨S1x1024, x⟩, ⟨S1x1024, x⟩, ⟨S1x1024, x⟩, ⟨S1x1024, x⟩]
    concatenates_S1x1024_S1x1024_S1x1024_S1x1024_S1x1024_S1x1024_S1x1024_S1x1024_S8x1024_d0

/-- One row of scales (held as a pair of equal rows) at each of sixteen rows. -/
def scaleRows (p : Vec F S1x2x1024 .bf16) : FVec F S16x1024 .bf16 :=
  interleaveRows S16x1024
    (copies (shapeCast S1x1024 (rowsOfParity 0 S1x1x1024 p bitcasts_S1x2x1024_w16_S1x1x1024_w32) shapeCasts_S1x1x1024_S1x1024))
    (copies (shapeCast S1x1024 (rowsOfParity 1 S1x1x1024 p bitcasts_S1x2x1024_w16_S1x1x1024_w32) shapeCasts_S1x1x1024_S1x1024))
    bitcasts_S16x1024_w16_S8x1024_w32

/-- The first sixteen rows of a group, scaled. -/
def rows0 (d : FVec F S32x1024 .bf16) (p : Vec F S1x2x1024 .bf16) : FVec F S16x1024 .bf16 :=
  shapeCast S16x1024 (mulf (extractStridedSlice S16x1024 ![0, 0] d slices_S32x1024_o0_0_S16x1024) (scaleRows p)) shapeCasts_S16x1024_S16x1024

/-- The last sixteen rows of a group, scaled. -/
def rows16 (d : FVec F S32x1024 .bf16) (p : Vec F S1x2x1024 .bf16) : FVec F S16x1024 .bf16 :=
  shapeCast S16x1024 (mulf (extractStridedSlice S16x1024 ![16, 0] d slices_S32x1024_o16_0_S16x1024) (scaleRows p)) shapeCasts_S16x1024_S16x1024

theorem inbB (r : ℕ) (h : r + 32 ≤ 1536) : ∀ a, ![r, 0] a + S32x1024.size a ≤ S1536x1024.size a := fun a =>
  match a with | ⟨0, _⟩ => h | ⟨1, _⟩ => Nat.le_refl 1024

theorem inbP (r : ℕ) (h : r + 1 ≤ 192) : ∀ a, ![r, 0, 0] a + S1x2x1024.size a ≤ S192x2x1024.size a := fun a =>
  match a with | ⟨0, _⟩ => h | ⟨1, _⟩ => Nat.le_refl 2 | ⟨2, _⟩ => Nat.le_refl 1024

theorem inbW (r : ℕ) (h : r + 16 ≤ 3072) : ∀ a, ![r, 0] a + S16x1024.size a ≤ S3072x1024.size a := fun a =>
  match a with | ⟨0, _⟩ => h | ⟨1, _⟩ => Nat.le_refl 1024

section
variable (B : (r : ℕ) → r + 32 ≤ 1536 → Vec F S32x1024 .i8) (P : (r : ℕ) → r + 1 ≤ 192 → Vec F S1x2x1024 .bf16)

/-- The stores of the first `n` groups of 32 packed rows, last first: `B` gives the group's bytes, `P` a row of scales. -/
def pieces : (n : ℕ) → n ≤ 48 → List (View.Piece (Elt F) S3072x1024 .bf16)
  | 0, _ => []
  | n + 1, h =>
    ⟨Rect.unit (s := S3072x1024) ![1536 + 32 * n + 16, 0] S16x1024.size (inbW _ (by omega)), rows16 (decoded (bytesHi (B (32 * n) (by omega)))) (P (96 + 2 * n + 1) (by omega))⟩ ::
    ⟨Rect.unit (s := S3072x1024) ![1536 + 32 * n, 0] S16x1024.size (inbW _ (by omega)), rows0 (decoded (bytesHi (B (32 * n) (by omega)))) (P (96 + 2 * n) (by omega))⟩ ::
    ⟨Rect.unit (s := S3072x1024) ![32 * n + 16, 0] S16x1024.size (inbW _ (by omega)), rows16 (decoded (bytesLo (B (32 * n) (by omega)))) (P (2 * n + 1) (by omega))⟩ ::
    ⟨Rect.unit (s := S3072x1024) ![32 * n, 0] S16x1024.size (inbW _ (by omega)), rows0 (decoded (bytesLo (B (32 * n) (by omega)))) (P (2 * n) (by omega))⟩ ::
    pieces n (by omega)
end

/-- The stores the body makes into the weight scratch are these. -/
theorem stores_eq (c : Dev nD) (arg5 : Memref sig .tc .vmem S1536x1024 .i8) (harg5 : arg5.IsWhole) (arg6 : Memref sig .tc .vmem S192x1024 .fp8e4m3) (harg6 : arg6.IsWhole) (arg11 : Memref sig .tc .vmem S192x2x1024 .bf16)
    (x3 : Vec F S1536x1024 .i8) (x4 : Vec F S192x1024 .fp8e4m3) :
    kernelRun1_A.sl.HS0_192 c arg5 harg5 arg6 harg6 arg11 x3 x4
      = pieces (fun r h => View.readAt (Elt F) arg5.view (Rect.unit (s := S1536x1024) ![r, 0] S32x1024.size (inbB r h)).toLoadRect (harg5.unread x3))
          (fun r h => arg11.view.readCov (kernelRun1_A.sl.HS1_1 c arg6 harg6 x4) (Rect.unit (s := S192x2x1024) ![r, 0, 0] S1x2x1024.size (inbP r h)).toLoadRect) 48 (le_refl 48) := by
  unfold kernelRun1_A.sl.HS0_192
  rfl

end Cert.WholeIdeal.Matmul

end
-- ==== Proof.Codes.lean ====
/- The four-bit codes: what a byte of two packed codes holds, the fp8 byte each code is turned into, and the number it
   stands for. -/
module

public import Idealize.ShloMosaic.Lib.BitcastFour
public import Idealize.ShloMosaic.Lib.IdealHost
public import Mathlib.Tactic.IntervalCases

@[expose] public section

noncomputable section

namespace Cert.Codes

open Idealize.ShloMosaic Idealize.ShloMosaic.ValueIdx

/-- The magnitude a code's low three bits stand for. -/
def mag (c : BitVec 4) : ℝ :=
  if c.getLsbD 2 then (if c.getLsbD 1 then (if c.getLsbD 0 then 6 else 4) else (if c.getLsbD 0 then 3 else 2))
  else (if c.getLsbD 1 then (if c.getLsbD 0 then 3 / 2 else 1) else (if c.getLsbD 0 then 1 / 2 else 0))

/-- The number a code stands for: its top bit is the sign. -/
def num (c : BitVec 4) : ℝ := if c.getLsbD 3 then 0 - mag c else mag c

/-- The low and the high code of a byte. -/
def lo (b : BitVec 8) : BitVec 4 := b.extractLsb' 0 4
def hi (b : BitVec 8) : BitVec 4 := b.extractLsb' 4 4

/-- The fp8 byte of a byte's low code, and of its high code. -/
def byteLo (b : BitVec 8) : BitVec 8 := ((b <<< 4) &&& 0x80#8) ||| ((b <<< 2) &&& 0x1c#8)
def byteHi (b : BitVec 8) : BitVec 8 := (b &&& 0x80#8) ||| ((b >>> 2) &&& 0x1c#8)

/-- The fp8 byte of a code. -/
def byte (c : BitVec 4) : BitVec 8 := byteLo (c.setWidth 8)

theorem byteLo_eq : ∀ b : BitVec 8, byteLo b = byte (lo b) := by decide +kernel
theorem byteHi_eq : ∀ b : BitVec 8, byteHi b = byte (hi b) := by decide +kernel

/-- The fp8 byte of a code is its number divided by 64. -/
theorem ofBits_byte (c : BitVec 4) : Ideal.ofBits .fp8e4m3 (byte c) = ((num c / 64 : ℝ) : EReal) := by
  obtain ⟨n, hn⟩ := c
  have hn' : n < 16 := hn
  interval_cases n <;>
    simp [Ideal.ofBits, Ideal.e4m3fn, byte, byteLo, num, mag, BitVec.getLsbD, BitVec.toNat, -EReal.coe_mul, -EReal.coe_neg, -EReal.coe_sub] <;>
    norm_num [Nat.testBit, Nat.shiftRight_eq_div_pow]

/-- The extended real 64 from its f32 pattern. -/
theorem ofBits_64 : Ideal.ofBits .f32 0x42800000#32 = ((64 : ℝ) : EReal) := by
  simp [Ideal.ofBits, Ideal.ieee, -EReal.coe_mul]; norm_num

/-- A code's fp8 byte times a scale multiplied by 64 is the code's number times the scale. -/
theorem byte_mul (c : BitVec 4) (s : EReal) :
    Ideal.ofBits .fp8e4m3 (byte c) * (s * Ideal.ofBits .f32 0x42800000#32) = ((num c : ℝ) : EReal) * s := by
  rw [ofBits_byte, ofBits_64, mul_comm s, ← mul_assoc, ← EReal.coe_mul]
  congr 2
  ring

section Lanes

variable {R r n : Nat}

/-- A map of words that acts on each byte alone, applied to the words of a byte array and read as bytes again, is the
    byte's map. -/
theorem lanes (f : BitVec 32 → BitVec 32) (g : BitVec 8 → BitVec 8)
    (hf : ∀ (w : BitVec 32) (q : Nat), q < 32 → (f w).getLsbD q = (g (w.extractLsb' (8 * (q / 8)) 8)).getLsbD (q % 8))
    (b : (⟨2, ![R, n]⟩ : Shape).Idx → BitVec 8) (h : (⟨2, ![R, n]⟩ : Shape).Bitcasts 8 ⟨2, ![r, n]⟩ 32)
    (h' : (⟨2, ![r, n]⟩ : Shape).Bitcasts 32 ⟨2, ![R, n]⟩ 8) (i : (⟨2, ![R, n]⟩ : Shape).Idx) :
    bitcast ⟨2, ![R, n]⟩ 8 (fun j => f (bitcast ⟨2, ![r, n]⟩ 32 b h j)) h' i = g (b i) := by
  obtain ⟨a, l, rfl⟩ : ∃ (a : Fin R) (l : Fin n), i = ix2 a l := ⟨i 0, i 1, eq_ix2 i⟩
  have hR : R * 8 = r * 32 := by simpa using h.2.2 ⟨0, Nat.zero_lt_two⟩
  have ha := a.isLt
  apply BitVec.eq_of_getLsbD_eq
  intro q hq
  rw [bitcast_getLsbD _ h' _ q hq (by decide)]
  have hrow : (⟨2, ![R, n]⟩ : Shape).row (ix2 a l) = a.val := rfl
  set J := h'.srcIdx (ix2 a l) _ _ with hJ
  have hJ0 : (J 0).val = a.val / 4 := by
    rw [hJ]
    refine (h'.srcIdx_row _ _ _ ⟨0, Nat.zero_lt_two⟩ rfl).trans ?_
    rw [hrow]; omega
  have hJ1 : J 1 = l := Fin.ext (h'.srcIdx_other _ _ _ ⟨1, Nat.one_lt_two⟩ (by show ¬ 1 + 2 = 2; omega))
  have hr : a.val / 4 < r := by omega
  have hJ' : J = ix2 ⟨a.val / 4, hr⟩ l := by
    rw [eq_ix2 J, hJ1]; congr 1; exact Fin.ext hJ0
  rw [hJ', hf _ _ (by omega), hrow]
  have e1 : (a.val * 8 + q) % 32 / 8 = a.val % 4 := by omega
  have e2 : (a.val * 8 + q) % 32 % 8 = q := by omega
  rw [e1, e2]
  congr 2
  apply BitVec.eq_of_getLsbD_eq
  intro p hp
  rw [BitVec.getLsbD_extractLsb', bitcast_8_32_getLsbD_ix2 b h ⟨a.val / 4, hr⟩ l (8 * (a.val % 4) + p) (by omega) a (by show a.val = 4 * (a.val / 4) + (8 * (a.val % 4) + p) / 8; omega)]
  simp only [hp, decide_true, Bool.true_and]
  congr 1
  omega

/-- The low codes' word map acts on each byte alone. -/
theorem wordLo (w : BitVec 32) (q : Nat) (hq : q < 32) :
    (((w <<< 4) &&& 2155905152#32) ||| ((w <<< 2) &&& 471604252#32)).getLsbD q
      = (byteLo (w.extractLsb' (8 * (q / 8)) 8)).getLsbD (q % 8) := by
  interval_cases q <;> simp [byteLo, BitVec.getLsbD_extractLsb'] <;> simp [BitVec.getLsbD, Nat.testBit]

/-- The high codes' word map acts on each byte alone. -/
theorem wordHi (w : BitVec 32) (q : Nat) (hq : q < 32) :
    ((w &&& 2155905152#32) ||| ((w >>> 2) &&& 471604252#32)).getLsbD q
      = (byteHi (w.extractLsb' (8 * (q / 8)) 8)).getLsbD (q % 8) := by
  interval_cases q <;> simp [byteHi, BitVec.getLsbD_extractLsb'] <;> simp [BitVec.getLsbD, Nat.testBit]

end Lanes

end Cert.Codes

end
-- ==== Proof.MmWeights.lean ====
/- The weight scratch over the extended reals: after the dequantising pass it holds, at row `k` and column `c`, the
   number of the packed code there times the scale of the code's block of sixteen rows. -/
module

public import proofs.«01_k».proof.Proof.MmPieces
public import proofs.«01_k».proof.Proof.Codes
public import Idealize.ShloMosaic.Lib.Pointwise
public import Idealize.ShloMosaic.Lib.Pipeline.ValueKit

@[expose] public section

set_option maxRecDepth 65536

noncomputable section

namespace Cert.Codes

open Idealize.ShloMosaic

/-- The code of row `k`, column `c`: rows below 1536 are the bytes' low codes, the others the high codes. -/
def code {n : Nat} (X : (⟨2, ![1536, n]⟩ : Shape).Idx → BitVec 8) (k : Fin 3072) (c : Fin n) : BitVec 4 :=
  if h : k.val < 1536 then lo (X (ix2 ⟨k.val, h⟩ c)) else hi (X (ix2 ⟨k.val - 1536, by omega⟩ c))

/-- The weight of row `k`, column `c`: the code's number times its block's scale. -/
def weight {n : Nat} (X : (⟨2, ![1536, n]⟩ : Shape).Idx → BitVec 8) (S : (⟨2, ![192, n]⟩ : Shape).Idx → EReal)
    (k : Fin 3072) (c : Fin n) : EReal :=
  ((num (code X k c) : ℝ) : EReal) * S (ix2 ⟨k.val / 16, by omega⟩ c)

/-- A weight of the first 1536 rows, from the low code. -/
theorem weight_lo {n : ℕ} (X : (⟨2, ![1536, n]⟩ : Shape).Idx → BitVec 8) (S : (⟨2, ![192, n]⟩ : Shape).Idx → EReal) (k : Fin 3072) (c d : Fin n) (a : Fin 1536) (r : Fin 192) (hc : c = d)
    (ha : k.val = a.val) (hr : r.val = k.val / 16) : weight X S k c = ((num (lo (X (ix2 a d))) : ℝ) : EReal) * S (ix2 r d) := by
  subst hc
  have h : k.val < 1536 := by omega
  unfold weight code
  rw [dif_pos h, show (⟨k.val, h⟩ : Fin 1536) = a from Fin.ext ha, show (⟨k.val / 16, _⟩ : Fin 192) = r from Fin.ext hr.symm]

/-- A weight of the other rows, from the high code. -/
theorem weight_hi {n : ℕ} (X : (⟨2, ![1536, n]⟩ : Shape).Idx → BitVec 8) (S : (⟨2, ![192, n]⟩ : Shape).Idx → EReal) (k : Fin 3072) (c d : Fin n) (a : Fin 1536) (r : Fin 192) (hc : c = d)
    (ha : k.val = 1536 + a.val) (hr : r.val = k.val / 16) : weight X S k c = ((num (hi (X (ix2 a d))) : ℝ) : EReal) * S (ix2 r d) := by
  subst hc
  have h : ¬ k.val < 1536 := by omega
  unfold weight code
  rw [dif_neg h, show (⟨k.val - 1536, _⟩ : Fin 1536) = a from Fin.ext (by show k.val - 1536 = a.val; omega),
    show (⟨k.val / 16, _⟩ : Fin 192) = r from Fin.ext hr.symm]

end Cert.Codes

namespace Cert.WholeIdeal.Matmul

open Cert.WholeIdeal Cert.WholeIdeal.Gen Cert.WholeIdeal.Work Idealize.ShloMosaic Idealize.ShloMosaic.TcCoe Idealize.SL.Sem
open Cert.Codes

/-- The low codes' bytes, read as fp8. -/
theorem decodedLo_apply (b : Vec Ideal S32x1024 .i8) (i : S32x1024.Idx) :
    decoded (F := Ideal) (bytesLo (F := Ideal) b) i = Ideal.ofBits .fp8e4m3 (byte (lo (b i))) := by
  rw [← byteLo_eq]
  refine Eq.trans ?_ (congrArg (Ideal.ofBits .fp8e4m3)
    (lanes (fun w => ((w <<< 4) &&& 2155905152#32) ||| ((w <<< 2) &&& 471604252#32)) byteLo wordLo b
      bitcasts_S32x1024_w8_S8x1024_w32 bitcasts_S8x1024_w32_S32x1024_w8 i))
  have hw : ∀ j, bytesLo (F := Ideal) b j = (((words (F := Ideal) b j) <<< 4) &&& 2155905152#32) ||| (((words (F := Ideal) b j) <<< 2) &&& 471604252#32) := fun j => by
    simp [bytesLo, ori, andi, shli, IntOp.ori, IntOp.andi, IntOp.shli, broadcast]
  rw [show bytesLo (F := Ideal) b = _ from funext hw]; rfl

/-- The high codes' bytes, read as fp8. -/
theorem decodedHi_apply (b : Vec Ideal S32x1024 .i8) (i : S32x1024.Idx) :
    decoded (F := Ideal) (bytesHi (F := Ideal) b) i = Ideal.ofBits .fp8e4m3 (byte (hi (b i))) := by
  rw [← byteHi_eq]
  refine Eq.trans ?_ (congrArg (Ideal.ofBits .fp8e4m3)
    (lanes (fun w => (w &&& 2155905152#32) ||| ((w >>> 2) &&& 471604252#32)) byteHi wordHi b
      bitcasts_S32x1024_w8_S8x1024_w32 bitcasts_S8x1024_w32_S32x1024_w8 i))
  have hw : ∀ j, bytesHi (F := Ideal) b j = ((words (F := Ideal) b j) &&& 2155905152#32) ||| (((words (F := Ideal) b j) >>> 2) &&& 471604252#32) := fun j => by
    simp [bytesHi, ori, andi, shrui, IntOp.ori, IntOp.andi, IntOp.shrui, broadcast]
  rw [show bytesHi (F := Ideal) b = _ from funext hw]; rfl

/-- Eight copies of a row hold the row's element in every row. -/
theorem copies_apply (x : FVec Ideal S1x1024 .bf16) (i : S8x1024.Idx) :
    copies (F := Ideal) x i = x (ix2 0 (i 1)) := by
  unfold copies
  concat_tiles j h
  all_goals
    congr 1
    rw [eq_ix2 j]
    exact congrArg₂ ix2 (Fin.ext h0) (Fin.ext h1)

/-- A pair of equal rows of scales, spread over sixteen rows. -/
theorem scaleRows_apply (p : Vec Ideal S1x2x1024 .bf16) (S : Fin 1024 → EReal) (hp : ∀ q l, p (ix3 0 q l) = S l)
    (i : S16x1024.Idx) : scaleRows (F := Ideal) p i = S (i 1) := by
  have key : ∀ (q : Fin 2) (j : S8x1024.Idx),
      copies (F := Ideal) (shapeCast S1x1024 (rowsOfParity q S1x1x1024 p bitcasts_S1x2x1024_w16_S1x1x1024_w32) shapeCasts_S1x1x1024_S1x1024) j = S (j 1) := by
    intro q j
    rw [copies_apply]
    pointwise
    exact hp q (j 1)
  unfold scaleRows interleaveRows
  dsimp only
  split
  · rw [key]; rfl
  · rw [key]; rfl

/-- What the scale scratch's one store leaves, read back one row at a time: the scale times 64, twice. -/
theorem pairRow_apply (c : Dev nD) (arg6 : Memref sig .tc .vmem S192x1024 .fp8e4m3) (harg6 : arg6.IsWhole) (arg11 : Memref sig .tc .vmem S192x2x1024 .bf16)
    (x4 : Vec Ideal S192x1024 .fp8e4m3) (r : ℕ) (h : r + 1 ≤ 192) (q : Fin 2) (l : Fin 1024) :
    arg11.view.readCov (kernelRun1_A.sl.HS1_1 (F := Ideal) c arg6 harg6 x4) (Rect.unit (s := S192x2x1024) ![r, 0, 0] S1x2x1024.size (inbP r h)).toLoadRect (ix3 0 q l)
      = x4 (ix2 ⟨r, h⟩ l) * Ideal.ofBits .f32 0x42800000#32 := by
  rw [View.readCov_eq_canon']
  unfold kernelRun1_A.sl.HS1_1
  dsimp only
  rw [View.canon_cons_unit_zero (funext fun a => by fin_cases a <;> rfl)]
  have hi : (Rect.unit (s := S192x2x1024) ![r, 0, 0] S1x2x1024.size (inbP r h)).toLoadRect.idx (ix3 0 q l) = ix3 ⟨r, h⟩ q l := by
    funext a
    apply Fin.ext
    match a with
    | ⟨0, _⟩ => exact (Rect.idx_unit_val _ _ _ _ _).trans rfl
    | ⟨1, _⟩ => exact (Rect.idx_unit_val _ _ _ _ _).trans (Nat.zero_add _)
    | ⟨2, _⟩ => exact (Rect.idx_unit_val _ _ _ _ _).trans (Nat.zero_add _)
  refine (congrArg _ hi).trans ?_
  unfold k1_pay2
  rw [View.readAt_eq_ld, harg6.read_unread, View.ld_unit_zero (S := S192x1024) (funext fun a => by fin_cases a <;> rfl)]
  unfold interleaveRows
  dsimp only
  split <;> pointwise

/-- A product of the first sixteen rows with their scales. -/
theorem rows0_apply (d : FVec Ideal S32x1024 .bf16) (p : Vec Ideal S1x2x1024 .bf16) (x : S16x1024.Idx) (k : BitVec 4) (s : EReal)
    (hd : d (ix2 ⟨(x 0).val, by have := (x 0).isLt; exact Nat.lt_of_lt_of_le this (by decide)⟩ (x 1)) = Ideal.ofBits .fp8e4m3 (byte k))
    (hp : scaleRows (F := Ideal) p x = s * Ideal.ofBits .f32 0x42800000#32) :
    rows0 (F := Ideal) d p x = ((num k : ℝ) : EReal) * s := by
  rw [← byte_mul, ← hd, ← hp]
  unfold rows0
  pointwise

/-- A product of the last sixteen rows with their scales. -/
theorem rows16_apply (d : FVec Ideal S32x1024 .bf16) (p : Vec Ideal S1x2x1024 .bf16) (x : S16x1024.Idx) (k : BitVec 4) (s : EReal)
    (hd : d (ix2 ⟨16 + (x 0).val, by have := (x 0).isLt; exact Nat.add_lt_add_left this 16⟩ (x 1)) = Ideal.ofBits .fp8e4m3 (byte k))
    (hp : scaleRows (F := Ideal) p x = s * Ideal.ofBits .f32 0x42800000#32) :
    rows16 (F := Ideal) d p x = ((num k : ℝ) : EReal) * s := by
  rw [← byte_mul, ← hd, ← hp]
  unfold rows16
  pointwise

section
variable (B : (r : ℕ) → r + 32 ≤ 1536 → Vec Ideal S32x1024 .i8) (P : (r : ℕ) → r + 1 ≤ 192 → Vec Ideal S1x2x1024 .bf16)
  (X : S1536x1024.Idx → BitVec 8) (S : S192x1024.Idx → EReal)
  (hB : ∀ r h (a : Fin 32) l (k : Fin 1536), k.val = r + a.val → B r h (ix2 a l) = X (ix2 k l))
  (hP : ∀ r h q l, P r h (ix3 0 q l) = S (ix2 ⟨r, h⟩ l) * Ideal.ofBits .f32 0x42800000#32)
include hB hP

/-- Every store into the weight scratch stores the weights of its rows. -/
theorem pieces_val : ∀ (n : ℕ) (h : n ≤ 48), ∀ p ∈ pieces (F := Ideal) B P n h, ∀ x : p.1.shape.Idx,
    p.2 x = weight X S ((p.1.emb x) 0) ((p.1.emb x) 1)
  | 0, _, p, hp, _ => by simp [pieces] at hp
  | n + 1, h, p, hp, x => by
    simp only [pieces, List.mem_cons] at hp
    have hs : ∀ r hr (x : S16x1024.Idx), scaleRows (F := Ideal) (P r hr) x = S (ix2 ⟨r, hr⟩ (x 1)) * Ideal.ofBits .f32 0x42800000#32 :=
      fun r hr x => scaleRows_apply _ (fun l => S (ix2 ⟨r, hr⟩ l) * Ideal.ofBits .f32 0x42800000#32) (fun q l => hP r hr q l) x
    rcases hp with rfl | rfl | rfl | rfl | hp
    · change S16x1024.Idx at x
      have h0 : (x 0).val < 16 := (x 0).isLt
      refine (rows16_apply _ _ x _ _ ((decodedHi_apply _ _).trans (congrArg (fun z => Ideal.ofBits .fp8e4m3 (byte (hi z))) (hB _ _ _ _ ⟨_, by omega⟩ rfl))) (hs _ _ x)).trans ?_
      have e1 : (Rect.emb (Rect.unit (s := S3072x1024) ![1536 + 32 * n + 16, 0] S16x1024.size (inbW _ (by omega))) x) 1 = x 1 := Fin.ext ((Rect.idx_unit_val _ _ _ _ 1).trans (Nat.zero_add _))
      have e0 : ((Rect.emb (Rect.unit (s := S3072x1024) ![1536 + 32 * n + 16, 0] S16x1024.size (inbW _ (by omega))) x) 0).val = 1536 + 32 * n + 16 + (x 0).val := Rect.idx_unit_val _ _ _ _ 0
      exact (weight_hi X S _ _ (x 1) ⟨32 * n + (16 + (x 0).val), by omega⟩ ⟨96 + 2 * n + 1, by omega⟩ e1 (e0.trans (by simp only; omega)) ((by simp only; omega : _ = _).trans (congrArg (· / 16) e0.symm))).symm
    · change S16x1024.Idx at x
      have h0 : (x 0).val < 16 := (x 0).isLt
      refine (rows0_apply _ _ x _ _ ((decodedHi_apply _ _).trans (congrArg (fun z => Ideal.ofBits .fp8e4m3 (byte (hi z))) (hB _ _ _ _ ⟨_, by omega⟩ rfl))) (hs _ _ x)).trans ?_
      have e1 : (Rect.emb (Rect.unit (s := S3072x1024) ![1536 + 32 * n, 0] S16x1024.size (inbW _ (by omega))) x) 1 = x 1 := Fin.ext ((Rect.idx_unit_val _ _ _ _ 1).trans (Nat.zero_add _))
      have e0 : ((Rect.emb (Rect.unit (s := S3072x1024) ![1536 + 32 * n, 0] S16x1024.size (inbW _ (by omega))) x) 0).val = 1536 + 32 * n + (x 0).val := Rect.idx_unit_val _ _ _ _ 0
      exact (weight_hi X S _ _ (x 1) ⟨32 * n + (x 0).val, by omega⟩ ⟨96 + 2 * n, by omega⟩ e1 (e0.trans (by simp only; omega)) ((by simp only; omega : _ = _).trans (congrArg (· / 16) e0.symm))).symm
    · change S16x1024.Idx at x
      have h0 : (x 0).val < 16 := (x 0).isLt
      refine (rows16_apply _ _ x _ _ ((decodedLo_apply _ _).trans (congrArg (fun z => Ideal.ofBits .fp8e4m3 (byte (lo z))) (hB _ _ _ _ ⟨_, by omega⟩ rfl))) (hs _ _ x)).trans ?_
      have e1 : (Rect.emb (Rect.unit (s := S3072x1024) ![32 * n + 16, 0] S16x1024.size (inbW _ (by omega))) x) 1 = x 1 := Fin.ext ((Rect.idx_unit_val _ _ _ _ 1).trans (Nat.zero_add _))
      have e0 : ((Rect.emb (Rect.unit (s := S3072x1024) ![32 * n + 16, 0] S16x1024.size (inbW _ (by omega))) x) 0).val = 32 * n + 16 + (x 0).val := Rect.idx_unit_val _ _ _ _ 0
      exact (weight_lo X S _ _ (x 1) ⟨32 * n + (16 + (x 0).val), by omega⟩ ⟨2 * n + 1, by omega⟩ e1 (e0.trans (by simp only; omega)) ((by simp only; omega : _ = _).trans (congrArg (· / 16) e0.symm))).symm
    · change S16x1024.Idx at x
      have h0 : (x 0).val < 16 := (x 0).isLt
      refine (rows0_apply _ _ x _ _ ((decodedLo_apply _ _).trans (congrArg (fun z => Ideal.ofBits .fp8e4m3 (byte (lo z))) (hB _ _ _ _ ⟨_, by omega⟩ rfl))) (hs _ _ x)).trans ?_
      have e1 : (Rect.emb (Rect.unit (s := S3072x1024) ![32 * n, 0] S16x1024.size (inbW _ (by omega))) x) 1 = x 1 := Fin.ext ((Rect.idx_unit_val _ _ _ _ 1).trans (Nat.zero_add _))
      have e0 : ((Rect.emb (Rect.unit (s := S3072x1024) ![32 * n, 0] S16x1024.size (inbW _ (by omega))) x) 0).val = 32 * n + (x 0).val := Rect.idx_unit_val _ _ _ _ 0
      exact (weight_lo X S _ _ (x 1) ⟨32 * n + (x 0).val, by omega⟩ ⟨2 * n, by omega⟩ e1 (e0.trans (by simp only)) ((by simp only; omega : _ = _).trans (congrArg (· / 16) e0.symm))).symm
    · exact pieces_val n (by omega) p hp x
end

end Cert.WholeIdeal.Matmul

end
-- ==== Proof.MmTiles.lean ====
/- The output block of the matrix-product call: four tiles of 512 rows and 512 columns. -/
module

public import proofs.«01_k».proof.Proof.MmWeights

@[expose] public section

set_option maxRecDepth 65536

noncomputable section

namespace Cert.WholeIdeal.Matmul

open Cert.WholeIdeal Cert.WholeIdeal.Gen Cert.WholeIdeal.Work Idealize.ShloMosaic Idealize.ShloMosaic.TcCoe Idealize.SL.Sem
open Cert.Codes

section
variable {F : FTy → Type} [FloatOps F]

theorem inbO (r c : ℕ) (hr : r + 512 ≤ 1024) (hc : c + 512 ≤ 1024) : ∀ a, ![r, c] a + S512x512.size a ≤ S1024x1024.size a := fun a =>
  match a with | ⟨0, _⟩ => hr | ⟨1, _⟩ => hc
theorem inbX (r : ℕ) (hr : r + 512 ≤ 1024) : ∀ a, ![r, 0] a + S512x3072.size a ≤ S1024x3072.size a := fun a =>
  match a with | ⟨0, _⟩ => hr | ⟨1, _⟩ => Nat.le_refl 3072
theorem inbH (r : ℕ) (hr : r + 512 ≤ 1024) : ∀ a, ![r, 0] a + S512x64.size a ≤ S1024x64.size a := fun a =>
  match a with | ⟨0, _⟩ => hr | ⟨1, _⟩ => Nat.le_refl 64
theorem inbV (c : ℕ) (hc : c + 512 ≤ 1024) : ∀ a, ![0, c] a + S3072x512.size a ≤ S3072x1024.size a := fun a =>
  match a with | ⟨0, _⟩ => Nat.le_refl 3072 | ⟨1, _⟩ => hc
theorem inbL (c : ℕ) (hc : c + 512 ≤ 1024) : ∀ a, ![0, c] a + S64x512.size a ≤ S64x1024.size a := fun a =>
  match a with | ⟨0, _⟩ => Nat.le_refl 64 | ⟨1, _⟩ => hc
theorem inbC (c : ℕ) (hc : c + 512 ≤ 1024) : ∀ a, ![0, c] a + S1x512.size a ≤ S1x1024.size a := fun a =>
  match a with | ⟨0, _⟩ => Nat.le_refl 1 | ⟨1, _⟩ => hc

/-- One tile's store: rows from `r`, columns from `c`, the weights' columns given by `W`. -/
def tile (g : Elt F .f32) (x1 : Vec F S1024x3072 .bf16) (W : (c : ℕ) → c + 512 ≤ 1024 → Vec F S3072x512 .bf16) (x2 : Vec F S1024x64 .bf16)
    (x5 : Vec F S64x1024 .bf16) (x6 : Vec F S1x1024 .f32) (r c : ℕ) (hr : r + 512 ≤ 1024) (hc : c + 512 ≤ 1024) : View.Piece (Elt F) S1024x1024 .bf16 :=
  ⟨Rect.unit (s := S1024x1024) ![r, c] S512x512.size (inbO r c hr hc),
    k1_pay455 g (View.ld x1 (Rect.unit (s := S1024x3072) ![r, 0] S512x3072.size (inbX r hr))) (W c hc)
      (View.ld x2 (Rect.unit (s := S1024x64) ![r, 0] S512x64.size (inbH r hr)))
      (View.ld x5 (Rect.unit (s := S64x1024) ![0, c] S64x512.size (inbL c hc)))
      (View.ld x6 (Rect.unit (s := S1x1024) ![0, c] S1x512.size (inbC c hc)))⟩

/-- The four tiles' stores, last first. -/
def tiles (g : Elt F .f32) (x1 : Vec F S1024x3072 .bf16) (W : (c : ℕ) → c + 512 ≤ 1024 → Vec F S3072x512 .bf16) (x2 : Vec F S1024x64 .bf16)
    (x5 : Vec F S64x1024 .bf16) (x6 : Vec F S1x1024 .f32) : List (View.Piece (Elt F) S1024x1024 .bf16) :=
  [tile g x1 W x2 x5 x6 512 512 (by decide) (by decide), tile g x1 W x2 x5 x6 0 512 (by decide) (by decide),
    tile g x1 W x2 x5 x6 512 0 (by decide) (by decide), tile g x1 W x2 x5 x6 0 0 (by decide) (by decide)]

/-- The one element of a one-element array. -/
theorem first_S1 (x : Vec F S1 .f32) (h : 0 < S1.numel) : View.ld x (Rect.unit (s := S1) ![0] S1.size inb_S1_S1_0) (Shape.Idx.first h) = x (ValueIdx.ix1 0) :=
  congrArg x (funext fun a => Fin.ext (by
    match a with
    | ⟨0, _⟩ => exact Nat.lt_one_iff.mp (Fin.isLt (n := 1) _)))

/-- The tiles' stores where the dequantising pass runs. -/
theorem tilesA (c : Dev nD) (i : grid1.Coords) (arg2 : Memref sig .tc .smem S1 .f32) (harg2 : arg2.IsWhole) (arg3 : Memref sig .tc .vmem S1024x3072 .bf16) (harg3 : arg3.IsWhole) (arg4 : Memref sig .tc .vmem S1024x64 .bf16) (harg4 : arg4.IsWhole) (arg5 : Memref sig .tc .vmem S1536x1024 .i8) (harg5 : arg5.IsWhole) (arg6 : Memref sig .tc .vmem S192x1024 .fp8e4m3) (harg6 : arg6.IsWhole) (arg7 : Memref sig .tc .vmem S64x1024 .bf16) (harg7 : arg7.IsWhole) (arg8 : Memref sig .tc .vmem S1x1024 .f32) (harg8 : arg8.IsWhole) (arg9 : Memref sig .tc .vmem S1024x1024 .bf16) (harg9 : arg9.IsWhole) (arg10 : Memref sig .tc .vmem S3072x1024 .bf16) (harg10 : arg10.IsWhole) (arg11 : Memref sig .tc .vmem S192x2x1024 .bf16) (harg11 : arg11.IsWhole) (hc0 : cond1_0 i)
    (x0 : Vec F S1 .f32) (x1 : Vec F S1024x3072 .bf16) (x2 : Vec F S1024x64 .bf16) (x3 : Vec F S1536x1024 .i8) (x4 : Vec F S192x1024 .fp8e4m3) (x5 : Vec F S64x1024 .bf16) (x6 : Vec F S1x1024 .f32) :
    (kernelRun1_A c i arg2 harg2 arg3 harg3 arg4 harg4 arg5 harg5 arg6 harg6 arg7 harg7 arg8 harg8 arg9 harg9 arg10 harg10 arg11 harg11 hc0 x0 x1 x2 x3 x4 x5 x6).1
      = tiles (x0 (ValueIdx.ix1 0)) x1 (fun c' h => View.ld (View.canon (kernelRun1_A c i arg2 harg2 arg3 harg3 arg4 harg4 arg5 harg5 arg6 harg6 arg7 harg7 arg8 harg8 arg9 harg9 arg10 harg10 arg11 harg11 hc0 x0 x1 x2 x3 x4 x5 x6).2.1) (Rect.unit (s := S3072x1024) ![0, c'] S3072x512.size (inbV c' h))) x2 x5 x6 := by
  unfold kernelRun1_A
  dsimp only
  unfold kernelRun1_A.sl.r_169 kernelRun1_A.sl.r_170 kernelRun1_A.sl.r_171 kernelRun1_A.sl.r_172 kernelRun1_A.sl.r_168
  simp only [View.readAt_eq_ld, harg2.read_unread, harg3.read_unread, harg4.read_unread, harg7.read_unread, harg8.read_unread]
  unfold kernelRun1_A.sl.v6 kernelRun1_A.sl.v40
  simp only [View.readCov_eq_canon']
  rw [← first_S1 x0 (by decide)]
  rfl

/-- The tiles' stores where the weights are those of the point before. -/
theorem tilesB (c : Dev nD) (i : grid1.Coords) (arg2 : Memref sig .tc .smem S1 .f32) (harg2 : arg2.IsWhole) (arg3 : Memref sig .tc .vmem S1024x3072 .bf16) (harg3 : arg3.IsWhole) (arg4 : Memref sig .tc .vmem S1024x64 .bf16) (harg4 : arg4.IsWhole) (arg5 : Memref sig .tc .vmem S1536x1024 .i8) (harg5 : arg5.IsWhole) (arg6 : Memref sig .tc .vmem S192x1024 .fp8e4m3) (harg6 : arg6.IsWhole) (arg7 : Memref sig .tc .vmem S64x1024 .bf16) (harg7 : arg7.IsWhole) (arg8 : Memref sig .tc .vmem S1x1024 .f32) (harg8 : arg8.IsWhole) (arg9 : Memref sig .tc .vmem S1024x1024 .bf16) (harg9 : arg9.IsWhole) (arg10 : Memref sig .tc .vmem S3072x1024 .bf16) (harg10 : arg10.IsWhole) (arg11 : Memref sig .tc .vmem S192x2x1024 .bf16) (harg11 : arg11.IsWhole) (hc0 : ¬cond1_0 i)
    (x0 : Vec F S1 .f32) (x1 : Vec F S1024x3072 .bf16) (x2 : Vec F S1024x64 .bf16) (x3 : Vec F S1536x1024 .i8) (x4 : Vec F S192x1024 .fp8e4m3) (x5 : Vec F S64x1024 .bf16) (x6 : Vec F S1x1024 .f32) (xs0 : Vec F S3072x1024 .bf16) :
    (kernelRun1_B c i arg2 harg2 arg3 harg3 arg4 harg4 arg5 harg5 arg6 harg6 arg7 harg7 arg8 harg8 arg9 harg9 arg10 harg10 arg11 harg11 hc0 x0 x1 x2 x3 x4 x5 x6 xs0).1
      = tiles (x0 (ValueIdx.ix1 0)) x1 (fun c' h => View.ld xs0 (Rect.unit (s := S3072x1024) ![0, c'] S3072x512.size (inbV c' h))) x2 x5 x6 := by
  unfold kernelRun1_B
  dsimp only
  unfold kernelRun1_B.sl.r_1 kernelRun1_B.sl.r_2 kernelRun1_B.sl.r_3 kernelRun1_B.sl.r_4 kernelRun1_B.sl.r
  simp only [View.readAt_eq_ld, harg2.read_unread, harg3.read_unread, harg4.read_unread, harg7.read_unread, harg8.read_unread, harg10.read_unread]
  rw [← first_S1 x0 (by decide)]
  rfl

end

/-- One tile's payload over the extended reals. -/
theorem tile_apply (g : EReal) (a : Vec Ideal S512x3072 .bf16) (w : Vec Ideal S3072x512 .bf16) (h : Vec Ideal S512x64 .bf16)
    (l : Vec Ideal S64x512 .bf16) (b : Vec Ideal S1x512 .f32) (p : Fin 512) (q : Fin 512) :
    k1_pay455 (F := Ideal) g a w h l b (ix2 p q)
      = (∑ k : Fin 3072, a (ix2 p k) * w (ix2 k q)) * g + (∑ k : Fin 64, h (ix2 p k) * l (ix2 k q)) + b (ix2 0 q) := by
  unfold k1_pay455
  pointwise

section
variable (x0 : EReal) (x1 : Vec Ideal S1024x3072 .bf16) (W : Vec Ideal S3072x1024 .bf16) (x2 : Vec Ideal S1024x64 .bf16)
  (x5 : Vec Ideal S64x1024 .bf16) (x6 : Vec Ideal S1x1024 .f32)

/-- The block of results: the weights' product scaled by `x0`, plus the low-rank product, plus the bias. -/
def block (y : S1024x1024.Idx) : EReal :=
  (∑ k : Fin 3072, x1 (ix2 (y 0) k) * W (ix2 k (y 1))) * x0 + (∑ k : Fin 64, x2 (ix2 (y 0) k) * x5 (ix2 k (y 1))) + x6 (ix2 0 (y 1))

/-- A slice of a matrix, read at an index. -/
theorem ld2 {e : EltTy} {n0 n1 m0 m1 o0 o1 : ℕ} (X : Vec Ideal ⟨2, ![n0, n1]⟩ e)
    (inb : ∀ a, (![o0, o1] : Fin 2 → ℕ) a + (⟨2, ![m0, m1]⟩ : Shape).size a ≤ (⟨2, ![n0, n1]⟩ : Shape).size a)
    (a : Fin m0) (b : Fin m1) (i : Fin n0) (j : Fin n1) (hi : i.val = o0 + a.val) (hj : j.val = o1 + b.val) :
    View.ld X (Rect.unit (s := ⟨2, ![n0, n1]⟩) ![o0, o1] (⟨2, ![m0, m1]⟩ : Shape).size inb) (ix2 a b) = X (ix2 i j) := by
  refine View.ld_unit_apply_of X _ _ inb _ _ fun d => ?_
  match d with
  | ⟨0, _⟩ => exact hi
  | ⟨1, _⟩ => exact hj

/-- A tile stores its part of the block. -/
theorem tile_val (r c : ℕ) (hr : r + 512 ≤ 1024) (hc : c + 512 ≤ 1024) (x : S512x512.Idx) :
    (tile (F := Ideal) x0 x1 (fun c' h => View.ld W (Rect.unit (s := S3072x1024) ![0, c'] S3072x512.size (inbV c' h))) x2 x5 x6 r c hr hc).2 x
      = block x0 x1 W x2 x5 x6 ((Rect.unit (s := S1024x1024) ![r, c] S512x512.size (inbO r c hr hc)).emb x) := by
  have h0 : (x 0).val < 512 := (x 0).isLt
  have h1 : (x 1).val < 512 := (x 1).isLt
  obtain ⟨p, q, rfl⟩ : ∃ (p : Fin 512) (q : Fin 512), x = ix2 p q := ⟨x 0, x 1, eq_ix2 x⟩
  have he : (Rect.unit (s := S1024x1024) ![r, c] S512x512.size (inbO r c hr hc)).emb (ix2 p q) = ix2 ⟨r + p.val, by omega⟩ ⟨c + q.val, by omega⟩ := by
    funext a
    apply Fin.ext
    match a with
    | ⟨0, _⟩ => exact Rect.idx_unit_val _ _ _ _ _
    | ⟨1, _⟩ => exact Rect.idx_unit_val _ _ _ _ _
  rw [he]
  refine (tile_apply _ _ _ _ _ _ p q).trans ?_
  unfold block
  simp only [ix2_0, ix2_1]
  congr 1
  · congr 1
    · congr 1
      refine Finset.sum_congr rfl fun k _ => ?_
      congr 1
      · exact ld2 x1 _ _ _ _ _ rfl (Nat.zero_add _).symm
      · exact ld2 W _ _ _ _ _ (Nat.zero_add _).symm rfl
    · refine Finset.sum_congr rfl fun k _ => ?_
      congr 1
      · exact ld2 x2 _ _ _ _ _ rfl (Nat.zero_add _).symm
      · exact ld2 x5 _ _ _ _ _ (Nat.zero_add _).symm rfl
  · exact ld2 x6 _ _ _ _ _ rfl rfl

theorem tiles_val (p) (hp : p ∈ tiles (F := Ideal) x0 x1 (fun c' h => View.ld W (Rect.unit (s := S3072x1024) ![0, c'] S3072x512.size (inbV c' h))) x2 x5 x6)
    (x : p.1.shape.Idx) : p.2 x = block x0 x1 W x2 x5 x6 (p.1.emb x) := by
  simp only [tiles, List.mem_cons, List.not_mem_nil, or_false] at hp
  rcases hp with rfl | rfl | rfl | rfl <;> exact tile_val x0 x1 W x2 x5 x6 _ _ _ _ x
end

/-- What the weight scratch holds after the dequantising pass. -/
theorem soutA (c : Dev nD) (i : grid1.Coords) (arg2 : Memref sig .tc .smem S1 .f32) (harg2 : arg2.IsWhole) (arg3 : Memref sig .tc .vmem S1024x3072 .bf16) (harg3 : arg3.IsWhole) (arg4 : Memref sig .tc .vmem S1024x64 .bf16) (harg4 : arg4.IsWhole) (arg5 : Memref sig .tc .vmem S1536x1024 .i8) (harg5 : arg5.IsWhole) (arg6 : Memref sig .tc .vmem S192x1024 .fp8e4m3) (harg6 : arg6.IsWhole) (arg7 : Memref sig .tc .vmem S64x1024 .bf16) (harg7 : arg7.IsWhole) (arg8 : Memref sig .tc .vmem S1x1024 .f32) (harg8 : arg8.IsWhole) (arg9 : Memref sig .tc .vmem S1024x1024 .bf16) (harg9 : arg9.IsWhole) (arg10 : Memref sig .tc .vmem S3072x1024 .bf16) (harg10 : arg10.IsWhole) (arg11 : Memref sig .tc .vmem S192x2x1024 .bf16) (harg11 : arg11.IsWhole) (hc0 : cond1_0 i)
    (x0 : Vec Ideal S1 .f32) (x1 : Vec Ideal S1024x3072 .bf16) (x2 : Vec Ideal S1024x64 .bf16) (x3 : Vec Ideal S1536x1024 .i8) (x4 : Vec Ideal S192x1024 .fp8e4m3) (x5 : Vec Ideal S64x1024 .bf16) (x6 : Vec Ideal S1x1024 .f32) (y : S3072x1024.Idx) :
    View.canon (kernelRun1_A (F := Ideal) c i arg2 harg2 arg3 harg3 arg4 harg4 arg5 harg5 arg6 harg6 arg7 harg7 arg8 harg8 arg9 harg9 arg10 harg10 arg11 harg11 hc0 x0 x1 x2 x3 x4 x5 x6).2.1 y = weight x3 x4 (y 0) (y 1) := by
  refine View.canon_apply_of_pieces (fun y => weight x3 x4 (y 0) (y 1)) _ ?_ y (scover1_A_0 c i arg2 harg2 arg3 harg3 arg4 harg4 arg5 harg5 arg6 harg6 arg7 harg7 arg8 harg8 arg9 harg9 arg10 harg10 arg11 harg11 hc0 x0 x1 x2 x3 x4 x5 x6 y)
  have e : (kernelRun1_A (F := Ideal) c i arg2 harg2 arg3 harg3 arg4 harg4 arg5 harg5 arg6 harg6 arg7 harg7 arg8 harg8 arg9 harg9 arg10 harg10 arg11 harg11 hc0 x0 x1 x2 x3 x4 x5 x6).2.1 = kernelRun1_A.sl.HS0_192 c arg5 harg5 arg6 harg6 arg11 x3 x4 := by
    unfold kernelRun1_A
    dsimp only
  rw [e, stores_eq]
  refine pieces_val _ _ x3 x4 ?_ ?_ 48 (le_refl 48)
  · intro r h a l k hk
    have e : View.readAt (Elt Ideal) arg5.view (Rect.unit (s := S1536x1024) ![r, 0] S32x1024.size (inbB r h)).toLoadRect (harg5.unread x3)
        = View.ld x3 (Rect.unit (s := S1536x1024) ![r, 0] S32x1024.size (inbB r h)) := by
      rw [View.readAt_eq_ld, harg5.read_unread]
    exact (congrFun e _).trans (ld2 x3 (inbB r h) a l k l hk (Nat.zero_add _).symm)
  · exact fun r h q l => pairRow_apply c arg6 harg6 arg11 x4 r h q l

/-- The weight scratch after a point where the dequantising pass runs. -/
theorem sout_A (c : Dev nD) (i : grid1.Coords) (arg2 : Memref sig .tc .smem S1 .f32) (harg2 : arg2.IsWhole) (arg3 : Memref sig .tc .vmem S1024x3072 .bf16) (harg3 : arg3.IsWhole) (arg4 : Memref sig .tc .vmem S1024x64 .bf16) (harg4 : arg4.IsWhole) (arg5 : Memref sig .tc .vmem S1536x1024 .i8) (harg5 : arg5.IsWhole) (arg6 : Memref sig .tc .vmem S192x1024 .fp8e4m3) (harg6 : arg6.IsWhole) (arg7 : Memref sig .tc .vmem S64x1024 .bf16) (harg7 : arg7.IsWhole) (arg8 : Memref sig .tc .vmem S1x1024 .f32) (harg8 : arg8.IsWhole) (arg9 : Memref sig .tc .vmem S1024x1024 .bf16) (harg9 : arg9.IsWhole) (arg10 : Memref sig .tc .vmem S3072x1024 .bf16) (harg10 : arg10.IsWhole) (arg11 : Memref sig .tc .vmem S192x2x1024 .bf16) (harg11 : arg11.IsWhole) (hc0 : cond1_0 i)
    (x0 : Vec Ideal S1 .f32) (x1 : Vec Ideal S1024x3072 .bf16) (x2 : Vec Ideal S1024x64 .bf16) (x3 : Vec Ideal S1536x1024 .i8) (x4 : Vec Ideal S192x1024 .fp8e4m3) (x5 : Vec Ideal S64x1024 .bf16) (x6 : Vec Ideal S1x1024 .f32) (y : S3072x1024.Idx) :
    sout1_A_0 (F := Ideal) c i arg2 harg2 arg3 harg3 arg4 harg4 arg5 harg5 arg6 harg6 arg7 harg7 arg8 harg8 arg9 harg9 arg10 harg10 arg11 harg11 hc0 x0 x1 x2 x3 x4 x5 x6 y = weight x3 x4 (y 0) (y 1) := by
  unfold sout1_A_0
  rw [View.read_writes_junk_eq_canon]
  exact soutA c i arg2 harg2 arg3 harg3 arg4 harg4 arg5 harg5 arg6 harg6 arg7 harg7 arg8 harg8 arg9 harg9 arg10 harg10 arg11 harg11 hc0 x0 x1 x2 x3 x4 x5 x6 y

/-- The output block after a point where the dequantising pass runs. -/
theorem out_A (c : Dev nD) (i : grid1.Coords) (arg2 : Memref sig .tc .smem S1 .f32) (harg2 : arg2.IsWhole) (arg3 : Memref sig .tc .vmem S1024x3072 .bf16) (harg3 : arg3.IsWhole) (arg4 : Memref sig .tc .vmem S1024x64 .bf16) (harg4 : arg4.IsWhole) (arg5 : Memref sig .tc .vmem S1536x1024 .i8) (harg5 : arg5.IsWhole) (arg6 : Memref sig .tc .vmem S192x1024 .fp8e4m3) (harg6 : arg6.IsWhole) (arg7 : Memref sig .tc .vmem S64x1024 .bf16) (harg7 : arg7.IsWhole) (arg8 : Memref sig .tc .vmem S1x1024 .f32) (harg8 : arg8.IsWhole) (arg9 : Memref sig .tc .vmem S1024x1024 .bf16) (harg9 : arg9.IsWhole) (arg10 : Memref sig .tc .vmem S3072x1024 .bf16) (harg10 : arg10.IsWhole) (arg11 : Memref sig .tc .vmem S192x2x1024 .bf16) (harg11 : arg11.IsWhole) (hc0 : cond1_0 i)
    (x0 : Vec Ideal S1 .f32) (x1 : Vec Ideal S1024x3072 .bf16) (x2 : Vec Ideal S1024x64 .bf16) (x3 : Vec Ideal S1536x1024 .i8) (x4 : Vec Ideal S192x1024 .fp8e4m3) (x5 : Vec Ideal S64x1024 .bf16) (x6 : Vec Ideal S1x1024 .f32) :
    out1_A_7 (F := Ideal) c i arg2 harg2 arg3 harg3 arg4 harg4 arg5 harg5 arg6 harg6 arg7 harg7 arg8 harg8 arg9 harg9 arg10 harg10 arg11 harg11 hc0 x0 x1 x2 x3 x4 x5 x6
      = block (x0 (ValueIdx.ix1 0)) x1 (fun y => weight x3 x4 (y 0) (y 1)) x2 x5 x6 := by
  unfold out1_A_7
  rw [View.read_writes_junk_eq_canon]
  funext y
  refine View.canon_apply_of_pieces _ _ ?_ y (cover1_A_7 c i arg2 harg2 arg3 harg3 arg4 harg4 arg5 harg5 arg6 harg6 arg7 harg7 arg8 harg8 arg9 harg9 arg10 harg10 arg11 harg11 hc0 x0 x1 x2 x3 x4 x5 x6 y)
  rw [tilesA, show View.canon (kernelRun1_A (F := Ideal) c i arg2 harg2 arg3 harg3 arg4 harg4 arg5 harg5 arg6 harg6 arg7 harg7 arg8 harg8 arg9 harg9 arg10 harg10 arg11 harg11 hc0 x0 x1 x2 x3 x4 x5 x6).2.1 = fun y => weight x3 x4 (y 0) (y 1) from
    funext fun y => soutA c i arg2 harg2 arg3 harg3 arg4 harg4 arg5 harg5 arg6 harg6 arg7 harg7 arg8 harg8 arg9 harg9 arg10 harg10 arg11 harg11 hc0 x0 x1 x2 x3 x4 x5 x6 y]
  exact tiles_val _ _ _ _ _ _

/-- The output block after any other point, over the weights the point before left. -/
theorem out_B (c : Dev nD) (i : grid1.Coords) (arg2 : Memref sig .tc .smem S1 .f32) (harg2 : arg2.IsWhole) (arg3 : Memref sig .tc .vmem S1024x3072 .bf16) (harg3 : arg3.IsWhole) (arg4 : Memref sig .tc .vmem S1024x64 .bf16) (harg4 : arg4.IsWhole) (arg5 : Memref sig .tc .vmem S1536x1024 .i8) (harg5 : arg5.IsWhole) (arg6 : Memref sig .tc .vmem S192x1024 .fp8e4m3) (harg6 : arg6.IsWhole) (arg7 : Memref sig .tc .vmem S64x1024 .bf16) (harg7 : arg7.IsWhole) (arg8 : Memref sig .tc .vmem S1x1024 .f32) (harg8 : arg8.IsWhole) (arg9 : Memref sig .tc .vmem S1024x1024 .bf16) (harg9 : arg9.IsWhole) (arg10 : Memref sig .tc .vmem S3072x1024 .bf16) (harg10 : arg10.IsWhole) (arg11 : Memref sig .tc .vmem S192x2x1024 .bf16) (harg11 : arg11.IsWhole) (hc0 : ¬cond1_0 i)
    (x0 : Vec Ideal S1 .f32) (x1 : Vec Ideal S1024x3072 .bf16) (x2 : Vec Ideal S1024x64 .bf16) (x3 : Vec Ideal S1536x1024 .i8) (x4 : Vec Ideal S192x1024 .fp8e4m3) (x5 : Vec Ideal S64x1024 .bf16) (x6 : Vec Ideal S1x1024 .f32) (xs0 : Vec Ideal S3072x1024 .bf16) :
    out1_B_7 (F := Ideal) c i arg2 harg2 arg3 harg3 arg4 harg4 arg5 harg5 arg6 harg6 arg7 harg7 arg8 harg8 arg9 harg9 arg10 harg10 arg11 harg11 hc0 x0 x1 x2 x3 x4 x5 x6 xs0
      = block (x0 (ValueIdx.ix1 0)) x1 xs0 x2 x5 x6 := by
  unfold out1_B_7
  rw [View.read_writes_junk_eq_canon]
  funext y
  refine View.canon_apply_of_pieces _ _ ?_ y (cover1_B_7 c i arg2 harg2 arg3 harg3 arg4 harg4 arg5 harg5 arg6 harg6 arg7 harg7 arg8 harg8 arg9 harg9 arg10 harg10 arg11 harg11 hc0 x0 x1 x2 x3 x4 x5 x6 xs0 y)
  rw [tilesB]
  exact tiles_val _ _ _ _ _ _

end Cert.WholeIdeal.Matmul

end
-- ==== Proof.QuantPieces.lean ====
/- The stores the quantise call's body makes for one block of 128 tokens, as recursions over the twelve pairs of blocks
   of 128 columns: one column block of the pair in the first half of the columns, one in the second half. -/
module

public import proofs.«01_k».proof.Proof.WholeIdealFirst

@[expose] public section

set_option maxRecDepth 65536

noncomputable section

namespace Cert.WholeIdeal.Quantise

open Cert.WholeIdeal Cert.WholeIdeal.Gen Cert.WholeIdeal.Work Idealize.ShloMosaic Idealize.ShloMosaic.TcCoe Idealize.SL.Sem

variable {F : FTy → Type} [FloatOps F]

/-- The clipped quotients of a column block, rounded to the nearest representable number (columns by tokens). -/
def rounded (g : F .f32) (x : Vec F S128x128 .bf16) (s : Vec F S1x128 .f32) : FVec F S128x128 .f32 :=
  k0_pay6 (k0_pay5 g x s) (Scalar.ofBits .f32 0xC0C00000#32) (Scalar.ofBits .f32 0x40C00000#32)

/-- The quantised values of a column block (tokens by columns). -/
def values (g : F .f32) (x : Vec F S128x128 .bf16) (s : Vec F S1x128 .f32) : FVec F S128x128 .bf16 :=
  k0_pay7 (k0_pay3 g x s) (k0_pay5 g x s) (Scalar.ofBits .f32 0xC0C00000#32) (Scalar.ofBits .f32 0x40C00000#32)

/-- The bytes of a rounded column block, four rows to a word: magnitude in bits 2–4, sign in bit 7. -/
def bytes (r : FVec F S128x128 .f32) : IVec S128x128 8 :=
  trunci 8
    (ori
      (shli
        (fptosi 32
          (select (cmpf .olt (absf r) (broadcast S128x128 (Scalar.ofBits .f32 0x40000000#32)))
            (mulf (broadcast S128x128 (Scalar.ofBits .f32 0x40000000#32)) (absf r))
            (select (cmpf .olt (absf r) (broadcast S128x128 (Scalar.ofBits .f32 0x40800000#32)))
              (addf (absf r) (broadcast S128x128 (Scalar.ofBits .f32 0x40000000#32)))
              (addf (mulf (absf r) (broadcast S128x128 (Scalar.ofBits .f32 0x3F000000#32))) (broadcast S128x128 (Scalar.ofBits .f32 0x40800000#32))))))
        (broadcast S128x128 2#32))
      (select (cmpf .olt r (broadcast S128x128 (Scalar.ofBits .f32 0x00000000#32))) (broadcast S128x128 128#32) (broadcast S128x128 0#32)))
    natLt_8_32

/-- Bytes as words. -/
def words (b : IVec S128x128 8) : IVec S32x128 32 := bitcast S32x128 32 b bitcasts_S128x128_w8_S32x128_w32

/-- The packed bytes of a pair of column blocks (tokens by columns): the first block's codes in the low nibbles. -/
def packed (l h : IVec S128x128 8) : IVec S128x128 8 :=
  transpose S128x128 [1, 0]
    (bitcast S128x128 8
      (ori
        (ori (andi (shrui (words l) (broadcast S32x128 2#32)) (broadcast S32x128 117901063#32))
          (andi (shrui (words l) (broadcast S32x128 4#32)) (broadcast S32x128 134744072#32)))
        (ori (andi (shli (words h) (broadcast S32x128 2#32)) (broadcast S32x128 1886417008#32))
          (andi (words h) (broadcast S32x128 2155905152#32))))
      bitcasts_S32x128_w32_S128x128_w8)
    transposes_S128x128_p1_0_S128x128

theorem inbX (o : ℕ) (h : o + 128 ≤ 3072) : ∀ a, ![0, o] a + S128x128.size a ≤ S128x3072.size a := fun a =>
  match a with | ⟨0, _⟩ => Nat.le_refl 128 | ⟨1, _⟩ => h
theorem inbS (o : ℕ) (h : o + 128 ≤ 3072) : ∀ a, ![0, o] a + S1x128.size a ≤ S1x3072.size a := fun a =>
  match a with | ⟨0, _⟩ => Nat.le_refl 1 | ⟨1, _⟩ => h
theorem inbP (o : ℕ) (h : o + 128 ≤ 1536) : ∀ a, ![0, o] a + S128x128.size a ≤ S128x1536.size a := fun a =>
  match a with | ⟨0, _⟩ => Nat.le_refl 128 | ⟨1, _⟩ => h
theorem inbT (o : ℕ) (h : o + 128 ≤ 3072) : ∀ a, ![o, 0] a + S128x128.size a ≤ S3072x128.size a := fun a =>
  match a with | ⟨0, _⟩ => h | ⟨1, _⟩ => Nat.le_refl 128
theorem inbC (o : ℕ) (h : o + 8 ≤ 192) : ∀ a, ![o, 0] a + S8x128.size a ≤ S192x128.size a := fun a =>
  match a with | ⟨0, _⟩ => h | ⟨1, _⟩ => Nat.le_refl 128

section
variable (g : F .f32) (X : (o : ℕ) → o + 128 ≤ 3072 → Vec F S128x128 .bf16) (S : (o : ℕ) → o + 128 ≤ 3072 → Vec F S1x128 .f32)

/-- The stores of quantised values, last first. -/
def pieces4 : (n : ℕ) → n ≤ 12 → List (View.Piece (Elt F) S128x3072 .bf16)
  | 0, _ => []
  | n + 1, h =>
    ⟨Rect.unit (s := S128x3072) ![0, 1536 + 128 * n] S128x128.size (inbX _ (by omega)), values g (X (1536 + 128 * n) (by omega)) (S (1536 + 128 * n) (by omega))⟩ ::
    ⟨Rect.unit (s := S128x3072) ![0, 128 * n] S128x128.size (inbX _ (by omega)), values g (X (128 * n) (by omega)) (S (128 * n) (by omega))⟩ ::
    pieces4 n (by omega)

/-- The stores of packed bytes, last first. -/
def pieces6 : (n : ℕ) → n ≤ 12 → List (View.Piece (Elt F) S128x1536 .i8)
  | 0, _ => []
  | n + 1, h =>
    ⟨Rect.unit (s := S128x1536) ![0, 128 * n] S128x128.size (inbP _ (by omega)),
      packed (bytes (rounded g (X (128 * n) (by omega)) (S (128 * n) (by omega)))) (bytes (rounded g (X (1536 + 128 * n) (by omega)) (S (1536 + 128 * n) (by omega))))⟩ ::
    pieces6 n (by omega)

/-- The stores of the smoothed values (columns by tokens), last first. -/
def piecesX : (n : ℕ) → n ≤ 12 → List (View.Piece (Elt F) S3072x128 .bf16)
  | 0, _ => []
  | n + 1, h =>
    ⟨Rect.unit (s := S3072x128) ![1536 + 128 * n, 0] S128x128.size (inbT _ (by omega)), k0_pay2 (X (1536 + 128 * n) (by omega)) (S (1536 + 128 * n) (by omega))⟩ ::
    ⟨Rect.unit (s := S3072x128) ![128 * n, 0] S128x128.size (inbT _ (by omega)), k0_pay2 (X (128 * n) (by omega)) (S (128 * n) (by omega))⟩ ::
    piecesX n (by omega)

/-- The stores of the scales (groups by tokens), last first. -/
def piecesC : (n : ℕ) → n ≤ 12 → List (View.Piece (Elt F) S192x128 .f32)
  | 0, _ => []
  | n + 1, h =>
    ⟨Rect.unit (s := S192x128) ![96 + 8 * n, 0] S8x128.size (inbC _ (by omega)), k0_pay4 g (X (1536 + 128 * n) (by omega)) (S (1536 + 128 * n) (by omega))⟩ ::
    ⟨Rect.unit (s := S192x128) ![8 * n, 0] S8x128.size (inbC _ (by omega)), k0_pay4 g (X (128 * n) (by omega)) (S (128 * n) (by omega))⟩ ::
    piecesC n (by omega)
end

/-- The stores of quantised values are these. -/
theorem stores4 (c : Dev nD) (i : grid0.Coords) (arg1 : Memref sig .tc .smem S1 .f32) (harg1 : arg1.IsWhole) (arg2 : Memref sig .tc .vmem S128x3072 .bf16) (harg2 : arg2.IsWhole) (arg3 : Memref sig .tc .vmem S1x3072 .f32) (harg3 : arg3.IsWhole) (arg4 : Memref sig .tc .vmem S3072x64 .bf16) (harg4 : arg4.IsWhole) (arg5 : Memref sig .tc .vmem S128x3072 .bf16) (harg5 : arg5.IsWhole) (arg6 : Memref sig .tc .vmem S128x64 .bf16) (harg6 : arg6.IsWhole) (arg7 : Memref sig .tc .vmem S128x1536 .i8) (harg7 : arg7.IsWhole) (arg8 : Memref sig .tc .vmem S128x192 .fp8e4m3) (harg8 : arg8.IsWhole) (arg9 : Memref sig .tc .vmem S3072x128 .bf16) (harg9 : arg9.IsWhole) (arg10 : Memref sig .tc .vmem S192x128 .f32) (harg10 : arg10.IsWhole)
    (x0 : Vec F S1 .f32) (x1 : Vec F S128x3072 .bf16) (x2 : Vec F S1x3072 .f32) (x3 : Vec F S3072x64 .bf16) :
    (kernelRun0_A c i arg1 harg1 arg2 harg2 arg3 harg3 arg4 harg4 arg5 harg5 arg6 harg6 arg7 harg7 arg8 harg8 arg9 harg9 arg10 harg10 x0 x1 x2 x3).1
      = pieces4 (kernelRun0_A.sl.r c arg1 harg1 x0)
          (fun o h => View.readAt (Elt F) arg2.view (Rect.unit (s := S128x3072) ![0, o] S128x128.size (inbX o h)).toLoadRect (harg2.unread x1))
          (fun o h => View.readAt (Elt F) arg3.view (Rect.unit (s := S1x3072) ![0, o] S1x128.size (inbS o h)).toLoadRect (harg3.unread x2)) 12 (le_refl 12) := by
  unfold kernelRun0_A
  dsimp only
  rfl

/-- The stores of packed bytes are these. -/
theorem stores6 (c : Dev nD) (i : grid0.Coords) (arg1 : Memref sig .tc .smem S1 .f32) (harg1 : arg1.IsWhole) (arg2 : Memref sig .tc .vmem S128x3072 .bf16) (harg2 : arg2.IsWhole) (arg3 : Memref sig .tc .vmem S1x3072 .f32) (harg3 : arg3.IsWhole) (arg4 : Memref sig .tc .vmem S3072x64 .bf16) (harg4 : arg4.IsWhole) (arg5 : Memref sig .tc .vmem S128x3072 .bf16) (harg5 : arg5.IsWhole) (arg6 : Memref sig .tc .vmem S128x64 .bf16) (harg6 : arg6.IsWhole) (arg7 : Memref sig .tc .vmem S128x1536 .i8) (harg7 : arg7.IsWhole) (arg8 : Memref sig .tc .vmem S128x192 .fp8e4m3) (harg8 : arg8.IsWhole) (arg9 : Memref sig .tc .vmem S3072x128 .bf16) (harg9 : arg9.IsWhole) (arg10 : Memref sig .tc .vmem S192x128 .f32) (harg10 : arg10.IsWhole)
    (x0 : Vec F S1 .f32) (x1 : Vec F S128x3072 .bf16) (x2 : Vec F S1x3072 .f32) (x3 : Vec F S3072x64 .bf16) :
    (kernelRun0_A c i arg1 harg1 arg2 harg2 arg3 harg3 arg4 harg4 arg5 harg5 arg6 harg6 arg7 harg7 arg8 harg8 arg9 harg9 arg10 harg10 x0 x1 x2 x3).2.2.1
      = pieces6 (kernelRun0_A.sl.r c arg1 harg1 x0)
          (fun o h => View.readAt (Elt F) arg2.view (Rect.unit (s := S128x3072) ![0, o] S128x128.size (inbX o h)).toLoadRect (harg2.unread x1))
          (fun o h => View.readAt (Elt F) arg3.view (Rect.unit (s := S1x3072) ![0, o] S1x128.size (inbS o h)).toLoadRect (harg3.unread x2)) 12 (le_refl 12) := by
  unfold kernelRun0_A
  dsimp only
  rfl

/-- The stores of smoothed values are these. -/
theorem storesX (c : Dev nD) (arg1 : Memref sig .tc .smem S1 .f32) (harg1 : arg1.IsWhole) (arg2 : Memref sig .tc .vmem S128x3072 .bf16) (harg2 : arg2.IsWhole) (arg3 : Memref sig .tc .vmem S1x3072 .f32) (harg3 : arg3.IsWhole)
    (x0 : Vec F S1 .f32) (x1 : Vec F S128x3072 .bf16) (x2 : Vec F S1x3072 .f32) :
    kernelRun0_A.sl.HS0_24 c arg2 harg2 arg3 harg3 x1 x2
      = piecesX
          (fun o h => View.readAt (Elt F) arg2.view (Rect.unit (s := S128x3072) ![0, o] S128x128.size (inbX o h)).toLoadRect (harg2.unread x1))
          (fun o h => View.readAt (Elt F) arg3.view (Rect.unit (s := S1x3072) ![0, o] S1x128.size (inbS o h)).toLoadRect (harg3.unread x2)) 12 (le_refl 12) := by
  unfold kernelRun0_A.sl.HS0_24
  rfl

/-- The stores of scales are these. -/
theorem storesC (c : Dev nD) (arg1 : Memref sig .tc .smem S1 .f32) (harg1 : arg1.IsWhole) (arg2 : Memref sig .tc .vmem S128x3072 .bf16) (harg2 : arg2.IsWhole) (arg3 : Memref sig .tc .vmem S1x3072 .f32) (harg3 : arg3.IsWhole)
    (x0 : Vec F S1 .f32) (x1 : Vec F S128x3072 .bf16) (x2 : Vec F S1x3072 .f32) :
    kernelRun0_A.sl.HS1_24 c arg1 harg1 arg2 harg2 arg3 harg3 x0 x1 x2
      = piecesC (kernelRun0_A.sl.r c arg1 harg1 x0)
          (fun o h => View.readAt (Elt F) arg2.view (Rect.unit (s := S128x3072) ![0, o] S128x128.size (inbX o h)).toLoadRect (harg2.unread x1))
          (fun o h => View.readAt (Elt F) arg3.view (Rect.unit (s := S1x3072) ![0, o] S1x128.size (inbS o h)).toLoadRect (harg3.unread x2)) 12 (le_refl 12) := by
  unfold kernelRun0_A.sl.HS1_24
  rfl

end Cert.WholeIdeal.Quantise

end
-- ==== Proof.QuantCodes.lean ====
/- The four-bit quantiser over the extended reals: the scale of a group, the code of a quotient, and that rounding the
   clipped quotient by a step gives the number of that code. -/
module

public import proofs.«01_k».proof.Proof.Codes

@[expose] public section

noncomputable section

namespace Cert.Codes

open Idealize.ShloMosaic Idealize.ShloMosaic.ValueIdx

/-- The scale of a group whose greatest magnitude is `a`: `a / (6 g)` clipped to `[0, 448]`, and 1 where that is 0. -/
def scaleOf (g a : EReal) : EReal :=
  if min (Ideal.ofBits .f32 0x43E00000#32) (max 0 (Ideal.div a (Ideal.ofBits .f32 0x40C00000#32 * g))) = 0 then 1
  else min (Ideal.ofBits .f32 0x43E00000#32) (max 0 (Ideal.div a (Ideal.ofBits .f32 0x40C00000#32 * g)))

/-- A magnitude of at most 6 rounded to a representable one, ties to even. -/
def rnd (a : ℝ) : ℝ :=
  if a < 2 then (Ideal.roundHalfEven (2 * a) : ℝ) * (1 / 2)
  else if a < 4 then (Ideal.roundHalfEven a : ℝ) else 2 * (Ideal.roundHalfEven (a * (1 / 2)) : ℝ)

/-- The code of a representable magnitude. -/
def codeOf (r : ℝ) : BitVec 4 :=
  if r < 1 / 2 then 0#4 else if r < 1 then 1#4 else if r < 3 / 2 then 2#4 else if r < 2 then 3#4
  else if r < 3 then 4#4 else if r < 4 then 5#4 else if r < 6 then 6#4 else 7#4

/-- The magnitude of a quotient, clipped to 6. -/
def clip (t : EReal) : ℝ := (min (max t (-t)) ((6 : ℝ) : EReal)).toReal

/-- The code of a quotient. -/
def quant (t : EReal) : BitVec 4 :=
  if t < 0 ∧ 0 < rnd (clip t) then codeOf (rnd (clip t)) ||| 8#4 else codeOf (rnd (clip t))

theorem f32_2 : Ideal.ofBits .f32 0x40000000#32 = ((2 : ℝ) : EReal) := by simp [Ideal.ofBits, Ideal.ieee, -EReal.coe_mul]; norm_num
theorem f32_4 : Ideal.ofBits .f32 0x40800000#32 = ((4 : ℝ) : EReal) := by simp [Ideal.ofBits, Ideal.ieee, -EReal.coe_mul]; norm_num
theorem f32_6 : Ideal.ofBits .f32 0x40C00000#32 = ((6 : ℝ) : EReal) := by simp [Ideal.ofBits, Ideal.ieee, -EReal.coe_mul]; norm_num
theorem f32_m6 : Ideal.ofBits .f32 0xC0C00000#32 = ((-6 : ℝ) : EReal) := by simp [Ideal.ofBits, Ideal.ieee, -EReal.coe_mul, -EReal.coe_neg]; norm_num
theorem f32_half : Ideal.ofBits .f32 0x3F000000#32 = ((1 / 2 : ℝ) : EReal) := by simp [Ideal.ofBits, Ideal.ieee, -EReal.coe_mul]; norm_num

/-- Rounding to an integer moves a number by at most a half. -/
theorem round_bounds (x : ℝ) : x - 1 / 2 ≤ Ideal.roundHalfEven x ∧ (Ideal.roundHalfEven x : ℝ) ≤ x + 1 / 2 := by
  have h1 := Int.floor_le x
  have h2 := Int.lt_floor_add_one x
  unfold Ideal.roundHalfEven
  dsimp only
  split_ifs <;> push_cast <;> constructor <;> linarith

/-- Rounding is odd. -/
theorem round_neg (x : ℝ) : Ideal.roundHalfEven (-x) = -Ideal.roundHalfEven x := by
  have h1 := Int.floor_le x
  have h2 := Int.lt_floor_add_one x
  by_cases hx : x = ⌊x⌋
  · have e : ⌊-x⌋ = -⌊x⌋ := by
      rw [Int.floor_eq_iff]; push_cast; constructor <;> linarith
    unfold Ideal.roundHalfEven
    dsimp only
    rw [e, if_pos (by push_cast; linarith), if_pos (by linarith)]
  · have hlt : (⌊x⌋ : ℝ) < x := lt_of_le_of_ne h1 (Ne.symm hx)
    have e : ⌊-x⌋ = -⌊x⌋ - 1 := by
      rw [Int.floor_eq_iff]; push_cast; constructor <;> linarith
    unfold Ideal.roundHalfEven
    dsimp only
    rw [e]
    push_cast
    rcases lt_trichotomy (x - ⌊x⌋) (1 / 2) with h | h | h
    · rw [if_neg (by linarith), if_pos (by linarith), if_pos h]; ring
    · rw [if_neg (by linarith), if_neg (by linarith)]
      by_cases hev : Even ⌊x⌋
      · rw [if_neg (show ¬ Even (-⌊x⌋ - 1) by rw [Int.even_sub, even_neg]; simp [hev]), if_neg (by linarith), if_neg (by linarith), if_pos hev]; ring
      · rw [if_pos (show Even (-⌊x⌋ - 1) by rw [Int.even_sub, even_neg]; simp [hev]), if_neg (by linarith), if_neg (by linarith), if_neg hev]; ring
    · rw [if_pos (by linarith), if_neg (by linarith), if_pos h]; ring

/-- A rounded magnitude is one of the eight representable ones. -/
theorem rnd_cases (a : ℝ) (h0 : 0 ≤ a) (h6 : a ≤ 6) :
    rnd a = 0 ∨ rnd a = 1 / 2 ∨ rnd a = 1 ∨ rnd a = 3 / 2 ∨ rnd a = 2 ∨ rnd a = 3 ∨ rnd a = 4 ∨ rnd a = 6 := by
  unfold rnd
  split_ifs with h2 h4
  · obtain ⟨l, u⟩ := round_bounds (2 * a)
    generalize Ideal.roundHalfEven (2 * a) = n at l u ⊢
    have hn0 : -1 < n := by have : (-1 : ℝ) < n := by linarith
                            exact_mod_cast this
    have hn4 : n < 5 := by have : (n : ℝ) < 5 := by linarith
                           exact_mod_cast this
    interval_cases n <;> norm_num
  · obtain ⟨l, u⟩ := round_bounds a
    generalize Ideal.roundHalfEven a = n at l u ⊢
    have hn0 : 1 < n := by have : (1 : ℝ) < n := by linarith
                           exact_mod_cast this
    have hn4 : n < 5 := by have : (n : ℝ) < 5 := by linarith
                           exact_mod_cast this
    interval_cases n <;> norm_num
  · obtain ⟨l, u⟩ := round_bounds (a * (1 / 2))
    generalize Ideal.roundHalfEven (a * (1 / 2)) = n at l u ⊢
    have hn0 : 1 < n := by have : (1 : ℝ) < n := by linarith
                           exact_mod_cast this
    have hn4 : n < 4 := by have : (n : ℝ) < 4 := by linarith
                           exact_mod_cast this
    interval_cases n <;> norm_num

theorem clip_bounds (t : EReal) : 0 ≤ clip t ∧ clip t ≤ 6 := by
  unfold clip
  induction t with
  | bot => simp
  | top => simp
  | coe x =>
    rw [← EReal.coe_neg, ← EReal.coe_strictMono.monotone.map_max, ← EReal.coe_strictMono.monotone.map_min, EReal.toReal_coe]
    exact ⟨le_min (by rcases le_total 0 x with h | h; exact le_max_of_le_left h; exact le_max_of_le_right (by linarith)) (by norm_num), min_le_right _ _⟩

theorem coe_clip (t : EReal) : min (max t (-t)) ((6 : ℝ) : EReal) = ((clip t : ℝ) : EReal) := by
  unfold clip
  induction t with
  | bot => simp
  | top => simp
  | coe x =>
    rw [← EReal.coe_neg, ← EReal.coe_strictMono.monotone.map_max, ← EReal.coe_strictMono.monotone.map_min, EReal.toReal_coe]

/-- Clipping a quotient to `[-6, 6]` keeps its sign and clips its magnitude. -/
theorem clip_signed (t : EReal) :
    min ((6 : ℝ) : EReal) (max ((-6 : ℝ) : EReal) t) = (((if t < 0 then -clip t else clip t) : ℝ) : EReal) := by
  unfold clip
  induction t with
  | bot =>
    simp [-EReal.coe_neg]
  | top => simp
  | coe x =>
    rw [← EReal.coe_neg, ← EReal.coe_strictMono.monotone.map_max, ← EReal.coe_strictMono.monotone.map_min,
      ← EReal.coe_strictMono.monotone.map_max, ← EReal.coe_strictMono.monotone.map_min, EReal.toReal_coe]
    congr 1
    by_cases hx : x < 0
    · rw [if_pos (by exact_mod_cast hx), max_eq_right (by linarith : x ≤ -x), ← max_neg_neg, neg_neg, max_comm]
      exact min_eq_right (max_le (by linarith) (by norm_num))
    · rw [if_neg (by exact_mod_cast hx), max_eq_left (by linarith : -x ≤ x), min_comm, max_eq_right (by linarith)]

theorem num_codeOf (r : ℝ) (h : r = 0 ∨ r = 1 / 2 ∨ r = 1 ∨ r = 3 / 2 ∨ r = 2 ∨ r = 3 ∨ r = 4 ∨ r = 6) :
    num (codeOf r) = r ∧ num (codeOf r ||| 8#4) = -r := by
  rcases h with rfl | rfl | rfl | rfl | rfl | rfl | rfl | rfl <;>
    (unfold codeOf; norm_num; simp [num, mag, BitVec.getLsbD, BitVec.toNat]; try norm_num [Nat.testBit, Nat.shiftRight_eq_div_pow])

/-- The number of a quotient's code. -/
theorem num_quant (t : EReal) : num (quant t) = if t < 0 then -rnd (clip t) else rnd (clip t) := by
  have hc := rnd_cases _ (clip_bounds t).1 (clip_bounds t).2
  obtain ⟨h1, h2⟩ := num_codeOf _ hc
  unfold quant
  by_cases ht : t < 0
  · by_cases hr : 0 < rnd (clip t)
    · rw [if_pos ⟨ht, hr⟩, if_pos ht, h2]
    · have hz : rnd (clip t) = 0 := by rcases hc with h | h | h | h | h | h | h | h <;> first | exact h | (exfalso; apply hr; rw [h]; norm_num)
      rw [if_neg (fun h => hr h.2), if_pos ht, h1, hz, neg_zero]
  · rw [if_neg (fun h => ht h.1), if_neg ht, h1]

/-- No quotient's code is the negative zero. -/
theorem quant_ne (t : EReal) : quant t ≠ 8#4 := by
  have hc := rnd_cases _ (clip_bounds t).1 (clip_bounds t).2
  unfold quant
  split_ifs with h
  · have h0 := h.2
    rcases hc with h | h | h | h | h | h | h | h <;> rw [h] at h0 ⊢ <;> first | exact absurd h0 (lt_irrefl _) | (unfold codeOf; norm_num; try decide)
  · rcases hc with h | h | h | h | h | h | h | h <;> rw [h] <;> (unfold codeOf; norm_num; try decide)

/-- Division of reals. -/
theorem div_coe (x y : ℝ) (hy : y ≠ 0) : Ideal.div ((x : ℝ) : EReal) ((y : ℝ) : EReal) = ((x / y : ℝ) : EReal) := by
  rw [Ideal.div_coe hy, ← EReal.coe_mul]
  congr 1
  ring

/-- The clipped quotient divided by its step, rounded, times the step: the number of the quotient's code. -/
theorem round_step (t : EReal) :
    (fun u : EReal => Ideal.liftRound Ideal.roundHalfEven
        (Ideal.div u
          (max
            (if max u (-u) < Ideal.ofBits .f32 0x40000000#32 then 1
             else if max u (-u) < Ideal.ofBits .f32 0x40800000#32 then Ideal.ofBits .f32 0x40000000#32 else Ideal.ofBits .f32 0x40800000#32) 1
            * Ideal.ofBits .f32 0x3F000000#32))
      * (max
          (if max u (-u) < Ideal.ofBits .f32 0x40000000#32 then 1
           else if max u (-u) < Ideal.ofBits .f32 0x40800000#32 then Ideal.ofBits .f32 0x40000000#32 else Ideal.ofBits .f32 0x40800000#32) 1
          * Ideal.ofBits .f32 0x3F000000#32))
      (min (Ideal.ofBits .f32 0x40C00000#32) (max (Ideal.ofBits .f32 0xC0C00000#32) t)) = ((num (quant t) : ℝ) : EReal) := by
  rw [f32_2, f32_4, f32_6, f32_m6, f32_half, clip_signed, num_quant]
  dsimp only
  obtain ⟨h0, h6⟩ := clip_bounds t
  generalize clip t = a at h0 h6 ⊢
  have habs : max (((if t < 0 then -a else a : ℝ)) : EReal) (-(((if t < 0 then -a else a : ℝ)) : EReal)) = ((a : ℝ) : EReal) := by
    rw [← EReal.coe_neg, ← EReal.coe_strictMono.monotone.map_max]
    congr 1
    split_ifs
    · rw [neg_neg]; exact max_eq_right (by linarith)
    · exact max_eq_left (by linarith)
  rw [habs]
  have hstep : max (if ((a : ℝ) : EReal) < ((2 : ℝ) : EReal) then (1 : EReal) else if ((a : ℝ) : EReal) < ((4 : ℝ) : EReal) then ((2 : ℝ) : EReal) else ((4 : ℝ) : EReal)) 1 * ((1 / 2 : ℝ) : EReal)
      = (((if a < 2 then 1 / 2 else if a < 4 then 1 else 2 : ℝ)) : EReal) := by
    have e1 : (1 : EReal) = ((1 : ℝ) : EReal) := rfl
    rw [e1]
    simp only [EReal.coe_lt_coe_iff]
    split_ifs
    · rw [max_self, ← EReal.coe_mul]; norm_num
    · rw [← EReal.coe_strictMono.monotone.map_max, ← EReal.coe_mul]; norm_num
    · rw [← EReal.coe_strictMono.monotone.map_max, ← EReal.coe_mul]; norm_num
  rw [hstep, div_coe _ _ (by split_ifs <;> norm_num), Ideal.liftRound_coe, ← EReal.coe_mul]
  congr 1
  unfold rnd
  split_ifs
  · rw [show -a / (1 / 2) = -(2 * a) by ring, round_neg]; push_cast; ring
  · rw [div_one, round_neg]; push_cast; ring
  · rw [show -a / 2 = -(a * (1 / 2)) by ring, round_neg]; push_cast; ring
  · rw [show a / (1 / 2) = 2 * a by ring]
  · rw [div_one]; ring
  · rw [show a / 2 = a * (1 / 2) by ring]; ring

/-- A map of pairs of words that acts on each byte alone, applied to the words of two byte arrays and read as bytes again,
    is the bytes' map. -/
theorem lanes2 {R r n : Nat} (f : BitVec 32 → BitVec 32 → BitVec 32) (g : BitVec 8 → BitVec 8 → BitVec 8)
    (hf : ∀ (v w : BitVec 32) (q : Nat), q < 32 → (f v w).getLsbD q = (g (v.extractLsb' (8 * (q / 8)) 8) (w.extractLsb' (8 * (q / 8)) 8)).getLsbD (q % 8))
    (a b : (⟨2, ![R, n]⟩ : Shape).Idx → BitVec 8) (h : (⟨2, ![R, n]⟩ : Shape).Bitcasts 8 ⟨2, ![r, n]⟩ 32)
    (h' : (⟨2, ![r, n]⟩ : Shape).Bitcasts 32 ⟨2, ![R, n]⟩ 8) (i : (⟨2, ![R, n]⟩ : Shape).Idx) :
    bitcast ⟨2, ![R, n]⟩ 8 (fun j => f (bitcast ⟨2, ![r, n]⟩ 32 a h j) (bitcast ⟨2, ![r, n]⟩ 32 b h j)) h' i = g (a i) (b i) := by
  obtain ⟨o, l, rfl⟩ : ∃ (o : Fin R) (l : Fin n), i = ix2 o l := ⟨i 0, i 1, eq_ix2 i⟩
  have hR : R * 8 = r * 32 := by simpa using h.2.2 ⟨0, Nat.zero_lt_two⟩
  have ho := o.isLt
  have hr : o.val / 4 < r := by omega
  have byteAt : ∀ c : (⟨2, ![R, n]⟩ : Shape).Idx → BitVec 8,
      (bitcast ⟨2, ![r, n]⟩ 32 c h (ix2 ⟨o.val / 4, hr⟩ l)).extractLsb' (8 * (o.val % 4)) 8 = c (ix2 o l) := fun c => by
    apply BitVec.eq_of_getLsbD_eq
    intro p hp
    rw [BitVec.getLsbD_extractLsb', bitcast_8_32_getLsbD_ix2 c h ⟨o.val / 4, hr⟩ l (8 * (o.val % 4) + p) (by omega) o (by show o.val = 4 * (o.val / 4) + (8 * (o.val % 4) + p) / 8; omega)]
    simp only [hp, decide_true, Bool.true_and]
    congr 1
    omega
  apply BitVec.eq_of_getLsbD_eq
  intro q hq
  rw [bitcast_getLsbD _ h' _ q hq (by decide)]
  have hrow : (⟨2, ![R, n]⟩ : Shape).row (ix2 o l) = o.val := rfl
  set J := h'.srcIdx (ix2 o l) _ _ with hJ
  have hJ0 : (J 0).val = o.val / 4 := by
    rw [hJ]
    refine (h'.srcIdx_row _ _ _ ⟨0, Nat.zero_lt_two⟩ rfl).trans ?_
    rw [hrow]; omega
  have hJ1 : J 1 = l := Fin.ext (h'.srcIdx_other _ _ _ ⟨1, Nat.one_lt_two⟩ (by show ¬ 1 + 2 = 2; omega))
  have hJ' : J = ix2 ⟨o.val / 4, hr⟩ l := by
    rw [eq_ix2 J, hJ1]; congr 1; exact Fin.ext hJ0
  rw [hJ', hf _ _ _ (by omega), hrow]
  have e1 : (o.val * 8 + q) % 32 / 8 = o.val % 4 := by omega
  have e2 : (o.val * 8 + q) % 32 % 8 = q := by omega
  rw [e1, e2, byteAt, byteAt]

end Cert.Codes

end
-- ==== Proof.QuantPack.lean ====
/- From a code's number to its index and its byte, two codes packed in a byte, and one token's row quantised. -/
module

public import proofs.«01_k».proof.Proof.QuantCodes
public import Idealize.ShloMosaic.Lib.Pointwise

@[expose] public section

noncomputable section

namespace Cert.Codes

open Idealize.ShloMosaic

/-- The index of a representable number among the magnitudes is the code's low three bits. -/
theorem index_num (c : BitVec 4) :
    (if |num c| < 2 then 2 * |num c| else if |num c| < 4 then |num c| + 2 else |num c| * (1 / 2) + 4) = ((c.toNat % 8 : ℕ) : ℝ) := by
  obtain ⟨n, hn⟩ := c
  have hn' : n < 16 := hn
  interval_cases n <;>
    simp [num, mag, BitVec.getLsbD, BitVec.toNat, abs_of_nonneg] <;>
    norm_num [Nat.testBit, Nat.shiftRight_eq_div_pow, abs_of_nonneg]

/-- A code's number is negative where its top bit is set, the negative zero apart. -/
theorem num_neg (c : BitVec 4) (hc : c ≠ 8#4) : num c < 0 ↔ 8 ≤ c.toNat := by
  obtain ⟨n, hn⟩ := c
  have hn' : n < 16 := hn
  by_cases h8 : n = 8
  · exact absurd (by subst h8; rfl) hc
  clear hc
  interval_cases n <;>
    first
    | exact absurd rfl h8
    | (simp [num, mag, BitVec.getLsbD, BitVec.toNat]; try norm_num [Nat.testBit, Nat.shiftRight_eq_div_pow])

/-- The index as the programs compute it over the extended reals. -/
theorem index_coe (r : ℝ) :
    (if ((r : ℝ) : EReal) < Ideal.ofBits .f32 0x40000000#32 then Ideal.ofBits .f32 0x40000000#32 * ((r : ℝ) : EReal)
      else if ((r : ℝ) : EReal) < Ideal.ofBits .f32 0x40800000#32 then ((r : ℝ) : EReal) + Ideal.ofBits .f32 0x40000000#32
      else ((r : ℝ) : EReal) * Ideal.ofBits .f32 0x3F000000#32 + Ideal.ofBits .f32 0x40800000#32)
    = (((if r < 2 then 2 * r else if r < 4 then r + 2 else r * (1 / 2) + 4) : ℝ) : EReal) := by
  rw [f32_2, f32_4, f32_half]
  simp only [EReal.coe_lt_coe_iff]
  split_ifs
  · rw [EReal.coe_mul]
  · rw [EReal.coe_add]
  · rw [EReal.coe_add, EReal.coe_mul]

theorem abs_coe (r : ℝ) : max ((r : ℝ) : EReal) (-((r : ℝ) : EReal)) = ((|r| : ℝ) : EReal) := by
  rw [← EReal.coe_neg, ← EReal.coe_strictMono.monotone.map_max]; rfl

theorem fptosi_nat (n : ℕ) (h : n < 8) : Ideal.fptosi 32 (((n : ℕ) : ℝ) : EReal) = BitVec.ofNat 32 n := by
  unfold Ideal.fptosi
  rw [Ideal.toIntClamped_coe, if_pos (Nat.cast_nonneg n), Int.floor_natCast]
  interval_cases n <;> rfl

theorem fptoui_nat (n : ℕ) (h : n < 8) : Ideal.fptoui 8 (((n : ℕ) : ℝ) : EReal) = BitVec.ofNat 8 n := by
  unfold Ideal.fptoui
  rw [Ideal.toIntClamped_coe, if_pos (Nat.cast_nonneg n), Int.floor_natCast]
  interval_cases n <;> rfl

/-- A code as a byte with the magnitude in bits 2–4 and the sign in bit 7. -/
def spread (c : BitVec 4) : BitVec 8 := (BitVec.ofNat 8 (c.toNat % 8) <<< 2) ||| (if 8 ≤ c.toNat then 128#8 else 0#8)

/-- That byte computed from the code's number. -/
theorem spread_num (c : BitVec 4) (hc : c ≠ 8#4) :
    (fun r : EReal => BitVec.setWidth 8
      (IntOp.ori
        (IntOp.shli ArithUnit.vector
          (Ideal.fptosi 32
            (if max r (-r) < Ideal.ofBits .f32 0x40000000#32 then Ideal.ofBits .f32 0x40000000#32 * max r (-r)
              else if max r (-r) < Ideal.ofBits .f32 0x40800000#32 then max r (-r) + Ideal.ofBits .f32 0x40000000#32
              else max r (-r) * Ideal.ofBits .f32 0x3F000000#32 + Ideal.ofBits .f32 0x40800000#32)) 2#32)
        (if r < 0 then 128#32 else 0#32))) ((num c : ℝ) : EReal) = spread c := by
  dsimp only
  rw [abs_coe, index_coe, index_num, fptosi_nat _ (Nat.mod_lt _ (by decide))]
  have hs : (((num c : ℝ) : EReal) < 0) ↔ 8 ≤ c.toNat := by
    rw [← num_neg c hc]; exact EReal.coe_lt_coe_iff (y := 0)
  rw [if_congr hs rfl rfl]
  clear hs hc
  revert c
  decide +kernel

/-- Two codes in a byte, the first in the low nibble. -/
def pack (a b : BitVec 4) : BitVec 8 := a.setWidth 8 ||| (b.setWidth 8 <<< 4)

theorem lo_pack : ∀ a b : BitVec 4, lo (pack a b) = a := by decide +kernel
theorem hi_pack : ∀ a b : BitVec 4, hi (pack a b) = b := by decide +kernel

/-- Packing the spread bytes of two codes. -/
def packByte (l h : BitVec 8) : BitVec 8 :=
  (((l >>> 2) &&& 0x07#8) ||| ((l >>> 4) &&& 0x08#8)) ||| (((h <<< 2) &&& 0x70#8) ||| (h &&& 0x80#8))

theorem packByte_spread : ∀ a b : BitVec 4, packByte (spread a) (spread b) = pack a b := by decide +kernel

/-- The packing of words acts on each byte alone. -/
theorem packWord (l h : BitVec 32) (q : Nat) (hq : q < 32) :
    ((((l >>> 2) &&& 117901063#32) ||| ((l >>> 4) &&& 134744072#32)) ||| (((h <<< 2) &&& 1886417008#32) ||| (h &&& 2155905152#32))).getLsbD q
      = (packByte (l.extractLsb' (8 * (q / 8)) 8) (h.extractLsb' (8 * (q / 8)) 8)).getLsbD (q % 8) := by
  interval_cases q <;> simp [packByte, BitVec.getLsbD_extractLsb'] <;> simp [BitVec.getLsbD, Nat.testBit]

/-- The code of a quotient as the reference computes it, in a byte. -/
theorem encode (t : EReal) :
    (fun m : EReal => (fun q : EReal => (fun i : BitVec 8 =>
        if t < 0 ∧ 0 < q then i ||| 8#8 else i)
        (Ideal.fptoui 8
          (if q < Ideal.ofBits .f32 0x40000000#32 then Ideal.ofBits .f32 0x40000000#32 * q
            else if q < Ideal.ofBits .f32 0x40800000#32 then q + Ideal.ofBits .f32 0x40000000#32
            else q * Ideal.ofBits .f32 0x3F000000#32 + Ideal.ofBits .f32 0x40800000#32)))
      (if m < Ideal.ofBits .f32 0x40000000#32 then Ideal.liftRound Ideal.roundHalfEven (Ideal.ofBits .f32 0x40000000#32 * m) * Ideal.ofBits .f32 0x3F000000#32
        else if m < Ideal.ofBits .f32 0x40800000#32 then Ideal.liftRound Ideal.roundHalfEven m
        else Ideal.ofBits .f32 0x40000000#32 * Ideal.liftRound Ideal.roundHalfEven (m * Ideal.ofBits .f32 0x3F000000#32)))
    (min (max t (-t)) (Ideal.ofBits .f32 0x40C00000#32)) = (quant t).setWidth 8 := by
  dsimp only
  have hq : (if ((clip t : ℝ) : EReal) < Ideal.ofBits .f32 0x40000000#32 then
        Ideal.liftRound Ideal.roundHalfEven (Ideal.ofBits .f32 0x40000000#32 * ((clip t : ℝ) : EReal)) * Ideal.ofBits .f32 0x3F000000#32
      else if ((clip t : ℝ) : EReal) < Ideal.ofBits .f32 0x40800000#32 then Ideal.liftRound Ideal.roundHalfEven ((clip t : ℝ) : EReal)
      else Ideal.ofBits .f32 0x40000000#32 * Ideal.liftRound Ideal.roundHalfEven (((clip t : ℝ) : EReal) * Ideal.ofBits .f32 0x3F000000#32))
      = ((rnd (clip t) : ℝ) : EReal) := by
    rw [f32_2, f32_4, f32_half]
    unfold rnd
    simp only [EReal.coe_lt_coe_iff]
    split_ifs
    · rw [← EReal.coe_mul, Ideal.liftRound_coe, ← EReal.coe_mul]
    · rw [Ideal.liftRound_coe]
    · rw [← EReal.coe_mul, Ideal.liftRound_coe, ← EReal.coe_mul]
  rw [f32_6, coe_clip, hq, index_coe]
  have hc := rnd_cases _ (clip_bounds t).1 (clip_bounds t).2
  unfold quant
  generalize rnd (clip t) = r at hc ⊢
  have hpos : (0 : EReal) < ((r : ℝ) : EReal) ↔ 0 < r := EReal.coe_lt_coe_iff (x := 0)
  have hn : |num (codeOf r)| = r := by
    rw [(num_codeOf r hc).1]
    refine abs_of_nonneg ?_
    rcases hc with rfl | rfl | rfl | rfl | rfl | rfl | rfl | rfl <;> norm_num
  have hi := index_num (codeOf r)
  rw [hn] at hi
  rw [hi, fptoui_nat _ (Nat.mod_lt _ (by decide)), if_congr (and_congr_right' hpos) rfl rfl]
  have h8 : (codeOf r).toNat < 8 := by
    unfold codeOf
    split_ifs <;> decide
  generalize codeOf r = c at h8 ⊢
  rw [Nat.mod_eq_of_lt h8]
  by_cases h : t < 0 ∧ 0 < r
  · rw [if_pos h, if_pos h]
    clear hi hn h
    revert c
    decide +kernel
  · rw [if_neg h, if_neg h]
    clear hi hn h
    revert c
    decide +kernel

/-! ### One token's row -/

section Row
variable (g : EReal) (x s : Fin 3072 → EReal)

/-- The smoothed row. -/
def smoothed (k : Fin 3072) : EReal := x k * s k

/-- The scale of a group of sixteen columns. -/
def rowScale (r : Fin 192) : EReal :=
  scaleOf g (Finset.univ.fold max (Ideal.ofBits .f32 0xFF800000#32) fun a : Fin 16 =>
    max (smoothed x s ⟨r.val * 16 + a.val, by omega⟩) (-smoothed x s ⟨r.val * 16 + a.val, by omega⟩))

/-- The group of a column. -/
def group (k : Fin 3072) : Fin 192 := ⟨k.val / 16, by omega⟩

/-- The code of a column. -/
def rowCode (k : Fin 3072) : BitVec 4 := quant (Ideal.div (smoothed x s k) (rowScale g x s (group k) * g))

/-- The quantised value of a column. -/
def rowValue (k : Fin 3072) : EReal := ((num (rowCode g x s k) : ℝ) : EReal) * rowScale g x s (group k)

/-- The packed byte of two columns, one in each half. -/
def rowByte (j : Fin 1536) : BitVec 8 := pack (rowCode g x s ⟨j.val, by omega⟩) (rowCode g x s ⟨1536 + j.val, by omega⟩)

/-- The smoothed row times a column of the low-rank factor. -/
def rowLow {n : ℕ} (L : (⟨2, ![3072, n]⟩ : Shape).Idx → EReal) (r : Fin n) : EReal := ∑ k : Fin 3072, smoothed x s k * L (ix2 k r)

end Row

end Cert.Codes

end
-- ==== Proof.QuantBlock.lean ====
/- One column block of the quantise call's body over the extended reals, in terms of the tokens' rows. -/
module

public import proofs.«01_k».proof.Proof.QuantPieces
public import proofs.«01_k».proof.Proof.QuantPack

@[expose] public section

set_option maxRecDepth 65536

noncomputable section

namespace Cert.WholeIdeal.Quantise

open Cert.WholeIdeal Cert.WholeIdeal.Gen Cert.WholeIdeal.Work Idealize.ShloMosaic Idealize.ShloMosaic.TcCoe Idealize.SL.Sem
open Cert.Codes

section
variable (g : EReal) (x : Fin 128 → Fin 3072 → EReal) (s : Fin 3072 → EReal) (o : ℕ) (ho : 16 ∣ o)
  (X : Vec Ideal S128x128 .bf16) (S : Vec Ideal S1x128 .f32)
  (hX : ∀ (p b : Fin 128) (k : Fin 3072), k.val = o + b.val → X (ix2 p b) = x p k)
  (hS : ∀ (b : Fin 128) (k : Fin 3072), k.val = o + b.val → S (ix2 0 b) = s k)

include hX hS

theorem smoothed_apply (p b : Fin 128) (k : Fin 3072) (hk : k.val = o + b.val) :
    k0_pay2 (F := Ideal) X S (ix2 b p) = smoothed (x p) s k := by
  unfold k0_pay2 k0_pay1
  pointwise
  rw [hX p _ k hk, hS _ k hk]
  rfl

include ho

theorem scale_apply (p : Fin 128) (a : Fin 8) (r : Fin 192) (hr : 16 * r.val = o + 16 * a.val) :
    k0_pay3 (F := Ideal) g X S (ix2 a p) = rowScale g (x p) s r := by
  unfold k0_pay3 k0_pay1
  pointwise
  unfold rowScale scaleOf
  have e : (fun b : Fin 16 => FloatOps.absf (F := Ideal) (φ := .f32) (X (ix2 p ⟨a.val * 16 + b.val, by omega⟩) * S (ix2 0 ⟨a.val * 16 + b.val, by omega⟩)))
      = fun b : Fin 16 => max (smoothed (x p) s ⟨r.val * 16 + b.val, by omega⟩) (-smoothed (x p) s ⟨r.val * 16 + b.val, by omega⟩) := by
    funext b
    have hk : (⟨r.val * 16 + b.val, by omega⟩ : Fin 3072).val = o + (⟨a.val * 16 + b.val, by omega⟩ : Fin 128).val := by
      show r.val * 16 + b.val = o + (a.val * 16 + b.val); omega
    rw [hX p _ _ hk, hS _ _ hk]
    rfl
  rw [e]

theorem rounded_apply (p b : Fin 128) (k : Fin 3072) (hk : k.val = o + b.val) :
    rounded (F := Ideal) g X S (ix2 b p) = ((num (rowCode g (x p) s k) : ℝ) : EReal) := by
  have hs := scale_apply g x s o ho X S hX hS p ⟨b.val / 16, by omega⟩ (group k) (by show 16 * (k.val / 16) = o + 16 * (b.val / 16); omega)
  unfold rounded k0_pay6 k0_pay5 k0_pay1
  pointwise
  rw [hX p b k hk, hS b k hk, hs]
  exact round_step _

theorem values_apply (p b : Fin 128) (k : Fin 3072) (hk : k.val = o + b.val) :
    values (F := Ideal) g X S (ix2 p b) = rowValue g (x p) s k := by
  have hs := scale_apply g x s o ho X S hX hS p ⟨b.val / 16, by omega⟩ (group k) (by show 16 * (k.val / 16) = o + 16 * (b.val / 16); omega)
  have hr := rounded_apply g x s o ho X S hX hS p b k hk
  unfold values k0_pay7
  pointwise
  rw [hs]
  unfold rowValue
  rw [← hr]
  rfl

theorem bytes_apply (p b : Fin 128) (k : Fin 3072) (hk : k.val = o + b.val) :
    bytes (F := Ideal) (rounded (F := Ideal) g X S) (ix2 b p) = spread (rowCode g (x p) s k) := by
  have hr := rounded_apply g x s o ho X S hX hS p b k hk
  unfold bytes
  pointwise
  rw [hr]
  exact spread_num _ (quant_ne _)

end

theorem packed_apply (l h : IVec S128x128 8) (p b : Fin 128) : packed l h (ix2 p b) = packByte (l (ix2 b p)) (h (ix2 b p)) := by
  unfold packed
  pointwise
  exact lanes2 (fun v w => (((v >>> 2) &&& 117901063#32) ||| ((v >>> 4) &&& 134744072#32)) ||| (((w <<< 2) &&& 1886417008#32) ||| (w &&& 2155905152#32)))
    packByte packWord l h bitcasts_S128x128_w8_S32x128_w32 bitcasts_S32x128_w32_S128x128_w8 (ix2 b p)

end Cert.WholeIdeal.Quantise

end
-- ==== Proof.QuantOut.lean ====
/- What one point of the quantise call leaves in its four output blocks, in terms of the rows of its 128 tokens. -/
module

public import proofs.«01_k».proof.Proof.QuantBlock
public import Idealize.ShloMosaic.Lib.Pipeline.Covers
public import Idealize.ShloMosaic.Lib.Pipeline.ValueKit

@[expose] public section

set_option maxRecDepth 65536

noncomputable section

namespace Cert.WholeIdeal.Quantise

open Cert.WholeIdeal Cert.WholeIdeal.Gen Cert.WholeIdeal.Work Idealize.ShloMosaic Idealize.ShloMosaic.TcCoe Idealize.SL.Sem
open Cert.Codes

/-- The one element of a scalar operand. -/
theorem first_S1 (x : Vec Ideal S1 .f32) (h : 0 < S1.numel) :
    View.ld x (Rect.unit (s := S1) ![0] S1.size inb_S1_S1_0) (Shape.Idx.first h) = x (ValueIdx.ix1 0) :=
  congrArg x (funext fun a => Fin.ext (by
    match a with
    | ⟨0, _⟩ => exact Nat.lt_one_iff.mp (Fin.isLt (n := 1) _)))

/-- A slice of a matrix, read at an index. -/
theorem ld2 {e : EltTy} {n0 n1 m0 m1 o0 o1 : ℕ} (X : Vec Ideal ⟨2, ![n0, n1]⟩ e)
    (inb : ∀ a, (![o0, o1] : Fin 2 → ℕ) a + (⟨2, ![m0, m1]⟩ : Shape).size a ≤ (⟨2, ![n0, n1]⟩ : Shape).size a)
    (a : Fin m0) (b : Fin m1) (i : Fin n0) (j : Fin n1) (hi : i.val = o0 + a.val) (hj : j.val = o1 + b.val) :
    View.ld X (Rect.unit (s := ⟨2, ![n0, n1]⟩) ![o0, o1] (⟨2, ![m0, m1]⟩ : Shape).size inb) (ix2 a b) = X (ix2 i j) := by
  refine View.ld_unit_apply_of X _ _ inb _ _ fun d => ?_
  match d with
  | ⟨0, _⟩ => exact hi
  | ⟨1, _⟩ => exact hj

/-- A store into a slice of a matrix that agrees there with a function of the two indices. -/
theorem store2 {e : EltTy} {n0 n1 m0 m1 o0 o1 : ℕ} (G : Fin n0 → Fin n1 → Elt Ideal e)
    (inb : ∀ a, (![o0, o1] : Fin 2 → ℕ) a + (⟨2, ![m0, m1]⟩ : Shape).size a ≤ (⟨2, ![n0, n1]⟩ : Shape).size a)
    (w : Vec Ideal ⟨2, ![m0, m1]⟩ e)
    (hw : ∀ (a : Fin m0) (b : Fin m1) (i : Fin n0) (j : Fin n1), i.val = o0 + a.val → j.val = o1 + b.val → w (ix2 a b) = G i j)
    (y : (⟨2, ![m0, m1]⟩ : Shape).Idx) :
    w y = (fun z : (⟨2, ![n0, n1]⟩ : Shape).Idx => G (z 0) (z 1)) ((Rect.unit (s := ⟨2, ![n0, n1]⟩) ![o0, o1] (⟨2, ![m0, m1]⟩ : Shape).size inb).emb y) := by
  obtain ⟨a, b, rfl⟩ : ∃ (a : Fin m0) (b : Fin m1), y = ix2 a b := ⟨y 0, y 1, eq_ix2 y⟩
  exact hw a b _ _ (Rect.idx_unit_val _ _ _ _ 0) (Rect.idx_unit_val _ _ _ _ 1)

section
variable (g : EReal) (x : Fin 128 → Fin 3072 → EReal) (s : Fin 3072 → EReal)
  (X : (o : ℕ) → o + 128 ≤ 3072 → Vec Ideal S128x128 .bf16) (S : (o : ℕ) → o + 128 ≤ 3072 → Vec Ideal S1x128 .f32)
  (hX : ∀ o h (p b : Fin 128) (k : Fin 3072), k.val = o + b.val → X o h (ix2 p b) = x p k)
  (hS : ∀ o h (b : Fin 128) (k : Fin 3072), k.val = o + b.val → S o h (ix2 0 b) = s k)

include hX hS

/-- The stores of quantised values agree with the rows' values. -/
theorem pieces4_val : ∀ (n : ℕ) (h : n ≤ 12) (p) (_ : p ∈ pieces4 (F := Ideal) g X S n h) (y : p.1.shape.Idx),
    p.2 y = (fun z : S128x3072.Idx => rowValue g (x (z 0)) s (z 1)) (p.1.emb y)
  | 0, _, _, hp, _ => absurd hp List.not_mem_nil
  | n + 1, h, p, hp, y => by
    rcases List.mem_cons.mp hp with rfl | hp
    · refine store2 (e := .bf16) (fun i k => rowValue g (x i) s k) (inbX (1536 + 128 * n) (by omega)) _ (fun a b i k hi hk => ?_) y
      obtain rfl : i = a := Fin.ext (hi.trans (Nat.zero_add _))
      exact values_apply g x s _ ⟨96 + 8 * n, by omega⟩ _ _ (hX _ _) (hS _ _) _ _ _ hk
    · rcases List.mem_cons.mp hp with rfl | hp
      · refine store2 (e := .bf16) (fun i k => rowValue g (x i) s k) (inbX (128 * n) (by omega)) _ (fun a b i k hi hk => ?_) y
        obtain rfl : i = a := Fin.ext (hi.trans (Nat.zero_add _))
        exact values_apply g x s _ ⟨8 * n, by omega⟩ _ _ (hX _ _) (hS _ _) _ _ _ hk
      · exact pieces4_val n _ p hp y

/-- The stores of packed bytes agree with the rows' bytes. -/
theorem pieces6_val : ∀ (n : ℕ) (h : n ≤ 12) (p) (_ : p ∈ pieces6 (F := Ideal) g X S n h) (y : p.1.shape.Idx),
    p.2 y = (fun z : S128x1536.Idx => rowByte g (x (z 0)) s (z 1)) (p.1.emb y)
  | 0, _, _, hp, _ => absurd hp List.not_mem_nil
  | n + 1, h, p, hp, y => by
    rcases List.mem_cons.mp hp with rfl | hp
    · refine store2 (e := .i8) (fun i k => rowByte g (x i) s k) (inbP (128 * n) (by omega)) _ (fun a b i k hi hk => ?_) y
      obtain rfl : i = a := Fin.ext (hi.trans (Nat.zero_add _))
      refine (packed_apply _ _ i b).trans ?_
      rw [bytes_apply g x s _ ⟨8 * n, by omega⟩ _ _ (hX _ _) (hS _ _) i b ⟨k.val, by omega⟩ hk,
        bytes_apply g x s _ ⟨96 + 8 * n, by omega⟩ _ _ (hX _ _) (hS _ _) i b ⟨1536 + k.val, by omega⟩ (by show 1536 + k.val = _; omega),
        packByte_spread]
      rfl
    · exact pieces6_val n _ p hp y

/-- The stores of smoothed values agree with the rows' smoothed values. -/
theorem piecesX_val : ∀ (n : ℕ) (h : n ≤ 12) (p) (_ : p ∈ piecesX (F := Ideal) X S n h) (y : p.1.shape.Idx),
    p.2 y = (fun z : S3072x128.Idx => smoothed (x (z 1)) s (z 0)) (p.1.emb y)
  | 0, _, _, hp, _ => absurd hp List.not_mem_nil
  | n + 1, h, p, hp, y => by
    rcases List.mem_cons.mp hp with rfl | hp
    · refine store2 (e := .bf16) (fun k i => smoothed (x i) s k) (inbT (1536 + 128 * n) (by omega)) _ (fun b a k i hk hi => ?_) y
      obtain rfl : i = a := Fin.ext (hi.trans (Nat.zero_add _))
      exact smoothed_apply x s _ _ _ (hX _ _) (hS _ _) _ _ _ hk
    · rcases List.mem_cons.mp hp with rfl | hp
      · refine store2 (e := .bf16) (fun k i => smoothed (x i) s k) (inbT (128 * n) (by omega)) _ (fun b a k i hk hi => ?_) y
        obtain rfl : i = a := Fin.ext (hi.trans (Nat.zero_add _))
        exact smoothed_apply x s _ _ _ (hX _ _) (hS _ _) _ _ _ hk
      · exact piecesX_val n _ p hp y

/-- The scales of a column block, as they are stored. -/
theorem stored_scale (o : ℕ) (ho : 16 ∣ o) (h : o + 128 ≤ 3072) (p : Fin 128) (a : Fin 8) (r : Fin 192) (hr : 16 * r.val = o + 16 * a.val) :
    k0_pay4 (F := Ideal) g (X o h) (S o h) (ix2 a p) = rowScale g (x p) s r := by
  refine Eq.trans ?_ (scale_apply g x s o ho (X o h) (S o h) (hX o h) (hS o h) p a r hr)
  unfold k0_pay4
  pointwise

/-- The stores of scales agree with the rows' scales. -/
theorem piecesC_val : ∀ (n : ℕ) (h : n ≤ 12) (p) (_ : p ∈ piecesC (F := Ideal) g X S n h) (y : p.1.shape.Idx),
    p.2 y = (fun z : S192x128.Idx => rowScale g (x (z 1)) s (z 0)) (p.1.emb y)
  | 0, _, _, hp, _ => absurd hp List.not_mem_nil
  | n + 1, h, p, hp, y => by
    rcases List.mem_cons.mp hp with rfl | hp
    · refine store2 (e := .f32) (fun r i => rowScale g (x i) s r) (inbC (96 + 8 * n) (by omega)) _ (fun a q r i hr hi => ?_) y
      obtain rfl : i = q := Fin.ext (hi.trans (Nat.zero_add _))
      exact stored_scale g x s X S hX hS _ ⟨96 + 8 * n, by omega⟩ _ _ _ _ (by omega)
    · rcases List.mem_cons.mp hp with rfl | hp
      · refine store2 (e := .f32) (fun r i => rowScale g (x i) s r) (inbC (8 * n) (by omega)) _ (fun a q r i hr hi => ?_) y
        obtain rfl : i = q := Fin.ext (hi.trans (Nat.zero_add _))
        exact stored_scale g x s X S hX hS _ ⟨8 * n, by omega⟩ _ _ _ _ (by omega)
      · exact piecesC_val n _ p hp y
end

section

/-- The scale's scalar operand. -/
theorem scalar (c : Dev nD) (arg1 : Memref sig .tc .smem S1 .f32) (harg1 : arg1.IsWhole) (x0 : Vec Ideal S1 .f32) :
    kernelRun0_A.sl.r (F := Ideal) c arg1 harg1 x0 = x0 (ValueIdx.ix1 0) := by
  unfold kernelRun0_A.sl.r
  simp only [View.readAt_eq_ld, harg1.read_unread]
  exact first_S1 x0 (by decide)

/-- The loads of the block of activations. -/
theorem loadX (arg2 : Memref sig .tc .vmem S128x3072 .bf16) (harg2 : arg2.IsWhole) (x1 : Vec Ideal S128x3072 .bf16)
    (o : ℕ) (h : o + 128 ≤ 3072) (p b : Fin 128) (k : Fin 3072) (hk : k.val = o + b.val) :
    View.readAt (Elt Ideal) arg2.view (Rect.unit (s := S128x3072) ![0, o] S128x128.size (inbX o h)).toLoadRect (harg2.unread x1) (ix2 p b) = x1 (ix2 p k) := by
  rw [View.readAt_eq_ld, harg2.read_unread]
  exact ld2 x1 _ _ _ _ _ (Nat.zero_add _).symm hk

/-- The loads of the smoothing factors. -/
theorem loadS (arg3 : Memref sig .tc .vmem S1x3072 .f32) (harg3 : arg3.IsWhole) (x2 : Vec Ideal S1x3072 .f32)
    (o : ℕ) (h : o + 128 ≤ 3072) (b : Fin 128) (k : Fin 3072) (hk : k.val = o + b.val) :
    View.readAt (Elt Ideal) arg3.view (Rect.unit (s := S1x3072) ![0, o] S1x128.size (inbS o h)).toLoadRect (harg3.unread x2) (ix2 0 b) = x2 (ix2 0 k) := by
  rw [View.readAt_eq_ld, harg3.read_unread]
  exact ld2 x2 _ _ _ _ _ rfl hk

/-- The stores of smoothed values cover the scratch. -/
theorem coverX (c : Dev nD) (arg2 : Memref sig .tc .vmem S128x3072 .bf16) (harg2 : arg2.IsWhole) (arg3 : Memref sig .tc .vmem S1x3072 .f32) (harg3 : arg3.IsWhole)
    (x1 : Vec Ideal S128x3072 .bf16) (x2 : Vec Ideal S1x3072 .f32) (y : S3072x128.Idx) :
    ∃ p ∈ kernelRun0_A.sl.HS0_24 (F := Ideal) c arg2 harg2 arg3 harg3 x1 x2, y ∈ p.1.set :=
  View.cover_of_tiledL (kernelRun0_A.sl.HS0_24 (F := Ideal) c arg2 harg2 arg3 harg3 x1 x2) S128x128.size (by sl_kernel_rfl) y

/-- The stores of scales cover the scratch. -/
theorem coverC (c : Dev nD) (arg1 : Memref sig .tc .smem S1 .f32) (harg1 : arg1.IsWhole) (arg2 : Memref sig .tc .vmem S128x3072 .bf16) (harg2 : arg2.IsWhole) (arg3 : Memref sig .tc .vmem S1x3072 .f32) (harg3 : arg3.IsWhole)
    (x0 : Vec Ideal S1 .f32) (x1 : Vec Ideal S128x3072 .bf16) (x2 : Vec Ideal S1x3072 .f32) (y : S192x128.Idx) :
    ∃ p ∈ kernelRun0_A.sl.HS1_24 (F := Ideal) c arg1 harg1 arg2 harg2 arg3 harg3 x0 x1 x2, y ∈ p.1.set :=
  View.cover_of_tiledL (kernelRun0_A.sl.HS1_24 (F := Ideal) c arg1 harg1 arg2 harg2 arg3 harg3 x0 x1 x2) S8x128.size (by sl_kernel_rfl) y

/-- The scratch of smoothed values after the last store. -/
theorem heldX (c : Dev nD) (arg1 : Memref sig .tc .smem S1 .f32) (harg1 : arg1.IsWhole) (arg2 : Memref sig .tc .vmem S128x3072 .bf16) (harg2 : arg2.IsWhole) (arg3 : Memref sig .tc .vmem S1x3072 .f32) (harg3 : arg3.IsWhole)
    (x1 : Vec Ideal S128x3072 .bf16) (x2 : Vec Ideal S1x3072 .f32) (x0 : Vec Ideal S1 .f32) (y : S3072x128.Idx) :
    View.canon (kernelRun0_A.sl.HS0_24 (F := Ideal) c arg2 harg2 arg3 harg3 x1 x2) y = smoothed (fun k => x1 (ix2 (y 1) k)) (fun k => x2 (ix2 0 k)) (y 0) := by
  refine View.canon_apply_of_pieces (fun z : S3072x128.Idx => smoothed (fun k => x1 (ix2 (z 1) k)) (fun k => x2 (ix2 0 k)) (z 0)) _ ?_ y (coverX c arg2 harg2 arg3 harg3 x1 x2 y)
  rw [storesX c arg1 harg1 arg2 harg2 arg3 harg3 x0 x1 x2]
  exact piecesX_val (fun i k => x1 (ix2 i k)) (fun k => x2 (ix2 0 k)) _ _ (loadX arg2 harg2 x1) (loadS arg3 harg3 x2) 12 _

/-- The scratch of scales after the last store. -/
theorem heldC (c : Dev nD) (arg1 : Memref sig .tc .smem S1 .f32) (harg1 : arg1.IsWhole) (arg2 : Memref sig .tc .vmem S128x3072 .bf16) (harg2 : arg2.IsWhole) (arg3 : Memref sig .tc .vmem S1x3072 .f32) (harg3 : arg3.IsWhole)
    (x0 : Vec Ideal S1 .f32) (x1 : Vec Ideal S128x3072 .bf16) (x2 : Vec Ideal S1x3072 .f32) (y : S192x128.Idx) :
    View.canon (kernelRun0_A.sl.HS1_24 (F := Ideal) c arg1 harg1 arg2 harg2 arg3 harg3 x0 x1 x2) y
      = rowScale (x0 (ValueIdx.ix1 0)) (fun k => x1 (ix2 (y 1) k)) (fun k => x2 (ix2 0 k)) (y 0) := by
  refine View.canon_apply_of_pieces (fun z : S192x128.Idx => rowScale (x0 (ValueIdx.ix1 0)) (fun k => x1 (ix2 (z 1) k)) (fun k => x2 (ix2 0 k)) (z 0)) _ ?_ y
    (coverC c arg1 harg1 arg2 harg2 arg3 harg3 x0 x1 x2 y)
  rw [storesC, scalar]
  exact piecesC_val (x0 (ValueIdx.ix1 0)) (fun i k => x1 (ix2 i k)) (fun k => x2 (ix2 0 k)) _ _ (loadX arg2 harg2 x1) (loadS arg3 harg3 x2) 12 _

/-- The block of quantised values. -/
theorem out_4 (c : Dev nD) (i : grid0.Coords) (arg1 : Memref sig .tc .smem S1 .f32) (harg1 : arg1.IsWhole) (arg2 : Memref sig .tc .vmem S128x3072 .bf16) (harg2 : arg2.IsWhole) (arg3 : Memref sig .tc .vmem S1x3072 .f32) (harg3 : arg3.IsWhole) (arg4 : Memref sig .tc .vmem S3072x64 .bf16) (harg4 : arg4.IsWhole) (arg5 : Memref sig .tc .vmem S128x3072 .bf16) (harg5 : arg5.IsWhole) (arg6 : Memref sig .tc .vmem S128x64 .bf16) (harg6 : arg6.IsWhole) (arg7 : Memref sig .tc .vmem S128x1536 .i8) (harg7 : arg7.IsWhole) (arg8 : Memref sig .tc .vmem S128x192 .fp8e4m3) (harg8 : arg8.IsWhole) (arg9 : Memref sig .tc .vmem S3072x128 .bf16) (harg9 : arg9.IsWhole) (arg10 : Memref sig .tc .vmem S192x128 .f32) (harg10 : arg10.IsWhole)
    (x0 : Vec Ideal S1 .f32) (x1 : Vec Ideal S128x3072 .bf16) (x2 : Vec Ideal S1x3072 .f32) (x3 : Vec Ideal S3072x64 .bf16) (p : Fin 128) (k : Fin 3072) :
    out0_A_4 (F := Ideal) c i arg1 harg1 arg2 harg2 arg3 harg3 arg4 harg4 arg5 harg5 arg6 harg6 arg7 harg7 arg8 harg8 arg9 harg9 arg10 harg10 x0 x1 x2 x3 (ix2 p k)
      = rowValue (x0 (ValueIdx.ix1 0)) (fun k => x1 (ix2 p k)) (fun k => x2 (ix2 0 k)) k := by
  unfold out0_A_4
  rw [View.read_writes_junk_eq_canon]
  refine View.canon_apply_of_pieces (fun z : S128x3072.Idx => rowValue (x0 (ValueIdx.ix1 0)) (fun k => x1 (ix2 (z 0) k)) (fun k => x2 (ix2 0 k)) (z 1)) _ ?_ _
    (cover0_A_4 c i arg1 harg1 arg2 harg2 arg3 harg3 arg4 harg4 arg5 harg5 arg6 harg6 arg7 harg7 arg8 harg8 arg9 harg9 arg10 harg10 x0 x1 x2 x3 _)
  rw [stores4, scalar]
  exact pieces4_val (x0 (ValueIdx.ix1 0)) (fun i k => x1 (ix2 i k)) (fun k => x2 (ix2 0 k)) _ _ (loadX arg2 harg2 x1) (loadS arg3 harg3 x2) 12 _

/-- The block of packed bytes. -/
theorem out_6 (c : Dev nD) (i : grid0.Coords) (arg1 : Memref sig .tc .smem S1 .f32) (harg1 : arg1.IsWhole) (arg2 : Memref sig .tc .vmem S128x3072 .bf16) (harg2 : arg2.IsWhole) (arg3 : Memref sig .tc .vmem S1x3072 .f32) (harg3 : arg3.IsWhole) (arg4 : Memref sig .tc .vmem S3072x64 .bf16) (harg4 : arg4.IsWhole) (arg5 : Memref sig .tc .vmem S128x3072 .bf16) (harg5 : arg5.IsWhole) (arg6 : Memref sig .tc .vmem S128x64 .bf16) (harg6 : arg6.IsWhole) (arg7 : Memref sig .tc .vmem S128x1536 .i8) (harg7 : arg7.IsWhole) (arg8 : Memref sig .tc .vmem S128x192 .fp8e4m3) (harg8 : arg8.IsWhole) (arg9 : Memref sig .tc .vmem S3072x128 .bf16) (harg9 : arg9.IsWhole) (arg10 : Memref sig .tc .vmem S192x128 .f32) (harg10 : arg10.IsWhole)
    (x0 : Vec Ideal S1 .f32) (x1 : Vec Ideal S128x3072 .bf16) (x2 : Vec Ideal S1x3072 .f32) (x3 : Vec Ideal S3072x64 .bf16) (p : Fin 128) (k : Fin 1536) :
    out0_A_6 (F := Ideal) c i arg1 harg1 arg2 harg2 arg3 harg3 arg4 harg4 arg5 harg5 arg6 harg6 arg7 harg7 arg8 harg8 arg9 harg9 arg10 harg10 x0 x1 x2 x3 (ix2 p k)
      = rowByte (x0 (ValueIdx.ix1 0)) (fun k => x1 (ix2 p k)) (fun k => x2 (ix2 0 k)) k := by
  unfold out0_A_6
  rw [View.read_writes_junk_eq_canon]
  refine View.canon_apply_of_pieces (e := .i8) (fun z : S128x1536.Idx => rowByte (x0 (ValueIdx.ix1 0)) (fun k => x1 (ix2 (z 0) k)) (fun k => x2 (ix2 0 k)) (z 1)) _ ?_ _
    (cover0_A_6 c i arg1 harg1 arg2 harg2 arg3 harg3 arg4 harg4 arg5 harg5 arg6 harg6 arg7 harg7 arg8 harg8 arg9 harg9 arg10 harg10 x0 x1 x2 x3 _)
  rw [stores6, scalar]
  exact pieces6_val (x0 (ValueIdx.ix1 0)) (fun i k => x1 (ix2 i k)) (fun k => x2 (ix2 0 k)) _ _ (loadX arg2 harg2 x1) (loadS arg3 harg3 x2) 12 _

/-- The block of scales. -/
theorem out_7 (c : Dev nD) (i : grid0.Coords) (arg1 : Memref sig .tc .smem S1 .f32) (harg1 : arg1.IsWhole) (arg2 : Memref sig .tc .vmem S128x3072 .bf16) (harg2 : arg2.IsWhole) (arg3 : Memref sig .tc .vmem S1x3072 .f32) (harg3 : arg3.IsWhole) (arg4 : Memref sig .tc .vmem S3072x64 .bf16) (harg4 : arg4.IsWhole) (arg5 : Memref sig .tc .vmem S128x3072 .bf16) (harg5 : arg5.IsWhole) (arg6 : Memref sig .tc .vmem S128x64 .bf16) (harg6 : arg6.IsWhole) (arg7 : Memref sig .tc .vmem S128x1536 .i8) (harg7 : arg7.IsWhole) (arg8 : Memref sig .tc .vmem S128x192 .fp8e4m3) (harg8 : arg8.IsWhole) (arg9 : Memref sig .tc .vmem S3072x128 .bf16) (harg9 : arg9.IsWhole) (arg10 : Memref sig .tc .vmem S192x128 .f32) (harg10 : arg10.IsWhole)
    (x0 : Vec Ideal S1 .f32) (x1 : Vec Ideal S128x3072 .bf16) (x2 : Vec Ideal S1x3072 .f32) (x3 : Vec Ideal S3072x64 .bf16) (p : Fin 128) (r : Fin 192) :
    out0_A_7 (F := Ideal) c i arg1 harg1 arg2 harg2 arg3 harg3 arg4 harg4 arg5 harg5 arg6 harg6 arg7 harg7 arg8 harg8 arg9 harg9 arg10 harg10 x0 x1 x2 x3 (ix2 p r)
      = rowScale (x0 (ValueIdx.ix1 0)) (fun k => x1 (ix2 p k)) (fun k => x2 (ix2 0 k)) r := by
  unfold out0_A_7
  rw [View.read_writes_junk_eq_canon]
  unfold kernelRun0_A
  dsimp only
  rw [View.canon_cons_unit_zero (funext fun a => by fin_cases a <;> rfl)]
  unfold kernelRun0_A.sl.v2545
  rw [View.readCov_eq_canon']
  unfold k0_pay287
  pointwise
  refine (heldC c arg1 harg1 arg2 harg2 arg3 harg3 x0 x1 x2 _).trans ?_
  rfl

/-- The block of low-rank products. -/
theorem out_5 (c : Dev nD) (i : grid0.Coords) (arg1 : Memref sig .tc .smem S1 .f32) (harg1 : arg1.IsWhole) (arg2 : Memref sig .tc .vmem S128x3072 .bf16) (harg2 : arg2.IsWhole) (arg3 : Memref sig .tc .vmem S1x3072 .f32) (harg3 : arg3.IsWhole) (arg4 : Memref sig .tc .vmem S3072x64 .bf16) (harg4 : arg4.IsWhole) (arg5 : Memref sig .tc .vmem S128x3072 .bf16) (harg5 : arg5.IsWhole) (arg6 : Memref sig .tc .vmem S128x64 .bf16) (harg6 : arg6.IsWhole) (arg7 : Memref sig .tc .vmem S128x1536 .i8) (harg7 : arg7.IsWhole) (arg8 : Memref sig .tc .vmem S128x192 .fp8e4m3) (harg8 : arg8.IsWhole) (arg9 : Memref sig .tc .vmem S3072x128 .bf16) (harg9 : arg9.IsWhole) (arg10 : Memref sig .tc .vmem S192x128 .f32) (harg10 : arg10.IsWhole)
    (x0 : Vec Ideal S1 .f32) (x1 : Vec Ideal S128x3072 .bf16) (x2 : Vec Ideal S1x3072 .f32) (x3 : Vec Ideal S3072x64 .bf16) (p : Fin 128) (r : Fin 64) :
    out0_A_5 (F := Ideal) c i arg1 harg1 arg2 harg2 arg3 harg3 arg4 harg4 arg5 harg5 arg6 harg6 arg7 harg7 arg8 harg8 arg9 harg9 arg10 harg10 x0 x1 x2 x3 (ix2 p r)
      = rowLow (fun k => x1 (ix2 p k)) (fun k => x2 (ix2 0 k)) x3 r := by
  unfold out0_A_5
  rw [View.read_writes_junk_eq_canon]
  unfold kernelRun0_A
  dsimp only
  rw [View.canon_cons_unit_zero (funext fun a => by fin_cases a <;> rfl)]
  unfold kernelRun0_A.sl.r_167
  unfold kernelRun0_A.sl.v2549
  rw [View.readCov_eq_canon', View.readAt_eq_ld, harg4.read_unread, View.ld_unit_zero (S := S3072x64) (funext fun a => by fin_cases a <;> rfl)]
  unfold k0_pay288
  pointwise
  refine Finset.sum_congr rfl fun k _ => ?_
  exact congrArg (· * x3 (ix2 k r)) (heldX c arg1 harg1 arg2 harg2 arg3 harg3 x1 x2 x0 (ix2 k p))
end

end Cert.WholeIdeal.Quantise

end
-- ==== Proof.QuantArray.lean ====
/- The result arrays of the quantise call over the extended reals: every row of each is a function of that token's row. -/
module

public import proofs.«01_k».proof.Proof.QuantOut
public import proofs.«01_k».proof.Proof.WholeIdealRun
public import Idealize.ShloMosaic.Lib.Pipeline.ValueKit.Held
public import Idealize.ShloMosaic.Lib.Claim

@[expose] public section

set_option maxRecDepth 65536

noncomputable section

namespace Cert.Codes

open Idealize.ShloMosaic

/-- A token's row of activations. -/
def tokenRow (x : (⟨3, ![2, 4096, 3072]⟩ : Shape).Idx → EReal) (p : Fin 8192) (k : Fin 3072) : EReal :=
  x (ix3 ⟨p.val / 4096, by omega⟩ ⟨p.val % 4096, by omega⟩ k)

end Cert.Codes

namespace Cert.WholeIdeal.Quantise

open Cert.WholeIdeal Cert.WholeIdeal.Gen Cert.WholeIdeal.Work Idealize.ShloMosaic Idealize.ShloMosaic.TcCoe Idealize.SL.Sem
open Cert.Codes

variable (m : (ℓ : Loc nD τ sig) → Buf (Elt Ideal) ℓ) (ρ : Dev nD → PrngReg)

/-- The blocks of the point `t`: row block `t`. -/
theorem idx : ∀ t : Fin cfg0.N, win0_0.index t = ![0] ∧ win0_1.index t = ![t.val, 0] ∧ win0_2.index t = ![0, 0]
    ∧ win0_3.index t = ![0, 0] ∧ win0_4.index t = ![t.val, 0] ∧ win0_5.index t = ![t.val, 0]
    ∧ win0_6.index t = ![t.val, 0] ∧ win0_7.index t = ![t.val, 0] :=
  (by decide +kernel : ∀ t : Fin grid0.N, _)

theorem lt64 (t : Fin cfg0.N) : t.val < 64 := t.isLt

/-- Row `r` of the point's row block, in the whole array. -/
def row (t : Fin cfg0.N) (r : Fin 128) : Fin 8192 := ⟨128 * t.val + r.val, by have := lt64 t; omega⟩

theorem blk0 (c : Dev nD) (t : Fin cfg0.N) : iblk0 (V1 m ρ) c 0 t (ValueIdx.ix1 0) = m ((c : Thread nD τ).loc main_arg2) ix0 := by
  blk_simp [iblk0, idx t]
  dsimp only [V1, W1]
  entry_read
  pointwise

theorem emb1 (t : Fin cfg0.N) (r : Fin 128) (k : Fin 3072) : (win0_1.blk t).view.emb (ix2 r k) = ix2 (row t r) k := by
  blk_ext [idx t, row]

theorem emb2 (t : Fin cfg0.N) (k : Fin 3072) : (win0_2.blk t).view.emb (ix2 0 k) = ix2 0 k := by
  blk_ext [idx t]

theorem blk1 (c : Dev nD) (t : Fin cfg0.N) (r : Fin 128) (k : Fin 3072) :
    iblk0 (V1 m ρ) c 1 t (ix2 r k) = tokenRow (m ((c : Thread nD τ).loc main_arg0)) (row t r) k := by
  blk_simp [iblk0, idx t]
  dsimp only [V1, W1]
  entry_read
  pointwise
  exact congrArg (fun z : S8192x3072.Idx => tokenRow (m ((c : Thread nD τ).loc main_arg0)) (z 0) (z 1)) (emb1 t r k)

theorem blk2 (c : Dev nD) (t : Fin cfg0.N) (k : Fin 3072) :
    iblk0 (V1 m ρ) c 2 t (ix2 0 k) = m ((c : Thread nD τ).loc main_arg1) (ix1 k) := by
  blk_simp [iblk0, idx t]
  dsimp only [V1, W1]
  entry_read
  pointwise
  exact congrArg (fun z : S1x3072.Idx => m ((c : Thread nD τ).loc main_arg1) (ix1 (z 1))) (emb2 t k)

theorem blk3 (c : Dev nD) (t : Fin cfg0.N) : iblk0 (V1 m ρ) c 3 t = m ((c : Thread nD τ).loc main_arg6) := by
  blk_ext! [iblk0, V1, idx t]

/-- The rows of the call's arguments. -/
def arow (c : Dev nD) (p : Fin 8192) : Fin 3072 → EReal := tokenRow (m ((c : Thread nD τ).loc main_arg0)) p

/-- The smoothing factors. -/
def srow (c : Dev nD) : Fin 3072 → EReal := fun k => m ((c : Thread nD τ).loc main_arg1) (ix1 k)

/-- The quantised values. -/
def RES4 (c : Dev nD) : Buf (Elt Ideal) ((c : Thread nD τ).loc main_v3_0) := fun i =>
  rowValue (m ((c : Thread nD τ).loc main_arg2) ix0) (arow m c (i 0)) (srow m c) (i 1)

/-- The low-rank products. -/
def RES5 (c : Dev nD) : Buf (Elt Ideal) ((c : Thread nD τ).loc main_v3_1) := fun i =>
  rowLow (arow m c (i 0)) (srow m c) (m ((c : Thread nD τ).loc main_arg6)) (i 1)

/-- The packed codes. -/
def RES6 (c : Dev nD) : Buf (Elt Ideal) ((c : Thread nD τ).loc main_v3_2) := fun i =>
  rowByte (m ((c : Thread nD τ).loc main_arg2) ix0) (arow m c (i 0)) (srow m c) (i 1)

/-- The scales. -/
def RES7 (c : Dev nD) : Buf (Elt Ideal) ((c : Thread nD τ).loc main_v3_3) := fun i =>
  rowScale (m ((c : Thread nD τ).loc main_arg2) ix0) (arow m c (i 0)) (srow m c) (i 1)

theorem rowX (c : Dev nD) (t : Fin cfg0.N) (p : Fin 128) : (fun k => iblk0 (V1 m ρ) c 1 t (ix2 p k)) = arow m c (row t p) :=
  funext fun k => blk1 m ρ c t p k

theorem rowS (c : Dev nD) (t : Fin cfg0.N) : (fun k => iblk0 (V1 m ρ) c 2 t (ix2 0 k)) = srow m c :=
  funext fun k => blk2 m ρ c t k

theorem final4 (c : Dev nD) : (dat0 (V1 m ρ) c).arrAt 4 cfg0.N = RES4 m c := by
  refine (dat0 (V1 m ρ) c).arrAt_eq_of_covers 4 _ (by decide +kernel) fun t hf y => ?_
  rw [after0_4]
  blk_simp
  obtain ⟨p, q, rfl⟩ : ∃ (p : Fin 128) (q : Fin 3072), y = ix2 p q := ⟨y 0, y 1, eq_ix2 y⟩
  have he : (win0_4.blk t).view.emb (ix2 p q) = ix2 (row t p) q := by
    blk_ext [idx t, row]
  refine Eq.trans ?_ (congrArg (RES4 m c) he.symm)
  unfold outsAt0
  dsimp only
  rw [out_4, blk0, rowX, rowS]
  rfl

theorem final5 (c : Dev nD) : (dat0 (V1 m ρ) c).arrAt 5 cfg0.N = RES5 m c := by
  refine (dat0 (V1 m ρ) c).arrAt_eq_of_covers 5 _ (by decide +kernel) fun t hf y => ?_
  rw [after0_5]
  blk_simp
  obtain ⟨p, q, rfl⟩ : ∃ (p : Fin 128) (q : Fin 64), y = ix2 p q := ⟨y 0, y 1, eq_ix2 y⟩
  have he : (win0_5.blk t).view.emb (ix2 p q) = ix2 (row t p) q := by
    blk_ext [idx t, row]
  refine Eq.trans ?_ (congrArg (RES5 m c) he.symm)
  unfold outsAt0
  dsimp only
  rw [out_5, blk3, rowX, rowS]
  rfl

theorem final6 (c : Dev nD) : (dat0 (V1 m ρ) c).arrAt 6 cfg0.N = RES6 m c := by
  refine (dat0 (V1 m ρ) c).arrAt_eq_of_covers 6 _ (by decide +kernel) fun t hf y => ?_
  rw [after0_6]
  blk_simp
  obtain ⟨p, q, rfl⟩ : ∃ (p : Fin 128) (q : Fin 1536), y = ix2 p q := ⟨y 0, y 1, eq_ix2 y⟩
  have he : (win0_6.blk t).view.emb (ix2 p q) = ix2 (row t p) q := by
    blk_ext [idx t, row]
  refine Eq.trans ?_ (congrArg (RES6 m c) he.symm)
  unfold outsAt0
  dsimp only
  rw [out_6, blk0, rowX, rowS]
  rfl

theorem final7 (c : Dev nD) : (dat0 (V1 m ρ) c).arrAt 7 cfg0.N = RES7 m c := by
  refine (dat0 (V1 m ρ) c).arrAt_eq_of_covers 7 _ (by decide +kernel) fun t hf y => ?_
  rw [after0_7]
  blk_simp
  obtain ⟨p, q, rfl⟩ : ∃ (p : Fin 128) (q : Fin 192), y = ix2 p q := ⟨y 0, y 1, eq_ix2 y⟩
  have he : (win0_7.blk t).view.emb (ix2 p q) = ix2 (row t p) q := by
    blk_ext [idx t, row]
  refine Eq.trans ?_ (congrArg (RES7 m c) he.symm)
  unfold outsAt0
  dsimp only
  rw [out_7, blk0, rowX, rowS]
  rfl

end Cert.WholeIdeal.Quantise

end
-- ==== Proof.MmArray.lean ====
/- The result array of the matmul call over the extended reals: every element is the product of the quantised activations
   with the decoded weights, scaled by the two tensor scales, plus the low-rank product, plus the bias. -/
module

public import proofs.«01_k».proof.Proof.MmTiles
public import proofs.«01_k».proof.Proof.QuantArray
public import Idealize.ShloMosaic.Lib.Pipeline.Covers
public import Idealize.ShloMosaic.Lib.Pipeline.ValueKit.Held
public import Idealize.ShloMosaic.Lib.Claim

@[expose] public section

set_option maxRecDepth 65536

noncomputable section

namespace Cert.Codes

open Idealize.ShloMosaic

/-- The linear layer: `(xq · W) * (g * wg) + h · L + b`. -/
def linear (g wg : EReal) (xq : (⟨2, ![8192, 3072]⟩ : Shape).Idx → EReal) (W : Fin 3072 → Fin 21504 → EReal)
    (h : (⟨2, ![8192, 64]⟩ : Shape).Idx → EReal) (L : (⟨2, ![64, 21504]⟩ : Shape).Idx → EReal)
    (b : Fin 21504 → EReal) (p : Fin 8192) (q : Fin 21504) : EReal :=
  (∑ k : Fin 3072, xq (ix2 p k) * W k q) * (g * wg) + (∑ k : Fin 64, h (ix2 p k) * L (ix2 k q)) + b q

end Cert.Codes

namespace Cert.WholeIdeal.Matmul

open Cert.WholeIdeal Cert.WholeIdeal.Gen Cert.WholeIdeal.Work Idealize.ShloMosaic Idealize.ShloMosaic.TcCoe Idealize.SL.Sem
open Cert.Codes

variable (m : (ℓ : Loc nD τ sig) → Buf (Elt Ideal) ℓ) (ρ : Dev nD → PrngReg)

/-- The call is entered with the quantised values of the first call. -/
theorem entry_xq (c : Dev nD) : V3 m ρ c main_v3_0 = Quantise.RES4 m c :=
  (W3_of m ρ c main_v3_0 (by decide)).trans ((W2_arr m ρ c 4).trans (Quantise.final4 m ρ c))

/-- And with its low-rank products. -/
theorem entry_h (c : Dev nD) : V3 m ρ c main_v3_1 = Quantise.RES5 m c :=
  (W3_of m ρ c main_v3_1 (by decide)).trans ((W2_arr m ρ c 5).trans (Quantise.final5 m ρ c))

/-- And with the arguments as they were launched. -/
theorem entry_arg (c : Dev nD) (a : Ref sig .tc) (h : a ∈ argRefs) : V3 m ρ c a = m ((c : Thread nD τ).loc a) := W3_args m ρ c a h

/-- The blocks of the point `t`: column block `t / 8`, row block `t % 8`. -/
theorem idx : ∀ t : Fin cfg1.N, win1_0.index t = ![0] ∧ win1_1.index t = ![t.val % 8, 0] ∧ win1_2.index t = ![t.val % 8, 0]
    ∧ win1_3.index t = ![0, t.val / 8] ∧ win1_4.index t = ![0, t.val / 8] ∧ win1_5.index t = ![0, t.val / 8]
    ∧ win1_6.index t = ![0, t.val / 8] ∧ win1_7.index t = ![t.val % 8, t.val / 8] :=
  (by decide +kernel : ∀ t : Fin grid1.N, _)

theorem lt168 (t : Fin cfg1.N) : t.val < 168 := t.isLt

/-- Row `r` of the point's row block, in the whole array. -/
def row (t : Fin cfg1.N) (r : Fin 1024) : Fin 8192 := ⟨1024 * (t.val % 8) + r.val, by omega⟩

/-- Column `q` of the point's column block, in the whole array. -/
def col (t : Fin cfg1.N) (q : Fin 1024) : Fin 21504 := ⟨1024 * (t.val / 8) + q.val, by have := lt168 t; omega⟩

theorem blk0 (c : Dev nD) (t : Fin cfg1.N) : iblk1 (V3 m ρ) c 0 t (ValueIdx.ix1 0)
    = HMul.hMul (α := EReal) (β := EReal) (m ((c : Thread nD τ).loc main_arg2) ix0) (m ((c : Thread nD τ).loc main_arg5) ix0) := by
  blk_simp [iblk1, idx t]
  dsimp only [V3, W3]
  entry_read
  pointwise
  rw [W2_args m ρ c main_arg2 (by decide), W2_args m ρ c main_arg5 (by decide)]

theorem blk1 (c : Dev nD) (t : Fin cfg1.N) (r : Fin 1024) (k : Fin 3072) :
    iblk1 (V3 m ρ) c 1 t (ix2 r k) = Quantise.RES4 m c (ix2 (row t r) k) := by
  refine Eq.trans ?_ (congrFun (entry_xq m ρ c) _)
  blk_ext [iblk1, V3, idx t, row]

theorem blk2 (c : Dev nD) (t : Fin cfg1.N) (r : Fin 1024) (k : Fin 64) :
    iblk1 (V3 m ρ) c 2 t (ix2 r k) = Quantise.RES5 m c (ix2 (row t r) k) := by
  refine Eq.trans ?_ (congrFun (entry_h m ρ c) _)
  blk_ext [iblk1, V3, idx t, row]

theorem blk3 (c : Dev nD) (t : Fin cfg1.N) (k : Fin 1536) (q : Fin 1024) :
    iblk1 (V3 m ρ) c 3 t (ix2 k q) = m ((c : Thread nD τ).loc main_arg3) (ix2 k (col t q)) := by
  refine Eq.trans ?_ (congrFun (entry_arg m ρ c main_arg3 (by decide)) _)
  blk_ext [iblk1, V3, idx t, col]

theorem blk4 (c : Dev nD) (t : Fin cfg1.N) (k : Fin 192) (q : Fin 1024) :
    iblk1 (V3 m ρ) c 4 t (ix2 k q) = m ((c : Thread nD τ).loc main_arg4) (ix2 k (col t q)) := by
  refine Eq.trans ?_ (congrFun (entry_arg m ρ c main_arg4 (by decide)) _)
  blk_ext [iblk1, V3, idx t, col]

theorem blk5 (c : Dev nD) (t : Fin cfg1.N) (k : Fin 64) (q : Fin 1024) :
    iblk1 (V3 m ρ) c 5 t (ix2 k q) = m ((c : Thread nD τ).loc main_arg7) (ix2 k (col t q)) := by
  refine Eq.trans ?_ (congrFun (entry_arg m ρ c main_arg7 (by decide)) _)
  blk_ext [iblk1, V3, idx t, col]

theorem blk6 (c : Dev nD) (t : Fin cfg1.N) (q : Fin 1024) :
    iblk1 (V3 m ρ) c 6 t (ix2 0 q) = m ((c : Thread nD τ).loc main_arg8) (ix1 (col t q)) := by
  blk_simp [iblk1, idx t]
  dsimp only [V3, W3]
  entry_read
  pointwise
  refine congrArg (m ((c : Thread nD τ).loc main_arg8)) (congrArg ix1 (Fin.ext ?_))
  show (((win1_6.blk t).view.emb (ix2 0 q)) 1 : ℕ) = 1024 * (t.val / 8) + q.val
  blk_simp [idx t]
  simp [ix2_1]
  omega

/-- The decoded weights of the point's column block are those of the whole array. -/
theorem weight_blk (c : Dev nD) (t : Fin cfg1.N) (k : Fin 3072) (q : Fin 1024) :
    weight (iblk1 (V3 m ρ) c 3 t) (iblk1 (V3 m ρ) c 4 t) k q
      = weight (m ((c : Thread nD τ).loc main_arg3)) (m ((c : Thread nD τ).loc main_arg4)) k (col t q) := by
  unfold weight code
  refine congrArg₂ (fun (x : BitVec 4) (y : EReal) => ((num x : ℝ) : EReal) * y) ?_ (blk4 m ρ c t _ q)
  split
  · exact congrArg lo (blk3 m ρ c t _ q)
  · exact congrArg hi (blk3 m ρ c t _ q)

/-- The weight scratch after point `t`: the decoded weights of the point's column block. -/
theorem held (c : Dev nD) (t : Fin cfg1.N) (y : S3072x1024.Idx) :
    (outsAt1 (V3 m ρ) c t.val t.isLt).2 y
      = weight (m ((c : Thread nD τ).loc main_arg3)) (m ((c : Thread nD τ).loc main_arg4)) (y 0) (col t (y 1)) := by
  have h := Pipeline.eq_of_write_hold_apply (fun n h => (outsAt1 (V3 m ρ) c n h).2) 8
    (fun t y => weight (iblk1 (V3 m ρ) c 3 t) (iblk1 (V3 m ρ) c 4 t) (y 0) (y 1))
    (fun t h0 y => by
      rw [outsAt1_A (V3 m ρ) c t h0]
      dsimp only
      apply sout_A)
    (fun t h0 y => by
      rw [outsAt1_B (V3 m ρ) c t h0]
      rfl) t y
  refine h.trans ((weight_blk m ρ c _ _ _).trans (congrArg _ (Fin.ext ?_)))
  show 1024 * (8 * (t.val / 8) / 8) + (y 1).val = 1024 * (t.val / 8) + (y 1).val
  omega

/-- The output block after point `t`, whichever pass ran there. -/
theorem outAt (c : Dev nD) (t : Fin cfg1.N) :
    (outsAt1 (V3 m ρ) c t.val t.isLt).1 = block (iblk1 (V3 m ρ) c 0 t (ValueIdx.ix1 0)) (iblk1 (V3 m ρ) c 1 t)
      (fun y => weight (m ((c : Thread nD τ).loc main_arg3)) (m ((c : Thread nD τ).loc main_arg4)) (y 0) (col t (y 1)))
      (iblk1 (V3 m ρ) c 2 t) (iblk1 (V3 m ρ) c 5 t) (iblk1 (V3 m ρ) c 6 t) := by
  by_cases h0 : t.val % 8 = 0
  · rw [outsAt1_A (V3 m ρ) c t h0]
    dsimp only
    rw [out_A]
    rw [show (fun y : S3072x1024.Idx => weight (iblk1 (V3 m ρ) c 3 t) (iblk1 (V3 m ρ) c 4 t) (y 0) (y 1)) = _ from funext fun y => weight_blk m ρ c t (y 0) (y 1)]
  · rw [outsAt1_B (V3 m ρ) c t h0]
    dsimp only
    rw [out_B]
    congr 1
    funext y
    refine (held m ρ c ⟨t.val - 1, Nat.lt_of_le_of_lt (Nat.sub_le _ _) t.isLt⟩ y).trans (congrArg _ (Fin.ext ?_))
    show 1024 * ((t.val - 1) / 8) + (y 1).val = 1024 * (t.val / 8) + (y 1).val
    omega

/-- The result array of the call: the linear layer of its arguments. -/
def RES (c : Dev nD) : Buf (Elt Ideal) ((c : Thread nD τ).loc main_v7) := fun i =>
  linear (m ((c : Thread nD τ).loc main_arg2) ix0) (m ((c : Thread nD τ).loc main_arg5) ix0)
    (Quantise.RES4 m c) (weight (m ((c : Thread nD τ).loc main_arg3)) (m ((c : Thread nD τ).loc main_arg4)))
    (Quantise.RES5 m c) (m ((c : Thread nD τ).loc main_arg7)) (fun q => m ((c : Thread nD τ).loc main_arg8) (ix1 q)) (i 0) (i 1)

/-- The array the run leaves is that one. -/
theorem final (c : Dev nD) : (dat1 (V3 m ρ) c).arrAt 7 cfg1.N = RES m c := by
  refine (dat1 (V3 m ρ) c).arrAt_eq_of_covers 7 _ (by decide +kernel) fun t hf y => ?_
  rw [after1_7, outAt]
  blk_simp
  obtain ⟨p, q, rfl⟩ : ∃ (p q : Fin 1024), y = ix2 p q := ⟨y 0, y 1, eq_ix2 y⟩
  have he : (win1_7.blk t).view.emb (ix2 p q) = ix2 (row t p) (col t q) := by
    blk_ext [idx t, row, col]
  refine Eq.trans ?_ (congrArg (RES m c) he.symm)
  unfold block RES linear
  simp only [ix2_0, ix2_1]
  rw [blk0, blk6]
  simp only [blk1, blk2, blk5]

end Cert.WholeIdeal.Matmul

end
-- ==== Proof.RefWeights.lean ====
/- The reference's decoded weights over the extended reals: each is the number of its packed code times the scale of the
   code's block of sixteen rows. -/
module

public import proofs.«01_k».proof.Proof.MmArray
public import proofs.«01_k».proof.Proof.Gen.WholeRefIdeal.Frame

@[expose] public section

set_option maxRecDepth 65536

noncomputable section

namespace Cert.Codes

open Idealize.ShloMosaic

/-- The tests of a code's four bits, the low code masked and the high code shifted down. -/
theorem test_lo : ∀ b : BitVec 8,
    IntOp.cmpi .ne (IntOp.andi (IntOp.andi (BitVec.setWidth 32 b) 15#32) 1#32) 0#32 = BitVec.ofBool ((lo b).getLsbD 0)
    ∧ IntOp.cmpi .ne (IntOp.andi (IntOp.andi (BitVec.setWidth 32 b) 15#32) 2#32) 0#32 = BitVec.ofBool ((lo b).getLsbD 1)
    ∧ IntOp.cmpi .ne (IntOp.andi (IntOp.andi (BitVec.setWidth 32 b) 15#32) 4#32) 0#32 = BitVec.ofBool ((lo b).getLsbD 2)
    ∧ IntOp.cmpi .ne (IntOp.andi (IntOp.andi (BitVec.setWidth 32 b) 15#32) 8#32) 0#32 = BitVec.ofBool ((lo b).getLsbD 3) := by
  decide +kernel

theorem test_hi : ∀ b : BitVec 8,
    IntOp.cmpi .ne (IntOp.andi (IntOp.shrsi .vector (BitVec.setWidth 32 b) 4#32) 1#32) 0#32 = BitVec.ofBool ((hi b).getLsbD 0)
    ∧ IntOp.cmpi .ne (IntOp.andi (IntOp.shrsi .vector (BitVec.setWidth 32 b) 4#32) 2#32) 0#32 = BitVec.ofBool ((hi b).getLsbD 1)
    ∧ IntOp.cmpi .ne (IntOp.andi (IntOp.shrsi .vector (BitVec.setWidth 32 b) 4#32) 4#32) 0#32 = BitVec.ofBool ((hi b).getLsbD 2)
    ∧ IntOp.cmpi .ne (IntOp.andi (IntOp.shrsi .vector (BitVec.setWidth 32 b) 4#32) 8#32) 0#32 = BitVec.ofBool ((hi b).getLsbD 3) := by
  decide +kernel

theorem select_ofBool {α : Type} (b : Bool) (x y : α) : Scalar.select (BitVec.ofBool b) x y = if b then x else y := by
  cases b <;> rfl

/-- Choosing the magnitude by the three low bits. -/
theorem mag_eq (c : BitVec 4) :
    (if c.getLsbD 2 then
        if c.getLsbD 1 then if c.getLsbD 0 then Ideal.ofBits .bf16 0x40C0#16 else Ideal.ofBits .bf16 0x4080#16
        else if c.getLsbD 0 then Ideal.ofBits .bf16 0x4040#16 else Ideal.ofBits .bf16 0x4000#16
      else
        if c.getLsbD 1 then if c.getLsbD 0 then Ideal.ofBits .bf16 0x3FC0#16 else 1
        else if c.getLsbD 0 then Ideal.ofBits .bf16 0x3F00#16 else 0) = ((mag c : ℝ) : EReal) := by
  have e6 : Ideal.ofBits .bf16 0x40C0#16 = ((6 : ℝ) : EReal) := by simp [Ideal.ofBits, Ideal.ieee, -EReal.coe_mul]; norm_num
  have e4 : Ideal.ofBits .bf16 0x4080#16 = ((4 : ℝ) : EReal) := by simp [Ideal.ofBits, Ideal.ieee, -EReal.coe_mul]; norm_num
  have e3 : Ideal.ofBits .bf16 0x4040#16 = ((3 : ℝ) : EReal) := by simp [Ideal.ofBits, Ideal.ieee, -EReal.coe_mul]; norm_num
  have e2 : Ideal.ofBits .bf16 0x4000#16 = ((2 : ℝ) : EReal) := by simp [Ideal.ofBits, Ideal.ieee, -EReal.coe_mul]; norm_num
  have e1 : Ideal.ofBits .bf16 0x3FC0#16 = ((3 / 2 : ℝ) : EReal) := by simp [Ideal.ofBits, Ideal.ieee, -EReal.coe_mul]; norm_num
  have e0 : Ideal.ofBits .bf16 0x3F00#16 = ((1 / 2 : ℝ) : EReal) := by simp [Ideal.ofBits, Ideal.ieee, -EReal.coe_mul]; norm_num
  rw [e6, e4, e3, e2, e1, e0]
  unfold mag
  split_ifs <;> rfl

/-- Choosing the sign by the top bit. -/
theorem num_eq (c : BitVec 4) : (if c.getLsbD 3 then (0 : EReal) - ((mag c : ℝ) : EReal) else ((mag c : ℝ) : EReal)) = ((num c : ℝ) : EReal) := by
  unfold num
  split_ifs
  · rw [EReal.coe_sub]; rfl
  · rfl

/-- A row of activations times a column of weights: the products with the low codes, then those with the high codes. -/
theorem sum_weight (v : Vec Ideal ⟨2, ![1536, 21504]⟩ .i8) (sc : Vec Ideal ⟨2, ![192, 21504]⟩ .fp8e4m3) (a : FVec Ideal ⟨2, ![8192, 3072]⟩ .bf16) (p : Fin 8192) (q : Fin 21504) :
    (∑ k : Fin 3072, a (ix2 p k) * weight v sc k q)
      = ∑ x : Fin 1536, a (ix2 p ⟨x.val, by omega⟩) * (((num (lo (v (ix2 x q))) : ℝ) : EReal) * sc (ix2 ⟨x.val / 16, by omega⟩ q))
        + ∑ x : Fin 1536, a (ix2 p ⟨1536 + x.val, by omega⟩) * (((num (hi (v (ix2 x q))) : ℝ) : EReal) * sc (ix2 ⟨96 + x.val / 16, by omega⟩ q)) := by
  refine (Fin.sum_univ_add (a := 1536) (b := 1536) fun k : Fin 3072 => a (ix2 p k) * weight v sc k q).trans (congrArg₂ _ ?_ ?_)
  · refine Finset.sum_congr rfl fun x _ => congrArg₂ _ rfl ?_
    exact weight_lo v sc _ q q x ⟨x.val / 16, by omega⟩ rfl rfl rfl
  · refine Finset.sum_congr rfl fun x _ => congrArg₂ _ rfl ?_
    exact weight_hi v sc _ q q x ⟨96 + x.val / 16, by omega⟩ rfl rfl (by show 96 + x.val / 16 = (1536 + x.val) / 16; omega)

end Cert.Codes

namespace Cert.WholeRefIdeal.Work

open Cert.WholeRefIdeal Cert.WholeRefIdeal.Gen Idealize.ShloMosaic Idealize.ShloMosaic.TcCoe Idealize.SL.Sem
open Cert.Codes

/-- The number of the low code, as the reference's selects compute it. -/
theorem low_apply (v : Vec Ideal S1536x21504 .i8) (s : FVec Ideal S96x21504 .bf16) (r : Fin 1536) (q : Fin 21504) :
    k0_pay23 (F := Ideal) s (k0_pay20 (F := Ideal) v) (k0_pay21 (F := Ideal) v) (k0_pay22 (F := Ideal)) (ix2 r q)
      = ((num (lo (v (ix2 r q))) : ℝ) : EReal) * s (ix2 ⟨r.val / 16, by omega⟩ q) := by
  have h := test_lo (v (ix2 r q))
  have hs : k0_pay20 (F := Ideal) v (ix2 r q) = BitVec.ofBool ((lo (v (ix2 r q))).getLsbD 3) := by
    unfold k0_pay20 k0_pay18
    pointwise
    exact h.2.2.2
  have hm : k0_pay21 (F := Ideal) v (ix2 r q) = ((mag (lo (v (ix2 r q))) : ℝ) : EReal) := by
    unfold k0_pay21 k0_pay18
    pointwise
    simp only [h.1, h.2.1, h.2.2.1, select_ofBool]
    exact mag_eq _
  unfold k0_pay23 k0_pay22
  pointwise
  rw [hs, hm, select_ofBool, num_eq]

/-- The reference's weights, read at an index. -/
theorem pay1_apply (v : Vec Ideal S1536x21504 .i8) (sc : Vec Ideal S192x21504 .fp8e4m3) (a : FVec Ideal S8192x3072 .bf16) (u : FVec Ideal S8192x3072 .f32) (L : Vec Ideal S3072x64 .bf16)
    (l : Vec Ideal S64x21504 .bf16) (g wg : EReal) (b : Vec Ideal S1x21504 .f32) (p : Fin 8192) (q : Fin 21504) :
    k0_pay1 (F := Ideal) g u a (k0_pay23 (F := Ideal) (k0_pay19 (F := Ideal) sc) (k0_pay20 (F := Ideal) v) (k0_pay21 (F := Ideal) v) (k0_pay22 (F := Ideal)))
      (k0_pay25 (F := Ideal) (k0_pay17 (F := Ideal) sc)) (k0_pay27 (F := Ideal) v) (k0_pay28 (F := Ideal) v) (k0_pay29 (F := Ideal) v)
      (k0_pay30 (F := Ideal) v) (k0_pay31 (F := Ideal) v) (k0_pay32 (F := Ideal) v) L l wg b (ix2 p q)
    = linear g wg a (weight v sc) (fun i => ∑ k : Fin 3072, u (ix2 (i 0) k) * L (ix2 k (i 1))) l (fun q => b (ix2 0 q)) p q := by
  have hb : ∀ x : Fin 1536, (⟨x.val / 16 * 16 + x.val % 16, by omega⟩ : Fin 1536) = x := fun x => Fin.ext (by show x.val / 16 * 16 + x.val % 16 = x.val; omega)
  have hlo : ∀ x : Fin 1536, k0_pay19 (F := Ideal) sc (ix2 ⟨x.val / 16, by omega⟩ q) = sc (ix2 ⟨x.val / 16, by omega⟩ q) := fun x => by
    unfold k0_pay19 k0_pay17
    pointwise
  have hhi : ∀ x : Fin 1536, k0_pay25 (F := Ideal) (k0_pay17 (F := Ideal) sc) (ix2 ⟨x.val / 16, by omega⟩ q) = sc (ix2 ⟨96 + x.val / 16, by omega⟩ q) := fun x => by
    unfold k0_pay25 k0_pay17
    pointwise
  have e10 : ∀ x : Fin 1536, k0_pay26 (F := Ideal) v (ix2 x q) = BitVec.ofBool ((hi (v (ix2 x q))).getLsbD 0) := fun x => by
    unfold k0_pay26 k0_pay24
    pointwise
    exact (test_hi _).1
  have e11 : ∀ x : Fin 1536, k0_pay27 (F := Ideal) v (ix2 x q) = BitVec.ofBool ((hi (v (ix2 x q))).getLsbD 1) := fun x => by
    unfold k0_pay27 k0_pay24
    pointwise
    exact (test_hi _).2.1
  have e12 : ∀ x : Fin 1536, k0_pay28 (F := Ideal) v (ix2 x q) = BitVec.ofBool ((hi (v (ix2 x q))).getLsbD 2) := fun x => by
    unfold k0_pay28 k0_pay24
    pointwise
    exact (test_hi _).2.2.1
  have e13 : ∀ x : Fin 1536, k0_pay29 (F := Ideal) v (ix2 x q) = BitVec.ofBool ((hi (v (ix2 x q))).getLsbD 3) := fun x => by
    unfold k0_pay29 k0_pay24
    pointwise
    exact (test_hi _).2.2.2
  have hmag : ∀ x : Fin 1536, Scalar.select (k0_pay28 (F := Ideal) v (ix2 x q)) (k0_pay30 (F := Ideal) v (ix2 x q))
      (Scalar.select (k0_pay27 (F := Ideal) v (ix2 x q)) (k0_pay31 (F := Ideal) v (ix2 x q))
        (k0_pay32 (F := Ideal) v (ix2 x q))) = ((mag (hi (v (ix2 x q))) : ℝ) : EReal) := fun x => by
    unfold k0_pay30 k0_pay31 k0_pay32
    pointwise
    simp only [e10, e11, e12, select_ofBool]
    exact mag_eq _
  unfold linear
  rw [sum_weight]
  unfold k0_pay1
  pointwise
  refine congrArg₂ (fun e w : EReal => (e + w) * (g * wg) + (∑ x : Fin 64, (∑ k : Fin 3072, u (ix2 p k) * L (ix2 k x)) * l (ix2 x q)) + b (ix2 0 q)) ?_ ?_
  · refine Finset.sum_congr rfl fun x _ => congrArg₂ _ rfl ?_
    have := low_apply v (k0_pay19 (F := Ideal) sc) x q
    rw [hlo] at this
    refine Eq.trans ?_ this
    pointwise
  · refine Finset.sum_congr rfl fun x _ => congrArg₂ _ rfl ?_
    simp only [hb, hmag, e13, hhi, select_ofBool, num_eq]

end Cert.WholeRefIdeal.Work

end
-- ==== Proof.RefQuantise.lean ====
/- The reference's quantiser over the extended reals: every row of its codes, scales and quantised values is the function
   of the token's row that the kernel's first call computes. -/
module

public import proofs.«01_k».proof.Proof.QuantArray
public import proofs.«01_k».proof.Proof.RefWeights
public import Idealize.ShloMosaic.Lib.Pipeline.ReadBack

@[expose] public section

set_option maxRecDepth 65536

noncomputable section

namespace Cert.WholeRefIdeal.Work

open Cert.WholeRefIdeal Cert.WholeRefIdeal.Gen Idealize.ShloMosaic Idealize.ShloMosaic.TcCoe Idealize.SL.Sem
open Cert.Codes

/-- The codes, one to a byte, by groups of sixteen columns. -/
def codes {F : FTy → Type} [FloatOps F] (v30 : FVec F S8192x192x16 .f32) (v33 : FVec F S8192x192x16 .f32) (v35 : IVec S8192x192x16 1) (v40 : FVec F S8192x192x16 .f32) (cst_15 : F .f32) : IVec S8192x192x16 8 :=
  have v41 : FVec F S8192x192x16 .f32 := broadcast S8192x192x16 cst_15
  have v42 : IVec S8192x192x16 1 := cmpf .olt v33 v41
  have v43 : FVec F S8192x192x16 .f32 := roundeven v33
  have cst_16 : F .f32 := Scalar.ofBits .f32 0x3F000000#32
  have v44 : FVec F S8192x192x16 .f32 := broadcast S8192x192x16 cst_16
  have v45 : FVec F S8192x192x16 .f32 := mulf v33 v44
  have v46 : FVec F S8192x192x16 .f32 := roundeven v45
  have cst_17 : F .f32 := Scalar.ofBits .f32 0x40000000#32
  have v47 : FVec F S8192x192x16 .f32 := broadcast S8192x192x16 cst_17
  have v48 : FVec F S8192x192x16 .f32 := mulf v47 v46
  have v49 : FVec F S8192x192x16 .f32 := select v42 v43 v48
  have v50 : FVec F S8192x192x16 .f32 := select v35 v40 v49
  have cst_18 : F .f32 := Scalar.ofBits .f32 0x40000000#32
  have v51 : FVec F S8192x192x16 .f32 := broadcast S8192x192x16 cst_18
  have v52 : IVec S8192x192x16 1 := cmpf .olt v50 v51
  have cst_19 : F .f32 := Scalar.ofBits .f32 0x40000000#32
  have v53 : FVec F S8192x192x16 .f32 := broadcast S8192x192x16 cst_19
  have v54 : FVec F S8192x192x16 .f32 := mulf v53 v50
  have cst_20 : F .f32 := Scalar.ofBits .f32 0x40800000#32
  have v55 : FVec F S8192x192x16 .f32 := broadcast S8192x192x16 cst_20
  have v56 : IVec S8192x192x16 1 := cmpf .olt v50 v55
  have cst_21 : F .f32 := Scalar.ofBits .f32 0x40000000#32
  have v57 : FVec F S8192x192x16 .f32 := broadcast S8192x192x16 cst_21
  have v58 : FVec F S8192x192x16 .f32 := addf v50 v57
  have cst_22 : F .f32 := Scalar.ofBits .f32 0x3F000000#32
  have v59 : FVec F S8192x192x16 .f32 := broadcast S8192x192x16 cst_22
  have v60 : FVec F S8192x192x16 .f32 := mulf v50 v59
  have cst_23 : F .f32 := Scalar.ofBits .f32 0x40800000#32
  have v61 : FVec F S8192x192x16 .f32 := broadcast S8192x192x16 cst_23
  have v62 : FVec F S8192x192x16 .f32 := addf v60 v61
  have v63 : FVec F S8192x192x16 .f32 := select v56 v58 v62
  have v64 : FVec F S8192x192x16 .f32 := select v52 v54 v63
  have v65 : IVec S8192x192x16 8 := fptoui 8 v64
  have cst_24 : F .f32 := Scalar.ofBits .f32 0x00000000#32
  have v66 : FVec F S8192x192x16 .f32 := broadcast S8192x192x16 cst_24
  have v67 : IVec S8192x192x16 1 := cmpf .olt v30 v66
  have cst_25 : F .f32 := Scalar.ofBits .f32 0x00000000#32
  have v68 : FVec F S8192x192x16 .f32 := broadcast S8192x192x16 cst_25
  have v69 : IVec S8192x192x16 1 := cmpf .ogt v50 v68
  have v70 : IVec S8192x192x16 1 := andi v67 v69
  have v71 : IVec S8192x192x16 8 := broadcast S8192x192x16 8#8
  have v72 : IVec S8192x192x16 8 := ori v65 v71
  have v73 : IVec S8192x192x16 8 := select v70 v72 v65
  v73

theorem packed_eq {F : FTy → Type} [FloatOps F] (v30 : FVec F S8192x192x16 .f32) (v33 : FVec F S8192x192x16 .f32) (v35 : IVec S8192x192x16 1) (v40 : FVec F S8192x192x16 .f32) (cst_15 : F .f32) :
    k0_pay10 v30 v33 v35 v40 cst_15
      = ori (extractStridedSlice S8192x1536 ![0, 0] (shapeCast S8192x3072 (codes v30 v33 v35 v40 cst_15) shapeCasts_S8192x192x16_S8192x3072) slices_S8192x3072_o0_0_S8192x1536)
          (shli (extractStridedSlice S8192x1536 ![0, 1536] (shapeCast S8192x3072 (codes v30 v33 v35 v40 cst_15) shapeCasts_S8192x192x16_S8192x3072) slices_S8192x3072_o0_1536_S8192x1536)
            (broadcast S8192x1536 4#8)) := rfl

section
variable (g : EReal) (x : Vec Ideal S8192x3072 .bf16) (s : Vec Ideal S1x3072 .f32)

/-- A token's row. -/
def rx (p : Fin 8192) : Fin 3072 → EReal := fun k => x (ix2 p k)

/-- The smoothing factors. -/
def rs : Fin 3072 → EReal := fun k => s (ix2 0 k)

theorem smoothed_ref (p : Fin 8192) (k : Fin 3072) : k0_pay2 (F := Ideal) x s (ix2 p k) = smoothed (rx x p) (rs s) k := by
  unfold k0_pay2
  pointwise
  rfl

theorem scale_ref (p : Fin 8192) (r : Fin 192) : k0_pay4 (F := Ideal) g x s (ix2 p r) = rowScale g (rx x p) (rs s) r := by
  unfold k0_pay4 k0_pay3 k0_pay2
  pointwise
  unfold rowScale scaleOf
  rfl

theorem quot_ref (p : Fin 8192) (r : Fin 192) (b : Fin 16) (k : Fin 3072) (hk : k.val = r.val * 16 + b.val) :
    k0_pay6 (F := Ideal) g x s (ix3 p r b) = Ideal.div (smoothed (rx x p) (rs s) k) (rowScale g (rx x p) (rs s) r * g) := by
  unfold k0_pay6 k0_pay3
  pointwise
  rw [scale_ref, smoothed_ref, show (⟨r.val * 16 + b.val, by omega⟩ : Fin 3072) = k from Fin.ext hk.symm]

/-- All codes of the reference. -/
def allCodes : IVec S8192x192x16 8 :=
  codes (F := Ideal) (k0_pay6 (F := Ideal) g x s) (k0_pay7 (F := Ideal) g x s) (k0_pay8 (F := Ideal) g x s) (k0_pay9 (F := Ideal) g x s) (Scalar.ofBits .f32 0x40800000#32)

theorem code_ref (p : Fin 8192) (r : Fin 192) (b : Fin 16) :
    allCodes g x s (ix3 p r b) = (quant (k0_pay6 (F := Ideal) g x s (ix3 p r b))).setWidth 8 := by
  rw [← encode]
  unfold allCodes codes k0_pay8 k0_pay9 k0_pay7
  pointwise
  generalize k0_pay6 (F := Ideal) g x s (ix3 p r b) = t
  generalize min (max t (-t)) (Ideal.ofBits .f32 0x40C00000#32) = a
  generalize (if a < Ideal.ofBits .f32 0x40000000#32 then Ideal.liftRound Ideal.roundHalfEven (Ideal.ofBits .f32 0x40000000#32 * a) * Ideal.ofBits .f32 0x3F000000#32
        else if a < Ideal.ofBits .f32 0x40800000#32 then Ideal.liftRound Ideal.roundHalfEven a
        else Ideal.ofBits .f32 0x40000000#32 * Ideal.liftRound Ideal.roundHalfEven (a * Ideal.ofBits .f32 0x3F000000#32)) = q
  have hand : IntOp.andi (BitVec.ofBool (decide (t < 0))) (BitVec.ofBool (decide (0 < q))) = BitVec.ofBool (decide (t < 0 ∧ 0 < q)) := by
    by_cases h1 : t < 0 <;> by_cases h2 : 0 < q <;> simp only [h1, h2, and_self, and_true, and_false, decide_true, decide_false] <;> rfl
  rw [hand, select_ofBool]
  simp only [decide_eq_true_eq]
  rfl

theorem or_shift : ∀ a b : BitVec 4, IntOp.ori (a.setWidth 8) (IntOp.shli ArithUnit.vector (b.setWidth 8) 4#8) = pack a b := by decide +kernel

/-- The packed bytes. -/
def bytes : IVec S8192x1536 8 :=
  k0_pay10 (F := Ideal) (k0_pay6 (F := Ideal) g x s) (k0_pay7 (F := Ideal) g x s) (k0_pay8 (F := Ideal) g x s) (k0_pay9 (F := Ideal) g x s) (Scalar.ofBits .f32 0x40800000#32)

theorem allCodes_ref (p : Fin 8192) (r : Fin 192) (b : Fin 16) (k : Fin 3072) (hk : k.val = r.val * 16 + b.val) :
    allCodes g x s (ix3 p r b) = (rowCode g (rx x p) (rs s) k).setWidth 8 := by
  rw [code_ref, quot_ref g x s p r b k hk]
  unfold rowCode
  rw [show group k = r from Fin.ext (by show k.val / 16 = r.val; omega)]

theorem bytes_ref (p : Fin 8192) (j : Fin 1536) : bytes g x s (ix2 p j) = rowByte g (rx x p) (rs s) j := by
  have h : bytes g x s = _ := packed_eq _ _ _ _ _
  rw [h]
  change ori (extractStridedSlice S8192x1536 ![0, 0] (shapeCast S8192x3072 (allCodes g x s) shapeCasts_S8192x192x16_S8192x3072) slices_S8192x3072_o0_0_S8192x1536)
          (shli (extractStridedSlice S8192x1536 ![0, 1536] (shapeCast S8192x3072 (allCodes g x s) shapeCasts_S8192x192x16_S8192x3072) slices_S8192x3072_o0_1536_S8192x1536)
            (broadcast S8192x1536 4#8)) (ix2 p j) = _
  pointwise
  rw [allCodes_ref g x s p _ _ ⟨j.val, by omega⟩ (by show j.val = j.val / 16 * 16 + j.val % 16; omega),
    allCodes_ref g x s p _ _ ⟨1536 + j.val, by omega⟩ (by show 1536 + j.val = (1536 + j.val) / 16 * 16 + (1536 + j.val) % 16; omega)]
  exact or_shift _ _

/-- The number of the low code of a byte times its scale, as the reference's selects compute it. -/
theorem low_ref (P : IVec S8192x1536 8) (p : Fin 8192) (j : Fin 1536) (v81 : FVec Ideal S8192x192 .bf16) :
    k0_pay13 (F := Ideal) v81 (andi (extui 32 P natLt_8_32) (broadcast S8192x1536 15#32)) (ix2 p j)
      = ((num (lo (P (ix2 p j))) : ℝ) : EReal) * v81 (ix2 p ⟨j.val / 16, by omega⟩) := by
  have h := test_lo (P (ix2 p j))
  unfold k0_pay13
  pointwise
  simp only [h.1, h.2.1, h.2.2.1, h.2.2.2, select_ofBool, mag_eq, num_eq]

/-- The unpacked values: the low codes of a row's bytes, then the high ones. -/
theorem unpacked_lo (P : IVec S8192x1536 8) (v81 : FVec Ideal S8192x192 .bf16) (v124 : FVec Ideal S8192x1536 .bf16) (p : Fin 8192) (j : Fin 1536) :
    k0_pay16 (F := Ideal) v81 v124 (k0_pay14 P) k0_pay15 (ix2 p ⟨j.val, by omega⟩) = v124 (ix2 p j) := by
  unfold k0_pay16 k0_pay14 k0_pay15
  pointwise

theorem unpacked_hi (P : IVec S8192x1536 8) (v81 : FVec Ideal S8192x192 .bf16) (v124 : FVec Ideal S8192x1536 .bf16) (p : Fin 8192) (j : Fin 1536) :
    k0_pay16 (F := Ideal) v81 v124 (k0_pay14 P) k0_pay15 (ix2 p ⟨1536 + j.val, by omega⟩)
      = ((num (hi (P (ix2 p j))) : ℝ) : EReal) * v81 (ix2 p ⟨96 + j.val / 16, by omega⟩) := by
  have h := test_hi (P (ix2 p j))
  unfold k0_pay16 k0_pay14 k0_pay15
  pointwise
  simp only [h.1, h.2.1, h.2.2.1, h.2.2.2, select_ofBool, mag_eq, num_eq]

theorem bf16scale_ref (p : Fin 8192) (r : Fin 192) :
    k0_pay11 (F := Ideal) (k0_pay4 (F := Ideal) g x s) (ix2 p r) = rowScale g (rx x p) (rs s) r := by
  refine Eq.trans ?_ (scale_ref g x s p r)
  unfold k0_pay11
  pointwise

/-- The quantised values: each code of the packed bytes times its group's scale. -/
theorem values_ref (p : Fin 8192) (k : Fin 3072) :
    k0_pay16 (F := Ideal) (k0_pay11 (F := Ideal) (k0_pay4 (F := Ideal) g x s))
      (k0_pay13 (F := Ideal) (k0_pay11 (F := Ideal) (k0_pay4 (F := Ideal) g x s))
        (andi (extui 32 (bytes g x s) natLt_8_32) (broadcast S8192x1536 15#32)))
      (k0_pay14 (bytes g x s)) k0_pay15 (ix2 p k) = rowValue g (rx x p) (rs s) k := by
  unfold rowValue
  by_cases hk : k.val < 1536
  · obtain ⟨j, rfl⟩ : ∃ j : Fin 1536, k = ⟨j.val, Nat.lt_of_lt_of_le j.isLt (by decide)⟩ := ⟨⟨k.val, hk⟩, rfl⟩
    rw [unpacked_lo, low_ref, bytes_ref, bf16scale_ref]
    unfold rowByte
    rw [lo_pack]
    rfl
  · obtain ⟨j, rfl⟩ : ∃ j : Fin 1536, k = ⟨1536 + j.val, Nat.add_lt_add_left j.isLt 1536⟩ := ⟨⟨k.val - 1536, by omega⟩, Fin.ext (by show k.val = 1536 + (k.val - 1536); omega)⟩
    rw [unpacked_hi, bytes_ref, bf16scale_ref]
    unfold rowByte
    rw [hi_pack]
    exact congrArg (fun r => _ * rowScale g (rx x p) (rs s) r) (Fin.ext (by show 96 + j.val / 16 = (1536 + j.val) / 16; omega))

theorem fp8scale_ref (p : Fin 8192) (r : Fin 192) :
    k0_pay5 (F := Ideal) g x s (ix2 p r) = rowScale g (rx x p) (rs s) r := by
  refine Eq.trans ?_ (scale_ref g x s p r)
  unfold k0_pay5
  pointwise

/-- The linear layer, with the low-rank products of the smoothed rows. -/
theorem result_ref (v : Vec Ideal S1536x21504 .i8) (sc : Vec Ideal S192x21504 .fp8e4m3) (L : Vec Ideal S3072x64 .bf16)
    (l : Vec Ideal S64x21504 .bf16) (wg : EReal) (b : Vec Ideal S1x21504 .f32) (p : Fin 8192) (q : Fin 21504) :
    k0_pay1 (F := Ideal) g (k0_pay2 (F := Ideal) x s)
      (k0_pay16 (F := Ideal) (k0_pay11 (F := Ideal) (k0_pay4 (F := Ideal) g x s))
        (k0_pay13 (F := Ideal) (k0_pay11 (F := Ideal) (k0_pay4 (F := Ideal) g x s))
          (k0_pay12 (F := Ideal) (k0_pay6 (F := Ideal) g x s) (k0_pay7 (F := Ideal) g x s) (k0_pay8 (F := Ideal) g x s) (k0_pay9 (F := Ideal) g x s) (Scalar.ofBits .f32 0x40800000#32)))
        (k0_pay14 (k0_pay10 (F := Ideal) (k0_pay6 (F := Ideal) g x s) (k0_pay7 (F := Ideal) g x s) (k0_pay8 (F := Ideal) g x s) (k0_pay9 (F := Ideal) g x s) (Scalar.ofBits .f32 0x40800000#32))) k0_pay15)
      (k0_pay23 (F := Ideal) (k0_pay19 (F := Ideal) sc) (k0_pay20 (F := Ideal) v) (k0_pay21 (F := Ideal) v) (k0_pay22 (F := Ideal)))
      (k0_pay25 (F := Ideal) (k0_pay17 (F := Ideal) sc)) (k0_pay27 (F := Ideal) v) (k0_pay28 (F := Ideal) v) (k0_pay29 (F := Ideal) v)
      (k0_pay30 (F := Ideal) v) (k0_pay31 (F := Ideal) v) (k0_pay32 (F := Ideal) v) L l wg b (ix2 p q)
    = linear g wg (fun i => rowValue g (rx x (i 0)) (rs s) (i 1)) (weight v sc) (fun i => rowLow (rx x (i 0)) (rs s) L (i 1)) l (fun q => b (ix2 0 q)) p q := by
  have e : k0_pay12 (F := Ideal) (k0_pay6 (F := Ideal) g x s) (k0_pay7 (F := Ideal) g x s) (k0_pay8 (F := Ideal) g x s) (k0_pay9 (F := Ideal) g x s) (Scalar.ofBits .f32 0x40800000#32)
      = andi (extui 32 (bytes g x s) natLt_8_32) (broadcast S8192x1536 15#32) := rfl
  rw [e]
  refine (pay1_apply v sc _ _ L l g wg b p q).trans ?_
  refine congrArg₂ (fun A H => linear g wg A (weight v sc) H l (fun q => b (ix2 0 q)) p q) ?_ ?_
  · funext i
    obtain ⟨p', k, rfl⟩ : ∃ (p' : Fin 8192) (k : Fin 3072), i = ix2 p' k := ⟨i 0, i 1, eq_ix2 i⟩
    exact values_ref g x s p' k
  · funext i
    refine Finset.sum_congr rfl fun k _ => ?_
    exact congrArg (· * L (ix2 k (i 1))) (smoothed_ref x s (i 0) k)

end

end Cert.WholeRefIdeal.Work

end
-- ==== Proof.RefArray.lean ====
/- The reference's three result arrays over the extended reals, and its run. -/
module

public import proofs.«01_k».proof.Proof.RefQuantise
public import Idealize.ShloMosaic.Lib.Pipeline.ReadBack
public import Idealize.ShloMosaic.Lib.Pipeline.Value

@[expose] public section

set_option maxRecDepth 65536

noncomputable section

namespace Cert.WholeRefIdeal.Work

open Cert.WholeRefIdeal Cert.WholeRefIdeal.Gen Idealize.ShloMosaic Idealize.ShloMosaic.TcCoe Idealize.SL.Sem
open Cert.Codes

variable (m : (ℓ : Loc nD τ sig) → Buf (Elt Ideal) ℓ)

/-- Every window's one block is at the origin. -/
theorem idx : ∀ t : Fin cfg0.N, win0_0.index t = ![0, 0] ∧ win0_1.index t = ![0, 0] ∧ win0_2.index t = ![0] ∧ win0_3.index t = ![0, 0]
    ∧ win0_4.index t = ![0, 0] ∧ win0_5.index t = ![0] ∧ win0_6.index t = ![0, 0] ∧ win0_7.index t = ![0, 0]
    ∧ win0_8.index t = ![0, 0] ∧ win0_9.index t = ![0, 0] ∧ win0_10.index t = ![0, 0] ∧ win0_11.index t = ![0, 0] :=
  (by decide +kernel : ∀ t : Fin grid0.N, _)

theorem emb0 (t : Fin cfg0.N) (p : Fin 8192) (k : Fin 3072) : (win0_0.blk t).view.emb (ix2 p k) = ix2 p k := by
  blk_ext [idx t]

theorem emb1 (t : Fin cfg0.N) (k : Fin 3072) : (win0_1.blk t).view.emb (ix2 0 k) = ix2 0 k := by
  blk_ext [idx t]

theorem iblk0 (c : Dev nD) (t : Fin cfg0.N) (p : Fin 8192) : rx (iblk m c 0 t) p = tokenRow (m ((c : Thread nD τ).loc main_arg0)) p := by
  funext k
  unfold rx
  blk_simp [iblk, idx t]
  entry_read
  pointwise
  exact congrArg (fun z : S8192x3072.Idx => tokenRow (m ((c : Thread nD τ).loc main_arg0)) (z 0) (z 1)) (emb0 t p k)

theorem iblk1 (c : Dev nD) (t : Fin cfg0.N) : rs (iblk m c 1 t) = fun k => m ((c : Thread nD τ).loc main_arg1) (ix1 k) := by
  funext k
  unfold rs
  blk_simp [iblk, idx t]
  entry_read
  pointwise
  exact congrArg (fun z : S1x3072.Idx => m ((c : Thread nD τ).loc main_arg1) (ix1 (z 1))) (emb1 t k)

theorem iblk2 (c : Dev nD) (t : Fin cfg0.N) (j : S1.Idx) : iblk m c 2 t j = m ((c : Thread nD τ).loc main_arg2) ix0 := by
  blk_simp [iblk, idx t]
  entry_read
  pointwise

theorem iblk5 (c : Dev nD) (t : Fin cfg0.N) (j : S1.Idx) : iblk m c 5 t j = m ((c : Thread nD τ).loc main_arg5) ix0 := by
  blk_simp [iblk, idx t]
  entry_read
  pointwise

theorem iblk3 (c : Dev nD) (t : Fin cfg0.N) : iblk m c 3 t = m ((c : Thread nD τ).loc main_arg3) := by
  blk_ext! [iblk, V, idx t]

theorem iblk4 (c : Dev nD) (t : Fin cfg0.N) : iblk m c 4 t = m ((c : Thread nD τ).loc main_arg4) := by
  blk_ext! [iblk, V, idx t]

theorem iblk6 (c : Dev nD) (t : Fin cfg0.N) : iblk m c 6 t = m ((c : Thread nD τ).loc main_arg6) := by
  blk_ext! [iblk, V, idx t]

theorem iblk7 (c : Dev nD) (t : Fin cfg0.N) : iblk m c 7 t = m ((c : Thread nD τ).loc main_arg7) := by
  blk_ext! [iblk, V, idx t]

theorem iblk8 (c : Dev nD) (t : Fin cfg0.N) (q : Fin 21504) : iblk m c 8 t (ix2 0 q) = m ((c : Thread nD τ).loc main_arg8) (ix1 q) := by
  blk_simp [iblk, idx t]
  entry_read
  pointwise
  refine congrArg (m ((c : Thread nD τ).loc main_arg8)) (congrArg ix1 (Fin.ext ?_))
  show (((win0_8.blk t).view.emb (ix2 0 q)) 1 : ℕ) = q.val
  blk_simp [idx t]

/-- The tokens' rows. -/
def arow (c : Dev nD) (p : Fin 8192) : Fin 3072 → EReal := tokenRow (m ((c : Thread nD τ).loc main_arg0)) p

/-- The smoothing factors. -/
def srow (c : Dev nD) : Fin 3072 → EReal := fun k => m ((c : Thread nD τ).loc main_arg1) (ix1 k)

/-- The linear layer's result. -/
def RES9 (c : Dev nD) : Buf (Elt Ideal) ((c : Thread nD τ).loc main_v5_0) := fun i =>
  linear (m ((c : Thread nD τ).loc main_arg2) ix0) (m ((c : Thread nD τ).loc main_arg5) ix0)
    (fun j => rowValue (m ((c : Thread nD τ).loc main_arg2) ix0) (arow m c (j 0)) (srow m c) (j 1))
    (weight (m ((c : Thread nD τ).loc main_arg3)) (m ((c : Thread nD τ).loc main_arg4)))
    (fun j => rowLow (arow m c (j 0)) (srow m c) (m ((c : Thread nD τ).loc main_arg6)) (j 1))
    (m ((c : Thread nD τ).loc main_arg7)) (fun q => m ((c : Thread nD τ).loc main_arg8) (ix1 q)) (i 0) (i 1)

/-- The packed codes. -/
def RES10 (c : Dev nD) : Buf (Elt Ideal) ((c : Thread nD τ).loc main_v5_1) := fun i =>
  rowByte (m ((c : Thread nD τ).loc main_arg2) ix0) (arow m c (i 0)) (srow m c) (i 1)

/-- The scales. -/
def RES11 (c : Dev nD) : Buf (Elt Ideal) ((c : Thread nD τ).loc main_v5_2) := fun i =>
  rowScale (m ((c : Thread nD τ).loc main_arg2) ix0) (arow m c (i 0)) (srow m c) (i 1)

theorem final9 (c : Dev nD) : (dats m 0 c).arrAt 9 cfg0.N = RES9 m c := by
  refine (dats m 0 c).arrAt_eq_of_covers 9 _ (by decide +kernel) fun t hf y => ?_
  blk_simp
  rw [after0_9]
  unfold outsAt0
  frame_out
  simp only [read_unread_whole]
  obtain ⟨p, q, rfl⟩ : ∃ (p : Fin 8192) (q : Fin 21504), y = ix2 p q := ⟨y 0, y 1, eq_ix2 y⟩
  have he : (win0_9.blk t).view.emb (ix2 p q) = ix2 p q := by
    blk_ext [idx t]
  refine Eq.trans ?_ (congrArg (RES9 m c) he.symm)
  rw [iblk2, iblk5, iblk3, iblk4, iblk6, iblk7]
  rw [result_ref]
  rw [iblk1, show rx (iblk m c 0 t) = arow m c from funext (iblk0 m c t)]
  simp only [iblk8]
  rfl

theorem final10 (c : Dev nD) : (dats m 0 c).arrAt 10 cfg0.N = RES10 m c := by
  refine (dats m 0 c).arrAt_eq_of_covers 10 _ (by decide +kernel) fun t hf y => ?_
  blk_simp
  rw [after0_10]
  unfold outsAt0
  frame_out
  simp only [read_unread_whole]
  obtain ⟨p, q, rfl⟩ : ∃ (p : Fin 8192) (q : Fin 1536), y = ix2 p q := ⟨y 0, y 1, eq_ix2 y⟩
  have he : (win0_10.blk t).view.emb (ix2 p q) = ix2 p q := by
    blk_ext [idx t]
  refine Eq.trans ?_ (congrArg (RES10 m c) he.symm)
  refine (bytes_ref _ _ _ p q).trans ?_
  rw [iblk0, iblk1, iblk2]
  rfl

theorem final11 (c : Dev nD) : (dats m 0 c).arrAt 11 cfg0.N = RES11 m c := by
  refine (dats m 0 c).arrAt_eq_of_covers 11 _ (by decide +kernel) fun t hf y => ?_
  blk_simp
  rw [after0_11]
  unfold outsAt0
  frame_out
  simp only [read_unread_whole]
  obtain ⟨p, q, rfl⟩ : ∃ (p : Fin 8192) (q : Fin 192), y = ix2 p q := ⟨y 0, y 1, eq_ix2 y⟩
  have he : (win0_11.blk t).view.emb (ix2 p q) = ix2 p q := by
    blk_ext [idx t]
  refine Eq.trans ?_ (congrArg (RES11 m c) he.symm)
  refine (fp8scale_ref _ _ _ p q).trans ?_
  rw [iblk0, iblk1, iblk2]
  rfl

variable (ρ : Dev nD → PrngReg)

/-- The reference runs to the end, leaves its three results and keeps its arguments. -/
theorem run_results : θ_run defs (onTc (τ := τ) (main (F := Ideal))) ⟨m, fun _ => 0, ρ⟩ fun r => ∀ c : Dev nD,
      r.2.mem ((c : Thread nD τ).loc main_v5_0) = RES9 m c
      ∧ r.2.mem ((c : Thread nD τ).loc main_v5_1) = RES10 m c
      ∧ r.2.mem ((c : Thread nD τ).loc main_v5_2) = RES11 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨
      ((h c).1 9).trans (final9 m c),
      ((h c).1 10).trans (final10 m c),
      ((h c).1 11).trans (final11 m c),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c))),
      ((h c).2 main_arg5 (Pipeline.mem_restRefs_of main_arg5 (by decide) (by decide))).trans (V_main_arg5 m c),
      ((h c).1 6).trans (((dats m 0 c).arrAt_in 6 rfl _).trans ((A_eq m c 6).trans (V_main_arg6 m c))),
      ((h c).1 7).trans (((dats m 0 c).arrAt_in 7 rfl _).trans ((A_eq m c 7).trans (V_main_arg7 m c))),
      ((h c).2 main_arg8 (Pipeline.mem_restRefs_of main_arg8 (by decide) (by decide))).trans (V_main_arg8 m c)⟩)
    (run_main m ρ)

end Cert.WholeRefIdeal.Work

end
-- ==== Proof.WholeClaim.lean ====
/- The kernel and its reference leave the same three result arrays over the extended reals. -/
module

public import proofs.«01_k».proof.Proof.MmArray
public import proofs.«01_k».proof.Proof.RefArray
public import proofs.«01_k».proof.Defs
public import Idealize.ShloMosaic.Lib.Pipeline.ReadBack

@[expose] public section

set_option maxRecDepth 65536

noncomputable section

namespace Cert.WholeIdeal.Result

open Cert.WholeIdeal Cert.WholeIdeal.Gen Cert.WholeIdeal.Work Idealize.ShloMosaic Idealize.ShloMosaic.TcCoe Idealize.SL.Sem

variable (m : (ℓ : Loc nD τ sig) → Buf (Elt Ideal) ℓ) (ρ : Dev nD → PrngReg)

/-- The packed codes the first call leaves are still there at the end. -/
theorem codes_kept (c : Dev nD) : W4 m ρ c (Proc.devRef .tc main_v3_2) = Quantise.RES6 m c :=
  ((W4_of_ne m ρ c main_v3_2 (by decide)).trans (W3_of m ρ c main_v3_2 (by decide))).trans
    ((W2_arr m ρ c 6).trans (Quantise.final6 m ρ c))

/-- The scales the first call leaves are still there at the end. -/
theorem scales_kept (c : Dev nD) : W4 m ρ c (Proc.devRef .tc main_v3_3) = Quantise.RES7 m c :=
  ((W4_of_ne m ρ c main_v3_3 (by decide)).trans (W3_of m ρ c main_v3_3 (by decide))).trans
    ((W2_arr m ρ c 7).trans (Quantise.final7 m ρ c))

/-- The kernel runs to the end, leaves its three results and keeps its arguments. -/
theorem run_results : θ_run defs (onTc (τ := τ) (main (F := Ideal))) ⟨m, fun _ => 0, ρ⟩ fun r => ∀ c : Dev nD,
      r.2.mem ((c : Thread nD τ).loc main_v7) = Matmul.RES m c
      ∧ r.2.mem ((c : Thread nD τ).loc main_v3_2) = Quantise.RES6 m c
      ∧ r.2.mem ((c : Thread nD τ).loc main_v3_3) = Quantise.RES7 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨
      (h.1 c _ (mem_uc main_v7 (by decide))).trans ((W4_arr m ρ c 7).trans (Matmul.final m ρ c)),
      (h.1 c _ (mem_uc main_v3_2 (by decide))).trans (codes_kept m ρ c),
      (h.1 c _ (mem_uc main_v3_3 (by decide))).trans (scales_kept m ρ c),
      (h.1 c _ (mem_uc main_arg0 (by decide))).trans (W4_main_arg0 m ρ c),
      (h.1 c _ (mem_uc main_arg1 (by decide))).trans (W4_main_arg1 m ρ c),
      (h.1 c _ (mem_uc main_arg2 (by decide))).trans (W4_main_arg2 m ρ c),
      (h.1 c _ (mem_uc main_arg3 (by decide))).trans (W4_main_arg3 m ρ c),
      (h.1 c _ (mem_uc main_arg4 (by decide))).trans (W4_main_arg4 m ρ c),
      (h.1 c _ (mem_uc main_arg5 (by decide))).trans (W4_main_arg5 m ρ c),
      (h.1 c _ (mem_uc main_arg6 (by decide))).trans (W4_main_arg6 m ρ c),
      (h.1 c _ (mem_uc main_arg7 (by decide))).trans (W4_main_arg7 m ρ c),
      (h.1 c _ (mem_uc main_arg8 (by decide))).trans (W4_main_arg8 m ρ c)⟩)
    (run_all m ρ)

end Cert.WholeIdeal.Result

namespace Cert.Proof

open Idealize.ShloMosaic Idealize.ShloMosaic.TcCoe

/-- Started from equal arguments, the kernel and the reference leave equal results. -/
theorem algebraic_Whole : Cert.algebraic_WholeIdeal_WholeRefIdeal := by
  pair_intro
  · run_from Cert.WholeIdeal.Result.run_results m g
  · run_from Cert.WholeRefIdeal.Work.run_results m' g'
    · obtain ⟨e0, e1, e2, e3, e4, e5, e6, e7, e8⟩ := hagree c
      unfold Cert.WholeIdeal.Matmul.RES Cert.WholeIdeal.Quantise.RES4 Cert.WholeIdeal.Quantise.RES5 Cert.WholeRefIdeal.Work.RES9 Cert.WholeIdeal.Quantise.arow Cert.WholeRefIdeal.Work.arow Cert.WholeIdeal.Quantise.srow Cert.WholeRefIdeal.Work.srow
      rw [e0, e1, e2, e3, e4, e5, e6, e7, e8]
      rfl
    · obtain ⟨e0, e1, e2, e3, e4, e5, e6, e7, e8⟩ := hagree c
      unfold Cert.WholeIdeal.Quantise.RES6 Cert.WholeRefIdeal.Work.RES10 Cert.WholeIdeal.Quantise.arow Cert.WholeRefIdeal.Work.arow Cert.WholeIdeal.Quantise.srow Cert.WholeRefIdeal.Work.srow
      rw [e0, e1, e2]
      rfl
    · obtain ⟨e0, e1, e2, e3, e4, e5, e6, e7, e8⟩ := hagree c
      unfold Cert.WholeIdeal.Quantise.RES7 Cert.WholeRefIdeal.Work.RES11 Cert.WholeIdeal.Quantise.arow Cert.WholeRefIdeal.Work.arow Cert.WholeIdeal.Quantise.srow Cert.WholeRefIdeal.Work.srow
      rw [e0, e1, e2]
      rfl

end Cert.Proof

end
-- ==== Proof.CallQuantPieces.lean ====
/- The quantise call by itself: the stores its body makes for one block of 128 tokens are the same recursions over the
   twelve pairs of column blocks as in the whole kernel (the module QuantPieces). -/
module

public import proofs.«01_k».proof.Proof.QuantPieces
public import proofs.«01_k».proof.Proof.Gen.QuantIdeal.Value

@[expose] public section

set_option maxRecDepth 65536

noncomputable section

namespace Cert.QuantIdeal.Work

open Cert.QuantIdeal Cert.QuantIdeal.Gen Idealize.ShloMosaic Idealize.ShloMosaic.TcCoe Idealize.SL.Sem
open Cert.WholeIdeal.Quantise (pieces4 pieces6 piecesX piecesC inbX inbS)

variable {F : FTy → Type} [FloatOps F]

/-- The stores of quantised values are these. -/
theorem stores4 (c : Dev nD) (i : grid0.Coords) (arg1 : Memref sig .tc .smem S1 .f32) (harg1 : arg1.IsWhole) (arg2 : Memref sig .tc .vmem S128x3072 .bf16) (harg2 : arg2.IsWhole) (arg3 : Memref sig .tc .vmem S1x3072 .f32) (harg3 : arg3.IsWhole) (arg4 : Memref sig .tc .vmem S3072x64 .bf16) (harg4 : arg4.IsWhole) (arg5 : Memref sig .tc .vmem S128x3072 .bf16) (harg5 : arg5.IsWhole) (arg6 : Memref sig .tc .vmem S128x64 .bf16) (harg6 : arg6.IsWhole) (arg7 : Memref sig .tc .vmem S128x1536 .i8) (harg7 : arg7.IsWhole) (arg8 : Memref sig .tc .vmem S128x192 .fp8e4m3) (harg8 : arg8.IsWhole) (arg9 : Memref sig .tc .vmem S3072x128 .bf16) (harg9 : arg9.IsWhole) (arg10 : Memref sig .tc .vmem S192x128 .f32) (harg10 : arg10.IsWhole)
    (x0 : Vec F S1 .f32) (x1 : Vec F S128x3072 .bf16) (x2 : Vec F S1x3072 .f32) (x3 : Vec F S3072x64 .bf16) :
    (kernelRun0_A c i arg1 harg1 arg2 harg2 arg3 harg3 arg4 harg4 arg5 harg5 arg6 harg6 arg7 harg7 arg8 harg8 arg9 harg9 arg10 harg10 x0 x1 x2 x3).1
      = pieces4 (kernelRun0_A.sl.r c arg1 harg1 x0)
          (fun o h => View.readAt (Elt F) arg2.view (Rect.unit (s := S128x3072) ![0, o] S128x128.size (inbX o h)).toLoadRect (harg2.unread x1))
          (fun o h => View.readAt (Elt F) arg3.view (Rect.unit (s := S1x3072) ![0, o] S1x128.size (inbS o h)).toLoadRect (harg3.unread x2)) 12 (le_refl 12) := by
  unfold kernelRun0_A
  dsimp only
  rfl

/-- The stores of packed bytes are these. -/
theorem stores6 (c : Dev nD) (i : grid0.Coords) (arg1 : Memref sig .tc .smem S1 .f32) (harg1 : arg1.IsWhole) (arg2 : Memref sig .tc .vmem S128x3072 .bf16) (harg2 : arg2.IsWhole) (arg3 : Memref sig .tc .vmem S1x3072 .f32) (harg3 : arg3.IsWhole) (arg4 : Memref sig .tc .vmem S3072x64 .bf16) (harg4 : arg4.IsWhole) (arg5 : Memref sig .tc .vmem S128x3072 .bf16) (harg5 : arg5.IsWhole) (arg6 : Memref sig .tc .vmem S128x64 .bf16) (harg6 : arg6.IsWhole) (arg7 : Memref sig .tc .vmem S128x1536 .i8) (harg7 : arg7.IsWhole) (arg8 : Memref sig .tc .vmem S128x192 .fp8e4m3) (harg8 : arg8.IsWhole) (arg9 : Memref sig .tc .vmem S3072x128 .bf16) (harg9 : arg9.IsWhole) (arg10 : Memref sig .tc .vmem S192x128 .f32) (harg10 : arg10.IsWhole)
    (x0 : Vec F S1 .f32) (x1 : Vec F S128x3072 .bf16) (x2 : Vec F S1x3072 .f32) (x3 : Vec F S3072x64 .bf16) :
    (kernelRun0_A c i arg1 harg1 arg2 harg2 arg3 harg3 arg4 harg4 arg5 harg5 arg6 harg6 arg7 harg7 arg8 harg8 arg9 harg9 arg10 harg10 x0 x1 x2 x3).2.2.1
      = pieces6 (kernelRun0_A.sl.r c arg1 harg1 x0)
          (fun o h => View.readAt (Elt F) arg2.view (Rect.unit (s := S128x3072) ![0, o] S128x128.size (inbX o h)).toLoadRect (harg2.unread x1))
          (fun o h => View.readAt (Elt F) arg3.view (Rect.unit (s := S1x3072) ![0, o] S1x128.size (inbS o h)).toLoadRect (harg3.unread x2)) 12 (le_refl 12) := by
  unfold kernelRun0_A
  dsimp only
  rfl

/-- The stores of smoothed values are these. -/
theorem storesX (c : Dev nD) (arg1 : Memref sig .tc .smem S1 .f32) (harg1 : arg1.IsWhole) (arg2 : Memref sig .tc .vmem S128x3072 .bf16) (harg2 : arg2.IsWhole) (arg3 : Memref sig .tc .vmem S1x3072 .f32) (harg3 : arg3.IsWhole)
    (x0 : Vec F S1 .f32) (x1 : Vec F S128x3072 .bf16) (x2 : Vec F S1x3072 .f32) :
    kernelRun0_A.sl.HS0_24 c arg2 harg2 arg3 harg3 x1 x2
      = piecesX
          (fun o h => View.readAt (Elt F) arg2.view (Rect.unit (s := S128x3072) ![0, o] S128x128.size (inbX o h)).toLoadRect (harg2.unread x1))
          (fun o h => View.readAt (Elt F) arg3.view (Rect.unit (s := S1x3072) ![0, o] S1x128.size (inbS o h)).toLoadRect (harg3.unread x2)) 12 (le_refl 12) := by
  unfold kernelRun0_A.sl.HS0_24
  rfl

/-- The stores of scales are these. -/
theorem storesC (c : Dev nD) (arg1 : Memref sig .tc .smem S1 .f32) (harg1 : arg1.IsWhole) (arg2 : Memref sig .tc .vmem S128x3072 .bf16) (harg2 : arg2.IsWhole) (arg3 : Memref sig .tc .vmem S1x3072 .f32) (harg3 : arg3.IsWhole)
    (x0 : Vec F S1 .f32) (x1 : Vec F S128x3072 .bf16) (x2 : Vec F S1x3072 .f32) :
    kernelRun0_A.sl.HS1_24 c arg1 harg1 arg2 harg2 arg3 harg3 x0 x1 x2
      = piecesC (kernelRun0_A.sl.r c arg1 harg1 x0)
          (fun o h => View.readAt (Elt F) arg2.view (Rect.unit (s := S128x3072) ![0, o] S128x128.size (inbX o h)).toLoadRect (harg2.unread x1))
          (fun o h => View.readAt (Elt F) arg3.view (Rect.unit (s := S1x3072) ![0, o] S1x128.size (inbS o h)).toLoadRect (harg3.unread x2)) 12 (le_refl 12) := by
  unfold kernelRun0_A.sl.HS1_24
  rfl

end Cert.QuantIdeal.Work

end
-- ==== Proof.CallQuantOut.lean ====
/- What one point of the quantise call leaves in its four output blocks, in terms of the rows of its 128 tokens. -/
module

public import proofs.«01_k».proof.Proof.CallQuantPieces
public import proofs.«01_k».proof.Proof.QuantOut
public import proofs.«01_k».proof.Proof.Gen.QuantIdeal.Frame
public import Idealize.ShloMosaic.Lib.Pipeline.Covers
public import Idealize.ShloMosaic.Lib.Pipeline.ValueKit

@[expose] public section

set_option maxRecDepth 65536

noncomputable section

namespace Cert.QuantIdeal.Work

open Cert.QuantIdeal Cert.QuantIdeal.Gen Idealize.ShloMosaic Idealize.ShloMosaic.TcCoe Idealize.SL.Sem
open Cert.Codes
open Cert.WholeIdeal.Quantise (inbX inbS first_S1 ld2 store2 pieces4_val pieces6_val piecesX_val piecesC_val)

section

/-- The scale's scalar operand. -/
theorem scalar (c : Dev nD) (arg1 : Memref sig .tc .smem S1 .f32) (harg1 : arg1.IsWhole) (x0 : Vec Ideal S1 .f32) :
    kernelRun0_A.sl.r (F := Ideal) c arg1 harg1 x0 = x0 (ValueIdx.ix1 0) := by
  unfold kernelRun0_A.sl.r
  simp only [View.readAt_eq_ld, harg1.read_unread]
  exact first_S1 x0 (by decide)

/-- The loads of the block of activations. -/
theorem loadX (arg2 : Memref sig .tc .vmem S128x3072 .bf16) (harg2 : arg2.IsWhole) (x1 : Vec Ideal S128x3072 .bf16)
    (o : ℕ) (h : o + 128 ≤ 3072) (p b : Fin 128) (k : Fin 3072) (hk : k.val = o + b.val) :
    View.readAt (Elt Ideal) arg2.view (Rect.unit (s := S128x3072) ![0, o] S128x128.size (inbX o h)).toLoadRect (harg2.unread x1) (ix2 p b) = x1 (ix2 p k) := by
  rw [View.readAt_eq_ld, harg2.read_unread]
  exact ld2 x1 _ _ _ _ _ (Nat.zero_add _).symm hk

/-- The loads of the smoothing factors. -/
theorem loadS (arg3 : Memref sig .tc .vmem S1x3072 .f32) (harg3 : arg3.IsWhole) (x2 : Vec Ideal S1x3072 .f32)
    (o : ℕ) (h : o + 128 ≤ 3072) (b : Fin 128) (k : Fin 3072) (hk : k.val = o + b.val) :
    View.readAt (Elt Ideal) arg3.view (Rect.unit (s := S1x3072) ![0, o] S1x128.size (inbS o h)).toLoadRect (harg3.unread x2) (ix2 0 b) = x2 (ix2 0 k) := by
  rw [View.readAt_eq_ld, harg3.read_unread]
  exact ld2 x2 _ _ _ _ _ rfl hk

/-- The stores of smoothed values cover the scratch. -/
theorem coverX (c : Dev nD) (arg2 : Memref sig .tc .vmem S128x3072 .bf16) (harg2 : arg2.IsWhole) (arg3 : Memref sig .tc .vmem S1x3072 .f32) (harg3 : arg3.IsWhole)
    (x1 : Vec Ideal S128x3072 .bf16) (x2 : Vec Ideal S1x3072 .f32) (y : S3072x128.Idx) :
    ∃ p ∈ kernelRun0_A.sl.HS0_24 (F := Ideal) c arg2 harg2 arg3 harg3 x1 x2, y ∈ p.1.set :=
  View.cover_of_tiledL (kernelRun0_A.sl.HS0_24 (F := Ideal) c arg2 harg2 arg3 harg3 x1 x2) S128x128.size (by sl_kernel_rfl) y

/-- The stores of scales cover the scratch. -/
theorem coverC (c : Dev nD) (arg1 : Memref sig .tc .smem S1 .f32) (harg1 : arg1.IsWhole) (arg2 : Memref sig .tc .vmem S128x3072 .bf16) (harg2 : arg2.IsWhole) (arg3 : Memref sig .tc .vmem S1x3072 .f32) (harg3 : arg3.IsWhole)
    (x0 : Vec Ideal S1 .f32) (x1 : Vec Ideal S128x3072 .bf16) (x2 : Vec Ideal S1x3072 .f32) (y : S192x128.Idx) :
    ∃ p ∈ kernelRun0_A.sl.HS1_24 (F := Ideal) c arg1 harg1 arg2 harg2 arg3 harg3 x0 x1 x2, y ∈ p.1.set :=
  View.cover_of_tiledL (kernelRun0_A.sl.HS1_24 (F := Ideal) c arg1 harg1 arg2 harg2 arg3 harg3 x0 x1 x2) S8x128.size (by sl_kernel_rfl) y

/-- The scratch of smoothed values after the last store. -/
theorem heldX (c : Dev nD) (arg1 : Memref sig .tc .smem S1 .f32) (harg1 : arg1.IsWhole) (arg2 : Memref sig .tc .vmem S128x3072 .bf16) (harg2 : arg2.IsWhole) (arg3 : Memref sig .tc .vmem S1x3072 .f32) (harg3 : arg3.IsWhole)
    (x1 : Vec Ideal S128x3072 .bf16) (x2 : Vec Ideal S1x3072 .f32) (x0 : Vec Ideal S1 .f32) (y : S3072x128.Idx) :
    View.canon (kernelRun0_A.sl.HS0_24 (F := Ideal) c arg2 harg2 arg3 harg3 x1 x2) y = smoothed (fun k => x1 (ix2 (y 1) k)) (fun k => x2 (ix2 0 k)) (y 0) := by
  refine View.canon_apply_of_pieces (fun z : S3072x128.Idx => smoothed (fun k => x1 (ix2 (z 1) k)) (fun k => x2 (ix2 0 k)) (z 0)) _ ?_ y (coverX c arg2 harg2 arg3 harg3 x1 x2 y)
  rw [storesX c arg1 harg1 arg2 harg2 arg3 harg3 x0 x1 x2]
  exact piecesX_val (fun i k => x1 (ix2 i k)) (fun k => x2 (ix2 0 k)) _ _ (loadX arg2 harg2 x1) (loadS arg3 harg3 x2) 12 _

/-- The scratch of scales after the last store. -/
theorem heldC (c : Dev nD) (arg1 : Memref sig .tc .smem S1 .f32) (harg1 : arg1.IsWhole) (arg2 : Memref sig .tc .vmem S128x3072 .bf16) (harg2 : arg2.IsWhole) (arg3 : Memref sig .tc .vmem S1x3072 .f32) (harg3 : arg3.IsWhole)
    (x0 : Vec Ideal S1 .f32) (x1 : Vec Ideal S128x3072 .bf16) (x2 : Vec Ideal S1x3072 .f32) (y : S192x128.Idx) :
    View.canon (kernelRun0_A.sl.HS1_24 (F := Ideal) c arg1 harg1 arg2 harg2 arg3 harg3 x0 x1 x2) y
      = rowScale (x0 (ValueIdx.ix1 0)) (fun k => x1 (ix2 (y 1) k)) (fun k => x2 (ix2 0 k)) (y 0) := by
  refine View.canon_apply_of_pieces (fun z : S192x128.Idx => rowScale (x0 (ValueIdx.ix1 0)) (fun k => x1 (ix2 (z 1) k)) (fun k => x2 (ix2 0 k)) (z 0)) _ ?_ y
    (coverC c arg1 harg1 arg2 harg2 arg3 harg3 x0 x1 x2 y)
  rw [storesC, scalar]
  exact piecesC_val (x0 (ValueIdx.ix1 0)) (fun i k => x1 (ix2 i k)) (fun k => x2 (ix2 0 k)) _ _ (loadX arg2 harg2 x1) (loadS arg3 harg3 x2) 12 _

/-- The block of quantised values. -/
theorem out_4 (c : Dev nD) (i : grid0.Coords) (arg1 : Memref sig .tc .smem S1 .f32) (harg1 : arg1.IsWhole) (arg2 : Memref sig .tc .vmem S128x3072 .bf16) (harg2 : arg2.IsWhole) (arg3 : Memref sig .tc .vmem S1x3072 .f32) (harg3 : arg3.IsWhole) (arg4 : Memref sig .tc .vmem S3072x64 .bf16) (harg4 : arg4.IsWhole) (arg5 : Memref sig .tc .vmem S128x3072 .bf16) (harg5 : arg5.IsWhole) (arg6 : Memref sig .tc .vmem S128x64 .bf16) (harg6 : arg6.IsWhole) (arg7 : Memref sig .tc .vmem S128x1536 .i8) (harg7 : arg7.IsWhole) (arg8 : Memref sig .tc .vmem S128x192 .fp8e4m3) (harg8 : arg8.IsWhole) (arg9 : Memref sig .tc .vmem S3072x128 .bf16) (harg9 : arg9.IsWhole) (arg10 : Memref sig .tc .vmem S192x128 .f32) (harg10 : arg10.IsWhole)
    (x0 : Vec Ideal S1 .f32) (x1 : Vec Ideal S128x3072 .bf16) (x2 : Vec Ideal S1x3072 .f32) (x3 : Vec Ideal S3072x64 .bf16) (p : Fin 128) (k : Fin 3072) :
    out0_A_4 (F := Ideal) c i arg1 harg1 arg2 harg2 arg3 harg3 arg4 harg4 arg5 harg5 arg6 harg6 arg7 harg7 arg8 harg8 arg9 harg9 arg10 harg10 x0 x1 x2 x3 (ix2 p k)
      = rowValue (x0 (ValueIdx.ix1 0)) (fun k => x1 (ix2 p k)) (fun k => x2 (ix2 0 k)) k := by
  unfold out0_A_4
  rw [View.read_writes_junk_eq_canon]
  refine View.canon_apply_of_pieces (fun z : S128x3072.Idx => rowValue (x0 (ValueIdx.ix1 0)) (fun k => x1 (ix2 (z 0) k)) (fun k => x2 (ix2 0 k)) (z 1)) _ ?_ _
    (cover0_A_4 c i arg1 harg1 arg2 harg2 arg3 harg3 arg4 harg4 arg5 harg5 arg6 harg6 arg7 harg7 arg8 harg8 arg9 harg9 arg10 harg10 x0 x1 x2 x3 _)
  rw [stores4, scalar]
  exact pieces4_val (x0 (ValueIdx.ix1 0)) (fun i k => x1 (ix2 i k)) (fun k => x2 (ix2 0 k)) _ _ (loadX arg2 harg2 x1) (loadS arg3 harg3 x2) 12 _

/-- The block of packed bytes. -/
theorem out_6 (c : Dev nD) (i : grid0.Coords) (arg1 : Memref sig .tc .smem S1 .f32) (harg1 : arg1.IsWhole) (arg2 : Memref sig .tc .vmem S128x3072 .bf16) (harg2 : arg2.IsWhole) (arg3 : Memref sig .tc .vmem S1x3072 .f32) (harg3 : arg3.IsWhole) (arg4 : Memref sig .tc .vmem S3072x64 .bf16) (harg4 : arg4.IsWhole) (arg5 : Memref sig .tc .vmem S128x3072 .bf16) (harg5 : arg5.IsWhole) (arg6 : Memref sig .tc .vmem S128x64 .bf16) (harg6 : arg6.IsWhole) (arg7 : Memref sig .tc .vmem S128x1536 .i8) (harg7 : arg7.IsWhole) (arg8 : Memref sig .tc .vmem S128x192 .fp8e4m3) (harg8 : arg8.IsWhole) (arg9 : Memref sig .tc .vmem S3072x128 .bf16) (harg9 : arg9.IsWhole) (arg10 : Memref sig .tc .vmem S192x128 .f32) (harg10 : arg10.IsWhole)
    (x0 : Vec Ideal S1 .f32) (x1 : Vec Ideal S128x3072 .bf16) (x2 : Vec Ideal S1x3072 .f32) (x3 : Vec Ideal S3072x64 .bf16) (p : Fin 128) (k : Fin 1536) :
    out0_A_6 (F := Ideal) c i arg1 harg1 arg2 harg2 arg3 harg3 arg4 harg4 arg5 harg5 arg6 harg6 arg7 harg7 arg8 harg8 arg9 harg9 arg10 harg10 x0 x1 x2 x3 (ix2 p k)
      = rowByte (x0 (ValueIdx.ix1 0)) (fun k => x1 (ix2 p k)) (fun k => x2 (ix2 0 k)) k := by
  unfold out0_A_6
  rw [View.read_writes_junk_eq_canon]
  refine View.canon_apply_of_pieces (e := .i8) (fun z : S128x1536.Idx => rowByte (x0 (ValueIdx.ix1 0)) (fun k => x1 (ix2 (z 0) k)) (fun k => x2 (ix2 0 k)) (z 1)) _ ?_ _
    (cover0_A_6 c i arg1 harg1 arg2 harg2 arg3 harg3 arg4 harg4 arg5 harg5 arg6 harg6 arg7 harg7 arg8 harg8 arg9 harg9 arg10 harg10 x0 x1 x2 x3 _)
  rw [stores6, scalar]
  exact pieces6_val (x0 (ValueIdx.ix1 0)) (fun i k => x1 (ix2 i k)) (fun k => x2 (ix2 0 k)) _ _ (loadX arg2 harg2 x1) (loadS arg3 harg3 x2) 12 _

/-- The block of scales. -/
theorem out_7 (c : Dev nD) (i : grid0.Coords) (arg1 : Memref sig .tc .smem S1 .f32) (harg1 : arg1.IsWhole) (arg2 : Memref sig .tc .vmem S128x3072 .bf16) (harg2 : arg2.IsWhole) (arg3 : Memref sig .tc .vmem S1x3072 .f32) (harg3 : arg3.IsWhole) (arg4 : Memref sig .tc .vmem S3072x64 .bf16) (harg4 : arg4.IsWhole) (arg5 : Memref sig .tc .vmem S128x3072 .bf16) (harg5 : arg5.IsWhole) (arg6 : Memref sig .tc .vmem S128x64 .bf16) (harg6 : arg6.IsWhole) (arg7 : Memref sig .tc .vmem S128x1536 .i8) (harg7 : arg7.IsWhole) (arg8 : Memref sig .tc .vmem S128x192 .fp8e4m3) (harg8 : arg8.IsWhole) (arg9 : Memref sig .tc .vmem S3072x128 .bf16) (harg9 : arg9.IsWhole) (arg10 : Memref sig .tc .vmem S192x128 .f32) (harg10 : arg10.IsWhole)
    (x0 : Vec Ideal S1 .f32) (x1 : Vec Ideal S128x3072 .bf16) (x2 : Vec Ideal S1x3072 .f32) (x3 : Vec Ideal S3072x64 .bf16) (p : Fin 128) (r : Fin 192) :
    out0_A_7 (F := Ideal) c i arg1 harg1 arg2 harg2 arg3 harg3 arg4 harg4 arg5 harg5 arg6 harg6 arg7 harg7 arg8 harg8 arg9 harg9 arg10 harg10 x0 x1 x2 x3 (ix2 p r)
      = rowScale (x0 (ValueIdx.ix1 0)) (fun k => x1 (ix2 p k)) (fun k => x2 (ix2 0 k)) r := by
  unfold out0_A_7
  rw [View.read_writes_junk_eq_canon]
  unfold kernelRun0_A
  dsimp only
  rw [View.canon_cons_unit_zero (funext fun a => by fin_cases a <;> rfl)]
  unfold kernelRun0_A.sl.v2545
  rw [View.readCov_eq_canon']
  unfold k0_pay287
  pointwise
  refine (heldC c arg1 harg1 arg2 harg2 arg3 harg3 x0 x1 x2 _).trans ?_
  rfl

/-- The block of low-rank products. -/
theorem out_5 (c : Dev nD) (i : grid0.Coords) (arg1 : Memref sig .tc .smem S1 .f32) (harg1 : arg1.IsWhole) (arg2 : Memref sig .tc .vmem S128x3072 .bf16) (harg2 : arg2.IsWhole) (arg3 : Memref sig .tc .vmem S1x3072 .f32) (harg3 : arg3.IsWhole) (arg4 : Memref sig .tc .vmem S3072x64 .bf16) (harg4 : arg4.IsWhole) (arg5 : Memref sig .tc .vmem S128x3072 .bf16) (harg5 : arg5.IsWhole) (arg6 : Memref sig .tc .vmem S128x64 .bf16) (harg6 : arg6.IsWhole) (arg7 : Memref sig .tc .vmem S128x1536 .i8) (harg7 : arg7.IsWhole) (arg8 : Memref sig .tc .vmem S128x192 .fp8e4m3) (harg8 : arg8.IsWhole) (arg9 : Memref sig .tc .vmem S3072x128 .bf16) (harg9 : arg9.IsWhole) (arg10 : Memref sig .tc .vmem S192x128 .f32) (harg10 : arg10.IsWhole)
    (x0 : Vec Ideal S1 .f32) (x1 : Vec Ideal S128x3072 .bf16) (x2 : Vec Ideal S1x3072 .f32) (x3 : Vec Ideal S3072x64 .bf16) (p : Fin 128) (r : Fin 64) :
    out0_A_5 (F := Ideal) c i arg1 harg1 arg2 harg2 arg3 harg3 arg4 harg4 arg5 harg5 arg6 harg6 arg7 harg7 arg8 harg8 arg9 harg9 arg10 harg10 x0 x1 x2 x3 (ix2 p r)
      = rowLow (fun k => x1 (ix2 p k)) (fun k => x2 (ix2 0 k)) x3 r := by
  unfold out0_A_5
  rw [View.read_writes_junk_eq_canon]
  unfold kernelRun0_A
  dsimp only
  rw [View.canon_cons_unit_zero (funext fun a => by fin_cases a <;> rfl)]
  unfold kernelRun0_A.sl.r_167
  unfold kernelRun0_A.sl.v2549
  rw [View.readCov_eq_canon', View.readAt_eq_ld, harg4.read_unread, View.ld_unit_zero (S := S3072x64) (funext fun a => by fin_cases a <;> rfl)]
  unfold k0_pay288
  pointwise
  refine Finset.sum_congr rfl fun k _ => ?_
  exact congrArg (· * x3 (ix2 k r)) (heldX c arg1 harg1 arg2 harg2 arg3 harg3 x1 x2 x0 (ix2 k p))
end

end Cert.QuantIdeal.Work

end
-- ==== Proof.CallQuantArray.lean ====
/- The result arrays of the quantise call over the extended reals: every row of each is a function of that token's row. -/
module

public import proofs.«01_k».proof.Proof.QuantArray
public import proofs.«01_k».proof.Proof.CallQuantOut
public import Idealize.ShloMosaic.Lib.Pipeline.ValueKit.Held
public import Idealize.ShloMosaic.Lib.Claim

@[expose] public section

set_option maxRecDepth 65536

noncomputable section

namespace Cert.QuantIdeal.Work

open Cert.QuantIdeal Cert.QuantIdeal.Gen Idealize.ShloMosaic Idealize.ShloMosaic.TcCoe Idealize.SL.Sem
open Cert.Codes

variable (m : (ℓ : Loc nD τ sig) → Buf (Elt Ideal) ℓ)

/-- The blocks of the point `t`: row block `t`. -/
theorem idx : ∀ t : Fin cfg0.N, win0_0.index t = ![0] ∧ win0_1.index t = ![t.val, 0] ∧ win0_2.index t = ![0, 0]
    ∧ win0_3.index t = ![0, 0] ∧ win0_4.index t = ![t.val, 0] ∧ win0_5.index t = ![t.val, 0]
    ∧ win0_6.index t = ![t.val, 0] ∧ win0_7.index t = ![t.val, 0] :=
  (by decide +kernel : ∀ t : Fin grid0.N, _)

theorem lt64 (t : Fin cfg0.N) : t.val < 64 := t.isLt

/-- Row `r` of the point's row block, in the whole array. -/
def row (t : Fin cfg0.N) (r : Fin 128) : Fin 8192 := ⟨128 * t.val + r.val, by have := lt64 t; omega⟩

theorem iblk0 (c : Dev nD) (t : Fin cfg0.N) : iblk m c 0 t (ValueIdx.ix1 0) = m ((c : Thread nD τ).loc main_arg2) ix0 := by
  blk_simp [iblk, idx t]
  entry_read
  pointwise

theorem emb1 (t : Fin cfg0.N) (r : Fin 128) (k : Fin 3072) : (win0_1.blk t).view.emb (ix2 r k) = ix2 (row t r) k := by
  blk_ext [idx t, row]

theorem emb2 (t : Fin cfg0.N) (k : Fin 3072) : (win0_2.blk t).view.emb (ix2 0 k) = ix2 0 k := by
  blk_ext [idx t]

theorem iblk1 (c : Dev nD) (t : Fin cfg0.N) (r : Fin 128) (k : Fin 3072) :
    iblk m c 1 t (ix2 r k) = tokenRow (m ((c : Thread nD τ).loc main_arg0)) (row t r) k := by
  blk_simp [iblk, idx t]
  entry_read
  pointwise
  exact congrArg (fun z : S8192x3072.Idx => tokenRow (m ((c : Thread nD τ).loc main_arg0)) (z 0) (z 1)) (emb1 t r k)

theorem iblk2 (c : Dev nD) (t : Fin cfg0.N) (k : Fin 3072) :
    iblk m c 2 t (ix2 0 k) = m ((c : Thread nD τ).loc main_arg1) (ix1 k) := by
  blk_simp [iblk, idx t]
  entry_read
  pointwise
  exact congrArg (fun z : S1x3072.Idx => m ((c : Thread nD τ).loc main_arg1) (ix1 (z 1))) (emb2 t k)

theorem iblk3 (c : Dev nD) (t : Fin cfg0.N) : iblk m c 3 t = m ((c : Thread nD τ).loc main_arg3) := by
  blk_ext! [iblk, V, idx t]

/-- The rows of the call's arguments. -/
def arow (c : Dev nD) (p : Fin 8192) : Fin 3072 → EReal := tokenRow (m ((c : Thread nD τ).loc main_arg0)) p

/-- The smoothing factors. -/
def srow (c : Dev nD) : Fin 3072 → EReal := fun k => m ((c : Thread nD τ).loc main_arg1) (ix1 k)

/-- The quantised values. -/
def RES4 (c : Dev nD) : Buf (Elt Ideal) ((c : Thread nD τ).loc main_v3_0) := fun i =>
  rowValue (m ((c : Thread nD τ).loc main_arg2) ix0) (arow m c (i 0)) (srow m c) (i 1)

/-- The low-rank products. -/
def RES5 (c : Dev nD) : Buf (Elt Ideal) ((c : Thread nD τ).loc main_v3_1) := fun i =>
  rowLow (arow m c (i 0)) (srow m c) (m ((c : Thread nD τ).loc main_arg3)) (i 1)

/-- The packed codes. -/
def RES6 (c : Dev nD) : Buf (Elt Ideal) ((c : Thread nD τ).loc main_v3_2) := fun i =>
  rowByte (m ((c : Thread nD τ).loc main_arg2) ix0) (arow m c (i 0)) (srow m c) (i 1)

/-- The scales. -/
def RES7 (c : Dev nD) : Buf (Elt Ideal) ((c : Thread nD τ).loc main_v3_3) := fun i =>
  rowScale (m ((c : Thread nD τ).loc main_arg2) ix0) (arow m c (i 0)) (srow m c) (i 1)

theorem rowX (c : Dev nD) (t : Fin cfg0.N) (p : Fin 128) : (fun k => iblk m c 1 t (ix2 p k)) = arow m c (row t p) :=
  funext fun k => iblk1 m c t p k

theorem rowS (c : Dev nD) (t : Fin cfg0.N) : (fun k => iblk m c 2 t (ix2 0 k)) = srow m c :=
  funext fun k => iblk2 m c t k

theorem final4 (c : Dev nD) : (dats m 0 c).arrAt 4 cfg0.N = RES4 m c := by
  refine (dats m 0 c).arrAt_eq_of_covers 4 _ (by decide +kernel) fun t hf y => ?_
  rw [after0_4]
  blk_simp
  obtain ⟨p, q, rfl⟩ : ∃ (p : Fin 128) (q : Fin 3072), y = ix2 p q := ⟨y 0, y 1, eq_ix2 y⟩
  have he : (win0_4.blk t).view.emb (ix2 p q) = ix2 (row t p) q := by
    blk_ext [idx t, row]
  refine Eq.trans ?_ (congrArg (RES4 m c) he.symm)
  unfold outsAt0
  dsimp only
  rw [out_4, iblk0, rowX, rowS]
  rfl

theorem final5 (c : Dev nD) : (dats m 0 c).arrAt 5 cfg0.N = RES5 m c := by
  refine (dats m 0 c).arrAt_eq_of_covers 5 _ (by decide +kernel) fun t hf y => ?_
  rw [after0_5]
  blk_simp
  obtain ⟨p, q, rfl⟩ : ∃ (p : Fin 128) (q : Fin 64), y = ix2 p q := ⟨y 0, y 1, eq_ix2 y⟩
  have he : (win0_5.blk t).view.emb (ix2 p q) = ix2 (row t p) q := by
    blk_ext [idx t, row]
  refine Eq.trans ?_ (congrArg (RES5 m c) he.symm)
  unfold outsAt0
  dsimp only
  rw [out_5, iblk3, rowX, rowS]
  rfl

theorem final6 (c : Dev nD) : (dats m 0 c).arrAt 6 cfg0.N = RES6 m c := by
  refine (dats m 0 c).arrAt_eq_of_covers 6 _ (by decide +kernel) fun t hf y => ?_
  rw [after0_6]
  blk_simp
  obtain ⟨p, q, rfl⟩ : ∃ (p : Fin 128) (q : Fin 1536), y = ix2 p q := ⟨y 0, y 1, eq_ix2 y⟩
  have he : (win0_6.blk t).view.emb (ix2 p q) = ix2 (row t p) q := by
    blk_ext [idx t, row]
  refine Eq.trans ?_ (congrArg (RES6 m c) he.symm)
  unfold outsAt0
  dsimp only
  rw [out_6, iblk0, rowX, rowS]
  rfl

theorem final7 (c : Dev nD) : (dats m 0 c).arrAt 7 cfg0.N = RES7 m c := by
  refine (dats m 0 c).arrAt_eq_of_covers 7 _ (by decide +kernel) fun t hf y => ?_
  rw [after0_7]
  blk_simp
  obtain ⟨p, q, rfl⟩ : ∃ (p : Fin 128) (q : Fin 192), y = ix2 p q := ⟨y 0, y 1, eq_ix2 y⟩
  have he : (win0_7.blk t).view.emb (ix2 p q) = ix2 (row t p) q := by
    blk_ext [idx t, row]
  refine Eq.trans ?_ (congrArg (RES7 m c) he.symm)
  unfold outsAt0
  dsimp only
  rw [out_7, iblk0, rowX, rowS]
  rfl

end Cert.QuantIdeal.Work

end
-- ==== Proof.CallQuantRef.lean ====
/- The quantise call's reference over the extended reals: every row of each of its results is the function of the token's
   row that the kernel computes. -/
module

public import proofs.«01_k».proof.Proof.CallQuantArray
public import proofs.«01_k».proof.Proof.RefQuantise
public import proofs.«01_k».proof.Proof.Gen.QuantRefIdeal.Value
public import Idealize.ShloMosaic.Lib.Pipeline.ReadBack

@[expose] public section

set_option maxRecDepth 65536

noncomputable section

namespace Cert.QuantRefIdeal.Work

open Cert.QuantRefIdeal Cert.QuantRefIdeal.Gen Idealize.ShloMosaic Idealize.ShloMosaic.TcCoe Idealize.SL.Sem
open Cert.Codes
open Cert.WholeRefIdeal.Work (rx rs)

section
variable (g : EReal) (x : Vec Ideal S8192x3072 .bf16) (s : Vec Ideal S1x3072 .f32)

theorem smoothed_ref (p : Fin 8192) (k : Fin 3072) : k0_pay2 (F := Ideal) x s (ix2 p k) = smoothed (rx x p) (rs s) k :=
  Cert.WholeRefIdeal.Work.smoothed_ref x s p k

/-- The packed bytes. -/
def bytes : IVec S8192x1536 8 :=
  k0_pay10 (F := Ideal) (k0_pay6 (F := Ideal) g x s) (k0_pay7 (F := Ideal) g x s) (k0_pay8 (F := Ideal) g x s) (k0_pay9 (F := Ideal) g x s) (Scalar.ofBits .f32 0x40800000#32)

theorem bytes_ref (p : Fin 8192) (j : Fin 1536) : bytes g x s (ix2 p j) = rowByte g (rx x p) (rs s) j :=
  Cert.WholeRefIdeal.Work.bytes_ref g x s p j

/-- The quantised values: each code of the packed bytes times its group's scale. -/
theorem values_ref (p : Fin 8192) (k : Fin 3072) :
    k0_pay16 (F := Ideal) (k0_pay11 (F := Ideal) (k0_pay4 (F := Ideal) g x s))
      (k0_pay13 (F := Ideal) (k0_pay11 (F := Ideal) (k0_pay4 (F := Ideal) g x s))
        (andi (extui 32 (bytes g x s) natLt_8_32) (broadcast S8192x1536 15#32)))
      (k0_pay14 (bytes g x s)) k0_pay15 (ix2 p k) = rowValue g (rx x p) (rs s) k :=
  Cert.WholeRefIdeal.Work.values_ref g x s p k

/-- The low-rank products. -/
theorem low_rank_ref (L : Vec Ideal S3072x64 .bf16) (p : Fin 8192) (r : Fin 64) :
    k0_pay1 (F := Ideal) (k0_pay2 (F := Ideal) x s) L (ix2 p r) = rowLow (rx x p) (rs s) L r := by
  unfold k0_pay1
  pointwise
  refine Finset.sum_congr rfl fun k _ => ?_
  exact congrArg (· * L (ix2 k r)) (smoothed_ref x s p k)

theorem fp8scale_ref (p : Fin 8192) (r : Fin 192) :
    k0_pay5 (F := Ideal) g x s (ix2 p r) = rowScale g (rx x p) (rs s) r :=
  Cert.WholeRefIdeal.Work.fp8scale_ref g x s p r

end

end Cert.QuantRefIdeal.Work

end
-- ==== Proof.CallQuantClaim.lean ====
/- The quantise call and its reference leave the same four result arrays over the extended reals. -/
module

public import proofs.«01_k».proof.Proof.CallQuantRef
public import proofs.«01_k».proof.Defs
public import Idealize.ShloMosaic.Lib.Pipeline.ReadBack

@[expose] public section

set_option maxRecDepth 65536

noncomputable section

namespace Cert.QuantRefIdeal.Work

open Cert.QuantRefIdeal Cert.QuantRefIdeal.Gen Idealize.ShloMosaic Idealize.ShloMosaic.TcCoe Idealize.SL.Sem
open Cert.Codes
open Cert.WholeRefIdeal.Work (rx rs)

variable (m : (ℓ : Loc nD τ sig) → Buf (Elt Ideal) ℓ)

theorem idx : ∀ t : Fin cfg0.N, win0_0.index t = ![0, 0] ∧ win0_1.index t = ![0, 0] ∧ win0_2.index t = ![0] ∧ win0_3.index t = ![0, 0]
    ∧ win0_4.index t = ![0, 0] ∧ win0_5.index t = ![0, 0] ∧ win0_6.index t = ![0, 0] ∧ win0_7.index t = ![0, 0] :=
  (by decide +kernel : ∀ t : Fin grid0.N, _)

theorem emb0 (t : Fin cfg0.N) (p : Fin 8192) (k : Fin 3072) : (win0_0.blk t).view.emb (ix2 p k) = ix2 p k := by
  blk_ext [idx t]

theorem emb1 (t : Fin cfg0.N) (k : Fin 3072) : (win0_1.blk t).view.emb (ix2 0 k) = ix2 0 k := by
  blk_ext [idx t]

theorem iblk0 (c : Dev nD) (t : Fin cfg0.N) (p : Fin 8192) : rx (iblk m c 0 t) p = tokenRow (m ((c : Thread nD τ).loc main_arg0)) p := by
  funext k
  unfold rx
  blk_simp [iblk, idx t]
  entry_read
  pointwise
  exact congrArg (fun z : S8192x3072.Idx => tokenRow (m ((c : Thread nD τ).loc main_arg0)) (z 0) (z 1)) (emb0 t p k)

theorem iblk1 (c : Dev nD) (t : Fin cfg0.N) : rs (iblk m c 1 t) = fun k => m ((c : Thread nD τ).loc main_arg1) (ix1 k) := by
  funext k
  unfold rs
  blk_simp [iblk, idx t]
  entry_read
  pointwise
  exact congrArg (fun z : S1x3072.Idx => m ((c : Thread nD τ).loc main_arg1) (ix1 (z 1))) (emb1 t k)

theorem iblk2 (c : Dev nD) (t : Fin cfg0.N) (j : S1.Idx) : iblk m c 2 t j = m ((c : Thread nD τ).loc main_arg2) ix0 := by
  blk_simp [iblk, idx t]
  entry_read
  pointwise

theorem iblk3 (c : Dev nD) (t : Fin cfg0.N) : iblk m c 3 t = m ((c : Thread nD τ).loc main_arg3) := by
  blk_ext! [iblk, V, idx t]

/-- The rows of the reference's arguments. -/
def arow (c : Dev nD) (p : Fin 8192) : Fin 3072 → EReal := tokenRow (m ((c : Thread nD τ).loc main_arg0)) p

/-- The smoothing factors. -/
def srow (c : Dev nD) : Fin 3072 → EReal := fun k => m ((c : Thread nD τ).loc main_arg1) (ix1 k)

/-- The quantised values. -/
def RES4 (c : Dev nD) : Buf (Elt Ideal) ((c : Thread nD τ).loc main_v3_0) := fun i =>
  rowValue (m ((c : Thread nD τ).loc main_arg2) ix0) (arow m c (i 0)) (srow m c) (i 1)

/-- The low-rank products. -/
def RES5 (c : Dev nD) : Buf (Elt Ideal) ((c : Thread nD τ).loc main_v3_1) := fun i =>
  rowLow (arow m c (i 0)) (srow m c) (m ((c : Thread nD τ).loc main_arg3)) (i 1)

/-- The packed codes. -/
def RES6 (c : Dev nD) : Buf (Elt Ideal) ((c : Thread nD τ).loc main_v3_2) := fun i =>
  rowByte (m ((c : Thread nD τ).loc main_arg2) ix0) (arow m c (i 0)) (srow m c) (i 1)

/-- The scales. -/
def RES7 (c : Dev nD) : Buf (Elt Ideal) ((c : Thread nD τ).loc main_v3_3) := fun i =>
  rowScale (m ((c : Thread nD τ).loc main_arg2) ix0) (arow m c (i 0)) (srow m c) (i 1)

theorem final4 (c : Dev nD) : (dats m 0 c).arrAt 4 cfg0.N = RES4 m c := by
  refine (dats m 0 c).arrAt_eq_of_covers 4 _ (by decide +kernel) fun t hf y => ?_
  blk_simp
  rw [after0_4]
  unfold outsAt0
  frame_out
  simp only [read_unread_whole]
  obtain ⟨p, q, rfl⟩ : ∃ (p : Fin 8192) (q : Fin 3072), y = ix2 p q := ⟨y 0, y 1, eq_ix2 y⟩
  have he : (win0_4.blk t).view.emb (ix2 p q) = ix2 p q := by
    blk_ext [idx t]
  refine Eq.trans ?_ (congrArg (RES4 m c) he.symm)
  refine (values_ref _ _ _ p q).trans ?_
  rw [iblk0, iblk1, iblk2]
  rfl

theorem final5 (c : Dev nD) : (dats m 0 c).arrAt 5 cfg0.N = RES5 m c := by
  refine (dats m 0 c).arrAt_eq_of_covers 5 _ (by decide +kernel) fun t hf y => ?_
  blk_simp
  rw [after0_5]
  unfold outsAt0
  frame_out
  simp only [read_unread_whole]
  obtain ⟨p, q, rfl⟩ : ∃ (p : Fin 8192) (q : Fin 64), y = ix2 p q := ⟨y 0, y 1, eq_ix2 y⟩
  have he : (win0_5.blk t).view.emb (ix2 p q) = ix2 p q := by
    blk_ext [idx t]
  refine Eq.trans ?_ (congrArg (RES5 m c) he.symm)
  refine (low_rank_ref _ _ _ p q).trans ?_
  rw [iblk0, iblk1, iblk3]
  rfl

theorem final6 (c : Dev nD) : (dats m 0 c).arrAt 6 cfg0.N = RES6 m c := by
  refine (dats m 0 c).arrAt_eq_of_covers 6 _ (by decide +kernel) fun t hf y => ?_
  blk_simp
  rw [after0_6]
  unfold outsAt0
  frame_out
  simp only [read_unread_whole]
  obtain ⟨p, q, rfl⟩ : ∃ (p : Fin 8192) (q : Fin 1536), y = ix2 p q := ⟨y 0, y 1, eq_ix2 y⟩
  have he : (win0_6.blk t).view.emb (ix2 p q) = ix2 p q := by
    blk_ext [idx t]
  refine Eq.trans ?_ (congrArg (RES6 m c) he.symm)
  refine (bytes_ref _ _ _ p q).trans ?_
  rw [iblk0, iblk1, iblk2]
  rfl

theorem final7 (c : Dev nD) : (dats m 0 c).arrAt 7 cfg0.N = RES7 m c := by
  refine (dats m 0 c).arrAt_eq_of_covers 7 _ (by decide +kernel) fun t hf y => ?_
  blk_simp
  rw [after0_7]
  unfold outsAt0
  frame_out
  simp only [read_unread_whole]
  obtain ⟨p, q, rfl⟩ : ∃ (p : Fin 8192) (q : Fin 192), y = ix2 p q := ⟨y 0, y 1, eq_ix2 y⟩
  have he : (win0_7.blk t).view.emb (ix2 p q) = ix2 p q := by
    blk_ext [idx t]
  refine Eq.trans ?_ (congrArg (RES7 m c) he.symm)
  refine (fp8scale_ref _ _ _ p q).trans ?_
  rw [iblk0, iblk1, iblk2]
  rfl

end Cert.QuantRefIdeal.Work

namespace Cert.Proof

open Idealize.ShloMosaic Idealize.ShloMosaic.TcCoe

theorem algebraic_Quant : Cert.algebraic_QuantIdeal_QuantRefIdeal := by
  pair_intro
  · run_from Cert.QuantIdeal.Value.run_blocks m g
  · run_from Cert.QuantRefIdeal.Value.run_blocks m' g'
    · obtain ⟨e0, e1, e2, e3⟩ := hagree c
      rw [Cert.QuantIdeal.Work.final4, Cert.QuantRefIdeal.Work.final4]
      unfold Cert.QuantIdeal.Work.RES4 Cert.QuantRefIdeal.Work.RES4 Cert.QuantIdeal.Work.arow Cert.QuantRefIdeal.Work.arow Cert.QuantIdeal.Work.srow Cert.QuantRefIdeal.Work.srow
      rw [e0, e1, e2]
      rfl
    · obtain ⟨e0, e1, e2, e3⟩ := hagree c
      rw [Cert.QuantIdeal.Work.final5, Cert.QuantRefIdeal.Work.final5]
      unfold Cert.QuantIdeal.Work.RES5 Cert.QuantRefIdeal.Work.RES5 Cert.QuantIdeal.Work.arow Cert.QuantRefIdeal.Work.arow Cert.QuantIdeal.Work.srow Cert.QuantRefIdeal.Work.srow
      rw [e0, e1, e3]
      rfl
    · obtain ⟨e0, e1, e2, e3⟩ := hagree c
      rw [Cert.QuantIdeal.Work.final6, Cert.QuantRefIdeal.Work.final6]
      unfold Cert.QuantIdeal.Work.RES6 Cert.QuantRefIdeal.Work.RES6 Cert.QuantIdeal.Work.arow Cert.QuantRefIdeal.Work.arow Cert.QuantIdeal.Work.srow Cert.QuantRefIdeal.Work.srow
      rw [e0, e1, e2]
      rfl
    · obtain ⟨e0, e1, e2, e3⟩ := hagree c
      rw [Cert.QuantIdeal.Work.final7, Cert.QuantRefIdeal.Work.final7]
      unfold Cert.QuantIdeal.Work.RES7 Cert.QuantRefIdeal.Work.RES7 Cert.QuantIdeal.Work.arow Cert.QuantRefIdeal.Work.arow Cert.QuantIdeal.Work.srow Cert.QuantRefIdeal.Work.srow
      rw [e0, e1, e2]
      rfl

end Cert.Proof

end
-- ==== Proof.CallMmPieces.lean ====
/- The matrix-product call by itself: the 192 stores its dequantising pass makes into the weight scratch are the same
   recursion over the 48 groups of 32 packed rows as in the whole kernel (the module MmPieces), and the rows of scales it
   reads are those stored. -/
module

public import proofs.«01_k».proof.Proof.MmTiles
public import proofs.«01_k».proof.Proof.Gen.MmIdeal.Value

@[expose] public section

set_option maxRecDepth 65536

noncomputable section

namespace Cert.MmIdeal.Work

open Cert.MmIdeal Cert.MmIdeal.Gen Idealize.ShloMosaic Idealize.ShloMosaic.TcCoe Idealize.SL.Sem
open Cert.WholeIdeal.Matmul (pieces inbB inbP)

variable {F : FTy → Type} [FloatOps F]

/-- The stores the body makes into the weight scratch are these. -/
theorem stores_eq (c : Dev nD) (arg5 : Memref sig .tc .vmem S1536x1024 .i8) (harg5 : arg5.IsWhole) (arg6 : Memref sig .tc .vmem S192x1024 .fp8e4m3) (harg6 : arg6.IsWhole) (arg11 : Memref sig .tc .vmem S192x2x1024 .bf16)
    (x3 : Vec F S1536x1024 .i8) (x4 : Vec F S192x1024 .fp8e4m3) :
    kernelRun0_A.sl.HS0_192 c arg5 harg5 arg6 harg6 arg11 x3 x4
      = pieces (fun r h => View.readAt (Elt F) arg5.view (Rect.unit (s := S1536x1024) ![r, 0] S32x1024.size (inbB r h)).toLoadRect (harg5.unread x3))
          (fun r h => arg11.view.readCov (kernelRun0_A.sl.HS1_1 c arg6 harg6 x4) (Rect.unit (s := S192x2x1024) ![r, 0, 0] S1x2x1024.size (inbP r h)).toLoadRect) 48 (le_refl 48) := by
  unfold kernelRun0_A.sl.HS0_192
  rfl

/-- What the scale scratch's one store leaves, read back one row at a time: the scale times 64, twice. -/
theorem pairRow_apply (c : Dev nD) (arg6 : Memref sig .tc .vmem S192x1024 .fp8e4m3) (harg6 : arg6.IsWhole) (arg11 : Memref sig .tc .vmem S192x2x1024 .bf16)
    (x4 : Vec Ideal S192x1024 .fp8e4m3) (r : ℕ) (h : r + 1 ≤ 192) (q : Fin 2) (l : Fin 1024) :
    arg11.view.readCov (kernelRun0_A.sl.HS1_1 (F := Ideal) c arg6 harg6 x4) (Rect.unit (s := S192x2x1024) ![r, 0, 0] S1x2x1024.size (inbP r h)).toLoadRect (ix3 0 q l)
      = x4 (ix2 ⟨r, h⟩ l) * Ideal.ofBits .f32 0x42800000#32 := by
  rw [View.readCov_eq_canon']
  unfold kernelRun0_A.sl.HS1_1
  dsimp only
  rw [View.canon_cons_unit_zero (funext fun a => by fin_cases a <;> rfl)]
  have hi : (Rect.unit (s := S192x2x1024) ![r, 0, 0] S1x2x1024.size (inbP r h)).toLoadRect.idx (ix3 0 q l) = ix3 ⟨r, h⟩ q l := by
    funext a
    apply Fin.ext
    match a with
    | ⟨0, _⟩ => exact (Rect.idx_unit_val _ _ _ _ _).trans rfl
    | ⟨1, _⟩ => exact (Rect.idx_unit_val _ _ _ _ _).trans (Nat.zero_add _)
    | ⟨2, _⟩ => exact (Rect.idx_unit_val _ _ _ _ _).trans (Nat.zero_add _)
  refine (congrArg _ hi).trans ?_
  unfold k0_pay2
  rw [View.readAt_eq_ld, harg6.read_unread, View.ld_unit_zero (S := S192x1024) (funext fun a => by fin_cases a <;> rfl)]
  unfold interleaveRows
  dsimp only
  split <;> pointwise

end Cert.MmIdeal.Work

end
-- ==== Proof.CallMmTiles.lean ====
/- The output block of the matrix-product call: four tiles of 512 rows and 512 columns. -/
module

public import proofs.«01_k».proof.Proof.CallMmPieces

@[expose] public section

set_option maxRecDepth 65536

noncomputable section

namespace Cert.MmIdeal.Work

open Cert.MmIdeal Cert.MmIdeal.Gen Idealize.ShloMosaic Idealize.ShloMosaic.TcCoe Idealize.SL.Sem
open Cert.Codes
open Cert.WholeIdeal.Matmul (inbB inbO inbX inbH inbV inbL inbC first_S1 ld2 block pieces_val)

section
variable {F : FTy → Type} [FloatOps F]

/-- One tile's store: rows from `r`, columns from `c`, the weights' columns given by `W`. -/
def tile (g : Elt F .f32) (x1 : Vec F S1024x3072 .bf16) (W : (c : ℕ) → c + 512 ≤ 1024 → Vec F S3072x512 .bf16) (x2 : Vec F S1024x64 .bf16)
    (x5 : Vec F S64x1024 .bf16) (x6 : Vec F S1x1024 .f32) (r c : ℕ) (hr : r + 512 ≤ 1024) (hc : c + 512 ≤ 1024) : View.Piece (Elt F) S1024x1024 .bf16 :=
  ⟨Rect.unit (s := S1024x1024) ![r, c] S512x512.size (inbO r c hr hc),
    k0_pay455 g (View.ld x1 (Rect.unit (s := S1024x3072) ![r, 0] S512x3072.size (inbX r hr))) (W c hc)
      (View.ld x2 (Rect.unit (s := S1024x64) ![r, 0] S512x64.size (inbH r hr)))
      (View.ld x5 (Rect.unit (s := S64x1024) ![0, c] S64x512.size (inbL c hc)))
      (View.ld x6 (Rect.unit (s := S1x1024) ![0, c] S1x512.size (inbC c hc)))⟩

/-- The four tiles' stores, last first. -/
def tiles (g : Elt F .f32) (x1 : Vec F S1024x3072 .bf16) (W : (c : ℕ) → c + 512 ≤ 1024 → Vec F S3072x512 .bf16) (x2 : Vec F S1024x64 .bf16)
    (x5 : Vec F S64x1024 .bf16) (x6 : Vec F S1x1024 .f32) : List (View.Piece (Elt F) S1024x1024 .bf16) :=
  [tile g x1 W x2 x5 x6 512 512 (by decide) (by decide), tile g x1 W x2 x5 x6 0 512 (by decide) (by decide),
    tile g x1 W x2 x5 x6 512 0 (by decide) (by decide), tile g x1 W x2 x5 x6 0 0 (by decide) (by decide)]

/-- A reshape to the same shape. -/
theorem shapeCast_self {α : Type} {s : Shape} (v : s.Idx → α) (h : s.ShapeCasts s) : shapeCast s v h = v := by
  funext i
  simp only [shapeCast, Shape.reshapeEquiv_self]

/-- These stores are those of the matrix-product call in the whole kernel, whose operands are reshaped to their own shapes. -/
theorem tiles_eq (g : Elt F .f32) (x1 : Vec F S1024x3072 .bf16) (W : (c : ℕ) → c + 512 ≤ 1024 → Vec F S3072x512 .bf16) (x2 : Vec F S1024x64 .bf16)
    (x5 : Vec F S64x1024 .bf16) (x6 : Vec F S1x1024 .f32) : tiles g x1 W x2 x5 x6 = Cert.WholeIdeal.Matmul.tiles g x1 W x2 x5 x6 := by
  have e : ∀ a w h l b, k0_pay455 (F := F) g a w h l b = Cert.WholeIdeal.Gen.k1_pay455 g a w h l b := by
    intro a w h l b
    unfold k0_pay455 Cert.WholeIdeal.Gen.k1_pay455
    simp only [shapeCast_self]
    rfl
  unfold tiles Cert.WholeIdeal.Matmul.tiles tile Cert.WholeIdeal.Matmul.tile
  simp only [e]

/-- The tiles' stores where the dequantising pass runs. -/
theorem tilesA (c : Dev nD) (i : grid0.Coords) (arg2 : Memref sig .tc .smem S1 .f32) (harg2 : arg2.IsWhole) (arg3 : Memref sig .tc .vmem S1024x3072 .bf16) (harg3 : arg3.IsWhole) (arg4 : Memref sig .tc .vmem S1024x64 .bf16) (harg4 : arg4.IsWhole) (arg5 : Memref sig .tc .vmem S1536x1024 .i8) (harg5 : arg5.IsWhole) (arg6 : Memref sig .tc .vmem S192x1024 .fp8e4m3) (harg6 : arg6.IsWhole) (arg7 : Memref sig .tc .vmem S64x1024 .bf16) (harg7 : arg7.IsWhole) (arg8 : Memref sig .tc .vmem S1x1024 .f32) (harg8 : arg8.IsWhole) (arg9 : Memref sig .tc .vmem S1024x1024 .bf16) (harg9 : arg9.IsWhole) (arg10 : Memref sig .tc .vmem S3072x1024 .bf16) (harg10 : arg10.IsWhole) (arg11 : Memref sig .tc .vmem S192x2x1024 .bf16) (harg11 : arg11.IsWhole) (hc0 : cond0_0 i)
    (x0 : Vec F S1 .f32) (x1 : Vec F S1024x3072 .bf16) (x2 : Vec F S1024x64 .bf16) (x3 : Vec F S1536x1024 .i8) (x4 : Vec F S192x1024 .fp8e4m3) (x5 : Vec F S64x1024 .bf16) (x6 : Vec F S1x1024 .f32) :
    (kernelRun0_A c i arg2 harg2 arg3 harg3 arg4 harg4 arg5 harg5 arg6 harg6 arg7 harg7 arg8 harg8 arg9 harg9 arg10 harg10 arg11 harg11 hc0 x0 x1 x2 x3 x4 x5 x6).1
      = tiles (x0 (ValueIdx.ix1 0)) x1 (fun c' h => View.ld (View.canon (kernelRun0_A c i arg2 harg2 arg3 harg3 arg4 harg4 arg5 harg5 arg6 harg6 arg7 harg7 arg8 harg8 arg9 harg9 arg10 harg10 arg11 harg11 hc0 x0 x1 x2 x3 x4 x5 x6).2.1) (Rect.unit (s := S3072x1024) ![0, c'] S3072x512.size (inbV c' h))) x2 x5 x6 := by
  unfold kernelRun0_A
  dsimp only
  unfold kernelRun0_A.sl.r_169 kernelRun0_A.sl.r_170 kernelRun0_A.sl.r_168
  simp only [View.readAt_eq_ld, harg2.read_unread, harg3.read_unread, harg4.read_unread, harg7.read_unread, harg8.read_unread]
  unfold kernelRun0_A.sl.v5 kernelRun0_A.sl.v35
  simp only [View.readCov_eq_canon']
  rw [← first_S1 x0 (by decide)]
  rfl

/-- The tiles' stores where the weights are those of the point before. -/
theorem tilesB (c : Dev nD) (i : grid0.Coords) (arg2 : Memref sig .tc .smem S1 .f32) (harg2 : arg2.IsWhole) (arg3 : Memref sig .tc .vmem S1024x3072 .bf16) (harg3 : arg3.IsWhole) (arg4 : Memref sig .tc .vmem S1024x64 .bf16) (harg4 : arg4.IsWhole) (arg5 : Memref sig .tc .vmem S1536x1024 .i8) (harg5 : arg5.IsWhole) (arg6 : Memref sig .tc .vmem S192x1024 .fp8e4m3) (harg6 : arg6.IsWhole) (arg7 : Memref sig .tc .vmem S64x1024 .bf16) (harg7 : arg7.IsWhole) (arg8 : Memref sig .tc .vmem S1x1024 .f32) (harg8 : arg8.IsWhole) (arg9 : Memref sig .tc .vmem S1024x1024 .bf16) (harg9 : arg9.IsWhole) (arg10 : Memref sig .tc .vmem S3072x1024 .bf16) (harg10 : arg10.IsWhole) (arg11 : Memref sig .tc .vmem S192x2x1024 .bf16) (harg11 : arg11.IsWhole) (hc0 : ¬cond0_0 i)
    (x0 : Vec F S1 .f32) (x1 : Vec F S1024x3072 .bf16) (x2 : Vec F S1024x64 .bf16) (x3 : Vec F S1536x1024 .i8) (x4 : Vec F S192x1024 .fp8e4m3) (x5 : Vec F S64x1024 .bf16) (x6 : Vec F S1x1024 .f32) (xs0 : Vec F S3072x1024 .bf16) :
    (kernelRun0_B c i arg2 harg2 arg3 harg3 arg4 harg4 arg5 harg5 arg6 harg6 arg7 harg7 arg8 harg8 arg9 harg9 arg10 harg10 arg11 harg11 hc0 x0 x1 x2 x3 x4 x5 x6 xs0).1
      = tiles (x0 (ValueIdx.ix1 0)) x1 (fun c' h => View.ld xs0 (Rect.unit (s := S3072x1024) ![0, c'] S3072x512.size (inbV c' h))) x2 x5 x6 := by
  unfold kernelRun0_B
  dsimp only
  unfold kernelRun0_B.sl.r_1 kernelRun0_B.sl.r_2 kernelRun0_B.sl.r
  simp only [View.readAt_eq_ld, harg2.read_unread, harg3.read_unread, harg4.read_unread, harg7.read_unread, harg8.read_unread, harg10.read_unread]
  rw [← first_S1 x0 (by decide)]
  rfl

end

/-- What the weight scratch holds after the dequantising pass. -/
theorem soutA (c : Dev nD) (i : grid0.Coords) (arg2 : Memref sig .tc .smem S1 .f32) (harg2 : arg2.IsWhole) (arg3 : Memref sig .tc .vmem S1024x3072 .bf16) (harg3 : arg3.IsWhole) (arg4 : Memref sig .tc .vmem S1024x64 .bf16) (harg4 : arg4.IsWhole) (arg5 : Memref sig .tc .vmem S1536x1024 .i8) (harg5 : arg5.IsWhole) (arg6 : Memref sig .tc .vmem S192x1024 .fp8e4m3) (harg6 : arg6.IsWhole) (arg7 : Memref sig .tc .vmem S64x1024 .bf16) (harg7 : arg7.IsWhole) (arg8 : Memref sig .tc .vmem S1x1024 .f32) (harg8 : arg8.IsWhole) (arg9 : Memref sig .tc .vmem S1024x1024 .bf16) (harg9 : arg9.IsWhole) (arg10 : Memref sig .tc .vmem S3072x1024 .bf16) (harg10 : arg10.IsWhole) (arg11 : Memref sig .tc .vmem S192x2x1024 .bf16) (harg11 : arg11.IsWhole) (hc0 : cond0_0 i)
    (x0 : Vec Ideal S1 .f32) (x1 : Vec Ideal S1024x3072 .bf16) (x2 : Vec Ideal S1024x64 .bf16) (x3 : Vec Ideal S1536x1024 .i8) (x4 : Vec Ideal S192x1024 .fp8e4m3) (x5 : Vec Ideal S64x1024 .bf16) (x6 : Vec Ideal S1x1024 .f32) (y : S3072x1024.Idx) :
    View.canon (kernelRun0_A (F := Ideal) c i arg2 harg2 arg3 harg3 arg4 harg4 arg5 harg5 arg6 harg6 arg7 harg7 arg8 harg8 arg9 harg9 arg10 harg10 arg11 harg11 hc0 x0 x1 x2 x3 x4 x5 x6).2.1 y = weight x3 x4 (y 0) (y 1) := by
  refine View.canon_apply_of_pieces (fun y => weight x3 x4 (y 0) (y 1)) _ ?_ y (scover0_A_0 c i arg2 harg2 arg3 harg3 arg4 harg4 arg5 harg5 arg6 harg6 arg7 harg7 arg8 harg8 arg9 harg9 arg10 harg10 arg11 harg11 hc0 x0 x1 x2 x3 x4 x5 x6 y)
  have e : (kernelRun0_A (F := Ideal) c i arg2 harg2 arg3 harg3 arg4 harg4 arg5 harg5 arg6 harg6 arg7 harg7 arg8 harg8 arg9 harg9 arg10 harg10 arg11 harg11 hc0 x0 x1 x2 x3 x4 x5 x6).2.1 = kernelRun0_A.sl.HS0_192 c arg5 harg5 arg6 harg6 arg11 x3 x4 := by
    unfold kernelRun0_A
    dsimp only
  rw [e, stores_eq]
  refine pieces_val _ _ x3 x4 ?_ ?_ 48 (le_refl 48)
  · intro r h a l k hk
    have e : View.readAt (Elt Ideal) arg5.view (Rect.unit (s := S1536x1024) ![r, 0] S32x1024.size (inbB r h)).toLoadRect (harg5.unread x3)
        = View.ld x3 (Rect.unit (s := S1536x1024) ![r, 0] S32x1024.size (inbB r h)) := by
      rw [View.readAt_eq_ld, harg5.read_unread]
    exact (congrFun e _).trans (ld2 x3 (inbB r h) a l k l hk (Nat.zero_add _).symm)
  · exact fun r h q l => pairRow_apply c arg6 harg6 arg11 x4 r h q l

/-- The weight scratch after a point where the dequantising pass runs. -/
theorem sout_A (c : Dev nD) (i : grid0.Coords) (arg2 : Memref sig .tc .smem S1 .f32) (harg2 : arg2.IsWhole) (arg3 : Memref sig .tc .vmem S1024x3072 .bf16) (harg3 : arg3.IsWhole) (arg4 : Memref sig .tc .vmem S1024x64 .bf16) (harg4 : arg4.IsWhole) (arg5 : Memref sig .tc .vmem S1536x1024 .i8) (harg5 : arg5.IsWhole) (arg6 : Memref sig .tc .vmem S192x1024 .fp8e4m3) (harg6 : arg6.IsWhole) (arg7 : Memref sig .tc .vmem S64x1024 .bf16) (harg7 : arg7.IsWhole) (arg8 : Memref sig .tc .vmem S1x1024 .f32) (harg8 : arg8.IsWhole) (arg9 : Memref sig .tc .vmem S1024x1024 .bf16) (harg9 : arg9.IsWhole) (arg10 : Memref sig .tc .vmem S3072x1024 .bf16) (harg10 : arg10.IsWhole) (arg11 : Memref sig .tc .vmem S192x2x1024 .bf16) (harg11 : arg11.IsWhole) (hc0 : cond0_0 i)
    (x0 : Vec Ideal S1 .f32) (x1 : Vec Ideal S1024x3072 .bf16) (x2 : Vec Ideal S1024x64 .bf16) (x3 : Vec Ideal S1536x1024 .i8) (x4 : Vec Ideal S192x1024 .fp8e4m3) (x5 : Vec Ideal S64x1024 .bf16) (x6 : Vec Ideal S1x1024 .f32) (y : S3072x1024.Idx) :
    sout0_A_0 (F := Ideal) c i arg2 harg2 arg3 harg3 arg4 harg4 arg5 harg5 arg6 harg6 arg7 harg7 arg8 harg8 arg9 harg9 arg10 harg10 arg11 harg11 hc0 x0 x1 x2 x3 x4 x5 x6 y = weight x3 x4 (y 0) (y 1) := by
  unfold sout0_A_0
  rw [View.read_writes_junk_eq_canon]
  exact soutA c i arg2 harg2 arg3 harg3 arg4 harg4 arg5 harg5 arg6 harg6 arg7 harg7 arg8 harg8 arg9 harg9 arg10 harg10 arg11 harg11 hc0 x0 x1 x2 x3 x4 x5 x6 y

/-- The output block after a point where the dequantising pass runs. -/
theorem out_A (c : Dev nD) (i : grid0.Coords) (arg2 : Memref sig .tc .smem S1 .f32) (harg2 : arg2.IsWhole) (arg3 : Memref sig .tc .vmem S1024x3072 .bf16) (harg3 : arg3.IsWhole) (arg4 : Memref sig .tc .vmem S1024x64 .bf16) (harg4 : arg4.IsWhole) (arg5 : Memref sig .tc .vmem S1536x1024 .i8) (harg5 : arg5.IsWhole) (arg6 : Memref sig .tc .vmem S192x1024 .fp8e4m3) (harg6 : arg6.IsWhole) (arg7 : Memref sig .tc .vmem S64x1024 .bf16) (harg7 : arg7.IsWhole) (arg8 : Memref sig .tc .vmem S1x1024 .f32) (harg8 : arg8.IsWhole) (arg9 : Memref sig .tc .vmem S1024x1024 .bf16) (harg9 : arg9.IsWhole) (arg10 : Memref sig .tc .vmem S3072x1024 .bf16) (harg10 : arg10.IsWhole) (arg11 : Memref sig .tc .vmem S192x2x1024 .bf16) (harg11 : arg11.IsWhole) (hc0 : cond0_0 i)
    (x0 : Vec Ideal S1 .f32) (x1 : Vec Ideal S1024x3072 .bf16) (x2 : Vec Ideal S1024x64 .bf16) (x3 : Vec Ideal S1536x1024 .i8) (x4 : Vec Ideal S192x1024 .fp8e4m3) (x5 : Vec Ideal S64x1024 .bf16) (x6 : Vec Ideal S1x1024 .f32) :
    out0_A_7 (F := Ideal) c i arg2 harg2 arg3 harg3 arg4 harg4 arg5 harg5 arg6 harg6 arg7 harg7 arg8 harg8 arg9 harg9 arg10 harg10 arg11 harg11 hc0 x0 x1 x2 x3 x4 x5 x6
      = block (x0 (ValueIdx.ix1 0)) x1 (fun y => weight x3 x4 (y 0) (y 1)) x2 x5 x6 := by
  unfold out0_A_7
  rw [View.read_writes_junk_eq_canon]
  funext y
  refine View.canon_apply_of_pieces _ _ ?_ y (cover0_A_7 c i arg2 harg2 arg3 harg3 arg4 harg4 arg5 harg5 arg6 harg6 arg7 harg7 arg8 harg8 arg9 harg9 arg10 harg10 arg11 harg11 hc0 x0 x1 x2 x3 x4 x5 x6 y)
  rw [tilesA, tiles_eq, show View.canon (kernelRun0_A (F := Ideal) c i arg2 harg2 arg3 harg3 arg4 harg4 arg5 harg5 arg6 harg6 arg7 harg7 arg8 harg8 arg9 harg9 arg10 harg10 arg11 harg11 hc0 x0 x1 x2 x3 x4 x5 x6).2.1 = fun y => weight x3 x4 (y 0) (y 1) from
    funext fun y => soutA c i arg2 harg2 arg3 harg3 arg4 harg4 arg5 harg5 arg6 harg6 arg7 harg7 arg8 harg8 arg9 harg9 arg10 harg10 arg11 harg11 hc0 x0 x1 x2 x3 x4 x5 x6 y]
  exact Cert.WholeIdeal.Matmul.tiles_val _ _ _ _ _ _

/-- The output block after any other point, over the weights the point before left. -/
theorem out_B (c : Dev nD) (i : grid0.Coords) (arg2 : Memref sig .tc .smem S1 .f32) (harg2 : arg2.IsWhole) (arg3 : Memref sig .tc .vmem S1024x3072 .bf16) (harg3 : arg3.IsWhole) (arg4 : Memref sig .tc .vmem S1024x64 .bf16) (harg4 : arg4.IsWhole) (arg5 : Memref sig .tc .vmem S1536x1024 .i8) (harg5 : arg5.IsWhole) (arg6 : Memref sig .tc .vmem S192x1024 .fp8e4m3) (harg6 : arg6.IsWhole) (arg7 : Memref sig .tc .vmem S64x1024 .bf16) (harg7 : arg7.IsWhole) (arg8 : Memref sig .tc .vmem S1x1024 .f32) (harg8 : arg8.IsWhole) (arg9 : Memref sig .tc .vmem S1024x1024 .bf16) (harg9 : arg9.IsWhole) (arg10 : Memref sig .tc .vmem S3072x1024 .bf16) (harg10 : arg10.IsWhole) (arg11 : Memref sig .tc .vmem S192x2x1024 .bf16) (harg11 : arg11.IsWhole) (hc0 : ¬cond0_0 i)
    (x0 : Vec Ideal S1 .f32) (x1 : Vec Ideal S1024x3072 .bf16) (x2 : Vec Ideal S1024x64 .bf16) (x3 : Vec Ideal S1536x1024 .i8) (x4 : Vec Ideal S192x1024 .fp8e4m3) (x5 : Vec Ideal S64x1024 .bf16) (x6 : Vec Ideal S1x1024 .f32) (xs0 : Vec Ideal S3072x1024 .bf16) :
    out0_B_7 (F := Ideal) c i arg2 harg2 arg3 harg3 arg4 harg4 arg5 harg5 arg6 harg6 arg7 harg7 arg8 harg8 arg9 harg9 arg10 harg10 arg11 harg11 hc0 x0 x1 x2 x3 x4 x5 x6 xs0
      = block (x0 (ValueIdx.ix1 0)) x1 xs0 x2 x5 x6 := by
  unfold out0_B_7
  rw [View.read_writes_junk_eq_canon]
  funext y
  refine View.canon_apply_of_pieces _ _ ?_ y (cover0_B_7 c i arg2 harg2 arg3 harg3 arg4 harg4 arg5 harg5 arg6 harg6 arg7 harg7 arg8 harg8 arg9 harg9 arg10 harg10 arg11 harg11 hc0 x0 x1 x2 x3 x4 x5 x6 xs0 y)
  rw [tilesB, tiles_eq]
  exact Cert.WholeIdeal.Matmul.tiles_val _ _ _ _ _ _

end Cert.MmIdeal.Work

end
-- ==== Proof.CallMmArray.lean ====
/- The result array of the matmul call over the extended reals: every element is the product of the quantised activations
   with the decoded weights, scaled by the two tensor scales, plus the low-rank product, plus the bias. -/
module

public import proofs.«01_k».proof.Proof.MmArray
public import proofs.«01_k».proof.Proof.CallMmTiles
public import proofs.«01_k».proof.Proof.Gen.MmIdeal.Value
public import Idealize.ShloMosaic.Lib.Pipeline.Covers
public import Idealize.ShloMosaic.Lib.Pipeline.ValueKit.Held
public import Idealize.ShloMosaic.Lib.Claim

@[expose] public section

set_option maxRecDepth 65536

noncomputable section

namespace Cert.MmIdeal.Work

open Cert.MmIdeal Cert.MmIdeal.Gen Idealize.ShloMosaic Idealize.ShloMosaic.TcCoe Idealize.SL.Sem
open Cert.Codes
open Cert.WholeIdeal.Matmul (block)

variable (m : (ℓ : Loc nD τ sig) → Buf (Elt Ideal) ℓ)

/-- The blocks of the point `t`: column block `t / 8`, row block `t % 8`. -/
theorem idx : ∀ t : Fin cfg0.N, win0_0.index t = ![0] ∧ win0_1.index t = ![t.val % 8, 0] ∧ win0_2.index t = ![t.val % 8, 0]
    ∧ win0_3.index t = ![0, t.val / 8] ∧ win0_4.index t = ![0, t.val / 8] ∧ win0_5.index t = ![0, t.val / 8]
    ∧ win0_6.index t = ![0, t.val / 8] ∧ win0_7.index t = ![t.val % 8, t.val / 8] :=
  (by decide +kernel : ∀ t : Fin grid0.N, _)

theorem lt168 (t : Fin cfg0.N) : t.val < 168 := t.isLt

/-- Row `r` of the point's row block, in the whole array. -/
def row (t : Fin cfg0.N) (r : Fin 1024) : Fin 8192 := ⟨1024 * (t.val % 8) + r.val, by omega⟩

/-- Column `q` of the point's column block, in the whole array. -/
def col (t : Fin cfg0.N) (q : Fin 1024) : Fin 21504 := ⟨1024 * (t.val / 8) + q.val, by have := lt168 t; omega⟩

theorem iblk0 (c : Dev nD) (t : Fin cfg0.N) : iblk m c 0 t (ValueIdx.ix1 0)
    = HMul.hMul (α := EReal) (β := EReal) (m ((c : Thread nD τ).loc main_arg0) ix0) (m ((c : Thread nD τ).loc main_arg5) ix0) := by
  blk_simp [iblk, idx t]
  entry_read
  pointwise

theorem iblk1 (c : Dev nD) (t : Fin cfg0.N) (r : Fin 1024) (k : Fin 3072) :
    iblk m c 1 t (ix2 r k) = m ((c : Thread nD τ).loc main_arg1) (ix2 (row t r) k) := by
  blk_ext [iblk, V, idx t, row]

theorem iblk2 (c : Dev nD) (t : Fin cfg0.N) (r : Fin 1024) (k : Fin 64) :
    iblk m c 2 t (ix2 r k) = m ((c : Thread nD τ).loc main_arg2) (ix2 (row t r) k) := by
  blk_ext [iblk, V, idx t, row]

theorem iblk3 (c : Dev nD) (t : Fin cfg0.N) (k : Fin 1536) (q : Fin 1024) :
    iblk m c 3 t (ix2 k q) = m ((c : Thread nD τ).loc main_arg3) (ix2 k (col t q)) := by
  blk_ext [iblk, V, idx t, col]

theorem iblk4 (c : Dev nD) (t : Fin cfg0.N) (k : Fin 192) (q : Fin 1024) :
    iblk m c 4 t (ix2 k q) = m ((c : Thread nD τ).loc main_arg4) (ix2 k (col t q)) := by
  blk_ext [iblk, V, idx t, col]

theorem iblk5 (c : Dev nD) (t : Fin cfg0.N) (k : Fin 64) (q : Fin 1024) :
    iblk m c 5 t (ix2 k q) = m ((c : Thread nD τ).loc main_arg6) (ix2 k (col t q)) := by
  blk_ext [iblk, V, idx t, col]

theorem iblk6 (c : Dev nD) (t : Fin cfg0.N) (q : Fin 1024) :
    iblk m c 6 t (ix2 0 q) = m ((c : Thread nD τ).loc main_arg7) (ix1 (col t q)) := by
  blk_simp [iblk, idx t]
  entry_read
  pointwise
  refine congrArg (m ((c : Thread nD τ).loc main_arg7)) (congrArg ix1 (Fin.ext ?_))
  show (((win0_6.blk t).view.emb (ix2 0 q)) 1 : ℕ) = 1024 * (t.val / 8) + q.val
  blk_simp [idx t]
  simp [ix2_1]
  omega

/-- The decoded weights of the point's column block are those of the whole array. -/
theorem weight_blk (c : Dev nD) (t : Fin cfg0.N) (k : Fin 3072) (q : Fin 1024) :
    weight (iblk m c 3 t) (iblk m c 4 t) k q
      = weight (m ((c : Thread nD τ).loc main_arg3)) (m ((c : Thread nD τ).loc main_arg4)) k (col t q) := by
  unfold weight code
  refine congrArg₂ (fun (x : BitVec 4) (y : EReal) => ((num x : ℝ) : EReal) * y) ?_ (iblk4 m c t _ q)
  split
  · exact congrArg lo (iblk3 m c t _ q)
  · exact congrArg hi (iblk3 m c t _ q)

/-- The weight scratch after point `t`: the decoded weights of the point's column block. -/
theorem held (c : Dev nD) (t : Fin cfg0.N) (y : S3072x1024.Idx) :
    (outsAt0 m c t.val t.isLt).2 y
      = weight (m ((c : Thread nD τ).loc main_arg3)) (m ((c : Thread nD τ).loc main_arg4)) (y 0) (col t (y 1)) := by
  have h := Pipeline.eq_of_write_hold_apply (fun n h => (outsAt0 m c n h).2) 8
    (fun t y => weight (iblk m c 3 t) (iblk m c 4 t) (y 0) (y 1))
    (fun t h0 y => by
      rw [outsAt0_A m c t h0]
      dsimp only
      apply sout_A)
    (fun t h0 y => by
      rw [outsAt0_B m c t h0]
      rfl) t y
  refine h.trans ((weight_blk m c _ _ _).trans (congrArg _ (Fin.ext ?_)))
  show 1024 * (8 * (t.val / 8) / 8) + (y 1).val = 1024 * (t.val / 8) + (y 1).val
  omega

/-- The output block after point `t`, whichever pass ran there. -/
theorem outAt (c : Dev nD) (t : Fin cfg0.N) :
    (outsAt0 m c t.val t.isLt).1 = block (iblk m c 0 t (ValueIdx.ix1 0)) (iblk m c 1 t)
      (fun y => weight (m ((c : Thread nD τ).loc main_arg3)) (m ((c : Thread nD τ).loc main_arg4)) (y 0) (col t (y 1)))
      (iblk m c 2 t) (iblk m c 5 t) (iblk m c 6 t) := by
  by_cases h0 : t.val % 8 = 0
  · rw [outsAt0_A m c t h0]
    dsimp only
    rw [out_A]
    rw [show (fun y : S3072x1024.Idx => weight (iblk m c 3 t) (iblk m c 4 t) (y 0) (y 1)) = _ from funext fun y => weight_blk m c t (y 0) (y 1)]
  · rw [outsAt0_B m c t h0]
    dsimp only
    rw [out_B]
    congr 1
    funext y
    refine (held m c ⟨t.val - 1, Nat.lt_of_le_of_lt (Nat.sub_le _ _) t.isLt⟩ y).trans (congrArg _ (Fin.ext ?_))
    show 1024 * ((t.val - 1) / 8) + (y 1).val = 1024 * (t.val / 8) + (y 1).val
    omega

/-- The result array of the call: the linear layer of its arguments. -/
def RES (c : Dev nD) : Buf (Elt Ideal) ((c : Thread nD τ).loc main_v3) := fun i =>
  linear (m ((c : Thread nD τ).loc main_arg0) ix0) (m ((c : Thread nD τ).loc main_arg5) ix0)
    (m ((c : Thread nD τ).loc main_arg1)) (weight (m ((c : Thread nD τ).loc main_arg3)) (m ((c : Thread nD τ).loc main_arg4)))
    (m ((c : Thread nD τ).loc main_arg2)) (m ((c : Thread nD τ).loc main_arg6)) (fun q => m ((c : Thread nD τ).loc main_arg7) (ix1 q)) (i 0) (i 1)

/-- The array the run leaves is that one. -/
theorem final (c : Dev nD) : (dats m 0 c).arrAt 7 cfg0.N = RES m c := by
  refine (dats m 0 c).arrAt_eq_of_covers 7 _ (by decide +kernel) fun t hf y => ?_
  rw [after0_7, outAt]
  blk_simp
  obtain ⟨p, q, rfl⟩ : ∃ (p q : Fin 1024), y = ix2 p q := ⟨y 0, y 1, eq_ix2 y⟩
  have he : (win0_7.blk t).view.emb (ix2 p q) = ix2 (row t p) (col t q) := by
    blk_ext [idx t, row, col]
  refine Eq.trans ?_ (congrArg (RES m c) he.symm)
  unfold block RES linear
  simp only [ix2_0, ix2_1]
  rw [iblk0, iblk6]
  simp only [iblk1, iblk2, iblk5]

end Cert.MmIdeal.Work

end
-- ==== Proof.CallMmRefWeights.lean ====
/- The reference's decoded weights over the extended reals: each is the number of its packed code times the scale of the
   code's block of sixteen rows. -/
module

public import proofs.«01_k».proof.Proof.RefWeights
public import proofs.«01_k».proof.Proof.CallMmArray
public import proofs.«01_k».proof.Proof.Gen.MmRefIdeal.Value

@[expose] public section

set_option maxRecDepth 65536

noncomputable section

namespace Cert.MmRefIdeal.Work

open Cert.MmRefIdeal Cert.MmRefIdeal.Gen Idealize.ShloMosaic Idealize.ShloMosaic.TcCoe Idealize.SL.Sem
open Cert.Codes

/-- The number of the low code, as the reference's selects compute it. -/
theorem low_apply (v : Vec Ideal S1536x21504 .i8) (s : FVec Ideal S96x21504 .bf16) (r : Fin 1536) (q : Fin 21504) :
    k0_pay7 (F := Ideal) s (k0_pay5 (F := Ideal) v) (k0_pay6 (F := Ideal) v) (Scalar.ofBits .bf16 0x0000#16) (ix2 r q)
      = ((num (lo (v (ix2 r q))) : ℝ) : EReal) * s (ix2 ⟨r.val / 16, by omega⟩ q) := by
  have h := test_lo (v (ix2 r q))
  have hs : k0_pay5 (F := Ideal) v (ix2 r q) = BitVec.ofBool ((lo (v (ix2 r q))).getLsbD 3) := by
    unfold k0_pay5 k0_pay3
    pointwise
    exact h.2.2.2
  have hm : k0_pay6 (F := Ideal) v (ix2 r q) = ((mag (lo (v (ix2 r q))) : ℝ) : EReal) := by
    unfold k0_pay6 k0_pay3
    pointwise
    simp only [h.1, h.2.1, h.2.2.1, select_ofBool]
    exact mag_eq _
  unfold k0_pay7
  pointwise
  rw [hs, hm, select_ofBool, num_eq]

/-- The reference's weights, read at an index. -/
theorem pay1_apply (v : Vec Ideal S1536x21504 .i8) (sc : Vec Ideal S192x21504 .fp8e4m3) (a : Vec Ideal S8192x3072 .bf16) (h : Vec Ideal S8192x64 .bf16)
    (l : Vec Ideal S64x21504 .bf16) (g wg : EReal) (b : Vec Ideal S1x21504 .f32) (p : Fin 8192) (q : Fin 21504) :
    k0_pay1 (F := Ideal) (k0_pay7 (F := Ideal) (k0_pay4 (F := Ideal) sc) (k0_pay5 (F := Ideal) v) (k0_pay6 (F := Ideal) v) (Scalar.ofBits .bf16 0x0000#16))
      (k0_pay9 (F := Ideal) (k0_pay2 (F := Ideal) sc)) (k0_pay10 (F := Ideal) v) (k0_pay11 (F := Ideal) v) (k0_pay12 (F := Ideal) v) (k0_pay13 (F := Ideal) v)
      (k0_pay14 (F := Ideal) v) (k0_pay15 (F := Ideal) v) (k0_pay16 (F := Ideal)) (k0_pay17 (F := Ideal)) a h l g wg b (ix2 p q)
    = linear g wg a (weight v sc) h l (fun q => b (ix2 0 q)) p q := by
  have hb : ∀ x : Fin 1536, (⟨x.val / 16 * 16 + x.val % 16, by omega⟩ : Fin 1536) = x := fun x => Fin.ext (by show x.val / 16 * 16 + x.val % 16 = x.val; omega)
  have hlo : ∀ x : Fin 1536, k0_pay4 (F := Ideal) sc (ix2 ⟨x.val / 16, by omega⟩ q) = sc (ix2 ⟨x.val / 16, by omega⟩ q) := fun x => by
    unfold k0_pay4 k0_pay2
    pointwise
  have hhi : ∀ x : Fin 1536, k0_pay9 (F := Ideal) (k0_pay2 (F := Ideal) sc) (ix2 ⟨x.val / 16, by omega⟩ q) = sc (ix2 ⟨96 + x.val / 16, by omega⟩ q) := fun x => by
    unfold k0_pay9 k0_pay2
    pointwise
  have e10 : ∀ x : Fin 1536, k0_pay10 (F := Ideal) v (ix2 x q) = BitVec.ofBool ((hi (v (ix2 x q))).getLsbD 0) := fun x => by
    unfold k0_pay10 k0_pay8
    pointwise
    exact (test_hi _).1
  have e11 : ∀ x : Fin 1536, k0_pay11 (F := Ideal) v (ix2 x q) = BitVec.ofBool ((hi (v (ix2 x q))).getLsbD 1) := fun x => by
    unfold k0_pay11 k0_pay8
    pointwise
    exact (test_hi _).2.1
  have e12 : ∀ x : Fin 1536, k0_pay12 (F := Ideal) v (ix2 x q) = BitVec.ofBool ((hi (v (ix2 x q))).getLsbD 2) := fun x => by
    unfold k0_pay12 k0_pay8
    pointwise
    exact (test_hi _).2.2.1
  have e13 : ∀ x : Fin 1536, k0_pay13 (F := Ideal) v (ix2 x q) = BitVec.ofBool ((hi (v (ix2 x q))).getLsbD 3) := fun x => by
    unfold k0_pay13 k0_pay8
    pointwise
    exact (test_hi _).2.2.2
  have hmag : ∀ x : Fin 1536, Scalar.select (k0_pay12 (F := Ideal) v (ix2 x q)) (k0_pay14 (F := Ideal) v (ix2 x q))
      (Scalar.select (k0_pay11 (F := Ideal) v (ix2 x q)) (k0_pay15 (F := Ideal) v (ix2 x q))
        (Scalar.select (k0_pay10 (F := Ideal) v (ix2 x q)) (k0_pay16 (F := Ideal) (ix2 x q)) (k0_pay17 (F := Ideal) (ix2 x q)))) = ((mag (hi (v (ix2 x q))) : ℝ) : EReal) := fun x => by
    unfold k0_pay14 k0_pay15 k0_pay16 k0_pay17
    pointwise
    simp only [e10, e11, e12, select_ofBool]
    exact mag_eq _
  unfold linear
  rw [sum_weight]
  unfold k0_pay1
  pointwise
  refine congrArg₂ (fun u w : EReal => (u + w) * (g * wg) + (∑ x : Fin 64, h (ix2 p x) * l (ix2 x q)) + b (ix2 0 q)) ?_ ?_
  · refine Finset.sum_congr rfl fun x _ => congrArg₂ _ rfl ?_
    have := low_apply v (k0_pay4 (F := Ideal) sc) x q
    rw [hlo] at this
    refine Eq.trans ?_ this
    pointwise
  · refine Finset.sum_congr rfl fun x _ => congrArg₂ _ rfl ?_
    simp only [hb, hmag, e13, hhi, select_ofBool, num_eq]

end Cert.MmRefIdeal.Work

end
-- ==== Proof.CallMmClaim.lean ====
/- The matmul call and its reference leave the same result array over the extended reals. -/
module

public import proofs.«01_k».proof.Proof.CallMmRefWeights
public import proofs.«01_k».proof.Defs
public import Idealize.ShloMosaic.Lib.Pipeline.ReadBack

@[expose] public section

set_option maxRecDepth 65536

noncomputable section

namespace Cert.MmRefIdeal.Work

open Cert.MmRefIdeal Cert.MmRefIdeal.Gen Idealize.ShloMosaic Idealize.ShloMosaic.TcCoe Idealize.SL.Sem
open Cert.Codes

variable (m : (ℓ : Loc nD τ sig) → Buf (Elt Ideal) ℓ)

theorem idx : ∀ t : Fin cfg0.N, win0_0.index t = ![0] ∧ win0_1.index t = ![0, 0] ∧ win0_2.index t = ![0, 0] ∧ win0_3.index t = ![0, 0]
    ∧ win0_4.index t = ![0, 0] ∧ win0_5.index t = ![0] ∧ win0_6.index t = ![0, 0] ∧ win0_7.index t = ![0, 0] ∧ win0_8.index t = ![0, 0] :=
  (by decide +kernel : ∀ t : Fin grid0.N, _)

theorem iblk1 (c : Dev nD) (t : Fin cfg0.N) : iblk m c 1 t = m ((c : Thread nD τ).loc main_arg1) := by
  blk_ext! [iblk, V, idx t]

theorem iblk2 (c : Dev nD) (t : Fin cfg0.N) : iblk m c 2 t = m ((c : Thread nD τ).loc main_arg2) := by
  blk_ext! [iblk, V, idx t]

theorem iblk3 (c : Dev nD) (t : Fin cfg0.N) : iblk m c 3 t = m ((c : Thread nD τ).loc main_arg3) := by
  blk_ext! [iblk, V, idx t]

theorem iblk4 (c : Dev nD) (t : Fin cfg0.N) : iblk m c 4 t = m ((c : Thread nD τ).loc main_arg4) := by
  blk_ext! [iblk, V, idx t]

theorem iblk6 (c : Dev nD) (t : Fin cfg0.N) : iblk m c 6 t = m ((c : Thread nD τ).loc main_arg6) := by
  blk_ext! [iblk, V, idx t]

theorem iblk0 (c : Dev nD) (t : Fin cfg0.N) (j : S1.Idx) : iblk m c 0 t j = m ((c : Thread nD τ).loc main_arg0) ix0 := by
  blk_simp [iblk, idx t]
  entry_read
  pointwise

theorem iblk5 (c : Dev nD) (t : Fin cfg0.N) (j : S1.Idx) : iblk m c 5 t j = m ((c : Thread nD τ).loc main_arg5) ix0 := by
  blk_simp [iblk, idx t]
  entry_read
  pointwise

theorem iblk7 (c : Dev nD) (t : Fin cfg0.N) (q : Fin 21504) : iblk m c 7 t (ix2 0 q) = m ((c : Thread nD τ).loc main_arg7) (ix1 q) := by
  blk_simp [iblk, idx t]
  entry_read
  pointwise
  refine congrArg (m ((c : Thread nD τ).loc main_arg7)) (congrArg ix1 (Fin.ext ?_))
  show (((win0_7.blk t).view.emb (ix2 0 q)) 1 : ℕ) = q.val
  blk_simp [idx t]

/-- The reference's result array: the linear layer of its arguments. -/
def RES (c : Dev nD) : Buf (Elt Ideal) ((c : Thread nD τ).loc main_v3) := fun i =>
  linear (m ((c : Thread nD τ).loc main_arg0) ix0) (m ((c : Thread nD τ).loc main_arg5) ix0)
    (m ((c : Thread nD τ).loc main_arg1)) (weight (m ((c : Thread nD τ).loc main_arg3)) (m ((c : Thread nD τ).loc main_arg4)))
    (m ((c : Thread nD τ).loc main_arg2)) (m ((c : Thread nD τ).loc main_arg6)) (fun q => m ((c : Thread nD τ).loc main_arg7) (ix1 q)) (i 0) (i 1)

theorem final (c : Dev nD) : (dats m 0 c).arrAt 8 cfg0.N = RES m c := by
  refine (dats m 0 c).arrAt_eq_of_covers 8 _ (by decide +kernel) fun t hf y => ?_
  blk_simp
  rw [after0_8]
  unfold outsAt0
  frame_out
  simp only [read_unread_whole]
  obtain ⟨p, q, rfl⟩ : ∃ (p : Fin 8192) (q : Fin 21504), y = ix2 p q := ⟨y 0, y 1, eq_ix2 y⟩
  have he : (win0_8.blk t).view.emb (ix2 p q) = ix2 p q := by
    blk_ext [idx t]
  refine Eq.trans ?_ (congrArg (RES m c) he.symm)
  refine (pay1_apply _ _ _ _ _ _ _ _ p q).trans ?_
  rw [iblk0, iblk5]
  simp only [iblk7, iblk1, iblk2, iblk3, iblk4, iblk6]
  rfl

end Cert.MmRefIdeal.Work

namespace Cert.Proof

open Idealize.ShloMosaic Idealize.ShloMosaic.TcCoe

theorem algebraic_Mm : Cert.algebraic_MmIdeal_MmRefIdeal := by
  pair_intro
  · run_from Cert.MmIdeal.Value.run_blocks m g
  · run_from Cert.MmRefIdeal.Value.run_blocks m' g'
    rw [Cert.MmIdeal.Work.final, Cert.MmRefIdeal.Work.final]
    obtain ⟨e0, e1, e2, e3, e4, e5, e6, e7⟩ := hagree c
    unfold Cert.MmIdeal.Work.RES Cert.MmRefIdeal.Work.RES
    rw [e0, e1, e2, e3, e4, e5, e6, e7]
    rfl

end Cert.Proof

end
-- ==== Proof.lean ====
module

public import proofs.«01_k».proof.Defs
public import proofs.«01_k».proof.Proof.WholeRun
public import proofs.«01_k».proof.Proof.WholeIdealRun
public import proofs.«01_k».proof.Proof.WholeClaim
public import proofs.«01_k».proof.Proof.CallQuantClaim
public import proofs.«01_k».proof.Proof.CallMmClaim
public import proofs.«01_k».proof.Proof.Gen.Quant
public import proofs.«01_k».proof.Proof.Gen.Quant.Skeleton
public import proofs.«01_k».proof.Proof.Gen.Quant.Launch
public import proofs.«01_k».proof.Proof.Gen.Quant.Points
public import proofs.«01_k».proof.Proof.Gen.Quant.Frame
public import proofs.«01_k».proof.Proof.Gen.QuantIdeal
public import proofs.«01_k».proof.Proof.Gen.QuantIdeal.Skeleton
public import proofs.«01_k».proof.Proof.Gen.QuantIdeal.Launch
public import proofs.«01_k».proof.Proof.Gen.QuantIdeal.Points
public import proofs.«01_k».proof.Proof.Gen.QuantIdeal.Frame
public import proofs.«01_k».proof.Proof.Gen.QuantIdeal.Value
public import proofs.«01_k».proof.Proof.Gen.QuantRefIdeal
public import proofs.«01_k».proof.Proof.Gen.QuantRefIdeal.Skeleton
public import proofs.«01_k».proof.Proof.Gen.QuantRefIdeal.Launch
public import proofs.«01_k».proof.Proof.Gen.QuantRefIdeal.Points
public import proofs.«01_k».proof.Proof.Gen.QuantRefIdeal.Frame
public import proofs.«01_k».proof.Proof.Gen.QuantRefIdeal.Value
public import proofs.«01_k».proof.Proof.Gen.Mm
public import proofs.«01_k».proof.Proof.Gen.Mm.Skeleton
public import proofs.«01_k».proof.Proof.Gen.Mm.Launch
public import proofs.«01_k».proof.Proof.Gen.Mm.Points
public import proofs.«01_k».proof.Proof.Gen.Mm.Frame
public import proofs.«01_k».proof.Proof.Gen.MmIdeal
public import proofs.«01_k».proof.Proof.Gen.MmIdeal.Skeleton
public import proofs.«01_k».proof.Proof.Gen.MmIdeal.Launch
public import proofs.«01_k».proof.Proof.Gen.MmIdeal.Points
public import proofs.«01_k».proof.Proof.Gen.MmIdeal.Frame
public import proofs.«01_k».proof.Proof.Gen.MmIdeal.Value
public import proofs.«01_k».proof.Proof.Gen.MmRefIdeal
public import proofs.«01_k».proof.Proof.Gen.MmRefIdeal.Skeleton
public import proofs.«01_k».proof.Proof.Gen.MmRefIdeal.Launch
public import proofs.«01_k».proof.Proof.Gen.MmRefIdeal.Points
public import proofs.«01_k».proof.Proof.Gen.MmRefIdeal.Frame
public import proofs.«01_k».proof.Proof.Gen.MmRefIdeal.Value
public import proofs.«01_k».proof.Proof.Gen.WholeRefIdeal.Frame
public import Idealize.ShloMosaic.Adequacy
public import Idealize.ShloMosaic.Init
public import Idealize.ShloMosaic.Lib.Bf16Pair
public import Idealize.ShloMosaic.Lib.Bf16PairInverse

@[expose] public section

noncomputable section

namespace Cert.Proof

open Idealize.ShloMosaic Idealize.SL.Sem

theorem claim : Cert.Claim :=
  ⟨Cert.Whole.Gen.facts, Cert.WholeIdeal.Gen.facts, Cert.WholeRefIdeal.Gen.facts,
    Cert.Quant.Gen.facts, Cert.QuantIdeal.Gen.facts, Cert.QuantRefIdeal.Gen.facts,
    Cert.Mm.Gen.facts, Cert.MmIdeal.Gen.facts, Cert.MmRefIdeal.Gen.facts,
    fun m ρ _ => Cert.Whole.Work.frame m ρ,
    fun m ρ _ => Cert.WholeIdeal.Work.frame m ρ,
    fun m ρ _ => Cert.WholeRefIdeal.Gen.frame m ρ,
    fun m ρ _ => Cert.Quant.Gen.frame m ρ,
    fun m ρ _ => Cert.QuantIdeal.Gen.frame m ρ,
    fun m ρ _ => Cert.QuantRefIdeal.Gen.frame m ρ,
    fun m ρ _ => Cert.Mm.Gen.frame m ρ,
    fun m ρ _ => Cert.MmIdeal.Gen.frame m ρ,
    fun m ρ _ => Cert.MmRefIdeal.Gen.frame m ρ,
    ⟨IdealRules.bf16_pair.bufferStatement _ _ (by decide), IdealRules.bf16_pair.packStatement _,
      IdealRules.bf16_pair.statement _ _, IdealRules.bf16_pair.statement _ _, IdealRules.bf16_pair.statement _ _⟩,
    algebraic_Whole,
    trivial, algebraic_Quant,
    ⟨IdealRules.bf16_pair.bufferStatement _ _ (by decide), IdealRules.bf16_pair.packStatement _,
      IdealRules.bf16_pair.statement _ _, IdealRules.bf16_pair.statement _ _, IdealRules.bf16_pair.statement _ _⟩,
    algebraic_Mm⟩

end Cert.Proof

end
